-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v12) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)) (v3 : (c : Dev Cert.Kernel9Ideal.nD) → Buf (Elt Ideal) ((c.tc : Thread Cert.Kernel9Ideal.nD Cert.Kernel9Ideal.τ).loc Cert.Kernel9Ideal.main_v5_3)) (v4 : (c : Dev Cert.Kernel9Ideal.nD) → Buf (Elt Ideal) ((c.tc : Thread Cert.Kernel9Ideal.nD Cert.Kernel9Ideal.τ).loc Cert.Kernel9Ideal.main_v5_4)) (v5 : (c : Dev Cert.Kernel9Ideal.nD) → Buf (Elt Ideal) ((c.tc : Thread Cert.Kernel9Ideal.nD Cert.Kernel9Ideal.τ).loc Cert.Kernel9Ideal.main_v5_5)) (v6 : (c : Dev Cert.Kernel9Ideal.nD) → Buf (Elt Ideal) ((c.tc : Thread Cert.Kernel9Ideal.nD Cert.Kernel9Ideal.τ).loc Cert.Kernel9Ideal.main_v5_6)) (v7 : (c : Dev Cert.Kernel9Ideal.nD) → Buf (Elt Ideal) ((c.tc : Thread Cert.Kernel9Ideal.nD Cert.Kernel9Ideal.τ).loc Cert.Kernel9Ideal.main_v5_7)) (v8 : (c : Dev Cert.Kernel9Ideal.nD) → Buf (Elt Ideal) ((c.tc : Thread Cert.Kernel9Ideal.nD Cert.Kernel9Ideal.τ).loc Cert.Kernel9Ideal.main_v5_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_v5_3) = v3 c
          ∧ r.2.mem ((c.tc : Thread Cert.Kernel9Ideal.nD Cert.Kernel9Ideal.τ).loc Cert.Kernel9Ideal.main_v5_4) = v4 c
          ∧ r.2.mem ((c.tc : Thread Cert.Kernel9Ideal.nD Cert.Kernel9Ideal.τ).loc Cert.Kernel9Ideal.main_v5_5) = v5 c
          ∧ r.2.mem ((c.tc : Thread Cert.Kernel9Ideal.nD Cert.Kernel9Ideal.τ).loc Cert.Kernel9Ideal.main_v5_6) = v6 c
          ∧ r.2.mem ((c.tc : Thread Cert.Kernel9Ideal.nD Cert.Kernel9Ideal.τ).loc Cert.Kernel9Ideal.main_v5_7) = v7 c
          ∧ r.2.mem ((c.tc : Thread Cert.Kernel9Ideal.nD Cert.Kernel9Ideal.τ).loc Cert.Kernel9Ideal.main_v5_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_v40) = v2 c
          ∧ r.2.mem ((c.tc : Thread Cert.Reference9Ideal.nD Cert.Reference9Ideal.τ).loc Cert.Reference9Ideal.main_v44) = v3 c
          ∧ r.2.mem ((c.tc : Thread Cert.Reference9Ideal.nD Cert.Reference9Ideal.τ).loc Cert.Reference9Ideal.main_v45) = v4 c
          ∧ r.2.mem ((c.tc : Thread Cert.Reference9Ideal.nD Cert.Reference9Ideal.τ).loc Cert.Reference9Ideal.main_v46) = v5 c
          ∧ r.2.mem ((c.tc : Thread Cert.Reference9Ideal.nD Cert.Reference9Ideal.τ).loc Cert.Reference9Ideal.main_v48) = v6 c
          ∧ r.2.mem ((c.tc : Thread Cert.Reference9Ideal.nD Cert.Reference9Ideal.τ).loc Cert.Reference9Ideal.main_v49) = v7 c
          ∧ r.2.mem ((c.tc : Thread Cert.Reference9Ideal.nD Cert.Reference9Ideal.τ).loc Cert.Reference9Ideal.main_v50) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v11)) (v1 : (c : Dev Cert.Kernel10Ideal.nD) → Buf (Elt Ideal) ((c.tc : Thread Cert.Kernel10Ideal.nD Cert.Kernel10Ideal.τ).loc Cert.Kernel10Ideal.main_v12)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_v12) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v7)) (v1 : (c : Dev Cert.Kernel11Ideal.nD) → Buf (Elt Ideal) ((c.tc : Thread Cert.Kernel11Ideal.nD Cert.Kernel11Ideal.τ).loc Cert.Kernel11Ideal.main_v8)) (v2 : (c : Dev Cert.Kernel11Ideal.nD) → Buf (Elt Ideal) ((c.tc : Thread Cert.Kernel11Ideal.nD Cert.Kernel11Ideal.τ).loc Cert.Kernel11Ideal.main_v9)) (v3 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_v8) = v1 c
          ∧ r.2.mem ((c.tc : Thread Cert.Kernel11Ideal.nD Cert.Kernel11Ideal.τ).loc Cert.Kernel11Ideal.main_v9) = v2 c
          ∧ r.2.mem ((c.tc : Thread Cert.Kernel11Ideal.nD Cert.Kernel11Ideal.τ).loc Cert.Kernel11Ideal.main_v10) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_v9) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)) (v3 : (c : Dev Cert.Kernel15Ideal.nD) → Buf (Elt Ideal) ((c.tc : Thread Cert.Kernel15Ideal.nD Cert.Kernel15Ideal.τ).loc Cert.Kernel15Ideal.main_v4_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_v4_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v9) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v20) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8192x3072 : Shape := ⟨2, ![8192, 3072]⟩
abbrev S8192x512 : Shape := ⟨2, ![8192, 512]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x3072 .f32) (main_arg1 : FVec F S8192x512 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Pre_finite2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Kernel.lean ====
abbrev S8192x3072 : Shape := ⟨2, ![8192, 3072]⟩
abbrev S8192x512 : Shape := ⟨2, ![8192, 512]⟩
abbrev S8192x128 : Shape := ⟨2, ![8192, 128]⟩
abbrev S8192x64 : Shape := ⟨2, ![8192, 64]⟩
abbrev S8192x256 : Shape := ⟨2, ![8192, 256]⟩
abbrev S_ : Shape := ⟨0, ![]⟩
abbrev S256x128 : Shape := ⟨2, ![256, 128]⟩
abbrev S1x128 : Shape := ⟨2, ![1, 128]⟩
abbrev S256x1 : Shape := ⟨2, ![256, 1]⟩
abbrev S512x128 : Shape := ⟨2, ![512, 128]⟩
abbrev S256x512 : Shape := ⟨2, ![256, 512]⟩
abbrev S256 : Shape := ⟨1, ![256]⟩
abbrev S512 : Shape := ⟨1, ![512]⟩
abbrev S512x1 : Shape := ⟨2, ![512, 1]⟩
abbrev S1024x128 : Shape := ⟨2, ![1024, 128]⟩
abbrev S512x512 : Shape := ⟨2, ![512, 512]⟩
abbrev S1024x512 : Shape := ⟨2, ![1024, 512]⟩

abbrev nBuf : Space → Nat
  | .hbm => 36
  | .vmem => 28
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S8192x3072, .bf16⟩
  | .hbm, ⟨3, _⟩ => ⟨S8192x128, .bf16⟩
  | .hbm, ⟨4, _⟩ => ⟨S8192x64, .bf16⟩
  | .hbm, ⟨5, _⟩ => ⟨S8192x64, .bf16⟩
  | .hbm, ⟨6, _⟩ => ⟨S8192x256, .bf16⟩
  | .hbm, ⟨7, _⟩ => ⟨S8192x128, .bf16⟩
  | .hbm, ⟨8, _⟩ => ⟨S8192x64, .bf16⟩
  | .hbm, ⟨9, _⟩ => ⟨S8192x64, .bf16⟩
  | .hbm, ⟨10, _⟩ => ⟨S_, .bf16⟩
  | .hbm, ⟨11, _⟩ => ⟨S8192x64, .bf16⟩
  | .hbm, ⟨12, _⟩ => ⟨S8192x512, .bf16⟩
  | .hbm, ⟨13, _⟩ => ⟨S8192x512, .bf16⟩
  | .hbm, ⟨14, _⟩ => ⟨S8192x512, .f32⟩
  | .hbm, ⟨15, _⟩ => ⟨S8192x64, .bf16⟩
  | .hbm, ⟨16, _⟩ => ⟨S8192x64, .bf16⟩
  | .hbm, ⟨17, _⟩ => ⟨S8192x256, .bf16⟩
  | .hbm, ⟨18, _⟩ => ⟨S8192x512, .bf16⟩
  | .hbm, ⟨19, _⟩ => ⟨S8192x512, .bf16⟩
  | .hbm, ⟨20, _⟩ => ⟨S8192x256, .f32⟩
  | .hbm, ⟨21, _⟩ => ⟨S8192x256, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x128, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x128, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x256, .bf16⟩
  | .local _ .vmem, ⟨5, _⟩ => ⟨S8192x256, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S512x128, .bf16⟩
  | .local _ .vmem, ⟨11, _⟩ => ⟨S512x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S8192x128, .f32⟩
  | .local _ .vmem, ⟨25, _⟩ => ⟨S8192x128, .f32⟩
  | .local _ .vmem, ⟨26, _⟩ => ⟨S8192x128, .f32⟩
  | .local _ .vmem, ⟨27, _⟩ => ⟨S8192x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32 : BitVec 32 := 0#32
  let c2_i32 : BitVec 32 := 2#32
  let v18 : BitVec 32 := Scalar.addi c0_i32 c2_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v39 : BitVec 32 := Scalar.muli arg7 c8_i32
  let c0_i32_12 : BitVec 32 := 0#32
  let v40 : BitVec 32 := Scalar.addi v39 c0_i32_12
  let c512_i32 : BitVec 32 := 512#32
  let v41 : BitVec 32 := Scalar.muli v40 c512_i32
  v41
def k0_off1 (k0_t1 : Fin k0_t1_loop.trips) (c0_i32_12 : BitVec 32) : Fin 2 → Nat :=
  let c0_i32 : BitVec 32 := 0#32
  let c1_i32 : BitVec 32 := 1#32
  let arg7 : BitVec 32 := Scf.iv c0_i32 c1_i32 k0_t1
  let c8_i32 : BitVec 32 := 8#32
  let v39 : BitVec 32 := Scalar.muli arg7 c8_i32
  let v40 : BitVec 32 := Scalar.addi v39 c0_i32_12
  let c512_i32 : BitVec 32 := 512#32
  let v41 : BitVec 32 := Scalar.muli v40 c512_i32
  let v42 : BitVec 32 := v41
  let v43 : Index := Scalar.indexCast v42
  let c0_13 : Index := 0#32
  ![v43.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_16 : BitVec 32 := 8#32
  let v48 : BitVec 32 := Scalar.muli arg7 c8_i32_16
  let c1_i32_17 : BitVec 32 := 1#32
  let v49 : BitVec 32 := Scalar.addi v48 c1_i32_17
  let c512_i32_18 : BitVec 32 := 512#32
  let v50 : BitVec 32 := Scalar.muli v49 c512_i32_18
  v50
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_22 : BitVec 32 := 8#32
  let v57 : BitVec 32 := Scalar.muli arg7 c8_i32_22
  let c2_i32_23 : BitVec 32 := 2#32
  let v58 : BitVec 32 := Scalar.addi v57 c2_i32_23
  let c512_i32_24 : BitVec 32 := 512#32
  let v59 : BitVec 32 := Scalar.muli v58 c512_i32_24
  v59
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_28 : BitVec 32 := 8#32
  let v66 : BitVec 32 := Scalar.muli arg7 c8_i32_28
  let c3_i32 : BitVec 32 := 3#32
  let v67 : BitVec 32 := Scalar.addi v66 c3_i32
  let c512_i32_29 : BitVec 32 := 512#32
  let v68 : BitVec 32 := Scalar.muli v67 c512_i32_29
  v68
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_33 : BitVec 32 := 8#32
  let v75 : BitVec 32 := Scalar.muli arg7 c8_i32_33
  let c4_i32 : BitVec 32 := 4#32
  let v76 : BitVec 32 := Scalar.addi v75 c4_i32
  let c512_i32_34 : BitVec 32 := 512#32
  let v77 : BitVec 32 := Scalar.muli v76 c512_i32_34
  v77
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_38 : BitVec 32 := 8#32
  let v84 : BitVec 32 := Scalar.muli arg7 c8_i32_38
  let c5_i32 : BitVec 32 := 5#32
  let v85 : BitVec 32 := Scalar.addi v84 c5_i32
  let c512_i32_39 : BitVec 32 := 512#32
  let v86 : BitVec 32 := Scalar.muli v85 c512_i32_39
  v86
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_43 : BitVec 32 := 8#32
  let v93 : BitVec 32 := Scalar.muli arg7 c8_i32_43
  let c6_i32 : BitVec 32 := 6#32
  let v94 : BitVec 32 := Scalar.addi v93 c6_i32
  let c512_i32_44 : BitVec 32 := 512#32
  let v95 : BitVec 32 := Scalar.muli v94 c512_i32_44
  v95
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_48 : BitVec 32 := 8#32
  let v102 : BitVec 32 := Scalar.muli arg7 c8_i32_48
  let c7_i32 : BitVec 32 := 7#32
  let v103 : BitVec 32 := Scalar.addi v102 c7_i32
  let c512_i32_49 : BitVec 32 := 512#32
  let v104 : BitVec 32 := Scalar.muli v103 c512_i32_49
  v104
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_53 : BitVec 32 := 8#32
  let v111 : BitVec 32 := Scalar.muli arg7 c8_i32_53
  let c0_i32_54 : BitVec 32 := 0#32
  let v112 : BitVec 32 := Scalar.addi v111 c0_i32_54
  let c512_i32_55 : BitVec 32 := 512#32
  let v113 : BitVec 32 := Scalar.muli v112 c512_i32_55
  v113
def k0_off2 (k0_t1 : Fin k0_t1_loop.trips) (c0_i32_54 : BitVec 32) : Fin 2 → Nat :=
  let c0_i32 : BitVec 32 := 0#32
  let c1_i32 : BitVec 32 := 1#32
  let arg7 : BitVec 32 := Scf.iv c0_i32 c1_i32 k0_t1
  let c8_i32_53 : BitVec 32 := 8#32
  let v111 : BitVec 32 := Scalar.muli arg7 c8_i32_53
  let v112 : BitVec 32 := Scalar.addi v111 c0_i32_54
  let c512_i32_55 : BitVec 32 := 512#32
  let v113 : BitVec 32 := Scalar.muli v112 c512_i32_55
  let v114 : BitVec 32 := v113
  let v115 : Index := Scalar.indexCast v114
  let c0_56 : Index := 0#32
  ![v115.toNat, 0]
def k0_off3 (k0_t1 : Fin k0_t1_loop.trips) (c0_i32_54 : BitVec 32) : Fin 2 → Nat :=
  let c0_i32 : BitVec 32 := 0#32
  let c1_i32 : BitVec 32 := 1#32
  let arg7 : BitVec 32 := Scf.iv c0_i32 c1_i32 k0_t1
  let c8_i32_53 : BitVec 32 := 8#32
  let v111 : BitVec 32 := Scalar.muli arg7 c8_i32_53
  let v112 : BitVec 32 := Scalar.addi v111 c0_i32_54
  let c512_i32_55 : BitVec 32 := 512#32
  let v113 : BitVec 32 := Scalar.muli v112 c512_i32_55
  let v114 : BitVec 32 := v113
  let v131 : Index := Scalar.indexCast v114
  let c128 : Index := 128#32
  ![v131.toNat, 128]
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_61 : BitVec 32 := 8#32
  let v147 : BitVec 32 := Scalar.muli arg7 c8_i32_61
  let c1_i32_62 : BitVec 32 := 1#32
  let v148 : BitVec 32 := Scalar.addi v147 c1_i32_62
  let c512_i32_63 : BitVec 32 := 512#32
  let v149 : BitVec 32 := Scalar.muli v148 c512_i32_63
  v149
def k0_mult11 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_70 : BitVec 32 := 8#32
  let v183 : BitVec 32 := Scalar.muli arg7 c8_i32_70
  let c2_i32_71 : BitVec 32 := 2#32
  let v184 : BitVec 32 := Scalar.addi v183 c2_i32_71
  let c512_i32_72 : BitVec 32 := 512#32
  let v185 : BitVec 32 := Scalar.muli v184 c512_i32_72
  v185
def k0_mult12 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_79 : BitVec 32 := 8#32
  let v219 : BitVec 32 := Scalar.muli arg7 c8_i32_79
  let c3_i32_80 : BitVec 32 := 3#32
  let v220 : BitVec 32 := Scalar.addi v219 c3_i32_80
  let c512_i32_81 : BitVec 32 := 512#32
  let v221 : BitVec 32 := Scalar.muli v220 c512_i32_81
  v221
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_88 : BitVec 32 := 8#32
  let v255 : BitVec 32 := Scalar.muli arg7 c8_i32_88
  let c4_i32_89 : BitVec 32 := 4#32
  let v256 : BitVec 32 := Scalar.addi v255 c4_i32_89
  let c512_i32_90 : BitVec 32 := 512#32
  let v257 : BitVec 32 := Scalar.muli v256 c512_i32_90
  v257
def k0_mult14 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_97 : BitVec 32 := 8#32
  let v291 : BitVec 32 := Scalar.muli arg7 c8_i32_97
  let c5_i32_98 : BitVec 32 := 5#32
  let v292 : BitVec 32 := Scalar.addi v291 c5_i32_98
  let c512_i32_99 : BitVec 32 := 512#32
  let v293 : BitVec 32 := Scalar.muli v292 c512_i32_99
  v293
def k0_mult15 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_106 : BitVec 32 := 8#32
  let v327 : BitVec 32 := Scalar.muli arg7 c8_i32_106
  let c6_i32_107 : BitVec 32 := 6#32
  let v328 : BitVec 32 := Scalar.addi v327 c6_i32_107
  let c512_i32_108 : BitVec 32 := 512#32
  let v329 : BitVec 32 := Scalar.muli v328 c512_i32_108
  v329
def k0_mult16 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_115 : BitVec 32 := 8#32
  let v363 : BitVec 32 := Scalar.muli arg7 c8_i32_115
  let c7_i32_116 : BitVec 32 := 7#32
  let v364 : BitVec 32 := Scalar.addi v363 c7_i32_116
  let c512_i32_117 : BitVec 32 := 512#32
  let v365 : BitVec 32 := Scalar.muli v364 c512_i32_117
  v365
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 2, 16], ![false, false, false]⟩

@[reducible] def k1_t1_loop : Scf.Loop 32 :=
  let c0_i32_16 : BitVec 32 := 0#32
  let c8_i32 : BitVec 32 := 8#32
  let v53 : BitVec 32 := Scalar.addi c0_i32_16 c8_i32
  let c1_i32 : BitVec 32 := 1#32
  ⟨c0_i32_16, v53, c1_i32⟩
def k1_mult1 (k1_t1 : Fin k1_t1_loop.trips) : BitVec 32 :=
  let c0_i32_16 : BitVec 32 := 0#32
  let c1_i32 : BitVec 32 := 1#32
  let arg12 : BitVec 32 := Scf.iv c0_i32_16 c1_i32 k1_t1
  let c2_i32 : BitVec 32 := 2#32
  let v62 : BitVec 32 := Scalar.muli arg12 c2_i32
  let c0_i32_21 : BitVec 32 := 0#32
  let v63 : BitVec 32 := Scalar.addi v62 c0_i32_21
  let c512_i32 : BitVec 32 := 512#32
  let v64 : BitVec 32 := Scalar.muli v63 c512_i32
  v64
def k1_off1 (k1_t1 : Fin k1_t1_loop.trips) (c0_i32_21 : BitVec 32) : Fin 2 → Nat :=
  let c0_i32_16 : BitVec 32 := 0#32
  let c1_i32 : BitVec 32 := 1#32
  let arg12 : BitVec 32 := Scf.iv c0_i32_16 c1_i32 k1_t1
  let c2_i32 : BitVec 32 := 2#32
  let v62 : BitVec 32 := Scalar.muli arg12 c2_i32
  let v63 : BitVec 32 := Scalar.addi v62 c0_i32_21
  let c512_i32 : BitVec 32 := 512#32
  let v64 : BitVec 32 := Scalar.muli v63 c512_i32
  let v65 : BitVec 32 := v64
  let v66 : Index := Scalar.indexCast v65
  let c0_22 : Index := 0#32
  ![v66.toNat, 0]
def k1_mult2 (k1_t1 : Fin k1_t1_loop.trips) : BitVec 32 :=
  let c0_i32_16 : BitVec 32 := 0#32
  let c1_i32 : BitVec 32 := 1#32
  let arg12 : BitVec 32 := Scf.iv c0_i32_16 c1_i32 k1_t1
  let c2_i32_36 : BitVec 32 := 2#32
  let v112 : BitVec 32 := Scalar.muli arg12 c2_i32_36
  let c1_i32_37 : BitVec 32 := 1#32
  let v113 : BitVec 32 := Scalar.addi v112 c1_i32_37
  let c512_i32_38 : BitVec 32 := 512#32
  let v114 : BitVec 32 := Scalar.muli v113 c512_i32_38
  v114
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S8192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== ReferenceIdeal.lean ====
abbrev S8192x3072 : Shape := ⟨2, ![8192, 3072]⟩
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩

abbrev nBuf : Space → Nat
  | .hbm => 86
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S8192x512, .f32⟩
  | .hbm, ⟨3, _⟩ => ⟨S8192x128, .f32⟩
  | .hbm, ⟨4, _⟩ => ⟨S8192x128, .f32⟩
  | .hbm, ⟨5, _⟩ => ⟨S8192x2x4x64, .f32⟩
  | .hbm, ⟨6, _⟩ => ⟨S8192x2x64, .f32⟩
  | .hbm, ⟨7, _⟩ => ⟨S8192x2x64, .f32⟩
  | .hbm, ⟨8, _⟩ => ⟨S2x8192x8192x4, .f32⟩
  | .hbm, ⟨9, _⟩ => ⟨S2x4x8192x8192, .f32⟩
  | .hbm, ⟨10, _⟩ => ⟨S_, .f32⟩
  | .hbm, ⟨11, _⟩ => ⟨S2x4x8192x8192, .f32⟩
  | .hbm, ⟨12, _⟩ => ⟨S2x4x8192x8192, .f32⟩
  | .hbm, ⟨13, _⟩ => ⟨S_, .f32⟩
  | .hbm, ⟨14, _⟩ => ⟨S2x4x8192, .f32⟩
  | .hbm, ⟨15, _⟩ => ⟨S2x4x8192x1, .f32⟩
  | .hbm, ⟨16, _⟩ => ⟨S2x4x8192x8192, .f32⟩
  | .hbm, ⟨17, _⟩ => ⟨S2x4x8192x8192, .i1⟩
  | .hbm, ⟨18, _⟩ => ⟨S2x4x8192x8192, .f32⟩
  | .hbm, ⟨19, _⟩ => ⟨S_, .f32⟩
  | .hbm, ⟨20, _⟩ => ⟨S2x4x8192, .f32⟩
  | .hbm, ⟨21, _⟩ => ⟨S_, .f32⟩
  | .hbm, ⟨22, _⟩ => ⟨S2x4x8192, .f32⟩
  | .hbm, ⟨23, _⟩ => ⟨S2x4x8192, .f32⟩
  | .hbm, ⟨24, _⟩ => ⟨S_, .f32⟩
  | .hbm, ⟨25, _⟩ => ⟨S2x4x8192, .f32⟩
  | .hbm, ⟨26, _⟩ => ⟨S2x4x8192, .i1⟩
  | .hbm, ⟨27, _⟩ => ⟨S_, .f32⟩
  | .hbm, ⟨28, _⟩ => ⟨S2x4x8192, .f32⟩
  | .hbm, ⟨29, _⟩ => ⟨S2x4x8192, .i1⟩
  | .hbm, ⟨30, _⟩ => ⟨S_, .f32⟩
  | .hbm, ⟨31, _⟩ => ⟨S2x4x8192, .f32⟩
  | .hbm, ⟨32, _⟩ => ⟨S_, .f32⟩
  | .hbm, ⟨33, _⟩ => ⟨S2x4x8192, .f32⟩
  | .hbm, ⟨34, _⟩ => ⟨S_, .f32⟩
  | .hbm, ⟨35, _⟩ => ⟨S2x4x8192, .f32⟩
  | .hbm, ⟨36, _⟩ => ⟨S2x4x8192, .f32⟩
  | .hbm, ⟨37, _⟩ => ⟨S2x4x8192, .f32⟩
  | .hbm, ⟨38, _⟩ => ⟨S2x4x8192x1, .f32⟩
  | .hbm, ⟨39, _⟩ => ⟨S2x4x8192x8192, .f32⟩
  | .hbm, ⟨40, _⟩ => ⟨S2x4x8192x8192, .f32⟩
  | .hbm, ⟨41, _⟩ => ⟨S2x4x8192x8192, .f32⟩
  | .hbm, ⟨42, _⟩ => ⟨S_, .f32⟩
  | .hbm, ⟨43, _⟩ => ⟨S2x4x8192, .f32⟩
  | .hbm, ⟨44, _⟩ => ⟨S2x4x8192x1, .f32⟩
  | .hbm, ⟨45, _⟩ => ⟨S2x4x8192x8192, .f32⟩
  | .hbm, ⟨46, _⟩ => ⟨S2x4x8192x8192, .f32⟩
  | .hbm, ⟨47, _⟩ => ⟨S2x4x8192x1, .f32⟩
  | .hbm, ⟨48, _⟩ => ⟨S_, .f32⟩
  | .hbm, ⟨49, _⟩ => ⟨S2x4x8192x1, .f32⟩
  | .hbm, ⟨50, _⟩ => ⟨S2x4x8192x1, .f32⟩
  | .hbm, ⟨51, _⟩ => ⟨S2x64x4x8192, .f32⟩
  | .hbm, ⟨52, _⟩ => ⟨S8192x2x4x64, .f32⟩
  | .hbm, ⟨53, _⟩ => ⟨S8192x512, .f32⟩
  | .hbm, ⟨54, _⟩ => ⟨S8192x2x4x64, .f32⟩
  | .hbm, ⟨55, _⟩ => ⟨S2x64x4x8192, .f32⟩
  | .hbm, ⟨56, _⟩ => ⟨S2x4x8192x8192, .f32⟩
  | .hbm, ⟨57, _⟩ => ⟨S2x64x8192, .f32⟩
  | .hbm, ⟨58, _⟩ => ⟨S8192x2x64, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S_, .f32⟩
  | .hbm, ⟨63, _⟩ => ⟨S2x4x8192, .f32⟩
  | .hbm, ⟨64, _⟩ => ⟨S2x4x8192x1, .f32⟩
  | .hbm, ⟨65, _⟩ => ⟨S2x4x8192x1, .f32⟩
  | .hbm, ⟨66, _⟩ => ⟨S2x4x8192x8192, .f32⟩
  | .hbm, ⟨67, _⟩ => ⟨S2x4x8192x8192, .f32⟩
  | .hbm, ⟨68, _⟩ => ⟨S_, .f32⟩
  | .hbm, ⟨69, _⟩ => ⟨S2x4x8192, .f32⟩
  | .hbm, ⟨70, _⟩ => ⟨S2x4x8192x8192, .f32⟩
  | .hbm, ⟨71, _⟩ => ⟨S2x4x8192x8192, .f32⟩
  | .hbm, ⟨72, _⟩ => ⟨S2x4x8192x8192, .f32⟩
  | .hbm, ⟨73, _⟩ => ⟨S_, .f32⟩
  | .hbm, ⟨74, _⟩ => ⟨S2x4x8192x8192, .f32⟩
  | .hbm, ⟨75, _⟩ => ⟨S2x4x8192x8192, .f32⟩
  | .hbm, ⟨76, _⟩ => ⟨S2x8192x8192x4, .f32⟩
  | .hbm, ⟨77, _⟩ => ⟨S2x8192x4x64, .f32⟩
  | .hbm, ⟨78, _⟩ => ⟨S8192x2x4x64, .f32⟩
  | .hbm, ⟨79, _⟩ => ⟨S2x8192x64, .f32⟩
  | .hbm, ⟨80, _⟩ => ⟨S8192x2x64, .f32⟩
  | .hbm, ⟨81, _⟩ => ⟨S8192x128, .f32⟩
  | .hbm, ⟨82, _⟩ => ⟨S8192x128, .f32⟩
  | .hbm, ⟨83, _⟩ => ⟨S8192x512, .f32⟩
  | .hbm, ⟨84, _⟩ => ⟨S8192x512, .bf16⟩
  | .hbm, ⟨85, _⟩ => ⟨S8192x512, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_12 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S8192x2816 : Shape := ⟨2, ![8192, 2816]⟩
abbrev S1024x1024 : Shape := ⟨2, ![1024, 1024]⟩
abbrev S1024x1408 : Shape := ⟨2, ![1024, 1408]⟩
abbrev S8x128 : Shape := ⟨2, ![8, 128]⟩
abbrev S512x1408 : Shape := ⟨2, ![512, 1408]⟩
abbrev S2816x512 : Shape := ⟨2, ![2816, 512]⟩
abbrev S1408x1024 : Shape := ⟨2, ![1408, 1024]⟩
abbrev S512x2816 : Shape := ⟨2, ![512, 2816]⟩

abbrev nBuf : Space → Nat
  | .hbm => 21
  | .vmem => 69
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S8192x1024, .bf16⟩
  | .hbm, ⟨11, _⟩ => ⟨S1024x8192, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .hbm, ⟨15, _⟩ => ⟨S8192x1024, .f32⟩
  | .hbm, ⟨16, _⟩ => ⟨S8192x2816, .bf16⟩
  | .hbm, ⟨17, _⟩ => ⟨S8192x2816, .bf16⟩
  | .hbm, ⟨18, _⟩ => ⟨S8192x2816, .bf16⟩
  | .hbm, ⟨19, _⟩ => ⟨S8192x1024, .f32⟩
  | .hbm, ⟨20, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S8x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S8x128, .f32⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S1024x2816, .bf16⟩
  | .local _ .vmem, ⟨28, _⟩ => ⟨S1024x2816, .bf16⟩
  | .local _ .vmem, ⟨29, _⟩ => ⟨S2816x512, .bf16⟩
  | .local _ .vmem, ⟨30, _⟩ => ⟨S2816x512, .bf16⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x512, .f32⟩
  | .local _ .vmem, ⟨35, _⟩ => ⟨S8x128, .f32⟩
  | .local _ .vmem, ⟨36, _⟩ => ⟨S1024x1024, .f32⟩
  | .local _ .vmem, ⟨37, _⟩ => ⟨S1024x1024, .f32⟩
  | .local _ .vmem, ⟨38, _⟩ => ⟨S1408x1024, .bf16⟩
  | .local _ .vmem, ⟨39, _⟩ => ⟨S1408x1024, .bf16⟩
  | .local _ .vmem, ⟨40, _⟩ => ⟨S1024x1408, .bf16⟩
  | .local _ .vmem, ⟨41, _⟩ => ⟨S1024x1408, .bf16⟩
  | .local _ .vmem, ⟨42, _⟩ => ⟨S8x128, .f32⟩
  | .local _ .vmem, ⟨43, _⟩ => ⟨S512x1408, .bf16⟩
  | .local _ .vmem, ⟨44, _⟩ => ⟨S512x1408, .bf16⟩
  | .local _ .vmem, ⟨45, _⟩ => ⟨S512x1408, .bf16⟩
  | .local _ .vmem, ⟨46, _⟩ => ⟨S512x1408, .bf16⟩
  | .local _ .vmem, ⟨47, _⟩ => ⟨S512x1408, .bf16⟩
  | .local _ .vmem, ⟨48, _⟩ => ⟨S512x1408, .bf16⟩
  | .local _ .vmem, ⟨49, _⟩ => ⟨S512x1408, .bf16⟩
  | .local _ .vmem, ⟨50, _⟩ => ⟨S512x1408, .bf16⟩
  | .local _ .vmem, ⟨51, _⟩ => ⟨S512x1408, .bf16⟩
  | .local _ .vmem, ⟨52, _⟩ => ⟨S512x1408, .bf16⟩
  | .local _ .vmem, ⟨53, _⟩ => ⟨S1024x2816, .bf16⟩
  | .local _ .vmem, ⟨54, _⟩ => ⟨S1024x2816, .bf16⟩
  | .local _ .vmem, ⟨55, _⟩ => ⟨S512x2816, .bf16⟩
  | .local _ .vmem, ⟨56, _⟩ => ⟨S512x2816, .bf16⟩
  | .local _ .vmem, ⟨57, _⟩ => ⟨S1024x512, .f32⟩
  | .local _ .vmem, ⟨58, _⟩ => ⟨S1024x512, .f32⟩
  | .local _ .vmem, ⟨59, _⟩ => ⟨S8x128, .f32⟩
  | .local _ .vmem, ⟨60, _⟩ => ⟨S1024x2816, .bf16⟩
  | .local _ .vmem, ⟨61, _⟩ => ⟨S1024x2816, .bf16⟩
  | .local _ .vmem, ⟨62, _⟩ => ⟨S512x2816, .bf16⟩
  | .local _ .vmem, ⟨63, _⟩ => ⟨S512x2816, .bf16⟩
  | .local _ .vmem, ⟨64, _⟩ => ⟨S1024x512, .f32⟩
  | .local _ .vmem, ⟨65, _⟩ => ⟨S1024x512, .f32⟩
  | .local _ .vmem, ⟨66, _⟩ => ⟨S1024x512, .f32⟩
  | .local _ .vmem, ⟨67, _⟩ => ⟨S1024x512, .f32⟩
  | .local _ .vmem, ⟨68, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_scratch0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg3_1 : Ref sig .tc := ⟨.vmem, 50, rfl⟩
abbrev cc6_stg4_0 : Ref sig .tc := ⟨.vmem, 51, rfl⟩
abbrev cc6_stg4_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_scratch0 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg2_1 : Ref sig .tc := ⟨.vmem, 65, rfl⟩
abbrev cc8_stg3_0 : Ref sig .tc := ⟨.vmem, 66, rfl⟩
abbrev cc8_stg3_1 : Ref sig .tc := ⟨.vmem, 67, rfl⟩
abbrev cc8_scratch0 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc6_sem3_0 : DmaSem sig := 45
abbrev cc6_sem3_1 : DmaSem sig := 46
abbrev cc6_sem4_0 : DmaSem sig := 47
abbrev cc6_sem4_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem2_1 : DmaSem sig := 60
abbrev cc8_sem3_0 : DmaSem sig := 61
abbrev cc8_sem3_1 : DmaSem sig := 62

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![16, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨3, ![8, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2816x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![8, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1408x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![16, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S512x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S512x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S512x1408 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S512x1408 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨3, ![8, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![8, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x2816 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S512x2816 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S1024x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1024x8192 : Shape := ⟨2, ![1024, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S8192x1024, .f32⟩
  | .hbm, ⟨40, _⟩ => ⟨S1024x8192, .f32⟩
  | .hbm, ⟨41, _⟩ => ⟨S1024x8192, .bf16⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S1024x8192 : Shape := ⟨2, ![1024, 8192]⟩
abbrev S1024x2816 : Shape := ⟨2, ![1024, 2816]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S1024x8192, .bf16⟩
  | .hbm, ⟨4, _⟩ => ⟨S8192x2816, .bf16⟩
  | .hbm, ⟨5, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel6.lean ====
abbrev S8192x1024 : Shape := ⟨2, ![8192, 1024]⟩
abbrev S8192x6656 : Shape := ⟨2, ![8192, 6656]⟩
abbrev S1024x8192 : Shape := ⟨2, ![1024, 8192]⟩
abbrev S1024x6656 : Shape := ⟨2, ![1024, 6656]⟩
abbrev S1024x1024 : Shape := ⟨2, ![1024, 1024]⟩
abbrev S1024x3328 : Shape := ⟨2, ![1024, 3328]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6656, .f32⟩
  | .hbm, ⟨2, _⟩ => ⟨S8192x1024, .bf16⟩
  | .hbm, ⟨3, _⟩ => ⟨S1024x8192, .bf16⟩
  | .hbm, ⟨4, _⟩ => ⟨S8192x6656, .bf16⟩
  | .hbm, ⟨5, _⟩ => ⟨S1024x6656, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3328, .bf16⟩
  | .local _ .vmem, ⟨3, _⟩ => ⟨S1024x3328, .bf16⟩
  | .local _ .vmem, ⟨4, _⟩ => ⟨S1024x3328, .bf16⟩
  | .local _ .vmem, ⟨5, _⟩ => ⟨S1024x3328, .bf16⟩
  | .local _ .vmem, ⟨6, _⟩ => ⟨S1024x3328, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x6656 : Shape := ⟨2, ![8192, 6656]⟩
abbrev S_ : Shape := ⟨0, ![]⟩
abbrev S1024x6656 : Shape := ⟨2, ![1024, 6656]⟩
abbrev S6656x1024 : Shape := ⟨2, ![6656, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6656, .f32⟩
  | .hbm, ⟨2, _⟩ => ⟨S_, .f32⟩
  | .hbm, ⟨3, _⟩ => ⟨S1024x6656, .f32⟩
  | .hbm, ⟨4, _⟩ => ⟨S8192x6656, .f32⟩
  | .hbm, ⟨5, _⟩ => ⟨S6656x1024, .f32⟩
  | .hbm, ⟨6, _⟩ => ⟨S1024x6656, .f32⟩
  | .hbm, ⟨7, _⟩ => ⟨S1024x6656, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x6656 : Shape := ⟨2, ![8192, 6656]⟩
abbrev S1024x6656 : Shape := ⟨2, ![1024, 6656]⟩
abbrev S8192x1024 : Shape := ⟨2, ![8192, 1024]⟩
abbrev S1024x1664 : Shape := ⟨2, ![1024, 1664]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x6656, .f32⟩
  | .hbm, ⟨1, _⟩ => ⟨S1024x6656, .f32⟩
  | .hbm, ⟨2, _⟩ => ⟨S8192x6656, .bf16⟩
  | .hbm, ⟨3, _⟩ => ⟨S1024x6656, .bf16⟩
  | .hbm, ⟨4, _⟩ => ⟨S8192x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x6656 : Shape := ⟨2, ![8192, 6656]⟩
abbrev S1024x6656 : Shape := ⟨2, ![1024, 6656]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x6656, .f32⟩
  | .hbm, ⟨1, _⟩ => ⟨S1024x6656, .f32⟩
  | .hbm, ⟨2, _⟩ => ⟨S_, .f32⟩
  | .hbm, ⟨3, _⟩ => ⟨S8192x1024, .f32⟩
  | .hbm, ⟨4, _⟩ => ⟨S8192x6656, .f32⟩
  | .hbm, ⟨5, _⟩ => ⟨S8192x1024, .f32⟩
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x1024 : Shape := ⟨2, ![8192, 1024]⟩
abbrev S1024x6656 : Shape := ⟨2, ![1024, 6656]⟩
abbrev S8192x6656 : Shape := ⟨2, ![8192, 6656]⟩
abbrev S1024x1024 : Shape := ⟨2, ![1024, 1024]⟩
abbrev S1024x1664 : Shape := ⟨2, ![1024, 1664]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x6656, .f32⟩
  | .hbm, ⟨2, _⟩ => ⟨S8192x1024, .bf16⟩
  | .hbm, ⟨3, _⟩ => ⟨S1024x6656, .bf16⟩
  | .hbm, ⟨4, _⟩ => ⟨S8192x6656, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x6656 : Shape := ⟨2, ![1024, 6656]⟩
abbrev S8192x6656 : Shape := ⟨2, ![8192, 6656]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6656, .f32⟩
  | .hbm, ⟨2, _⟩ => ⟨S8192x6656, .f32⟩
  | .hbm, ⟨3, _⟩ => ⟨S8192x6656, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8192x6656 : Shape := ⟨2, ![8192, 6656]⟩
abbrev S3072 : Shape := ⟨1, ![3072]⟩
abbrev S8192x1024 : Shape := ⟨2, ![8192, 1024]⟩
abbrev S1x3072 : Shape := ⟨2, ![1, 3072]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩

abbrev nBuf : Space → Nat
  | .hbm => 20
  | .vmem => 38
  | .smem => 0
  | _ => 0

abbrev bufTy : (tb : Table) → Fin (tcTables nBuf tb) → BufTy
  | .hbm, ⟨0, _⟩ => ⟨S8192x6656, .f32⟩
  | .hbm, ⟨1, _⟩ => ⟨S3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x6656, .bf16⟩
  | .hbm, ⟨7, _⟩ => ⟨S1x3072, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S1x1024, .f32⟩
  | .hbm, ⟨18, _⟩ => ⟨S1x1024, .f32⟩
  | .hbm, ⟨19, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev main_v5_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v30 : BitVec 1 := Scalar.cmpi .eq arg1 c0_i32
  let v31 : BitVec 32 := Scalar.extui v30
  let c0_i32_15 : BitVec 32 := 0#32
  let v32 : BitVec 1 := Scalar.cmpi .ne v31 c0_i32_15
  v32

def k0_cond2 (i : grid0.Coords) : BitVec 1 :=
  let arg1 : BitVec 32 := BitVec.ofNat 32 (i 1).val
  let c0_i32_16 : BitVec 32 := 0#32
  let v33 : BitVec 1 := Scalar.cmpi .sgt arg1 c0_i32_16
  let v34 : BitVec 32 := Scalar.extui v33
  let c0_i32_17 : BitVec 32 := 0#32
  let v35 : BitVec 1 := Scalar.cmpi .ne v34 c0_i32_17
  v35

def k0_cond3 (i : grid0.Coords) : BitVec 1 :=
  let arg1 : BitVec 32 := BitVec.ofNat 32 (i 1).val
  let c0_i32_33 : BitVec 32 := 0#32
  let v65 : BitVec 1 := Scalar.cmpi .eq arg1 c0_i32_33
  let v66 : BitVec 32 := Scalar.extui v65
  let c0_i32_34 : BitVec 32 := 0#32
  let v67 : BitVec 1 := Scalar.cmpi .ne v66 c0_i32_34
  v67

def k0_cond4 (i : grid0.Coords) : BitVec 1 :=
  let arg1 : BitVec 32 := BitVec.ofNat 32 (i 1).val
  let c0_i32_35 : BitVec 32 := 0#32
  let v68 : BitVec 1 := Scalar.cmpi .sgt arg1 c0_i32_35
  let v69 : BitVec 32 := Scalar.extui v68
  let c0_i32_36 : BitVec 32 := 0#32
  let v70 : BitVec 1 := Scalar.cmpi .ne v69 c0_i32_36
  v70

def k0_cond5 (i : grid0.Coords) : BitVec 1 :=
  let arg1 : BitVec 32 := BitVec.ofNat 32 (i 1).val
  let c0_i32_52 : BitVec 32 := 0#32
  let v100 : BitVec 1 := Scalar.cmpi .eq arg1 c0_i32_52
  let v101 : BitVec 32 := Scalar.extui v100
  let c0_i32_53 : BitVec 32 := 0#32
  let v102 : BitVec 1 := Scalar.cmpi .ne v101 c0_i32_53
  v102

def k0_cond6 (i : grid0.Coords) : BitVec 1 :=
  let arg1 : BitVec 32 := BitVec.ofNat 32 (i 1).val
  let c0_i32_54 : BitVec 32 := 0#32
  let v103 : BitVec 1 := Scalar.cmpi .sgt arg1 c0_i32_54
  let v104 : BitVec 32 := Scalar.extui v103
  let c0_i32_55 : BitVec 32 := 0#32
  let v105 : BitVec 1 := Scalar.cmpi .ne v104 c0_i32_55
  v105

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference9Ideal.lean ====
abbrev S8192x6656 : Shape := ⟨2, ![8192, 6656]⟩
abbrev S3072 : Shape := ⟨1, ![3072]⟩
abbrev S8192x1024 : Shape := ⟨2, ![8192, 1024]⟩
abbrev S8192x3072 : Shape := ⟨2, ![8192, 3072]⟩
abbrev S1x3072 : Shape := ⟨2, ![1, 3072]⟩
abbrev S_ : Shape := ⟨0, ![]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x6656, .f32⟩
  | .hbm, ⟨1, _⟩ => ⟨S3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x3072, .f32⟩
  | .hbm, ⟨7, _⟩ => ⟨S1x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x3072, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x3072, .f32⟩
  | .hbm, ⟨40, _⟩ => ⟨S8192x3072, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S_, .f32⟩
  | .hbm, ⟨48, _⟩ => ⟨S3072, .f32⟩
  | .hbm, ⟨49, _⟩ => ⟨S1x3072, .f32⟩
  | .hbm, ⟨50, _⟩ => ⟨S_, .f32⟩
  | .hbm, ⟨51, _⟩ => ⟨S3072, .f32⟩
  | .hbm, ⟨52, _⟩ => ⟨S8192x1024, .bf16⟩
  | .hbm, ⟨53, _⟩ => ⟨S8192x1024, .bf16⟩
  | .hbm, ⟨54, _⟩ => ⟨S8192x1024, .bf16⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S8192x1024, .bf16⟩
  | .hbm, ⟨60, _⟩ => ⟨S8192x1024, .bf16⟩
  | .hbm, ⟨61, _⟩ => ⟨S1x3072, .f32⟩
  | .hbm, ⟨62, _⟩ => ⟨S1x1024, .f32⟩
  | .hbm, ⟨63, _⟩ => ⟨S1x1024, .f32⟩
  | .hbm, ⟨64, _⟩ => ⟨S1x1024, .f32⟩
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel10.lean ====
abbrev S8192x1024 : Shape := ⟨2, ![8192, 1024]⟩
abbrev S8192x6656 : Shape := ⟨2, ![8192, 6656]⟩
abbrev S3072 : Shape := ⟨1, ![3072]⟩
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S1024x1024 : Shape := ⟨2, ![1024, 1024]⟩
abbrev S1x3072 : Shape := ⟨2, ![1, 3072]⟩
abbrev S1024x512 : Shape := ⟨2, ![1024, 512]⟩
abbrev S8x128 : Shape := ⟨2, ![8, 128]⟩
abbrev S1024x256 : Shape := ⟨2, ![1024, 256]⟩
abbrev S512x512 : Shape := ⟨2, ![512, 512]⟩
abbrev S1x512 : Shape := ⟨2, ![1, 512]⟩

abbrev nBuf : Space → Nat
  | .hbm => 23
  | .vmem => 46
  | .smem => 0
  | _ => 0

abbrev bufTy : (tb : Table) → Fin (tcTables nBuf tb) → BufTy
  | .hbm, ⟨0, _⟩ => ⟨S8192x1024, .f32⟩
  | .hbm, ⟨1, _⟩ => ⟨S8192x6656, .f32⟩
  | .hbm, ⟨2, _⟩ => ⟨S3072, .f32⟩
  | .hbm, ⟨3, _⟩ => ⟨S8192x512, .f32⟩
  | .hbm, ⟨4, _⟩ => ⟨S8192x256, .f32⟩
  | .hbm, ⟨5, _⟩ => ⟨S8192x512, .f32⟩
  | .hbm, ⟨6, _⟩ => ⟨S512x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S1x3072, .f32⟩
  | .hbm, ⟨11, _⟩ => ⟨S512x1024, .bf16⟩
  | .hbm, ⟨12, _⟩ => ⟨S256x1024, .bf16⟩
  | .hbm, ⟨13, _⟩ => ⟨S512x1024, .bf16⟩
  | .hbm, ⟨14, _⟩ => ⟨S1024x1024, .bf16⟩
  | .hbm, ⟨15, _⟩ => ⟨S8192x6656, .bf16⟩
  | .hbm, ⟨16, _⟩ => ⟨S8192x512, .bf16⟩
  | .hbm, ⟨17, _⟩ => ⟨S8192x512, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | .local _ .vmem, ⟨6, _⟩ => ⟨S1024x256, .f32⟩
  | .local _ .vmem, ⟨7, _⟩ => ⟨S1024x256, .f32⟩
  | .local _ .vmem, ⟨8, _⟩ => ⟨S256x1024, .bf16⟩
  | .local _ .vmem, ⟨9, _⟩ => ⟨S1024x1024, .bf16⟩
  | .local _ .vmem, ⟨10, _⟩ => ⟨S1024x1024, .bf16⟩
  | .local _ .vmem, ⟨11, _⟩ => ⟨S8x128, .f32⟩
  | .local _ .vmem, ⟨12, _⟩ => ⟨S1024x512, .bf16⟩
  | .local _ .vmem, ⟨13, _⟩ => ⟨S1024x512, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S8x128, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S1024x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1024x1024, .f32⟩
  | .local _ .vmem, ⟨42, _⟩ => ⟨S1024x1024, .f32⟩
  | .local _ .vmem, ⟨43, _⟩ => ⟨S1024x1024, .f32⟩
  | .local _ .vmem, ⟨44, _⟩ => ⟨S1024x1024, .f32⟩
  | .local _ .vmem, ⟨45, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc3_stg7_0 : Ref sig .tc := ⟨.vmem, 32, rfl⟩
abbrev cc3_stg7_1 : Ref sig .tc := ⟨.vmem, 33, rfl⟩
abbrev cc3_stg8_0 : Ref sig .tc := ⟨.vmem, 34, rfl⟩
abbrev cc3_stg8_1 : Ref sig .tc := ⟨.vmem, 35, rfl⟩
abbrev cc3_stg9_0 : Ref sig .tc := ⟨.vmem, 36, rfl⟩
abbrev cc3_stg9_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_scratch0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27
abbrev cc3_sem6_1 : DmaSem sig := 28
abbrev cc3_sem7_0 : DmaSem sig := 29
abbrev cc3_sem7_1 : DmaSem sig := 30
abbrev cc3_sem8_0 : DmaSem sig := 31
abbrev cc3_sem8_1 : DmaSem sig := 32
abbrev cc3_sem9_0 : DmaSem sig := 33
abbrev cc3_sem9_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![2, 16], ![false, false]⟩

def cc3_transform_0 (i : grid3.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc3_transform_1 (i : grid3.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc3_transform_2 (i : grid3.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_4 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc3_transform_5 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S512x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S512x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S512x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S512x512 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== Reference10Ideal.lean ====
abbrev S8192x1024 : Shape := ⟨2, ![8192, 1024]⟩
abbrev S8192x6656 : Shape := ⟨2, ![8192, 6656]⟩
abbrev S3072 : Shape := ⟨1, ![3072]⟩
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S1024x1024 : Shape := ⟨2, ![1024, 1024]⟩
abbrev S8192x3072 : Shape := ⟨2, ![8192, 3072]⟩
abbrev S1x3072 : Shape := ⟨2, ![1, 3072]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6656, .f32⟩
  | .hbm, ⟨2, _⟩ => ⟨S3072, .f32⟩
  | .hbm, ⟨3, _⟩ => ⟨S8192x512, .f32⟩
  | .hbm, ⟨4, _⟩ => ⟨S8192x256, .f32⟩
  | .hbm, ⟨5, _⟩ => ⟨S8192x512, .f32⟩
  | .hbm, ⟨6, _⟩ => ⟨S512x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S8192x3072, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S512x1024 : Shape := ⟨2, ![512, 1024]⟩
abbrev S256x1024 : Shape := ⟨2, ![256, 1024]⟩
abbrev S8x128 : Shape := ⟨2, ![8, 128]⟩
abbrev S8192x512 : Shape := ⟨2, ![8192, 512]⟩
abbrev S1024x512 : Shape := ⟨2, ![1024, 512]⟩
abbrev S8192x256 : Shape := ⟨2, ![8192, 256]⟩
abbrev S1024x256 : Shape := ⟨2, ![1024, 256]⟩

abbrev nBuf : Space → Nat
  | .hbm => 19
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S512x1024, .f32⟩
  | .hbm, ⟨6, _⟩ => ⟨S256x1024, .f32⟩
  | .hbm, ⟨7, _⟩ => ⟨S512x1024, .f32⟩
  | .hbm, ⟨8, _⟩ => ⟨S512x1024, .bf16⟩
  | .hbm, ⟨9, _⟩ => ⟨S256x1024, .bf16⟩
  | .hbm, ⟨10, _⟩ => ⟨S512x1024, .bf16⟩
  | .hbm, ⟨11, _⟩ => ⟨S1024x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .f32⟩
  | .hbm, ⟨16, _⟩ => ⟨S8192x512, .bf16⟩
  | .hbm, ⟨17, _⟩ => ⟨S8192x256, .f32⟩
  | .hbm, ⟨18, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | .local _ .vmem, ⟨11, _⟩ => ⟨S8x128, .f32⟩
  | .local _ .vmem, ⟨12, _⟩ => ⟨S1024x1024, .bf16⟩
  | .local _ .vmem, ⟨13, _⟩ => ⟨S1024x1024, .bf16⟩
  | .local _ .vmem, ⟨14, _⟩ => ⟨S256x1024, .bf16⟩
  | .local _ .vmem, ⟨15, _⟩ => ⟨S1024x256, .f32⟩
  | .local _ .vmem, ⟨16, _⟩ => ⟨S1024x256, .f32⟩
  | .local _ .vmem, ⟨17, _⟩ => ⟨S8x128, .f32⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S1024x512, .f32⟩
  | .local _ .vmem, ⟨22, _⟩ => ⟨S1024x512, .f32⟩
  | .local _ .vmem, ⟨23, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference11Ideal.lean ====
abbrev S8192x1024 : Shape := ⟨2, ![8192, 1024]⟩
abbrev S1024x1024 : Shape := ⟨2, ![1024, 1024]⟩
abbrev S512x1024 : Shape := ⟨2, ![512, 1024]⟩
abbrev S256x1024 : Shape := ⟨2, ![256, 1024]⟩
abbrev S_ : Shape := ⟨0, ![]⟩
abbrev S8192x512 : Shape := ⟨2, ![8192, 512]⟩
abbrev S8192x256 : Shape := ⟨2, ![8192, 256]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S512x1024, .f32⟩
  | .hbm, ⟨6, _⟩ => ⟨S256x1024, .f32⟩
  | .hbm, ⟨7, _⟩ => ⟨S512x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x512, .f32⟩
  | .hbm, ⟨14, _⟩ => ⟨S8192x1024, .f32⟩
  | .hbm, ⟨15, _⟩ => ⟨S8192x512, .f32⟩
  | .hbm, ⟨16, _⟩ => ⟨S8192x512, .bf16⟩
  | .hbm, ⟨17, _⟩ => ⟨S_, .f32⟩
  | .hbm, ⟨18, _⟩ => ⟨S8192x256, .f32⟩
  | .hbm, ⟨19, _⟩ => ⟨S8192x1024, .f32⟩
  | .hbm, ⟨20, _⟩ => ⟨S8192x256, .f32⟩
  | .hbm, ⟨21, _⟩ => ⟨S_, .f32⟩
  | .hbm, ⟨22, _⟩ => ⟨S8192x512, .f32⟩
  | .hbm, ⟨23, _⟩ => ⟨S8192x1024, .f32⟩
  | .hbm, ⟨24, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x256 : Shape := ⟨2, ![8192, 256]⟩
abbrev S8192x1024 : Shape := ⟨2, ![8192, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S256x1024, .bf16⟩
  | .local _ .vmem, ⟨0, _⟩ => ⟨S512x256, .f32⟩
  | .local _ .vmem, ⟨1, _⟩ => ⟨S512x256, .f32⟩
  | .local _ .vmem, ⟨2, _⟩ => ⟨S512x1024, .bf16⟩
  | .local _ .vmem, ⟨3, _⟩ => ⟨S512x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8x1024x832 : Shape := ⟨3, ![8, 1024, 832]⟩
abbrev S4096x832 : Shape := ⟨2, ![4096, 832]⟩
abbrev S8x128x832 : Shape := ⟨3, ![8, 128, 832]⟩
abbrev S128x832 : Shape := ⟨2, ![128, 832]⟩
abbrev S1x128x832 : Shape := ⟨3, ![1, 128, 832]⟩

abbrev nBuf : Space → Nat
  | .hbm => 15
  | .vmem => 22
  | .smem => 0
  | _ => 0

abbrev bufTy : (tb : Table) → Fin (tcTables nBuf tb) → BufTy
  | .hbm, ⟨0, _⟩ => ⟨S8x1024x832, .f32⟩
  | .hbm, ⟨1, _⟩ => ⟨S8x1024x832, .f32⟩
  | .hbm, ⟨2, _⟩ => ⟨S8x1024x832, .f32⟩
  | .hbm, ⟨3, _⟩ => ⟨S8x1024x832, .f32⟩
  | .hbm, ⟨4, _⟩ => ⟨S4096x832, .f32⟩
  | .hbm, ⟨5, _⟩ => ⟨S4096x832, .f32⟩
  | .hbm, ⟨6, _⟩ => ⟨S4096x832, .f32⟩
  | .hbm, ⟨7, _⟩ => ⟨S8x1024x832, .bf16⟩
  | .hbm, ⟨8, _⟩ => ⟨S8x1024x832, .bf16⟩
  | .hbm, ⟨9, _⟩ => ⟨S8x1024x832, .bf16⟩
  | .hbm, ⟨10, _⟩ => ⟨S8x1024x832, .bf16⟩
  | .hbm, ⟨11, _⟩ => ⟨S4096x832, .f32⟩
  | .hbm, ⟨12, _⟩ => ⟨S4096x832, .f32⟩
  | .hbm, ⟨13, _⟩ => ⟨S4096x832, .f32⟩
  | .hbm, ⟨14, _⟩ => ⟨S4096x832, .f32⟩
  | .local _ .vmem, ⟨0, _⟩ => ⟨S8x128x832, .bf16⟩
  | .local _ .vmem, ⟨1, _⟩ => ⟨S8x128x832, .bf16⟩
  | .local _ .vmem, ⟨2, _⟩ => ⟨S8x128x832, .bf16⟩
  | .local _ .vmem, ⟨3, _⟩ => ⟨S8x128x832, .bf16⟩
  | .local _ .vmem, ⟨4, _⟩ => ⟨S8x128x832, .bf16⟩
  | .local _ .vmem, ⟨5, _⟩ => ⟨S8x128x832, .bf16⟩
  | .local _ .vmem, ⟨6, _⟩ => ⟨S8x128x832, .bf16⟩
  | .local _ .vmem, ⟨7, _⟩ => ⟨S8x128x832, .bf16⟩
  | .local _ .vmem, ⟨8, _⟩ => ⟨S128x832, .f32⟩
  | .local _ .vmem, ⟨9, _⟩ => ⟨S128x832, .f32⟩
  | .local _ .vmem, ⟨10, _⟩ => ⟨S128x832, .f32⟩
  | .local _ .vmem, ⟨11, _⟩ => ⟨S128x832, .f32⟩
  | .local _ .vmem, ⟨12, _⟩ => ⟨S128x832, .f32⟩
  | .local _ .vmem, ⟨13, _⟩ => ⟨S128x832, .f32⟩
  | .local _ .vmem, ⟨14, _⟩ => ⟨S128x832, .f32⟩
  | .local _ .vmem, ⟨15, _⟩ => ⟨S128x832, .f32⟩
  | .local _ .vmem, ⟨16, _⟩ => ⟨S128x832, .f32⟩
  | .local _ .vmem, ⟨17, _⟩ => ⟨S128x832, .f32⟩
  | .local _ .vmem, ⟨18, _⟩ => ⟨S128x832, .f32⟩
  | .local _ .vmem, ⟨19, _⟩ => ⟨S128x832, .f32⟩
  | .local _ .vmem, ⟨20, _⟩ => ⟨S128x832, .f32⟩
  | .local _ .vmem, ⟨21, _⟩ => ⟨S128x832, .f32⟩
  | _, _ => ⟨S8x1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c7_i32 : BitVec 32 := 7#32
  let v2 : BitVec 32 := Scalar.select v1 c7_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c7_i32 : BitVec 32 := 7#32
  let v2 : BitVec 32 := Scalar.select v1 c7_i32 arg1
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .sgt arg0 c2_i32_0
  let c7_i32 : BitVec 32 := 7#32
  let v2 : BitVec 32 := Scalar.select v1 c7_i32 arg1
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .sgt arg0 c3_i32_0
  let c7_i32 : BitVec 32 := 7#32
  let v2 : BitVec 32 := Scalar.select v1 c7_i32 arg1
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x832 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x832 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x832 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x832 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x832 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x832 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x832 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference15Ideal.lean ====
abbrev S8x1024x832 : Shape := ⟨3, ![8, 1024, 832]⟩
abbrev S4096x832 : Shape := ⟨2, ![4096, 832]⟩
abbrev S_ : Shape := ⟨0, ![]⟩
abbrev S1024x832 : Shape := ⟨2, ![1024, 832]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x832, .f32⟩
  | .hbm, ⟨1, _⟩ => ⟨S8x1024x832, .f32⟩
  | .hbm, ⟨2, _⟩ => ⟨S8x1024x832, .f32⟩
  | .hbm, ⟨3, _⟩ => ⟨S8x1024x832, .f32⟩
  | .hbm, ⟨4, _⟩ => ⟨S4096x832, .f32⟩
  | .hbm, ⟨5, _⟩ => ⟨S4096x832, .f32⟩
  | .hbm, ⟨6, _⟩ => ⟨S4096x832, .f32⟩
  | .hbm, ⟨7, _⟩ => ⟨S_, .f32⟩
  | .hbm, ⟨8, _⟩ => ⟨S1024x832, .f32⟩
  | .hbm, ⟨9, _⟩ => ⟨S_, .f32⟩
  | .hbm, ⟨10, _⟩ => ⟨S1024x832, .f32⟩
  | .hbm, ⟨11, _⟩ => ⟨S_, .f32⟩
  | .hbm, ⟨12, _⟩ => ⟨S1024x832, .f32⟩
  | .hbm, ⟨13, _⟩ => ⟨S_, .f32⟩
  | .hbm, ⟨14, _⟩ => ⟨S1024x832, .f32⟩
  | .hbm, ⟨15, _⟩ => ⟨S4096x832, .f32⟩
  | .hbm, ⟨16, _⟩ => ⟨S_, .f32⟩
  | .hbm, ⟨17, _⟩ => ⟨S4096x832, .f32⟩
  | .hbm, ⟨18, _⟩ => ⟨S4096x832, .f32⟩
  | .hbm, ⟨19, _⟩ => ⟨S_, .f32⟩
  | .hbm, ⟨20, _⟩ => ⟨S4096x832, .f32⟩
  | .hbm, ⟨21, _⟩ => ⟨S4096x832, .f32⟩
  | .hbm, ⟨22, _⟩ => ⟨S4096x832, .f32⟩
  | .hbm, ⟨23, _⟩ => ⟨S_, .f32⟩
  | .hbm, ⟨24, _⟩ => ⟨S4096x832, .f32⟩
  | .hbm, ⟨25, _⟩ => ⟨S4096x832, .f32⟩
  | .hbm, ⟨26, _⟩ => ⟨S4096x832, .f32⟩
  | .hbm, ⟨27, _⟩ => ⟨S_, .f32⟩
  | .hbm, ⟨28, _⟩ => ⟨S4096x832, .f32⟩
  | .hbm, ⟨29, _⟩ => ⟨S4096x832, .f32⟩
  | .hbm, ⟨30, _⟩ => ⟨S4096x832, .f32⟩
  | .hbm, ⟨31, _⟩ => ⟨S_, .f32⟩
  | .hbm, ⟨32, _⟩ => ⟨S4096x832, .f32⟩
  | .hbm, ⟨33, _⟩ => ⟨S4096x832, .f32⟩
  | .hbm, ⟨34, _⟩ => ⟨S_, .f32⟩
  | .hbm, ⟨35, _⟩ => ⟨S4096x832, .f32⟩
  | .hbm, ⟨36, _⟩ => ⟨S4096x832, .f32⟩
  | .hbm, ⟨37, _⟩ => ⟨S4096x832, .f32⟩
  | .hbm, ⟨38, _⟩ => ⟨S_, .f32⟩
  | .hbm, ⟨39, _⟩ => ⟨S4096x832, .f32⟩
  | .hbm, ⟨40, _⟩ => ⟨S4096x832, .f32⟩
  | .hbm, ⟨41, _⟩ => ⟨S4096x832, .f32⟩
  | .hbm, ⟨42, _⟩ => ⟨S_, .f32⟩
  | .hbm, ⟨43, _⟩ => ⟨S4096x832, .f32⟩
  | .hbm, ⟨44, _⟩ => ⟨S4096x832, .f32⟩
  | .hbm, ⟨45, _⟩ => ⟨S4096x832, .f32⟩
  | .hbm, ⟨46, _⟩ => ⟨S_, .f32⟩
  | .hbm, ⟨47, _⟩ => ⟨S4096x832, .f32⟩
  | .hbm, ⟨48, _⟩ => ⟨S4096x832, .f32⟩
  | _, _ => ⟨S8x1024x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel17.lean ====
abbrev S8192x256 : Shape := ⟨2, ![8192, 256]⟩
abbrev S512x256 : Shape := ⟨2, ![512, 256]⟩

abbrev nBuf : Space → Nat
  | .hbm => 10
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S8192x256 : Shape := ⟨2, ![8192, 256]⟩
abbrev S1x8192x256 : Shape := ⟨3, ![1, 8192, 256]⟩
abbrev S3x8192x256 : Shape := ⟨3, ![3, 8192, 256]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S1x8192x256, .f32⟩
  | .hbm, ⟨7, _⟩ => ⟨S1x8192x256, .f32⟩
  | .hbm, ⟨8, _⟩ => ⟨S1x8192x256, .f32⟩
  | .hbm, ⟨9, _⟩ => ⟨S3x8192x256, .f32⟩
  | .hbm, ⟨10, _⟩ => ⟨S_, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S1x8192x256, .f32⟩
  | .hbm, ⟨16, _⟩ => ⟨S3x8192x256, .f32⟩
  | .hbm, ⟨17, _⟩ => ⟨S3x8192x256, .f32⟩
  | .hbm, ⟨18, _⟩ => ⟨S3x8192x256, .f32⟩
  | .hbm, ⟨19, _⟩ => ⟨S_, .f32⟩
  | .hbm, ⟨20, _⟩ => ⟨S8192x256, .f32⟩
  | .hbm, ⟨21, _⟩ => ⟨S1x8192x256, .f32⟩
  | .hbm, ⟨22, _⟩ => ⟨S3x8192x256, .f32⟩
  | .hbm, ⟨23, _⟩ => ⟨S3x8192x256, .f32⟩
  | .hbm, ⟨24, _⟩ => ⟨S1x8192x256, .f32⟩
  | .hbm, ⟨25, _⟩ => ⟨S1x8192x256, .f32⟩
  | .hbm, ⟨26, _⟩ => ⟨S1x8192x256, .f32⟩
  | .hbm, ⟨27, _⟩ => ⟨S3x8192x256, .f32⟩
  | .hbm, ⟨28, _⟩ => ⟨S8192x256, .f32⟩
  | .hbm, ⟨29, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel18.lean ====
abbrev S8x279x1024 : Shape := ⟨3, ![8, 279, 1024]⟩
abbrev S279x1024 : Shape := ⟨2, ![279, 1024]⟩
abbrev S1x279x1024 : Shape := ⟨3, ![1, 279, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x279x1024, .f32⟩
  | .hbm, ⟨1, _⟩ => ⟨S279x1024, .f32⟩
  | .hbm, ⟨2, _⟩ => ⟨S279x1024, .f32⟩
  | .hbm, ⟨3, _⟩ => ⟨S279x1024, .f32⟩
  | .hbm, ⟨4, _⟩ => ⟨S279x1024, .f32⟩
  | .hbm, ⟨5, _⟩ => ⟨S279x1024, .f32⟩
  | .hbm, ⟨6, _⟩ => ⟨S279x1024, .f32⟩
  | .hbm, ⟨7, _⟩ => ⟨S279x1024, .f32⟩
  | .local _ .vmem, ⟨0, _⟩ => ⟨S8x279x1024, .f32⟩
  | .local _ .vmem, ⟨1, _⟩ => ⟨S279x1024, .f32⟩
  | .local _ .vmem, ⟨2, _⟩ => ⟨S279x1024, .f32⟩
  | .local _ .vmem, ⟨3, _⟩ => ⟨S279x1024, .f32⟩
  | .local _ .vmem, ⟨4, _⟩ => ⟨S279x1024, .f32⟩
  | .local _ .vmem, ⟨5, _⟩ => ⟨S279x1024, .f32⟩
  | .local _ .vmem, ⟨6, _⟩ => ⟨S279x1024, .f32⟩
  | .local _ .vmem, ⟨7, _⟩ => ⟨S279x1024, .f32⟩
  | _, _ => ⟨S8x279x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c0_i32_1 : BitVec 32 := 0#32
  let v2 : BitVec 32 := Scalar.select v1 c0_i32_1 arg1
  let c0_i32_2 : BitVec 32 := 0#32
  let v3 : BitVec 32 := Scalar.select v0 c0_i32_2 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x279x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S279x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S279x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S279x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S279x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S279x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S279x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S279x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference18Ideal.lean ====
abbrev S8x279x1024 : Shape := ⟨3, ![8, 279, 1024]⟩
abbrev S279x1024 : Shape := ⟨2, ![279, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x279x1024, .f32⟩
  | .hbm, ⟨1, _⟩ => ⟨S279x1024, .f32⟩
  | .hbm, ⟨2, _⟩ => ⟨S279x1024, .f32⟩
  | .hbm, ⟨3, _⟩ => ⟨S279x1024, .f32⟩
  | .hbm, ⟨4, _⟩ => ⟨S_, .f32⟩
  | .hbm, ⟨5, _⟩ => ⟨S279x1024, .f32⟩
  | .hbm, ⟨6, _⟩ => ⟨S_, .f32⟩
  | .hbm, ⟨7, _⟩ => ⟨S279x1024, .f32⟩
  | .hbm, ⟨8, _⟩ => ⟨S279x1024, .f32⟩
  | .hbm, ⟨9, _⟩ => ⟨S_, .f32⟩
  | .hbm, ⟨10, _⟩ => ⟨S279x1024, .f32⟩
  | .hbm, ⟨11, _⟩ => ⟨S279x1024, .f32⟩
  | .hbm, ⟨12, _⟩ => ⟨S279x1024, .f32⟩
  | .hbm, ⟨13, _⟩ => ⟨S_, .f32⟩
  | .hbm, ⟨14, _⟩ => ⟨S279x1024, .f32⟩
  | .hbm, ⟨15, _⟩ => ⟨S279x1024, .f32⟩
  | .hbm, ⟨16, _⟩ => ⟨S279x1024, .f32⟩
  | .hbm, ⟨17, _⟩ => ⟨S_, .f32⟩
  | .hbm, ⟨18, _⟩ => ⟨S279x1024, .f32⟩
  | .hbm, ⟨19, _⟩ => ⟨S279x1024, .f32⟩
  | .hbm, ⟨20, _⟩ => ⟨S279x1024, .f32⟩
  | .hbm, ⟨21, _⟩ => ⟨S_, .f32⟩
  | .hbm, ⟨22, _⟩ => ⟨S279x1024, .f32⟩
  | .hbm, ⟨23, _⟩ => ⟨S279x1024, .f32⟩
  | .hbm, ⟨24, _⟩ => ⟨S_, .f32⟩
  | .hbm, ⟨25, _⟩ => ⟨S279x1024, .f32⟩
  | .hbm, ⟨26, _⟩ => ⟨S279x1024, .f32⟩
  | .hbm, ⟨27, _⟩ => ⟨S279x1024, .f32⟩
  | .hbm, ⟨28, _⟩ => ⟨S_, .f32⟩
  | .hbm, ⟨29, _⟩ => ⟨S279x1024, .f32⟩
  | .hbm, ⟨30, _⟩ => ⟨S279x1024, .f32⟩
  | .hbm, ⟨31, _⟩ => ⟨S279x1024, .f32⟩
  | .hbm, ⟨32, _⟩ => ⟨S_, .f32⟩
  | .hbm, ⟨33, _⟩ => ⟨S279x1024, .f32⟩
  | .hbm, ⟨34, _⟩ => ⟨S279x1024, .f32⟩
  | .hbm, ⟨35, _⟩ => ⟨S279x1024, .f32⟩
  | .hbm, ⟨36, _⟩ => ⟨S_, .f32⟩
  | .hbm, ⟨37, _⟩ => ⟨S279x1024, .f32⟩
  | .hbm, ⟨38, _⟩ => ⟨S279x1024, .f32⟩
  | _, _ => ⟨S8x279x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Base.lean ====
/-
  Plain facts about extended reals used by every later module: sums, products, maxima, exponentials and quotients of
  real numbers stay real; and the few printed constants as rationals.
-/
module

public import Idealize.ShloMosaic.PureOps.Ideal.Laws
public import Idealize.ShloMosaic.Lib.ValueIdx
public import Idealize.ShloMosaic.Lib.ValueIdxCore
public import Mathlib.Algebra.BigOperators.Fin
public import Mathlib.Tactic.NormNum
public import Mathlib.Tactic.Ring
public import Mathlib.Tactic.FieldSimp
public import Mathlib.Data.EReal.Operations

@[expose] public section

noncomputable section

namespace Cert.Attn

open Idealize.ShloMosaic Idealize.ShloMosaic.ValueIdx
open scoped BigOperators

/-- A finite sum of real numbers, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers, taken in the extended reals, is the real one. -/
theorem sum_mul_coe {ι : Type} [Fintype ι] {x y : ι → EReal} {f g : ι → ℝ} (hx : ∀ i, x i = (f i : EReal))
    (hy : ∀ i, y i = (g i : EReal)) : ∑ i, x i * y i = ((∑ i, f i * g i : ℝ) : EReal) := by
  rw [coe_sum]
  exact Finset.sum_congr rfl fun i _ => by rw [hx, hy, EReal.coe_mul]

/-- A sum of real numbers, taken in the extended reals, is the real one. -/
theorem sum_coe {ι : Type} [Fintype ι] {x : ι → EReal} {f : ι → ℝ} (hx : ∀ i, x i = (f i : EReal)) :
    ∑ i, x i = ((∑ i, f i : ℝ) : EReal) := by
  rw [coe_sum]
  exact Finset.sum_congr rfl fun i _ => hx i

/-- The greatest of finitely many real numbers (at least one), started from `-∞`, is a real number. -/
theorem fold_max_coe {ι : Type} (s : Finset ι) (hs : s.Nonempty) (x : ι → EReal) (f : ι → ℝ)
    (hx : ∀ i, x i = (f i : EReal)) : ∃ r : ℝ, s.fold max ⊥ x = (r : EReal) := by
  classical
  induction s using Finset.induction_on with
  | empty => exact absurd hs (by simp)
  | insert a s ha ih =>
    rw [Finset.fold_insert ha, hx]
    rcases s.eq_empty_or_nonempty with h | h
    · subst h; exact ⟨f a, by simp⟩
    · obtain ⟨r, hr⟩ := ih h
      exact ⟨max (f a) r, by rw [hr]; exact (EReal.coe_strictMono.monotone.map_max).symm⟩

/-- The quotient of two real numbers, the divisor not zero. -/
theorem div_coe {x y : ℝ} (hy : y ≠ 0) : Ideal.div (x : EReal) (y : EReal) = ((x / y : ℝ) : EReal) := by
  unfold Ideal.div
  rw [if_neg (by simpa using hy), div_eq_mul_inv, EReal.coe_mul, EReal.coe_inv]

/-- The logarithm of a positive real number. -/
theorem log_coe_pos {x : ℝ} (hx : 0 < x) : Ideal.log (x : EReal) = ((Real.log x : ℝ) : EReal) := by
  rw [Ideal.log_coe, if_neg (not_le.mpr hx)]

/-! ## The printed constants -/

theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num
theorem zero_bf16 : Ideal.ofBits .bf16 0x0000#16 = ((0 : ℝ) : EReal) := by
  simp [Ideal.ofBits, Ideal.ieee]
theorem zero_f32 : Ideal.ofBits .f32 0x00000000#32 = ((0 : ℝ) : EReal) := by
  simp [Ideal.ofBits, Ideal.ieee]
theorem one_bf16 : Ideal.ofBits .bf16 0x3F80#16 = ((1 : ℝ) : EReal) := by
  simp [Ideal.ofBits, Ideal.ieee, -EReal.coe_mul]; norm_num
theorem one_f32 : Ideal.ofBits .f32 0x3F800000#32 = ((1 : ℝ) : EReal) := by
  simp [Ideal.ofBits, Ideal.ieee, -EReal.coe_mul]; norm_num
theorem neginf_f32 : Ideal.ofBits .f32 0xFF800000#32 = (⊥ : EReal) := by
  simp [Ideal.ofBits, Ideal.ieee]
theorem posinf_f32 : Ideal.ofBits .f32 0x7F800000#32 = (⊤ : EReal) := by
  simp [Ideal.ofBits, Ideal.ieee]
/-- The running maximum's starting value is some real number (which one does not matter). -/
theorem start_f32 : ∃ r : ℝ, Ideal.ofBits .f32 0xF149F2CA#32 = (r : EReal) := by
  simp only [Ideal.ofBits, Ideal.ieee]
  norm_num
  exact ⟨_, by norm_cast⟩

end Cert.Attn

end
-- ==== Proof.FwdBlock.lean ====
/-
  One grid point of the forward call, in any arithmetic: its loop runs over the sixteen chunks of 512 keys, and each chunk
  replaces the running maximum `m` and the running sum `a` of one head by `m' = max m (row maximum of the scores)` and
  `a' = exp (m - m') * a + exp (scores - m') · W`. The two heads of the lane block run side by side; the blocks of the output
  and of the log-sum are what the last payloads make of the loop's final values.
-/
module

public import proofs.«01_k».proof.Proof.Gen.KernelIdeal.Frame
public import Idealize.ShloMosaic.Lib.Pipeline.ValueKit
public import Idealize.ShloMosaic.Lib.ValueIdxCore

@[expose] public section

set_option maxRecDepth 100000

noncomputable section

namespace Cert.Attn

open Idealize.ShloMosaic hiding ix2 ix1 ix0 ix3 ix4
open Idealize.ShloMosaic.TcCoe Idealize.ShloMosaic.Tactic Idealize.ShloMosaic.ValueIdx
open Cert.KernelIdeal Cert.KernelIdeal.Gen

/-- The block of a matrix at row `o` and column `c`, of the shape asked for. -/
def blockAt {α : Type} {n0 n1 : ℕ} [NeZero n0] [NeZero n1] (a b : ℕ) (X : (⟨2, ![n0, n1]⟩ : Shape).Idx → α) (o c : ℕ) :
    (⟨2, ![a, b]⟩ : Shape).Idx → α :=
  fun y => X (ix2 (Fin.ofNat n0 (o + (y 0).val)) (Fin.ofNat n1 (c + (y 1).val)))

/-- A load through a unit rectangle is the block at its offset. -/
theorem ld_blockAt {Val : EltTy → Type} {e : EltTy} {n0 n1 : ℕ} [NeZero n0] [NeZero n1] (a b : ℕ)
    (X : (⟨2, ![n0, n1]⟩ : Shape).Idx → Val e) (o c : ℕ)
    (inb : ∀ d, ![o, c] d + ![a, b] d ≤ (⟨2, ![n0, n1]⟩ : Shape).size d) :
    View.ld X (Rect.unit (s := ⟨2, ![n0, n1]⟩) ![o, c] ![a, b] inb) = blockAt a b X o c := by
  funext y
  refine View.ld_unit_apply_of X _ _ inb y _ fun d => ?_
  match d with
  | ⟨0, _⟩ =>
    have h := inb 0; have hy : (y 0).val < a := (y 0).isLt
    change o + a ≤ n0 at h
    exact Nat.mod_eq_of_lt (by omega)
  | ⟨1, _⟩ =>
    have h := inb 1; have hy : (y 1).val < b := (y 1).isLt
    change c + b ≤ n1 at h
    exact Nat.mod_eq_of_lt (by omega)

variable {F : FTy → Type} [FloatOps F]

/-- One chunk of keys for one head: the new running maximum and the new running sum. -/
def fwdStep (q : FVec F S256x128 .bf16) (K : Vec F S8192x128 .bf16) (W : Vec F S8192x256 .bf16) (col n : ℕ)
    (s : FVec F S256x1 .f32 × FVec F S256x128 .f32) : FVec F S256x1 .f32 × FVec F S256x128 .f32 :=
  (k0_pay25 s.1 (k0_pay2 q (blockAt 512 128 K (512 * n) 0)),
    k0_pay26 s.1 s.2 (k0_pay2 q (blockAt 512 128 K (512 * n) 0)) (blockAt 512 128 W (512 * n) col))

/-- The running maximum and the running sum of one head after the first `n` chunks. -/
def fwdRun (q : FVec F S256x128 .bf16) (K : Vec F S8192x128 .bf16) (W : Vec F S8192x256 .bf16) (col : ℕ) :
    ℕ → FVec F S256x1 .f32 × FVec F S256x128 .f32
  | 0 => (k0_pay64, k0_pay65)
  | n + 1 => fwdStep q K W col n (fwdRun q K W col n)

/-- The eight unrolled chunks compute the same scores: each score payload is the first one. -/
theorem score_names : k0_pay3 (F := F) = k0_pay2 ∧ k0_pay5 (F := F) = k0_pay2 ∧ k0_pay6 (F := F) = k0_pay2
    ∧ k0_pay8 (F := F) = k0_pay2 ∧ k0_pay9 (F := F) = k0_pay2 ∧ k0_pay11 (F := F) = k0_pay2
    ∧ (∀ (q : FVec F S256x128 .bf16) B, k0_pay12 q (k0_pay10 B) (constant S256x512 FTy.f32 0#32) = k0_pay2 q B)
    ∧ k0_pay14 (F := F) = k0_pay2 ∧ k0_pay15 (F := F) = k0_pay2 ∧ k0_pay17 (F := F) = k0_pay2
    ∧ k0_pay18 (F := F) = k0_pay2 ∧ k0_pay20 (F := F) = k0_pay2 ∧ k0_pay21 (F := F) = k0_pay2
    ∧ k0_pay23 (F := F) = k0_pay2
    ∧ (∀ (q : FVec F S256x128 .bf16) B, k0_pay24 q (k0_pay22 B) (constant S256x512 FTy.f32 0#32) = k0_pay2 q B) :=
  ⟨rfl, rfl, rfl, rfl, rfl, rfl, fun _ _ => rfl, rfl, rfl, rfl, rfl, rfl, rfl, rfl, fun _ _ => rfl⟩

/-- Likewise the running maxima. -/
theorem max_names (m : FVec F S256x1 .f32) (s : FVec F S256x512 .f32) :
    k0_pay27 m s = k0_pay25 m s
    ∧ k0_pay31 m (k0_pay30 s) = k0_pay25 m s
    ∧ k0_pay32 s m = k0_pay25 m s
    ∧ k0_pay37 s m = k0_pay25 m s
    ∧ k0_pay36 s m = k0_pay25 m s
    ∧ k0_pay42 s m = k0_pay25 m s
    ∧ k0_pay44 s m = k0_pay25 m s
    ∧ k0_pay48 m (k0_pay47 s) = k0_pay25 m s
    ∧ k0_pay49 s m = k0_pay25 m s
    ∧ k0_pay53 s m = k0_pay25 m s
    ∧ k0_pay54 s m = k0_pay25 m s :=
  ⟨rfl, rfl, rfl, rfl, rfl, rfl, rfl, rfl, rfl, rfl, rfl⟩

/-- Two running maxima in one payload. -/
theorem max_names₂ (m : FVec F S256x1 .f32) (s s' : FVec F S256x512 .f32) :
    k0_pay34 s' m (k0_pay30 s) = k0_pay25 (k0_pay25 m s) s'
    ∧ k0_pay39 s s' m = k0_pay25 (k0_pay25 m s) s'
    ∧ k0_pay51 s' m (k0_pay47 s) = k0_pay25 (k0_pay25 m s) s'
    ∧ k0_pay56 s s' m = k0_pay25 (k0_pay25 m s) s' :=
  ⟨rfl, rfl, rfl, rfl⟩

/-- Likewise the running sums. -/
theorem sum_names (m : FVec F S256x1 .f32) (a : FVec F S256x128 .f32) (s : FVec F S256x512 .f32) (B : Vec F S512x128 .bf16) :
    k0_pay28 m a s B = k0_pay26 m a s B
    ∧ k0_pay33 s m a B = k0_pay26 m a s B
    ∧ k0_pay38 s m a B = k0_pay26 m a s B
    ∧ k0_pay43 s m a B = k0_pay26 m a s B
    ∧ k0_pay50 s m a B = k0_pay26 m a s B
    ∧ k0_pay55 s m a B = k0_pay26 m a s B :=
  ⟨rfl, rfl, rfl, rfl, rfl, rfl⟩

/-- Two running sums in one payload. -/
theorem sum_names₂ (m : FVec F S256x1 .f32) (a : FVec F S256x128 .f32) (s s' : FVec F S256x512 .f32) (B B' : Vec F S512x128 .bf16) :
    k0_pay35 s s' m a (k0_pay29 B) (k0_pay30 s) B' = k0_pay26 (k0_pay25 m s) (k0_pay26 m a s B) s' B'
    ∧ k0_pay52 s s' m a (k0_pay46 B) (k0_pay47 s) B' = k0_pay26 (k0_pay25 m s) (k0_pay26 m a s B) s' B'
    ∧ k0_pay66 (k0_pay57 s s' m a B) (k0_pay58 s s' m B') = k0_pay26 (k0_pay25 m s) (k0_pay26 m a s B) s' B' :=
  ⟨rfl, rfl, rfl⟩

/-- The one running sum whose addition is printed with the next chunk. -/
theorem sum_names₃ (m : FVec F S256x1 .f32) (a : FVec F S256x128 .f32) (s s' s'' : FVec F S256x512 .f32)
    (B B' B'' : Vec F S512x128 .bf16) :
    k0_pay45 s'' (k0_pay25 (k0_pay25 m s) s') (k0_pay40 s s' m a B) (k0_pay41 s s' m B') B''
      = k0_pay26 (k0_pay25 (k0_pay25 m s) s') (k0_pay26 (k0_pay25 m s) (k0_pay26 m a s B) s' B') s'' B'' := rfl

/-- The rows chunk `8 k + j` starts at, from the printed offset arithmetic. -/
theorem off_chunk (k : ℕ) (hk : k < 2) (j : ℕ) (hj : j < 8) :
    (Scalar.indexCast (Scalar.muli (Scalar.addi (Scalar.muli (Scf.iv 0#32 1#32 k) 8#32) (BitVec.ofNat 32 j)) 512#32)).toNat
      = 512 * (8 * k + j) := by
  interval_cases k <;> interval_cases j <;> decide

set_option backward.isDefEq.respectTransparency.types false in
theorem fwdTrip (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x128 .f32) (harg6 : arg6.IsWhole) (v3 : Vec F S256x128 .bf16)
   (K : Vec F S8192x128 .bf16) (W : Vec F S8192x256 .bf16) (k : Fin k0_t1_loop.trips) (s0 s1 : FVec F S256x1 .f32 × FVec F S256x128 .f32) :
   tripR_k0_t1 𝒱 c bd i arg2 harg2 arg3 harg3 arg4 harg4 arg5 harg5 arg6 harg6 v3 (harg3.unread K) (harg4.unread W) k (s0.1, s0.2, s1.1, s1.2) =
     (let f (q : FVec F S256x128 .bf16) (col : ℕ) (s : FVec F S256x1 .f32 × FVec F S256x128 .f32) :=
        fwdStep q K W col (8 * k.val + 7) <| fwdStep q K W col (8 * k.val + 6) <| fwdStep q K W col (8 * k.val + 5) <|
        fwdStep q K W col (8 * k.val + 4) <| fwdStep q K W col (8 * k.val + 3) <| fwdStep q K W col (8 * k.val + 2) <|
        fwdStep q K W col (8 * k.val + 1) <| fwdStep q K W col (8 * k.val + 0) s
      ((f (k0_pay62 v3) 0 s0).1, (f (k0_pay62 v3) 0 s0).2, (f (k0_pay63 v3) 128 s1).1, (f (k0_pay63 v3) 128 s1).2)) := by
  have hk : k.val < 2 := lt_of_lt_of_le k.isLt k0_t1_abs.2.1
  unfold tripR_k0_t1 trip_k0_t1
  dsimp only
  sl_unfold_words
  have hK : ∀ o inb, View.ld (S := S8192x128) K (Rect.unit (s := S8192x128) ![o, 0] ![512, 128] inb) = blockAt 512 128 K o 0 :=
    fun o inb => ld_blockAt (Val := Elt F) (e := .bf16) 512 128 K o 0 inb
  have hW : ∀ o col inb, View.ld (S := S8192x256) W (Rect.unit (s := S8192x256) ![o, col] ![512, 128] inb) = blockAt 512 128 W o col :=
    fun o col inb => ld_blockAt (Val := Elt F) (e := .bf16) 512 128 W o col inb
  simp only [View.readAt_eq_ld, harg3.read_unread, harg4.read_unread, hK, hW, score_names]
  simp only [fwdStep, max_names, max_names₂, sum_names, sum_names₂, sum_names₃, off_chunk k.val hk 0 (by decide), off_chunk k.val hk 1 (by decide),
    off_chunk k.val hk 2 (by decide), off_chunk k.val hk 3 (by decide), off_chunk k.val hk 4 (by decide),
    off_chunk k.val hk 5 (by decide), off_chunk k.val hk 6 (by decide), off_chunk k.val hk 7 (by decide)]

/-- After `n` trips of the loop both heads have gone through `8 n` chunks. -/
theorem fwdLoop (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x128 .f32) (harg6 : arg6.IsWhole) (v3 : Vec F S256x128 .bf16)
    (K : Vec F S8192x128 .bf16) (W : Vec F S8192x256 .bf16) (n : ℕ) (hn : n ≤ k0_t1_loop.trips) :
    st_k0_t1 𝒱 c bd i arg2 harg2 arg3 harg3 arg4 harg4 arg5 harg5 arg6 harg6 v3 (harg3.unread K) (harg4.unread W)
        (k0_pay64, k0_pay65, k0_pay64, k0_pay65) n
      = ((fwdRun (k0_pay62 v3) K W 0 (8 * n)).1, (fwdRun (k0_pay62 v3) K W 0 (8 * n)).2,
          (fwdRun (k0_pay63 v3) K W 128 (8 * n)).1, (fwdRun (k0_pay63 v3) K W 128 (8 * n)).2) := by
  induction n with
  | zero => rfl
  | succ n ih =>
    rw [st_k0_t1_succ 𝒱 c bd i arg2 harg2 arg3 harg3 arg4 harg4 arg5 harg5 arg6 harg6 v3 _ _ _ ⟨n, hn⟩, ih (Nat.le_of_succ_le hn), fwdTrip]
    rfl

/-- The block of the output one grid point writes. -/
theorem fwd_out (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x128 .f32) (harg6 : arg6.IsWhole)
    (Q : Vec F S256x128 .bf16) (K : Vec F S8192x128 .bf16) (W : Vec F S8192x256 .bf16) :
    out0_A_3 c i arg2 harg2 arg3 harg3 arg4 harg4 arg5 harg5 arg6 harg6 Q K W
      = k0_pay69 (fwdRun (k0_pay62 Q) K W 0 16).2 (fwdRun (k0_pay63 Q) K W 128 16).2 := by
  unfold out0_A_3
  rw [View.read_writes_eq_canon _ _ _ (cover0_A_3 c i arg2 harg2 arg3 harg3 arg4 harg4 arg5 harg5 arg6 harg6 Q K W)]
  unfold kernelRun0_A
  dsimp only
  sl_unfold_words
  simp only [View.readAt_eq_ld, harg2.read_unread]
  rw [View.ld_unit_zero (by decide)]
  rw [View.canon_unit_zero (by decide)]
  have h := fwdLoop Variants.none c none i arg2 harg2 arg3 harg3 arg4 harg4 arg5 harg5 arg6 harg6 Q K W 2 (by decide)
  rw [show Scf.trips 0#32 (Scalar.addi 0#32 2#32) 1#32 = 2 by decide, h]
/-- The block of the log-sum one grid point writes. -/
theorem fwd_lse (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x128 .f32) (harg6 : arg6.IsWhole)
    (Q : Vec F S256x128 .bf16) (K : Vec F S8192x128 .bf16) (W : Vec F S8192x256 .bf16) :
    out0_A_4 c i arg2 harg2 arg3 harg3 arg4 harg4 arg5 harg5 arg6 harg6 Q K W
      = k0_pay70 (fwdRun (k0_pay62 Q) K W 0 16).1 (fwdRun (k0_pay62 Q) K W 0 16).2
          (fwdRun (k0_pay63 Q) K W 128 16).1 (fwdRun (k0_pay63 Q) K W 128 16).2 := by
  unfold out0_A_4
  rw [View.read_writes_eq_canon _ _ _ (cover0_A_4 c i arg2 harg2 arg3 harg3 arg4 harg4 arg5 harg5 arg6 harg6 Q K W)]
  unfold kernelRun0_A
  dsimp only
  sl_unfold_words
  simp only [View.readAt_eq_ld, harg2.read_unread]
  rw [View.ld_unit_zero (by decide)]
  rw [View.canon_unit_zero (by decide)]
  have h := fwdLoop Variants.none c none i arg2 harg2 arg3 harg3 arg4 harg4 arg5 harg5 arg6 harg6 Q K W 2 (by decide)
  rw [show Scf.trips 0#32 (Scalar.addi 0#32 2#32) 1#32 = 2 by decide, h]

end Cert.Attn
end
-- ==== Proof.FwdValue.lean ====
/-
  One grid point of the forward call over the real numbers. With real queries, keys and values, the running maximum of a
  head is some real number `m` and its running sum after `n` chunks is `∑ k < 512 n, exp (s k - m) · W k`, whatever `m` is:
  the sums at the end are then the softmax's numerator and denominator up to the common factor `exp (-m)`.
-/
module

public import proofs.«01_k».proof.Proof.Base
public import proofs.«01_k».proof.Proof.FwdBlock
public import Idealize.ShloMosaic.Lib.MatmulPlain
public import Idealize.ShloMosaic.Lib.ValueLayout
public import Idealize.ShloMosaic.Lib.ValueLayoutCasts
public import Idealize.ShloMosaic.Lib.KernelVsHost

@[expose] public section

set_option maxRecDepth 100000

noncomputable section

namespace Cert.Attn

open Idealize.ShloMosaic hiding ix2 ix1 ix0 ix3 ix4
open Idealize.ShloMosaic.TcCoe Idealize.ShloMosaic.Tactic Idealize.ShloMosaic.ValueIdx
open Cert.KernelIdeal Cert.KernelIdeal.Gen
open scoped BigOperators

/-- A column laid along every lane. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A chunk's scores: products of queries and keys over the lanes. -/
theorem score_real (q : FVec Ideal S256x128 .bf16) (B : Vec Ideal S512x128 .bf16) (f : Fin 256 → Fin 128 → ℝ)
    (g : Fin 512 → Fin 128 → ℝ) (hq : ∀ r l, q (ix2 r l) = (f r l : EReal)) (hB : ∀ k l, B (ix2 k l) = (g k l : EReal))
    (r : Fin 256) (k : Fin 512) : k0_pay2 q B (ix2 r k) = ((∑ l, f r l * g k l : ℝ) : EReal) := by
  unfold k0_pay2 k0_pay1
  dsimp only
  rw [shapeCast_self]
  refine (Ideal.matmul_transposedRhs_apply none q B _ r k).trans ?_
  rw [constant_apply, zero_f32, EReal.coe_zero, zero_add]
  exact sum_mul_coe (fun l => hq r l) (fun l => hB k l)

/-- The new running maximum is a real number. -/
theorem max_real (m : FVec Ideal S256x1 .f32) (s : FVec Ideal S256x512 .f32) (r : Fin 256) (μ : ℝ) (σ : Fin 512 → ℝ)
    (hm : m (ix2 r 0) = (μ : EReal)) (hs : ∀ k, s (ix2 r k) = (σ k : EReal)) : ∃ μ' : ℝ, k0_pay25 m s (ix2 r 0) = (μ' : EReal) := by
  unfold k0_pay25
  dsimp only
  rw [maximumf_apply, shapeCast_a_a1_apply, hm]
  rw [show multiReduction .maximumf [1] S256 s 0xFF800000#32 reduces_S256x512_S256 (.inl rfl) rfl (ix1 r) = _ from
    Ideal.multiReduction_maximumf_single s _ reduces_S256x512_S256 (.inl rfl) rfl (ix1 r)]
  obtain ⟨ν, hν⟩ := fold_max_coe (Finset.univ : Finset (Fin 512)) ⟨0, Finset.mem_univ _⟩
    (s ∘ reduces_S256x512_S256.lift (ix1 r)) σ (fun k => by
      refine Eq.trans (congrArg s ?_) (hs k)
      funext a
      match a with
      | ⟨0, _⟩ => rfl
      | ⟨1, _⟩ => rfl)
  refine ⟨max μ ν, ?_⟩
  rw [EReal.coe_strictMono.monotone.map_max, ← hν]
  exact congrArg (max (μ : EReal)) (by rw [← neginf_f32]; rfl)

/-- The new running sum. -/
theorem acc_real (m : FVec Ideal S256x1 .f32) (a : FVec Ideal S256x128 .f32) (s : FVec Ideal S256x512 .f32)
    (B : Vec Ideal S512x128 .bf16) (r : Fin 256) (l : Fin 128) (μ μ' α : ℝ) (σ w : Fin 512 → ℝ)
    (hm : m (ix2 r 0) = (μ : EReal)) (hm' : k0_pay25 m s (ix2 r 0) = (μ' : EReal)) (ha : a (ix2 r l) = (α : EReal))
    (hs : ∀ k, s (ix2 r k) = (σ k : EReal)) (hB : ∀ k, B (ix2 k l) = (w k : EReal)) :
    k0_pay26 m a s B (ix2 r l) = ((Real.exp (μ - μ') * α + ∑ k, Real.exp (σ k - μ') * w k : ℝ) : EReal) := by
  unfold k0_pay26
  rw [shapeCast_self, addf_apply, mulf_apply, bcast_col]
  rw [show (exp (subf m (k0_pay25 m s)) : FVec Ideal S256x1 .f32) (ix2 r 0) = Ideal.exp (m (ix2 r 0) - k0_pay25 m s (ix2 r 0)) from rfl]
  rw [hm, hm', ha, ← EReal.coe_sub, Ideal.exp_coe, ← EReal.coe_mul, EReal.coe_add]
  refine congrArg (((Real.exp (μ - μ') * α : ℝ) : EReal) + ·) ?_
  refine (Ideal.matmul_plain_apply none _ B _ r l).trans ?_
  rw [constant_apply, zero_f32, EReal.coe_zero, zero_add]
  refine sum_mul_coe (fun k => ?_) hB
  rw [truncf_apply]
  rw [show ∀ (x : FVec Ideal S256x512 .f32) i, (exp x : FVec Ideal S256x512 .f32) i = Ideal.exp (x i) from fun _ _ => rfl]
  rw [subf_apply, bcast_col, hs, hm', ← EReal.coe_sub, Ideal.exp_coe]

/-- A block at row `o` of a real matrix. -/
theorem block_real {n0 n1 a b : ℕ} [NeZero n0] [NeZero n1] (X : (⟨2, ![n0, n1]⟩ : Shape).Idx → EReal) (x : Fin n0 → Fin n1 → ℝ)
    (hX : ∀ k l, X (ix2 k l) = (x k l : EReal)) (o c : ℕ) (k : Fin a) (l : Fin b) :
    blockAt a b X o c (ix2 k l) = (x (Fin.ofNat n0 (o + k.val)) (Fin.ofNat n1 (c + l.val)) : EReal) := hX _ _

/-- After `n` chunks the maximum is some real number and the sum is the softmax numerator over the chunks' keys, up to the
factor the maximum stands for. -/
theorem run_real (q : FVec Ideal S256x128 .bf16) (K : Vec Ideal S8192x128 .bf16) (W : Vec Ideal S8192x256 .bf16) (col : ℕ)
    (f : Fin 256 → Fin 128 → ℝ) (g : Fin 8192 → Fin 128 → ℝ) (w : Fin 8192 → Fin 256 → ℝ)
    (hq : ∀ r l, q (ix2 r l) = (f r l : EReal)) (hK : ∀ k l, K (ix2 k l) = (g k l : EReal))
    (hW : ∀ k l, W (ix2 k l) = (w k l : EReal)) (r : Fin 256) (n : ℕ) :
    ∃ μ : ℝ, (fwdRun q K W col n).1 (ix2 r 0) = (μ : EReal) ∧ ∀ l : Fin 128, (fwdRun q K W col n).2 (ix2 r l)
      = ((∑ k ∈ Finset.range (512 * n), Real.exp ((∑ j, f r j * g (Fin.ofNat 8192 k) j) - μ)
          * w (Fin.ofNat 8192 k) (Fin.ofNat 256 (col + l.val)) : ℝ) : EReal) := by
  induction n with
  | zero =>
    obtain ⟨μ, hμ⟩ := start_f32
    refine ⟨μ, hμ, fun l => ?_⟩
    rw [Nat.mul_zero, Finset.range_zero, Finset.sum_empty]
    exact zero_f32
  | succ n ih =>
    obtain ⟨μ, hm, ha⟩ := ih
    have hs : ∀ k : Fin 512, k0_pay2 q (blockAt 512 128 K (512 * n) 0) (ix2 r k)
        = ((∑ j, f r j * g (Fin.ofNat 8192 (512 * n + k.val)) j : ℝ) : EReal) := fun k =>
      (score_real q _ f _ hq (fun k l => block_real K g hK (512 * n) 0 k l) r k).trans (by
        refine congrArg _ (Finset.sum_congr rfl fun j _ => ?_)
        rw [show Fin.ofNat 128 (0 + j.val) = j from Fin.ext (by
          show (0 + j.val) % 128 = j.val
          rw [Nat.zero_add]; exact Nat.mod_eq_of_lt j.isLt)])
    obtain ⟨μ', hm'⟩ := max_real _ _ r μ _ hm hs
    refine ⟨μ', hm', fun l => ?_⟩
    refine (acc_real _ _ _ _ r l μ μ' _ _ _ hm hm' (ha l) hs
      (fun k => block_real W w hW (512 * n) col k l)).trans (congrArg _ ?_)
    rw [Nat.mul_succ, Finset.sum_range_add, Finset.mul_sum]
    refine congrArg₂ (· + ·) (Finset.sum_congr rfl fun k _ => ?_) ?_
    · rw [← mul_assoc, ← Real.exp_add]
      refine congrArg (fun t => Real.exp t * _) ?_
      ring
    · exact (Finset.sum_range fun k => Real.exp ((∑ j, f r j * g (Fin.ofNat 8192 (512 * n + k)) j) - μ')
        * w (Fin.ofNat 8192 (512 * n + k)) (Fin.ofNat 256 (col + l.val))).symm

/-- After all sixteen chunks, the sum over all keys. -/
theorem run_done (q : FVec Ideal S256x128 .bf16) (K : Vec Ideal S8192x128 .bf16) (W : Vec Ideal S8192x256 .bf16) (col : ℕ)
    (f : Fin 256 → Fin 128 → ℝ) (g : Fin 8192 → Fin 128 → ℝ) (w : Fin 8192 → Fin 256 → ℝ)
    (hq : ∀ r l, q (ix2 r l) = (f r l : EReal)) (hK : ∀ k l, K (ix2 k l) = (g k l : EReal))
    (hW : ∀ k l, W (ix2 k l) = (w k l : EReal)) (r : Fin 256) :
    ∃ μ : ℝ, (fwdRun q K W col 16).1 (ix2 r 0) = (μ : EReal) ∧ ∀ l : Fin 128, (fwdRun q K W col 16).2 (ix2 r l)
      = ((Real.exp (-μ) * ∑ k, Real.exp (∑ j, f r j * g k j) * w k (Fin.ofNat 256 (col + l.val)) : ℝ) : EReal) := by
  obtain ⟨μ, hm, ha⟩ := run_real q K W col f g w hq hK hW r 16
  refine ⟨μ, hm, fun l => (ha l).trans (congrArg _ ?_)⟩
  rw [show 512 * 16 = 8192 from rfl, Finset.sum_range, Finset.mul_sum]
  refine Finset.sum_congr rfl fun k _ => ?_
  rw [show Fin.ofNat 8192 k.val = k from Fin.ext (Nat.mod_eq_of_lt k.isLt), ← mul_assoc, ← Real.exp_add]
  refine congrArg (fun t => Real.exp t * _) ?_
  ring

/-- The queries of the low head of a lane block, the score scale multiplied in. -/
def maskLo (f : Fin 128 → ℝ) (l : Fin 128) : ℝ := (if l.val < 64 then f l else 0) * (1 / 8)

/-- The queries of the high head of a lane block, the score scale multiplied in. -/
def maskHi (f : Fin 128 → ℝ) (l : Fin 128) : ℝ := (if l.val < 64 then 0 else f l) * (1 / 8)

/-- The lane mask: the low 64 lanes. -/
theorem mask_apply (l : Fin 128) : k0_pay59 (ix2 (0 : Fin 1) l) = if l.val < 64 then 1#1 else 0#1 := by
  revert l; decide

/-- A choice by the lane mask, read at a lane. -/
theorem select_mask {α : Type} {a : ℕ} (x y : (⟨2, ![a, 128]⟩ : Shape).Idx → α) (m : (⟨2, ![1, 128]⟩ : Shape).Idx → BitVec 1)
    (h : (⟨2, ![1, 128]⟩ : Shape).ShapeCasts ⟨2, ![1, 128]⟩) (h' : (⟨2, ![1, 128]⟩ : Shape).Broadcasts ⟨2, ![a, 128]⟩)
    (hm : ∀ l : Fin 128, m (ix2 (0 : Fin 1) l) = if l.val < 64 then 1#1 else 0#1) (r : Fin a) (l : Fin 128) :
    select (broadcastTo ⟨2, ![a, 128]⟩ (shapeCast ⟨2, ![1, 128]⟩ m h) h') x y (ix2 r l)
      = if l.val < 64 then x (ix2 r l) else y (ix2 r l) := by
  rw [select_apply, shapeCast_self, broadcastTo_1b_ab_apply, hm]
  split <;> rfl

theorem queries_lo (Q : Vec Ideal S256x128 .bf16) (f : Fin 256 → Fin 128 → ℝ) (hQ : ∀ r l, Q (ix2 r l) = (f r l : EReal))
    (r : Fin 256) (l : Fin 128) : k0_pay62 Q (ix2 r l) = (maskLo (f r) l : EReal) := by
  unfold k0_pay62 k0_pay60 k0_pay61 maskLo
  dsimp only
  rw [mulf_apply, select_mask _ _ _ _ _ mask_apply, shapeCast_self, hQ, EReal.coe_mul]
  refine congrArg₂ (· * ·) ?_ eighth_bf16
  split
  · rfl
  · exact zero_bf16

theorem queries_hi (Q : Vec Ideal S256x128 .bf16) (f : Fin 256 → Fin 128 → ℝ) (hQ : ∀ r l, Q (ix2 r l) = (f r l : EReal))
    (r : Fin 256) (l : Fin 128) : k0_pay63 Q (ix2 r l) = (maskHi (f r) l : EReal) := by
  unfold k0_pay63 k0_pay60 k0_pay61 maskHi
  dsimp only
  rw [mulf_apply, select_mask _ _ _ _ _ mask_apply, shapeCast_self, hQ, EReal.coe_mul]
  refine congrArg₂ (· * ·) ?_ eighth_bf16
  split
  · exact zero_bf16
  · rfl

/-- The lanes half a turn round. -/
theorem rotate_half (x : FVec Ideal S256x128 .f32) (r : Fin 256) (l : Fin 128) :
    dynamicRotate 1 64#32 none x rotates_S256x128_d1 (ix2 r l) = x (ix2 r (Fin.ofNat 128 (l.val + 64))) :=
  dynamicRotate_apply (1 : Fin 2) 64#32 x rotates_S256x128_d1 (ix2 r l) (ix2 r (Fin.ofNat 128 (l.val + 64))) fun b => by
    match b with
    | ⟨0, _⟩ => rfl
    | ⟨1, _⟩ =>
      show (l.val + 64) % 128 = (l.val + 128 - 64) % 128
      rw [show l.val + 128 - 64 = l.val + 64 by omega]

/-- The output payload at a lane. -/
theorem out_payload (a0 a1 : FVec Ideal S256x128 .f32) (r : Fin 256) (l : Fin 128) :
    k0_pay69 a0 a1 (ix2 r l) = if l.val < 64 then Ideal.div (a0 (ix2 r l)) (a0 (ix2 r (Fin.ofNat 128 (l.val + 64))))
      else Ideal.div (a1 (ix2 r l)) (a1 (ix2 r (Fin.ofNat 128 (l.val + 64)))) := by
  unfold k0_pay69 k0_pay67 k0_pay68
  dsimp only
  rw [truncf_apply, select_mask _ _ _ _ _ mask_apply, divf_apply, divf_apply, rotate_half, rotate_half]

/-- The log-sum payload at a lane. -/
theorem lse_payload (m0 m1 : FVec Ideal S256x1 .f32) (a0 a1 : FVec Ideal S256x128 .f32) (r : Fin 256) (l : Fin 128) :
    k0_pay70 m0 a0 m1 a1 (ix2 r l) = if l.val < 64 then m0 (ix2 r 0) + Ideal.log (a0 (ix2 r (Fin.ofNat 128 (l.val + 64))))
      else m1 (ix2 r 0) + Ideal.log (a1 (ix2 r (Fin.ofNat 128 (l.val + 64)))) := by
  unfold k0_pay70 k0_pay67 k0_pay68
  dsimp only
  have hlog : ∀ (x : FVec Ideal S256x128 .f32) i, (log x : FVec Ideal S256x128 .f32) i = Ideal.log (x i) := fun _ _ => rfl
  rw [select_mask _ _ _ _ _ mask_apply, addf_apply, addf_apply, bcast_col, bcast_col, hlog, hlog, rotate_half, rotate_half]

/-- Sixty-four lanes on, round the end. -/
theorem half_lo (l : Fin 128) (h : l.val < 64) : (Fin.ofNat 128 (l.val + 64)).val = l.val + 64 :=
  Nat.mod_eq_of_lt (by omega)
theorem half_hi (l : Fin 128) (h : ¬ l.val < 64) : (Fin.ofNat 128 (l.val + 64)).val = l.val - 64 := by
  have := l.isLt
  show (l.val + 64) % 128 = l.val - 64
  omega

/-- One point's output block and log-sum block over the reals: with a lane block of values `w` that holds ones in its
two middle quarters, each head's softmax average of its values, and the logarithm of its sum of exponentials. -/
theorem fwd_real (Q : Vec Ideal S256x128 .bf16) (K : Vec Ideal S8192x128 .bf16) (W : Vec Ideal S8192x256 .bf16)
    (f : Fin 256 → Fin 128 → ℝ) (g : Fin 8192 → Fin 128 → ℝ) (w : Fin 8192 → Fin 256 → ℝ)
    (hQ : ∀ r l, Q (ix2 r l) = (f r l : EReal)) (hK : ∀ k l, K (ix2 k l) = (g k l : EReal))
    (hW : ∀ k l, W (ix2 k l) = (w k l : EReal))
    (hone : ∀ k (l : Fin 256), 64 ≤ l.val → l.val < 192 → w k l = 1) (r : Fin 256) (l : Fin 128) :
    k0_pay69 (fwdRun (k0_pay62 Q) K W 0 16).2 (fwdRun (k0_pay63 Q) K W 128 16).2 (ix2 r l)
      = ((if l.val < 64 then (∑ k, Real.exp (∑ j, maskLo (f r) j * g k j) * w k (Fin.ofNat 256 l.val))
            / ∑ k, Real.exp (∑ j, maskLo (f r) j * g k j)
          else (∑ k, Real.exp (∑ j, maskHi (f r) j * g k j) * w k (Fin.ofNat 256 (128 + l.val)))
            / ∑ k, Real.exp (∑ j, maskHi (f r) j * g k j) : ℝ) : EReal)
    ∧ k0_pay70 (fwdRun (k0_pay62 Q) K W 0 16).1 (fwdRun (k0_pay62 Q) K W 0 16).2
        (fwdRun (k0_pay63 Q) K W 128 16).1 (fwdRun (k0_pay63 Q) K W 128 16).2 (ix2 r l)
      = ((if l.val < 64 then Real.log (∑ k, Real.exp (∑ j, maskLo (f r) j * g k j))
          else Real.log (∑ k, Real.exp (∑ j, maskHi (f r) j * g k j)) : ℝ) : EReal) := by
  obtain ⟨μ0, hm0, ha0⟩ := run_done _ K W 0 _ g w (queries_lo Q f hQ) hK hW r
  obtain ⟨μ1, hm1, ha1⟩ := run_done _ K W 128 _ g w (queries_hi Q f hQ) hK hW r
  have hl := l.isLt
  have pos : ∀ h : Fin 8192 → ℝ, 0 < ∑ k, Real.exp (h k) := fun h =>
    Finset.sum_pos (fun k _ => Real.exp_pos _) ⟨0, Finset.mem_univ _⟩
  rw [out_payload, lse_payload]
  by_cases h : l.val < 64
  · simp only [if_pos h]
    have hd : ∀ k, w k (Fin.ofNat 256 (0 + (Fin.ofNat 128 (l.val + 64)).val)) = 1 := fun k => by
      refine hone k _ ?_ ?_ <;> rw [half_lo l h] <;> show _ <;> simp only [Fin.ofNat] <;> omega
    rw [ha0, ha0, hm0]
    simp only [Nat.zero_add] at hd ⊢
    simp only [hd, mul_one]
    have p := pos (fun k => ∑ j, maskLo (f r) j * g k j)
    have e := Real.exp_pos (-μ0)
    constructor
    · rw [div_coe (mul_pos e p).ne', mul_div_mul_left _ _ e.ne']
    · rw [log_coe_pos (mul_pos e p), ← EReal.coe_add, Real.log_mul e.ne' p.ne', Real.log_exp]
      refine congrArg _ ?_
      ring
  · simp only [if_neg h]
    have hd : ∀ k, w k (Fin.ofNat 256 (128 + (Fin.ofNat 128 (l.val + 64)).val)) = 1 := fun k => by
      refine hone k _ ?_ ?_ <;> rw [half_hi l h] <;> simp only [Fin.ofNat] <;> omega
    rw [ha1, ha1, hm1]
    simp only [hd, mul_one]
    have p := pos (fun k => ∑ j, maskHi (f r) j * g k j)
    have e := Real.exp_pos (-μ1)
    constructor
    · rw [div_coe (mul_pos e p).ne', mul_div_mul_left _ _ e.ne']
    · rw [log_coe_pos (mul_pos e p), ← EReal.coe_add, Real.log_mul e.ne' p.ne', Real.log_exp]
      refine congrArg _ ?_
      ring

end Cert.Attn
end
-- ==== Proof.BwdBlock.lean ====
/-
  One grid point of the backward call, in any arithmetic: its loop runs over the sixteen chunks of 512 keys. A chunk adds to
  the two heads' carried `dq` sums, and adds this point's share to the chunk's rows of the `dk` and `dv` blocks. The rows of
  a chunk are read before this point has written them, so what a row ends at is its chunk's update of what it held before.
-/
module

public import proofs.«01_k».proof.Proof.Gen.KernelIdeal.Frame
public import Idealize.ShloMosaic.Lib.Pipeline.ValueKit
public import Idealize.ShloMosaic.Lib.ValueIdxCore
public import Idealize.ShloMosaic.Lib.WritesUnit
public import proofs.«01_k».proof.Proof.FwdBlock

@[expose] public section

set_option maxRecDepth 100000

noncomputable section

namespace Cert.Attn

open Idealize.ShloMosaic hiding ix2 ix1 ix0 ix3 ix4
open Idealize.ShloMosaic.TcCoe Idealize.ShloMosaic.Tactic Idealize.ShloMosaic.ValueIdx
open Cert.KernelIdeal Cert.KernelIdeal.Gen

variable {F : FTy → Type} [FloatOps F]

/-- What a point's prologue makes of its blocks: the two heads' masked queries and output gradients, the row sums of
output gradient times output, and the log-sums. -/
structure BwdRegs (F : FTy → Type) where
  (q0 q1 d0 d1 : FVec F S512x128 .bf16)
  (D0 D1 l0 l1 : FVec F S512x1 .f32)

/-- The new `dk` rows of a chunk, from its keys, its values and what the rows held. -/
def dkNew (b : BwdRegs F) (K V : Vec F S512x128 .bf16) (old : Vec F S512x128 .f32) : FVec F S512x128 .f32 :=
  k1_pay20 (k1_pay5 b.q0 b.q1) (k1_pay14 b.q0 b.d0 b.D0 b.l0 K V) (k1_pay17 b.q1 b.d1 b.D1 b.l1 K V) old

/-- The new `dv` rows of a chunk. -/
def dvNew (b : BwdRegs F) (K : Vec F S512x128 .bf16) (old : Vec F S512x128 .f32) : FVec F S512x128 .f32 :=
  k1_pay19 b.q0 b.q1 b.l0 b.l1 (k1_pay6 b.d0 b.d1) K old

/-- The two heads' `dq` sums after a chunk. -/
def dqStep (b : BwdRegs F) (K V : Vec F S512x128 .bf16) (a : FVec F S512x128 .f32 × FVec F S512x128 .f32) :
    FVec F S512x128 .f32 × FVec F S512x128 .f32 :=
  (k1_pay15 b.q0 b.d0 b.D0 b.l0 a.1 K V, k1_pay18 b.q1 b.d1 b.D1 b.l1 a.2 K V)

/-- The two heads' `dq` sums after the first `n` chunks. -/
def dqRun (b : BwdRegs F) (K V : Vec F S8192x128 .bf16) : ℕ → FVec F S512x128 .f32 × FVec F S512x128 .f32
  | 0 => (k1_pay7, k1_pay7)
  | n + 1 => dqStep b (blockAt 512 128 K (512 * n) 0) (blockAt 512 128 V (512 * n) 0) (dqRun b K V n)

/-- The second unrolled chunk computes what the first does. -/
theorem bwd_names : k1_pay23 (F := F) = k1_pay13 ∧ k1_pay24 (F := F) = k1_pay14 ∧ k1_pay25 (F := F) = k1_pay15
    ∧ k1_pay26 (F := F) = k1_pay16 ∧ k1_pay27 (F := F) = k1_pay17 ∧ k1_pay28 (F := F) = k1_pay18
    ∧ (∀ q0 q1 (P0 P1 : FVec F S512x512 .bf16) old, k1_pay9 q0 q1 P0 P1 old = k1_pay20 (k1_pay5 q0 q1) P0 P1 old)
    ∧ (∀ q0 q1 d0 d1 (l0 l1 : FVec F S512x1 .f32) K old,
        k1_pay8 d0 d1 (k1_pay29 old) (k1_pay30 q0 q1 l0 l1 K) = k1_pay19 q0 q1 l0 l1 (k1_pay6 d0 d1) K old) :=
  ⟨rfl, rfl, rfl, rfl, rfl, rfl, fun _ _ _ _ _ => rfl, fun _ _ _ _ _ _ _ _ => rfl⟩

/-- The rows chunk `2 k + j` starts at, from the printed offset arithmetic. -/
theorem off_unit (k : ℕ) (hk : k < 8) (j : ℕ) (hj : j < 2) :
    (Scalar.indexCast (Scalar.muli (Scalar.addi (Scalar.muli (Scf.iv 0#32 1#32 k) 2#32) (BitVec.ofNat 32 j)) 512#32)).toNat
      = 512 * (2 * k + j) := by
  interval_cases k <;> interval_cases j <;> decide

/-- The unit rectangle of the 512 rows from row `o`. -/
def rowsRect (o : ℕ) (h : o + 512 ≤ 8192) : Rect S8192x128 :=
  Rect.unit (s := S8192x128) ![o, 0] ![512, 128] (fun a => by
    match a with
    | ⟨0, _⟩ => exact h
    | ⟨1, _⟩ => exact (by decide : 0 + 128 ≤ 128))

/-- A piece at an offset that is row `o`. -/
theorem piece_rows (o o' : ℕ) (inb : ∀ a : Fin 2, (![o', 0] : Fin 2 → ℕ) a + (![512, 128] : Fin 2 → ℕ) a ≤ S8192x128.size a) (h : o + 512 ≤ 8192)
    (w : Vec F S512x128 .f32) (e : o' = o) :
    (⟨Rect.unit (s := S8192x128) ![o', 0] ![512, 128] inb, w⟩ : View.Piece (Elt F) S8192x128 .f32) = ⟨rowsRect o h, w⟩ := by
  subst e; rfl

set_option backward.isDefEq.respectTransparency.types false in
/-- One trip: two chunks' updates. -/
theorem bwdTrip (𝒱 : Variants) (c : Dev nD) (bd : Option 𝒱.V) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (v7 : IVec S1x128 1) (v17 : FVec F S512x128 .f32) (v19 : FVec F S512x128 .f32) (v24 : FVec F S512x128 .bf16) (v29 : FVec F S512x128 .bf16) (v32 : FVec F S512x128 .bf16) (v35 : FVec F S512x128 .bf16) (v39 : FVec F S512x128 .f32)
   (K V : Vec F S8192x128 .bf16) (k : Fin k1_t1_loop.trips) (acc : FVec F S512x128 .f32 × FVec F S512x128 .f32) (f10 : BufTy.Contents (Elt F) arg10.view.ty) (f11 : BufTy.Contents (Elt F) arg11.view.ty) :
   let b : BwdRegs F := ⟨v24, v29, v32, v35, k1_pay1 v39, k1_pay2 v7 v17, k1_pay3 v19, k1_pay4 v19⟩
   let Kb := fun n => blockAt 512 128 K (512 * n) 0
   let Vb := fun n => blockAt 512 128 V (512 * n) 0
   let old10 := fun n => blockAt 512 128 (arg10.view.read (Elt F) f10) (512 * n) 0
   let old11 := fun n => blockAt 512 128 (arg11.view.read (Elt F) f11) (512 * n) 0
   tripR_k1_t1 𝒱 c bd i arg3 harg3 arg4 harg4 arg5 harg5 arg6 harg6 arg7 harg7 arg8 harg8 arg9 harg9 arg10 harg10 arg11 harg11 v7 v17 v19 v24 v29 v32 v35 v39 (harg4.unread K) (harg5.unread V) k acc f10 f11
     = dqStep b (Kb (2 * k.val + 1)) (Vb (2 * k.val + 1)) (dqStep b (Kb (2 * k.val + 0)) (Vb (2 * k.val + 0)) acc) ∧
   ∃ (h0 : 512 * (2 * k.val + 0) + 512 ≤ 8192) (h1 : 512 * (2 * k.val + 1) + 512 ≤ 8192),
   tripL_k1_t1 𝒱 c bd i arg3 harg3 arg4 harg4 arg5 harg5 arg6 harg6 arg7 harg7 arg8 harg8 arg9 harg9 arg10 harg10 arg11 harg11 v7 v17 v19 v24 v29 v32 v35 v39 (harg4.unread K) (harg5.unread V) k acc f10 f11
     = ([⟨rowsRect (512 * (2 * k.val + 1)) h1, dkNew b (Kb (2 * k.val + 1)) (Vb (2 * k.val + 1)) (old10 (2 * k.val + 1))⟩,
         ⟨rowsRect (512 * (2 * k.val + 0)) h0, dkNew b (Kb (2 * k.val + 0)) (Vb (2 * k.val + 0)) (old10 (2 * k.val + 0))⟩],
        [⟨rowsRect (512 * (2 * k.val + 1)) h1, dvNew b (Kb (2 * k.val + 1)) (old11 (2 * k.val + 1))⟩,
         ⟨rowsRect (512 * (2 * k.val + 0)) h0, dvNew b (Kb (2 * k.val + 0)) (old11 (2 * k.val + 0))⟩]) := by
  have hk : k.val < 8 := lt_of_lt_of_le k.isLt k1_t1_abs.2.1
  intro b Kb Vb old10 old11
  unfold tripR_k1_t1 tripL_k1_t1 trip_k1_t1
  dsimp only
  sl_unfold_words
  have hK : ∀ (K : Vec F S8192x128 .bf16) o inb, View.ld (S := S8192x128) K (Rect.unit (s := S8192x128) ![o, 0] ![512, 128] inb) = blockAt 512 128 K o 0 :=
    fun K o inb => ld_blockAt (Val := Elt F) (e := .bf16) 512 128 K o 0 inb
  have hG : ∀ (K : Vec F S8192x128 .f32) o inb, View.ld (S := S8192x128) K (Rect.unit (s := S8192x128) ![o, 0] ![512, 128] inb) = blockAt 512 128 K o 0 :=
    fun K o inb => ld_blockAt (Val := Elt F) (e := .f32) 512 128 K o 0 inb
  simp only [View.readAt_eq_ld, harg4.read_unread, harg5.read_unread, hK, hG, bwd_names,
    off_unit k.val hk 0 (by decide), off_unit k.val hk 1 (by decide)]
  refine ⟨rfl, by omega, by omega, ?_⟩
  exact congrArg₂ Prod.mk
    (congrArg₂ List.cons (piece_rows _ _ _ _ _ (off_unit k.val hk 1 (by decide)))
      (congrArg₂ List.cons (piece_rows _ _ _ _ _ (off_unit k.val hk 0 (by decide))) rfl))
    (congrArg₂ List.cons (piece_rows _ _ _ _ _ (off_unit k.val hk 1 (by decide)))
      (congrArg₂ List.cons (piece_rows _ _ _ _ _ (off_unit k.val hk 0 (by decide))) rfl))

/-- The rows below `1024 n` taken from blocks of 512 rows, the rest as they were. -/
def rowsDone (n : ℕ) (B : ℕ → Vec F S512x128 .f32) (C : Vec F S8192x128 .f32) : Vec F S8192x128 .f32 :=
  fun y => if (y 0).val < 1024 * n then B ((y 0).val / 512) (ix2 (Fin.ofNat 512 (y 0).val) (y 1)) else C y

/-- Two further blocks written. -/
theorem rowsDone_succ {κ : Kind} {sp : Space} (v : View sig κ sp S8192x128 .f32) (g : v.ty.Contents (Elt F))
    (L : List (View.Piece (Elt F) S8192x128 .f32)) (n : ℕ) (B : ℕ → Vec F S512x128 .f32) (C : Vec F S8192x128 .f32)
    (h0 : 512 * (2 * n + 0) + 512 ≤ 8192) (h1 : 512 * (2 * n + 1) + 512 ≤ 8192)
    (hL : v.read (Elt F) (v.writes (Elt F) g L) = rowsDone n B C) :
    v.read (Elt F) (v.writes (Elt F) g
      ((⟨rowsRect (512 * (2 * n + 1)) h1, B (2 * n + 1)⟩ : View.Piece (Elt F) S8192x128 .f32)
        :: (⟨rowsRect (512 * (2 * n + 0)) h0, B (2 * n + 0)⟩ : View.Piece (Elt F) S8192x128 .f32) :: L))
      = rowsDone (n + 1) B C := by
  funext y
  have hy : (y 0).val < 8192 := (y 0).isLt
  have hit : ∀ j, (y 0).val / 512 = j → ∀ a : Fin 2, (y a).val
      = (![512 * j, 0] : Fin 2 → ℕ) a + ((ix2 (Fin.ofNat 512 (y 0).val) (y 1) : S512x128.Idx) a).val := fun j hj a => by
    subst hj
    match a with
    | ⟨0, _⟩ => exact (Nat.div_add_mod (y 0).val 512).symm
    | ⟨1, _⟩ => exact (Nat.zero_add _).symm
  unfold rowsDone
  by_cases c1 : (y 0).val / 512 = 2 * n + 1
  · rw [if_pos (by omega), c1]
    exact View.read_writes_cons_unit_of_mem v g _ _ _ y _ rfl (hit _ c1)
  · have e1 := View.read_writes_cons_unit_of_not_mem (Val := Elt F) v g (s := S8192x128) (off := ![512 * (2 * n + 1), 0])
      (size := ![512, 128]) (fun a => by match a with | ⟨0, _⟩ => exact h1 | ⟨1, _⟩ => exact (by decide : 0 + 128 ≤ 128))
      (B (2 * n + 1)) ((⟨rowsRect (512 * (2 * n + 0)) h0, B (2 * n + 0)⟩ : View.Piece (Elt F) S8192x128 .f32) :: L) y rfl 0
      (by show (y 0).val < 512 * (2 * n + 1) ∨ 512 * (2 * n + 1) + 512 ≤ (y 0).val; omega)
    refine Eq.trans e1 ?_
    by_cases c0 : (y 0).val / 512 = 2 * n + 0
    · rw [if_pos (by omega), c0]
      exact View.read_writes_cons_unit_of_mem v g _ _ _ y _ rfl (hit _ c0)
    · have e0 := View.read_writes_cons_unit_of_not_mem (Val := Elt F) v g (s := S8192x128) (off := ![512 * (2 * n + 0), 0])
        (size := ![512, 128]) (fun a => by match a with | ⟨0, _⟩ => exact h0 | ⟨1, _⟩ => exact (by decide : 0 + 128 ≤ 128))
        (B (2 * n + 0)) L y rfl 0
        (by show (y 0).val < 512 * (2 * n + 0) ∨ 512 * (2 * n + 0) + 512 ≤ (y 0).val; omega)
      refine e0.trans ?_
      rw [hL]
      unfold rowsDone
      by_cases c : (y 0).val < 1024 * n
      · rw [if_pos c, if_pos (by omega)]
      · rw [if_neg c, if_neg (by omega)]

/-- A block beyond the rows done is the block there was. -/
theorem blockAt_rowsDone (n j : ℕ) (B : ℕ → Vec F S512x128 .f32) (C : Vec F S8192x128 .f32) (hj : 2 * n ≤ j) (hj' : j < 16) :
    blockAt 512 128 (rowsDone n B C) (512 * j) 0 = blockAt 512 128 C (512 * j) 0 := by
  funext y
  have hy : (y 0).val < 512 := (y 0).isLt
  refine if_neg ?_
  show ¬ (512 * j + (y 0).val) % 8192 < 1024 * n
  rw [Nat.mod_eq_of_lt (by omega)]
  omega

/-- The `dk` rows chunk `j` ends at, the block having held `C`. -/
def dkRows (b : BwdRegs F) (K V : Vec F S8192x128 .bf16) (C : Vec F S8192x128 .f32) (j : ℕ) : Vec F S512x128 .f32 :=
  dkNew b (blockAt 512 128 K (512 * j) 0) (blockAt 512 128 V (512 * j) 0) (blockAt 512 128 C (512 * j) 0)

/-- The `dv` rows chunk `j` ends at, the block having held `C`. -/
def dvRows (b : BwdRegs F) (K : Vec F S8192x128 .bf16) (C : Vec F S8192x128 .f32) (j : ℕ) : Vec F S512x128 .f32 :=
  dvNew b (blockAt 512 128 K (512 * j) 0) (blockAt 512 128 C (512 * j) 0)

/-- Where the loop stands after `n` trips: the `dq` sums have gone through `2 n` chunks, and the rows of those chunks hold
their updates of what they held when the loop began, read through any view and over any contents. -/
def LoopAt (b : BwdRegs F) (K V : Vec F S8192x128 .bf16) (C C' : Vec F S8192x128 .f32) (n : ℕ)
    (st : (FVec F S512x128 .f32 × FVec F S512x128 .f32) × List (View.Piece (Elt F) S8192x128 .f32)
      × List (View.Piece (Elt F) S8192x128 .f32)) : Prop :=
  st.1 = dqRun b K V (2 * n)
   ∧ (∀ (κ : Kind) (sp : Space) (v : View sig κ sp S8192x128 .f32) (g : v.ty.Contents (Elt F)),
       v.read (Elt F) (v.writes (Elt F) g st.2.1) = rowsDone n (dkRows b K V C) (v.read (Elt F) g))
   ∧ (∀ (κ : Kind) (sp : Space) (v : View sig κ sp S8192x128 .f32) (g : v.ty.Contents (Elt F)),
       v.read (Elt F) (v.writes (Elt F) g st.2.2) = rowsDone n (dvRows b K C') (v.read (Elt F) g))

/-- The loop stands there after `n` trips. -/
theorem bwdLoop (𝒱 : Variants) (c : Dev nD) (bd : Option 𝒱.V) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (v7 : IVec S1x128 1) (v17 : FVec F S512x128 .f32) (v19 : FVec F S512x128 .f32) (v24 : FVec F S512x128 .bf16) (v29 : FVec F S512x128 .bf16) (v32 : FVec F S512x128 .bf16) (v35 : FVec F S512x128 .bf16) (v39 : FVec F S512x128 .f32)
   (K V : Vec F S8192x128 .bf16) (g10 : BufTy.Contents (Elt F) arg10.view.ty) (g11 : BufTy.Contents (Elt F) arg11.view.ty)
   (n : ℕ) (hn : n ≤ k1_t1_loop.trips) :
   LoopAt ⟨v24, v29, v32, v35, k1_pay1 v39, k1_pay2 v7 v17, k1_pay3 v19, k1_pay4 v19⟩ K V
     (arg10.view.read (Elt F) g10) (arg11.view.read (Elt F) g11) n
     (st_k1_t1 𝒱 c bd i arg3 harg3 arg4 harg4 arg5 harg5 arg6 harg6 arg7 harg7 arg8 harg8 arg9 harg9 arg10 harg10 arg11 harg11 v7 v17 v19 v24 v29 v32 v35 v39 (harg4.unread K) (harg5.unread V) g10 g11 (k1_pay7, k1_pay7) n) := by
  induction n with
  | zero =>
    exact ⟨rfl, fun κ sp v g => funext fun y => (if_neg (Nat.not_lt_zero _)).symm,
      fun κ sp v g => funext fun y => (if_neg (Nat.not_lt_zero _)).symm⟩
  | succ n ih =>
    have hn8 : n < 8 := lt_of_lt_of_le hn k1_t1_abs.2.1
    rw [st_k1_t1_succ 𝒱 c bd i arg3 harg3 arg4 harg4 arg5 harg5 arg6 harg6 arg7 harg7 arg8 harg8 arg9 harg9 arg10 harg10 arg11 harg11 v7 v17 v19 v24 v29 v32 v35 v39 (harg4.unread K) (harg5.unread V) g10 g11 (k1_pay7, k1_pay7) ⟨n, hn⟩]
    replace ih := ih (Nat.le_of_succ_le hn)
    rw [show (⟨n, hn⟩ : Fin k1_t1_loop.trips).val = n from rfl]
    generalize st_k1_t1 𝒱 c bd i arg3 harg3 arg4 harg4 arg5 harg5 arg6 harg6 arg7 harg7 arg8 harg8 arg9 harg9 arg10 harg10 arg11 harg11 v7 v17 v19 v24 v29 v32 v35 v39 (harg4.unread K) (harg5.unread V) g10 g11 (k1_pay7, k1_pay7) n = st at ih ⊢
    obtain ⟨ih1, ih2, ih3⟩ := ih
    obtain ⟨ht1, h0, h1, ht2⟩ := bwdTrip 𝒱 c bd i arg3 harg3 arg4 harg4 arg5 harg5 arg6 harg6 arg7 harg7 arg8 harg8 arg9 harg9 arg10 harg10 arg11 harg11 v7 v17 v19 v24 v29 v32 v35 v39 K V ⟨n, hn⟩ st.1
      (arg10.view.writes (Elt F) g10 st.2.1) (arg11.view.writes (Elt F) g11 st.2.2)
    dsimp only at ht1 ht2
    rw [ht1, ht2, ih2, ih3, blockAt_rowsDone n (2 * n + 1) _ _ (by omega) (by omega), blockAt_rowsDone n (2 * n + 0) _ _ (by omega) (by omega),
      blockAt_rowsDone n (2 * n + 1) _ _ (by omega) (by omega), blockAt_rowsDone n (2 * n + 0) _ _ (by omega) (by omega)]
    refine ⟨?_, fun κ sp v g => ?_, fun κ sp v g => ?_⟩
    · rw [ih1]; rfl
    · exact rowsDone_succ v g st.2.1 n (dkRows _ K V _) _ h0 h1 (ih2 κ sp v g)
    · exact rowsDone_succ v g st.2.2 n (dvRows _ K _) _ h0 h1 (ih3 κ sp v g)

/-- What the prologue makes of a point's blocks: queries, output, log-sums and output gradient. -/
def regsOf (Q O : Vec F S512x128 .bf16) (L : Vec F S512x128 .f32) (D : Vec F S512x128 .bf16) : BwdRegs F :=
  ⟨k1_pay39 Q, k1_pay40 Q, k1_pay41 D, k1_pay42 D, k1_pay1 (k1_pay43 D O), k1_pay2 k1_pay33 (k1_pay37 D O),
    k1_pay3 (k1_pay38 L), k1_pay4 (k1_pay38 L)⟩

/-- Every row taken from its block of 512. -/
def allRows (B : ℕ → Vec F S512x128 .f32) : Vec F S8192x128 .f32 :=
  fun y => B ((y 0).val / 512) (ix2 (Fin.ofNat 512 (y 0).val) (y 1))

/-- After the eighth trip all rows are done. -/
theorem rowsDone_all (B : ℕ → Vec F S512x128 .f32) (C : Vec F S8192x128 .f32) : rowsDone 8 B C = allRows B :=
  funext fun y => if_pos (show (y 0).val < 1024 * 8 from (y 0).isLt)

/-- A whole store is what its buffer then holds. -/
theorem read_whole {κ : Kind} {sp : Space} (v : View sig κ sp S8192x128 .f32) (g : v.ty.Contents (Elt F)) (w : Vec F S8192x128 .f32) :
    v.read (Elt F) (v.writes (Elt F) g [⟨Rect.unit ![0, 0] S8192x128.size inb_S8192x128_S8192x128_0_0, w⟩]) = w :=
  funext fun y => View.read_writes_cons_unit_of_mem v g inb_S8192x128_S8192x128_0_0 w [] y y rfl fun a => by
    match a with
    | ⟨0, _⟩ => exact (Nat.zero_add _).symm
    | ⟨1, _⟩ => exact (Nat.zero_add _).symm

/-- The loop of a point at its end. -/
theorem loopDone (c : Dev nD) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole)
    (Q : Vec F S512x128 .bf16) (K V : Vec F S8192x128 .bf16) (O : Vec F S512x128 .bf16) (L : Vec F S512x128 .f32) (D : Vec F S512x128 .bf16)
    (g10 : BufTy.Contents (Elt F) arg10.view.ty) (g11 : BufTy.Contents (Elt F) arg11.view.ty) :
    LoopAt (regsOf Q O L D) K V (arg10.view.read (Elt F) g10) (arg11.view.read (Elt F) g11) 8
      (st_k1_t1 Variants.none c none i arg3 harg3 arg4 harg4 arg5 harg5 arg6 harg6 arg7 harg7 arg8 harg8 arg9 harg9 arg10 harg10 arg11 harg11 k1_pay33 (k1_pay37 D O) (k1_pay38 L) (k1_pay39 Q) (k1_pay40 Q) (k1_pay41 D)
        (k1_pay42 D) (k1_pay43 D O) (harg4.unread K) (harg5.unread V) g10 g11 (k1_pay7, k1_pay7) 8) :=
  bwdLoop Variants.none c none i arg3 harg3 arg4 harg4 arg5 harg5 arg6 harg6 arg7 harg7 arg8 harg8 arg9 harg9 arg10 harg10 arg11 harg11 _ _ _ _ _ _ _ _ K V g10 g11 8 (by decide)

/-- The block of `dq` after a point that starts a key head. -/
theorem bwd_A_6 (c : Dev nD) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (hc0 : cond1_0 i)
    (Q : Vec F S512x128 .bf16) (K V : Vec F S8192x128 .bf16) (O : Vec F S512x128 .bf16) (L : Vec F S512x128 .f32) (D : Vec F S512x128 .bf16) :
    out1_A_6 c i arg3 harg3 arg4 harg4 arg5 harg5 arg6 harg6 arg7 harg7 arg8 harg8 arg9 harg9 arg10 harg10 arg11 harg11 hc0 Q K V O L D = k1_pay10 k1_pay33 (dqRun (regsOf Q O L D) K V 16).1 (dqRun (regsOf Q O L D) K V 16).2 := by
  unfold out1_A_6
  rw [View.read_writes_eq_canon _ _ _ (cover1_A_6 c i arg3 harg3 arg4 harg4 arg5 harg5 arg6 harg6 arg7 harg7 arg8 harg8 arg9 harg9 arg10 harg10 arg11 harg11 hc0 Q K V O L D)]
  unfold kernelRun1_A
  dsimp only
  sl_unfold_words
  rw [show Scf.trips 0#32 (Scalar.addi 0#32 8#32) 1#32 = 8 by decide]
  simp only [View.readAt_eq_ld, harg3.read_unread, harg6.read_unread, harg7.read_unread, harg8.read_unread]
  rw [View.ld_unit_zero (by decide) inb_S512x128_S512x128_0_0 Q, View.ld_unit_zero (by decide) inb_S512x128_S512x128_0_0 O,
    View.ld_unit_zero (by decide) inb_S512x128_S512x128_0_0 L, View.ld_unit_zero (by decide) inb_S512x128_S512x128_0_0 D]
  rw [View.canon_unit_zero (by decide)]
  have h := loopDone c i arg3 harg3 arg4 harg4 arg5 harg5 arg6 harg6 arg7 harg7 arg8 harg8 arg9 harg9 arg10 harg10 arg11 harg11 Q K V O L D (arg10.view.writes (Elt F) arg10.view.junk [⟨Rect.unit ![0, 0] S8192x128.size inb_S8192x128_S8192x128_0_0, k1_pay31⟩])
    (arg11.view.writes (Elt F) arg11.view.junk [⟨Rect.unit ![0, 0] S8192x128.size inb_S8192x128_S8192x128_0_0, k1_pay32⟩])
  rw [h.1]

/-- The block of `dk` after a point that starts a key head. -/
theorem bwd_A_7 (c : Dev nD) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (hc0 : cond1_0 i)
    (Q : Vec F S512x128 .bf16) (K V : Vec F S8192x128 .bf16) (O : Vec F S512x128 .bf16) (L : Vec F S512x128 .f32) (D : Vec F S512x128 .bf16) :
    out1_A_7 c i arg3 harg3 arg4 harg4 arg5 harg5 arg6 harg6 arg7 harg7 arg8 harg8 arg9 harg9 arg10 harg10 arg11 harg11 hc0 Q K V O L D = allRows (dkRows (regsOf Q O L D) K V k1_pay31) := by
  unfold out1_A_7
  unfold kernelRun1_A
  dsimp only
  sl_unfold_words
  rw [show Scf.trips 0#32 (Scalar.addi 0#32 8#32) 1#32 = 8 by decide]
  simp only [View.readAt_eq_ld, harg3.read_unread, harg6.read_unread, harg7.read_unread, harg8.read_unread]
  rw [View.ld_unit_zero (by decide) inb_S512x128_S512x128_0_0 Q, View.ld_unit_zero (by decide) inb_S512x128_S512x128_0_0 O,
    View.ld_unit_zero (by decide) inb_S512x128_S512x128_0_0 L, View.ld_unit_zero (by decide) inb_S512x128_S512x128_0_0 D]
  have h := loopDone c i arg3 harg3 arg4 harg4 arg5 harg5 arg6 harg6 arg7 harg7 arg8 harg8 arg9 harg9 arg10 harg10 arg11 harg11 Q K V O L D (arg10.view.writes (Elt F) arg10.view.junk [⟨Rect.unit ![0, 0] S8192x128.size inb_S8192x128_S8192x128_0_0, k1_pay31⟩])
    (arg11.view.writes (Elt F) arg11.view.junk [⟨Rect.unit ![0, 0] S8192x128.size inb_S8192x128_S8192x128_0_0, k1_pay32⟩])
  rw [View.writes_append, h.2.1, rowsDone_all, read_whole]

/-- The block of `dv` after a point that starts a key head. -/
theorem bwd_A_8 (c : Dev nD) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (hc0 : cond1_0 i)
    (Q : Vec F S512x128 .bf16) (K V : Vec F S8192x128 .bf16) (O : Vec F S512x128 .bf16) (L : Vec F S512x128 .f32) (D : Vec F S512x128 .bf16) :
    out1_A_8 c i arg3 harg3 arg4 harg4 arg5 harg5 arg6 harg6 arg7 harg7 arg8 harg8 arg9 harg9 arg10 harg10 arg11 harg11 hc0 Q K V O L D = allRows (dvRows (regsOf Q O L D) K k1_pay32) := by
  unfold out1_A_8
  unfold kernelRun1_A
  dsimp only
  sl_unfold_words
  rw [show Scf.trips 0#32 (Scalar.addi 0#32 8#32) 1#32 = 8 by decide]
  simp only [View.readAt_eq_ld, harg3.read_unread, harg6.read_unread, harg7.read_unread, harg8.read_unread]
  rw [View.ld_unit_zero (by decide) inb_S512x128_S512x128_0_0 Q, View.ld_unit_zero (by decide) inb_S512x128_S512x128_0_0 O,
    View.ld_unit_zero (by decide) inb_S512x128_S512x128_0_0 L, View.ld_unit_zero (by decide) inb_S512x128_S512x128_0_0 D]
  have h := loopDone c i arg3 harg3 arg4 harg4 arg5 harg5 arg6 harg6 arg7 harg7 arg8 harg8 arg9 harg9 arg10 harg10 arg11 harg11 Q K V O L D (arg10.view.writes (Elt F) arg10.view.junk [⟨Rect.unit ![0, 0] S8192x128.size inb_S8192x128_S8192x128_0_0, k1_pay31⟩])
    (arg11.view.writes (Elt F) arg11.view.junk [⟨Rect.unit ![0, 0] S8192x128.size inb_S8192x128_S8192x128_0_0, k1_pay32⟩])
  rw [View.writes_append, h.2.2, rowsDone_all, read_whole]

/-- The block of `dq` after a point that continues a key head. -/
theorem bwd_B_6 (c : Dev nD) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (hc0 : ¬cond1_0 i)
    (Q : Vec F S512x128 .bf16) (K V : Vec F S8192x128 .bf16) (O : Vec F S512x128 .bf16) (L : Vec F S512x128 .f32) (D : Vec F S512x128 .bf16) (xo7 xo8 : Vec F S8192x128 .f32) :
    out1_B_6 c i arg3 harg3 arg4 harg4 arg5 harg5 arg6 harg6 arg7 harg7 arg8 harg8 arg9 harg9 arg10 harg10 arg11 harg11 hc0 Q K V O L D xo7 xo8 = k1_pay10 k1_pay33 (dqRun (regsOf Q O L D) K V 16).1 (dqRun (regsOf Q O L D) K V 16).2 := by
  unfold out1_B_6
  rw [View.read_writes_eq_canon _ _ _ (cover1_B_6 c i arg3 harg3 arg4 harg4 arg5 harg5 arg6 harg6 arg7 harg7 arg8 harg8 arg9 harg9 arg10 harg10 arg11 harg11 hc0 Q K V O L D xo7 xo8)]
  unfold kernelRun1_B
  dsimp only
  sl_unfold_words
  rw [show Scf.trips 0#32 (Scalar.addi 0#32 8#32) 1#32 = 8 by decide]
  simp only [View.readAt_eq_ld, harg3.read_unread, harg6.read_unread, harg7.read_unread, harg8.read_unread]
  rw [View.ld_unit_zero (by decide) inb_S512x128_S512x128_0_0 Q, View.ld_unit_zero (by decide) inb_S512x128_S512x128_0_0 O,
    View.ld_unit_zero (by decide) inb_S512x128_S512x128_0_0 L, View.ld_unit_zero (by decide) inb_S512x128_S512x128_0_0 D]
  rw [View.canon_unit_zero (by decide)]
  have h := loopDone c i arg3 harg3 arg4 harg4 arg5 harg5 arg6 harg6 arg7 harg7 arg8 harg8 arg9 harg9 arg10 harg10 arg11 harg11 Q K V O L D (harg10.unread xo7) (harg11.unread xo8)
  rw [h.1]

/-- The block of `dk` after a point that continues a key head. -/
theorem bwd_B_7 (c : Dev nD) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (hc0 : ¬cond1_0 i)
    (Q : Vec F S512x128 .bf16) (K V : Vec F S8192x128 .bf16) (O : Vec F S512x128 .bf16) (L : Vec F S512x128 .f32) (D : Vec F S512x128 .bf16) (xo7 xo8 : Vec F S8192x128 .f32) :
    out1_B_7 c i arg3 harg3 arg4 harg4 arg5 harg5 arg6 harg6 arg7 harg7 arg8 harg8 arg9 harg9 arg10 harg10 arg11 harg11 hc0 Q K V O L D xo7 xo8 = allRows (dkRows (regsOf Q O L D) K V xo7) := by
  unfold out1_B_7
  unfold kernelRun1_B
  dsimp only
  sl_unfold_words
  rw [show Scf.trips 0#32 (Scalar.addi 0#32 8#32) 1#32 = 8 by decide]
  simp only [View.readAt_eq_ld, harg3.read_unread, harg6.read_unread, harg7.read_unread, harg8.read_unread]
  rw [View.ld_unit_zero (by decide) inb_S512x128_S512x128_0_0 Q, View.ld_unit_zero (by decide) inb_S512x128_S512x128_0_0 O,
    View.ld_unit_zero (by decide) inb_S512x128_S512x128_0_0 L, View.ld_unit_zero (by decide) inb_S512x128_S512x128_0_0 D]
  have h := loopDone c i arg3 harg3 arg4 harg4 arg5 harg5 arg6 harg6 arg7 harg7 arg8 harg8 arg9 harg9 arg10 harg10 arg11 harg11 Q K V O L D (harg10.unread xo7) (harg11.unread xo8)
  rw [h.2.1, rowsDone_all, harg10.read_unread]

/-- The block of `dv` after a point that continues a key head. -/
theorem bwd_B_8 (c : Dev nD) (i : grid1.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S8192x128 .f32) (harg11 : arg11.IsWhole) (hc0 : ¬cond1_0 i)
    (Q : Vec F S512x128 .bf16) (K V : Vec F S8192x128 .bf16) (O : Vec F S512x128 .bf16) (L : Vec F S512x128 .f32) (D : Vec F S512x128 .bf16) (xo7 xo8 : Vec F S8192x128 .f32) :
    out1_B_8 c i arg3 harg3 arg4 harg4 arg5 harg5 arg6 harg6 arg7 harg7 arg8 harg8 arg9 harg9 arg10 harg10 arg11 harg11 hc0 Q K V O L D xo7 xo8 = allRows (dvRows (regsOf Q O L D) K xo8) := by
  unfold out1_B_8
  unfold kernelRun1_B
  dsimp only
  sl_unfold_words
  rw [show Scf.trips 0#32 (Scalar.addi 0#32 8#32) 1#32 = 8 by decide]
  simp only [View.readAt_eq_ld, harg3.read_unread, harg6.read_unread, harg7.read_unread, harg8.read_unread]
  rw [View.ld_unit_zero (by decide) inb_S512x128_S512x128_0_0 Q, View.ld_unit_zero (by decide) inb_S512x128_S512x128_0_0 O,
    View.ld_unit_zero (by decide) inb_S512x128_S512x128_0_0 L, View.ld_unit_zero (by decide) inb_S512x128_S512x128_0_0 D]
  have h := loopDone c i arg3 harg3 arg4 harg4 arg5 harg5 arg6 harg6 arg7 harg7 arg8 harg8 arg9 harg9 arg10 harg10 arg11 harg11 Q K V O L D (harg10.unread xo7) (harg11.unread xo8)
  rw [h.2.2, rowsDone_all, harg11.read_unread]

end Cert.Attn
end
-- ==== Proof.BwdValue.lean ====
/-
  One grid point of the backward call over the real numbers: what it adds to the `dk` and `dv` blocks and what it stores as its
  `dq` block, as sums over keys or over its 512 queries of the softmax weights `exp (s - l)` and of their gradients.
-/
module

public import proofs.«01_k».proof.Proof.FwdValue
public import proofs.«01_k».proof.Proof.BwdBlock

@[expose] public section

set_option maxRecDepth 100000

noncomputable section

namespace Cert.Attn

open Idealize.ShloMosaic hiding ix2 ix1 ix0 ix3 ix4
open Idealize.ShloMosaic.TcCoe Idealize.ShloMosaic.Tactic Idealize.ShloMosaic.ValueIdx
open Cert.KernelIdeal Cert.KernelIdeal.Gen
open scoped BigOperators

/-- A query's softmax weight on a key, from its log-sum. -/
def wgt (q : Fin 128 → ℝ) (lam : ℝ) (kv : Fin 128 → ℝ) : ℝ := Real.exp ((∑ j, q j * kv j) - lam)

/-- The gradient of a query's score on a key. -/
def dsc (q d : Fin 128 → ℝ) (del lam : ℝ) (kv vv : Fin 128 → ℝ) : ℝ := wgt q lam kv * ((∑ j, d j * vv j) - del)

/-- The low head's lanes of a row, the others zero. -/
def halfLo (f : Fin 128 → ℝ) (l : Fin 128) : ℝ := if l.val < 64 then f l else 0

/-- The high head's lanes of a row, the others zero. -/
def halfHi (f : Fin 128 → ℝ) (l : Fin 128) : ℝ := if l.val < 64 then 0 else f l

/-- A point's prologue over the reals. -/
structure BwdReals where
  (q0 q1 d0 d1 : Fin 512 → Fin 128 → ℝ)
  (D0 D1 l0 l1 : Fin 512 → ℝ)

/-- The prologue of real blocks. -/
def realsOf (q o d L : Fin 512 → Fin 128 → ℝ) : BwdReals :=
  ⟨fun r => maskLo (q r), fun r => maskHi (q r), fun r => halfLo (d r), fun r => halfHi (d r),
    fun r => ∑ l, halfLo (fun l => d r l * o r l) l, fun r => ∑ l, halfHi (fun l => d r l * o r l) l,
    fun r => L r 0, fun r => L r 64⟩

/-- The prologue's values are those reals. -/
structure IsReals (b : BwdRegs Ideal) (x : BwdReals) : Prop where
  q0 : ∀ r l, b.q0 (ix2 r l) = (x.q0 r l : EReal)
  q1 : ∀ r l, b.q1 (ix2 r l) = (x.q1 r l : EReal)
  d0 : ∀ r l, b.d0 (ix2 r l) = (x.d0 r l : EReal)
  d1 : ∀ r l, b.d1 (ix2 r l) = (x.d1 r l : EReal)
  D0 : ∀ r, b.D0 (ix2 r 0) = (x.D0 r : EReal)
  D1 : ∀ r, b.D1 (ix2 r 0) = (x.D1 r : EReal)
  l0 : ∀ r, b.l0 (ix2 r 0) = (x.l0 r : EReal)
  l1 : ∀ r, b.l1 (ix2 r 0) = (x.l1 r : EReal)

/-- The lane mask of the backward call. -/
theorem mask1_apply (l : Fin 128) : k1_pay33 (ix2 (0 : Fin 1) l) = if l.val < 64 then 1#1 else 0#1 := by
  revert l; decide

/-- A sum over the lanes of a row. -/
theorem row_sum (x : FVec Ideal S512x128 .f32) (f : Fin 512 → Fin 128 → ℝ) (hx : ∀ r l, x (ix2 r l) = (f r l : EReal)) (r : Fin 512) :
    shapeCast S512x1 (multiReduction .add [1] S512 x 0x00000000#32 reduces_S512x128_S512 (.inl rfl) rfl) shapeCasts_S512_S512x1
      (ix2 r (0 : Fin 1)) = ((∑ l, f r l : ℝ) : EReal) := by
  rw [shapeCast_a_a1_apply]
  rw [show multiReduction .add [1] S512 x 0x00000000#32 reduces_S512x128_S512 (.inl rfl) rfl (ix1 r) = _ from
    Ideal.multiReduction_add_single x _ reduces_S512x128_S512 (.inl rfl) rfl (ix1 r)]
  refine sum_coe fun k => Eq.trans (congrArg x ?_) (hx r k)
  funext a
  match a with
  | ⟨0, _⟩ => rfl
  | ⟨1, _⟩ => rfl

/-- The prologue of real blocks is real. -/
theorem regs_real (Q O : Vec Ideal S512x128 .bf16) (L : Vec Ideal S512x128 .f32) (D : Vec Ideal S512x128 .bf16)
    (q o d lam : Fin 512 → Fin 128 → ℝ) (hQ : ∀ r l, Q (ix2 r l) = (q r l : EReal)) (hO : ∀ r l, O (ix2 r l) = (o r l : EReal))
    (hL : ∀ r l, L (ix2 r l) = (lam r l : EReal)) (hD : ∀ r l, D (ix2 r l) = (d r l : EReal)) :
    IsReals (regsOf Q O L D) (realsOf q o d lam) := by
  have hprod : ∀ r l, k1_pay37 D O (ix2 r l) = ((d r l * o r l : ℝ) : EReal) := fun r l => by
    unfold k1_pay37 k1_pay35
    dsimp only
    rw [mulf_apply, extf_apply, extf_apply, shapeCast_self, shapeCast_self, hD, hO, EReal.coe_mul]
  constructor
  · intro r l
    show k1_pay39 Q (ix2 r l) = (maskLo (q r) l : EReal)
    unfold k1_pay39 k1_pay34 k1_pay36 maskLo
    dsimp only
    rw [mulf_apply, select_mask _ _ _ _ _ mask1_apply, shapeCast_self, hQ, EReal.coe_mul]
    refine congrArg₂ (· * ·) ?_ eighth_bf16
    split
    · rfl
    · exact zero_bf16
  · intro r l
    show k1_pay40 Q (ix2 r l) = (maskHi (q r) l : EReal)
    unfold k1_pay40 k1_pay34 k1_pay36 maskHi
    dsimp only
    rw [mulf_apply, select_mask _ _ _ _ _ mask1_apply, shapeCast_self, hQ, EReal.coe_mul]
    refine congrArg₂ (· * ·) ?_ eighth_bf16
    split
    · exact zero_bf16
    · rfl
  · intro r l
    show k1_pay41 D (ix2 r l) = (halfLo (d r) l : EReal)
    unfold k1_pay41 k1_pay35 k1_pay36 halfLo
    dsimp only
    rw [select_mask _ _ _ _ _ mask1_apply, shapeCast_self, hD]
    split
    · rfl
    · exact zero_bf16
  · intro r l
    show k1_pay42 D (ix2 r l) = (halfHi (d r) l : EReal)
    unfold k1_pay42 k1_pay35 k1_pay36 halfHi
    dsimp only
    rw [select_mask _ _ _ _ _ mask1_apply, shapeCast_self, hD]
    split
    · exact zero_bf16
    · rfl
  · intro r
    refine row_sum (k1_pay43 D O) (fun r => halfLo fun l => d r l * o r l) (fun r l => ?_) r
    unfold k1_pay43 halfLo
    dsimp only
    rw [select_mask _ _ _ _ _ mask1_apply, hprod]
    split
    · rfl
    · exact zero_f32
  · intro r
    refine row_sum (select (broadcastTo S512x128 (shapeCast S1x128 k1_pay33 shapeCasts_S1x128_S1x128) broadcasts_S1x128_S512x128)
      (broadcast S512x128 (Scalar.ofBits .f32 0x00000000#32 : Ideal .f32)) (k1_pay37 D O)) (fun r => halfHi fun l => d r l * o r l)
      (fun r l => ?_) r
    unfold halfHi
    rw [select_mask _ _ _ _ _ mask1_apply, hprod]
    split
    · exact zero_f32
    · rfl
  · intro r
    show k1_pay3 (k1_pay38 L) (ix2 r 0) = (lam r 0 : EReal)
    unfold k1_pay3 k1_pay38
    dsimp only
    rw [shapeCast_self]
    refine (extractStridedSlice_apply _ L _ _ (ix2 r (0 : Fin 128)) fun a => ?_).trans (hL r 0)
    match a with
    | ⟨0, _⟩ => exact (Nat.zero_add _).symm
    | ⟨1, _⟩ => rfl
  · intro r
    show k1_pay4 (k1_pay38 L) (ix2 r 0) = (lam r 64 : EReal)
    unfold k1_pay4 k1_pay38
    dsimp only
    rw [shapeCast_self]
    refine (extractStridedSlice_apply _ L _ _ (ix2 r (64 : Fin 128)) fun a => ?_).trans (hL r 64)
    match a with
    | ⟨0, _⟩ => exact (Nat.zero_add _).symm
    | ⟨1, _⟩ => rfl

/-- The second head's payloads compute what the first's do. -/
theorem head_names : k1_pay16 (F := Ideal) = k1_pay13 ∧ k1_pay17 (F := Ideal) = k1_pay14 ∧ k1_pay18 (F := Ideal) = k1_pay15 :=
  ⟨rfl, rfl, rfl⟩

/-- A chunk's softmax weights. -/
theorem wgt_real (q : FVec Ideal S512x128 .bf16) (l : FVec Ideal S512x1 .f32) (K : Vec Ideal S512x128 .bf16)
    (f g : Fin 512 → Fin 128 → ℝ) (lam : Fin 512 → ℝ) (hq : ∀ r l, q (ix2 r l) = (f r l : EReal))
    (hl : ∀ r, l (ix2 r 0) = (lam r : EReal)) (hK : ∀ k l, K (ix2 k l) = (g k l : EReal)) (r k : Fin 512) :
    k1_pay13 q l K (ix2 r k) = (wgt (f r) (lam r) (g k) : EReal) := by
  unfold k1_pay13 k1_pay11 wgt
  dsimp only
  rw [shapeCast_self]
  rw [show ∀ (x : FVec Ideal S512x512 .f32) i, (exp x : FVec Ideal S512x512 .f32) i = Ideal.exp (x i) from fun _ _ => rfl]
  rw [subf_apply, bcast_col, hl, ← Ideal.exp_coe, EReal.coe_sub]
  refine congrArg (fun t : EReal => Ideal.exp (t - (lam r : EReal))) ?_
  refine (Ideal.matmul_transposedRhs_apply none q K _ r k).trans ?_
  rw [constant_apply, zero_f32, EReal.coe_zero, zero_add]
  exact sum_mul_coe (fun l => hq r l) (fun l => hK k l)

/-- A chunk's score gradients. -/
theorem dsc_real (q d : FVec Ideal S512x128 .bf16) (D l : FVec Ideal S512x1 .f32) (K V : Vec Ideal S512x128 .bf16)
    (f e g h : Fin 512 → Fin 128 → ℝ) (del lam : Fin 512 → ℝ) (hq : ∀ r l, q (ix2 r l) = (f r l : EReal))
    (hd : ∀ r l, d (ix2 r l) = (e r l : EReal)) (hD : ∀ r, D (ix2 r 0) = (del r : EReal))
    (hl : ∀ r, l (ix2 r 0) = (lam r : EReal)) (hK : ∀ k l, K (ix2 k l) = (g k l : EReal))
    (hV : ∀ k l, V (ix2 k l) = (h k l : EReal)) (r k : Fin 512) :
    k1_pay14 q d D l K V (ix2 r k) = (dsc (f r) (e r) (del r) (lam r) (g k) (h k) : EReal) := by
  unfold k1_pay14 k1_pay12 dsc
  dsimp only
  rw [shapeCast_self, truncf_apply, mulf_apply, wgt_real q l K f g lam hq hl hK, subf_apply, bcast_col, hD, EReal.coe_mul, EReal.coe_sub]
  refine congrArg (fun t : EReal => (wgt (f r) (lam r) (g k) : EReal) * (t - (del r : EReal))) ?_
  refine (Ideal.matmul_transposedRhs_apply none d V _ r k).trans ?_
  rw [constant_apply, zero_f32, EReal.coe_zero, zero_add]
  exact sum_mul_coe (fun l => hd r l) (fun l => hV k l)

/-- A chunk's addition to a head's `dq` sum. -/
theorem dq_step_real (q d : FVec Ideal S512x128 .bf16) (D l : FVec Ideal S512x1 .f32) (a : FVec Ideal S512x128 .f32)
    (K V : Vec Ideal S512x128 .bf16)
    (f e g h : Fin 512 → Fin 128 → ℝ) (del lam : Fin 512 → ℝ) (α : ℝ) (hq : ∀ r l, q (ix2 r l) = (f r l : EReal))
    (hd : ∀ r l, d (ix2 r l) = (e r l : EReal)) (hD : ∀ r, D (ix2 r 0) = (del r : EReal))
    (hl : ∀ r, l (ix2 r 0) = (lam r : EReal)) (hK : ∀ k l, K (ix2 k l) = (g k l : EReal))
    (hV : ∀ k l, V (ix2 k l) = (h k l : EReal)) (r : Fin 512) (c : Fin 128) (ha : a (ix2 r c) = (α : EReal)) :
    k1_pay15 q d D l a K V (ix2 r c) = ((α + ∑ k, dsc (f r) (e r) (del r) (lam r) (g k) (h k) * g k c : ℝ) : EReal) := by
  unfold k1_pay15 k1_pay11
  dsimp only
  rw [shapeCast_self, addf_apply, ha, EReal.coe_add]
  refine congrArg ((α : EReal) + ·) ?_
  refine (Ideal.matmul_plain_apply none _ K _ r c).trans ?_
  rw [constant_apply, zero_f32, EReal.coe_zero, zero_add]
  exact sum_mul_coe (fun k => dsc_real q d D l K V f e g h del lam hq hd hD hl hK hV r k) (fun k => hK k c)

/-- The rows of a block of keys. -/
theorem rows_real (X : Vec Ideal S8192x128 .bf16) (x : Fin 8192 → Fin 128 → ℝ) (hX : ∀ k l, X (ix2 k l) = (x k l : EReal)) (o : ℕ)
    (k : Fin 512) (l : Fin 128) : blockAt 512 128 X o 0 (ix2 k l) = (x (Fin.ofNat 8192 (o + k.val)) l : EReal) := by
  refine (block_real X x hX o 0 k l).trans ?_
  rw [show Fin.ofNat 128 (0 + l.val) = l from Fin.ext (by
    show (0 + l.val) % 128 = l.val
    rw [Nat.zero_add]; exact Nat.mod_eq_of_lt l.isLt)]

/-- A sum over all keys, as a sum over the numbers below 8192. -/
theorem sum_keys (f : Fin 8192 → ℝ) : ∑ k ∈ Finset.range (512 * 16), f (Fin.ofNat 8192 k) = ∑ k, f k := by
  rw [show 512 * 16 = 8192 from rfl, Finset.sum_range]
  exact Finset.sum_congr rfl fun k _ => congrArg f (Fin.ext (Nat.mod_eq_of_lt k.isLt))

/-- The two heads' `dq` sums after `n` chunks. -/
theorem dqRun_real (b : BwdRegs Ideal) (x : BwdReals) (hb : IsReals b x) (K V : Vec Ideal S8192x128 .bf16)
    (g h : Fin 8192 → Fin 128 → ℝ) (hK : ∀ k l, K (ix2 k l) = (g k l : EReal)) (hV : ∀ k l, V (ix2 k l) = (h k l : EReal))
    (r : Fin 512) (c : Fin 128) (n : ℕ) :
    (dqRun b K V n).1 (ix2 r c) = ((∑ k ∈ Finset.range (512 * n), dsc (x.q0 r) (x.d0 r) (x.D0 r) (x.l0 r) (g (Fin.ofNat 8192 k))
        (h (Fin.ofNat 8192 k)) * g (Fin.ofNat 8192 k) c : ℝ) : EReal)
    ∧ (dqRun b K V n).2 (ix2 r c) = ((∑ k ∈ Finset.range (512 * n), dsc (x.q1 r) (x.d1 r) (x.D1 r) (x.l1 r) (g (Fin.ofNat 8192 k))
        (h (Fin.ofNat 8192 k)) * g (Fin.ofNat 8192 k) c : ℝ) : EReal) := by
  induction n with
  | zero =>
    rw [Nat.mul_zero, Finset.range_zero, Finset.sum_empty, Finset.sum_empty]
    exact ⟨zero_f32, zero_f32⟩
  | succ n ih =>
    have e0 := dq_step_real b.q0 b.d0 b.D0 b.l0 (dqRun b K V n).1 _ _ _ _ _ _ _ _ _ hb.q0 hb.d0 hb.D0 hb.l0
      (rows_real K g hK (512 * n)) (rows_real V h hV (512 * n)) r c ih.1
    have e1 := dq_step_real b.q1 b.d1 b.D1 b.l1 (dqRun b K V n).2 _ _ _ _ _ _ _ _ _ hb.q1 hb.d1 hb.D1 hb.l1
      (rows_real K g hK (512 * n)) (rows_real V h hV (512 * n)) r c ih.2
    rw [Nat.mul_succ, Finset.sum_range_add, Finset.sum_range_add]
    constructor
    · refine Eq.trans e0 (congrArg (fun t : ℝ => ((_ + t : ℝ) : EReal)) ?_)
      exact (Finset.sum_range fun k => dsc (x.q0 r) (x.d0 r) (x.D0 r) (x.l0 r) (g (Fin.ofNat 8192 (512 * n + k)))
        (h (Fin.ofNat 8192 (512 * n + k))) * g (Fin.ofNat 8192 (512 * n + k)) c).symm
    · refine Eq.trans e1 (congrArg (fun t : ℝ => ((_ + t : ℝ) : EReal)) ?_)
      exact (Finset.sum_range fun k => dsc (x.q1 r) (x.d1 r) (x.D1 r) (x.l1 r) (g (Fin.ofNat 8192 (512 * n + k)))
        (h (Fin.ofNat 8192 (512 * n + k))) * g (Fin.ofNat 8192 (512 * n + k)) c).symm

/-- The `dq` block a point stores. -/
theorem dq_real (b : BwdRegs Ideal) (x : BwdReals) (hb : IsReals b x) (K V : Vec Ideal S8192x128 .bf16)
    (g h : Fin 8192 → Fin 128 → ℝ) (hK : ∀ k l, K (ix2 k l) = (g k l : EReal)) (hV : ∀ k l, V (ix2 k l) = (h k l : EReal))
    (r : Fin 512) (c : Fin 128) :
    k1_pay10 k1_pay33 (dqRun b K V 16).1 (dqRun b K V 16).2 (ix2 r c)
      = (((if c.val < 64 then ∑ k, dsc (x.q0 r) (x.d0 r) (x.D0 r) (x.l0 r) (g k) (h k) * g k c
          else ∑ k, dsc (x.q1 r) (x.d1 r) (x.D1 r) (x.l1 r) (g k) (h k) * g k c) * (1 / 8) : ℝ) : EReal) := by
  obtain ⟨e0, e1⟩ := dqRun_real b x hb K V g h hK hV r c 16
  rw [sum_keys fun k => dsc (x.q0 r) (x.d0 r) (x.D0 r) (x.l0 r) (g k) (h k) * g k c] at e0
  rw [sum_keys fun k => dsc (x.q1 r) (x.d1 r) (x.D1 r) (x.l1 r) (g k) (h k) * g k c] at e1
  unfold k1_pay10
  rw [truncf_apply, mulf_apply, select_mask _ _ _ _ _ mask1_apply, e0, e1, EReal.coe_mul]
  refine congrArg₂ (· * ·) ?_ eighth_f32
  split <;> rfl

/-- Two blocks of 512 rows one above the other. -/
theorem stack_real {n : ℕ} (x0 x1 : (⟨2, ![512, n]⟩ : Shape).Idx → EReal) (f0 f1 : Fin 512 → Fin n → ℝ)
    (h : Shape.Concatenates [⟨2, ![512, n]⟩, ⟨2, ![512, n]⟩] ⟨2, ![1024, n]⟩ (0 : Fin 2))
    (h0 : ∀ r c, x0 (ix2 r c) = (f0 r c : EReal)) (h1 : ∀ r c, x1 (ix2 r c) = (f1 r c : EReal)) (r : Fin 512) (c : Fin n) :
    concatenate ⟨2, ![1024, n]⟩ (0 : Fin 2) [⟨⟨2, ![512, n]⟩, x0⟩, ⟨⟨2, ![512, n]⟩, x1⟩] h (ix2 (Fin.castAdd 512 r : Fin 1024) c) = (f0 r c : EReal)
    ∧ concatenate ⟨2, ![1024, n]⟩ (0 : Fin 2) [⟨⟨2, ![512, n]⟩, x0⟩, ⟨⟨2, ![512, n]⟩, x1⟩] h (ix2 (Fin.natAdd 512 r : Fin 1024) c) = (f1 r c : EReal) := by
  constructor
  · refine (concatenate_pair_apply_left (t := ⟨2, ![1024, n]⟩) (0 : Fin 2) x0 x1 h _ rfl (ix2 r c) fun b => ?_).trans (h0 r c)
    match b with
    | ⟨0, _⟩ => rfl
    | ⟨1, _⟩ => rfl
  · refine (concatenate_pair_apply_right (t := ⟨2, ![1024, n]⟩) (0 : Fin 2) x0 x1 h _ rfl rfl (ix2 r c) (fun b hb => ?_) ?_).trans (h1 r c)
    · match b with
      | ⟨0, _⟩ => exact absurd rfl hb
      | ⟨1, _⟩ => rfl
    · exact Nat.add_comm _ _

/-- The product that sums over the rows of both stacks. -/
theorem stack_dot (p : FVec Ideal S1024x512 .bf16) (s : FVec Ideal S1024x128 .bf16) (f0 f1 : Fin 512 → Fin 512 → ℝ)
    (g0 g1 : Fin 512 → Fin 128 → ℝ)
    (hp : ∀ r c, p (ix2 (Fin.castAdd 512 r : Fin 1024) c) = (f0 r c : EReal) ∧ p (ix2 (Fin.natAdd 512 r : Fin 1024) c) = (f1 r c : EReal))
    (hs : ∀ r c, s (ix2 (Fin.castAdd 512 r : Fin 1024) c) = (g0 r c : EReal) ∧ s (ix2 (Fin.natAdd 512 r : Fin 1024) c) = (g1 r c : EReal))
    (k : Fin 512) (l : Fin 128) :
    matmul dot_S1024x512_S1024x128_S512x128_0_0_1_1_n_n none p s (constant S512x128 .f32 0x00000000#32) (ix2 k l)
      = (((∑ r, f0 r k * g0 r l) + ∑ r, f1 r k * g1 r l : ℝ) : EReal) := by
  refine (Ideal.matmul_constant_zero_apply dot_S1024x512_S1024x128_S512x128_0_0_1_1_n_n none p s (ix2 k l)).trans ?_
  have key : ∀ a : Fin 1024, p (dot_S1024x512_S1024x128_S512x128_0_0_1_1_n_n.lhsIdx (ix2 k l)
        ((contrEquiv1 dot_S1024x512_S1024x128_S512x128_0_0_1_1_n_n 1024 rfl rfl).symm a))
      * s (dot_S1024x512_S1024x128_S512x128_0_0_1_1_n_n.rhsIdx (ix2 k l)
        ((contrEquiv1 dot_S1024x512_S1024x128_S512x128_0_0_1_1_n_n 1024 rfl rfl).symm a))
      = p (ix2 a k) * s (ix2 a l) := fun a => by
    have hk := contrEquiv1_symm_val dot_S1024x512_S1024x128_S512x128_0_0_1_1_n_n 1024 rfl rfl a
    refine congrArg₂ (· * ·) (congrArg p ?_) (congrArg s ?_)
    · funext b; apply Fin.ext
      match b with
      | ⟨0, _⟩ => exact hk
      | ⟨1, _⟩ => rfl
    · funext b; apply Fin.ext
      match b with
      | ⟨0, _⟩ => exact hk
      | ⟨1, _⟩ => rfl
  rw [← Equiv.sum_comp (contrEquiv1 dot_S1024x512_S1024x128_S512x128_0_0_1_1_n_n 1024 rfl rfl).symm, Finset.sum_congr rfl fun a _ => key a,
    EReal.coe_add]
  refine (Fin.sum_univ_add (a := 512) (b := 512) fun a : Fin (512 + 512) => p (ix2 (a : Fin 1024) k) * s (ix2 (a : Fin 1024) l)).trans (congrArg₂ (· + ·) ?_ ?_)
  · exact sum_mul_coe (fun r => (hp r k).1) (fun r => (hs r l).1)
  · exact sum_mul_coe (fun r => (hp r k).2) (fun r => (hs r l).2)

/-- The rows of a block of real numbers read one by one: row `Y` is row `Y mod 512` of block `Y div 512`. -/
theorem row_split (Y : Fin 8192) : Fin.ofNat 8192 (512 * (Y.val / 512) + (Fin.ofNat 512 Y.val).val) = Y :=
  Fin.ext (by
    have := Y.isLt
    show (512 * (Y.val / 512) + Y.val % 512) % 8192 = Y.val
    rw [Nat.div_add_mod]; exact Nat.mod_eq_of_lt this)

/-- A row of the `dv` block after a point. -/
theorem dv_real (b : BwdRegs Ideal) (x : BwdReals) (hb : IsReals b x) (K : Vec Ideal S8192x128 .bf16) (C : Vec Ideal S8192x128 .f32)
    (g : Fin 8192 → Fin 128 → ℝ) (γ : ℝ) (hK : ∀ k l, K (ix2 k l) = (g k l : EReal)) (Y : Fin 8192) (l : Fin 128)
    (hC : C (ix2 Y l) = (γ : EReal)) :
    allRows (dvRows b K C) (ix2 Y l) = ((γ + ((∑ r, wgt (x.q0 r) (x.l0 r) (g Y) * x.d0 r l)
      + ∑ r, wgt (x.q1 r) (x.l1 r) (g Y) * x.d1 r l) : ℝ) : EReal) := by
  show dvNew b (blockAt 512 128 K (512 * (Y.val / 512)) 0) (blockAt 512 128 C (512 * (Y.val / 512)) 0) (ix2 (Fin.ofNat 512 Y.val) l) = _
  have hold : blockAt 512 128 C (512 * (Y.val / 512)) 0 (ix2 (Fin.ofNat 512 Y.val) l) = (γ : EReal) := by
    refine Eq.trans ?_ hC
    show C (ix2 (Fin.ofNat 8192 (512 * (Y.val / 512) + (Fin.ofNat 512 Y.val).val)) (Fin.ofNat 128 (0 + l.val))) = C (ix2 Y l)
    rw [row_split, Nat.zero_add, show Fin.ofNat 128 l.val = l from Fin.ext (Nat.mod_eq_of_lt l.isLt)]
  unfold dvNew k1_pay19 k1_pay6
  dsimp only
  rw [shapeCast_self, addf_apply, hold, EReal.coe_add, head_names.1]
  refine congrArg ((γ : EReal) + ·) ?_
  have hp := stack_real (truncf .bf16 (k1_pay13 b.q0 b.l0 (blockAt 512 128 K (512 * (Y.val / 512)) 0)) bitsLt_bf16_f32)
    (truncf .bf16 (k1_pay13 b.q1 b.l1 (blockAt 512 128 K (512 * (Y.val / 512)) 0)) bitsLt_bf16_f32)
    (fun r k => wgt (x.q0 r) (x.l0 r) (g (Fin.ofNat 8192 (512 * (Y.val / 512) + k.val))))
    (fun r k => wgt (x.q1 r) (x.l1 r) (g (Fin.ofNat 8192 (512 * (Y.val / 512) + k.val)))) concatenates_S512x512_S512x512_S1024x512_d0
    (fun r c => (truncf_apply _ bitsLt_bf16_f32 _).trans (wgt_real b.q0 b.l0 _ _ _ _ hb.q0 hb.l0 (rows_real K g hK _) r c))
    (fun r c => (truncf_apply _ bitsLt_bf16_f32 _).trans (wgt_real b.q1 b.l1 _ _ _ _ hb.q1 hb.l1 (rows_real K g hK _) r c))
  have hs := stack_real b.d0 b.d1 x.d0 x.d1 concatenates_S512x128_S512x128_S1024x128_d0 hb.d0 hb.d1
  refine (stack_dot _ _ (fun r k => wgt (x.q0 r) (x.l0 r) (g (Fin.ofNat 8192 (512 * (Y.val / 512) + k.val))))
    (fun r k => wgt (x.q1 r) (x.l1 r) (g (Fin.ofNat 8192 (512 * (Y.val / 512) + k.val)))) x.d0 x.d1
    hp hs (Fin.ofNat 512 Y.val) l).trans ?_
  rw [row_split]

/-- A row of the `dk` block after a point. -/
theorem dk_real (b : BwdRegs Ideal) (x : BwdReals) (hb : IsReals b x) (K V : Vec Ideal S8192x128 .bf16) (C : Vec Ideal S8192x128 .f32)
    (g h : Fin 8192 → Fin 128 → ℝ) (γ : ℝ) (hK : ∀ k l, K (ix2 k l) = (g k l : EReal)) (hV : ∀ k l, V (ix2 k l) = (h k l : EReal))
    (Y : Fin 8192) (l : Fin 128) (hC : C (ix2 Y l) = (γ : EReal)) :
    allRows (dkRows b K V C) (ix2 Y l) = ((γ + ((∑ r, dsc (x.q0 r) (x.d0 r) (x.D0 r) (x.l0 r) (g Y) (h Y) * x.q0 r l)
      + ∑ r, dsc (x.q1 r) (x.d1 r) (x.D1 r) (x.l1 r) (g Y) (h Y) * x.q1 r l) : ℝ) : EReal) := by
  show dkNew b (blockAt 512 128 K (512 * (Y.val / 512)) 0) (blockAt 512 128 V (512 * (Y.val / 512)) 0)
    (blockAt 512 128 C (512 * (Y.val / 512)) 0) (ix2 (Fin.ofNat 512 Y.val) l) = _
  have hold : blockAt 512 128 C (512 * (Y.val / 512)) 0 (ix2 (Fin.ofNat 512 Y.val) l) = (γ : EReal) := by
    refine Eq.trans ?_ hC
    show C (ix2 (Fin.ofNat 8192 (512 * (Y.val / 512) + (Fin.ofNat 512 Y.val).val)) (Fin.ofNat 128 (0 + l.val))) = C (ix2 Y l)
    rw [row_split, Nat.zero_add, show Fin.ofNat 128 l.val = l from Fin.ext (Nat.mod_eq_of_lt l.isLt)]
  unfold dkNew k1_pay20 k1_pay5
  dsimp only
  rw [shapeCast_self, addf_apply, hold, EReal.coe_add, head_names.2.1]
  refine congrArg ((γ : EReal) + ·) ?_
  have hp := stack_real (k1_pay14 b.q0 b.d0 b.D0 b.l0 (blockAt 512 128 K (512 * (Y.val / 512)) 0) (blockAt 512 128 V (512 * (Y.val / 512)) 0))
    (k1_pay14 b.q1 b.d1 b.D1 b.l1 (blockAt 512 128 K (512 * (Y.val / 512)) 0) (blockAt 512 128 V (512 * (Y.val / 512)) 0))
    (fun r k => dsc (x.q0 r) (x.d0 r) (x.D0 r) (x.l0 r) (g (Fin.ofNat 8192 (512 * (Y.val / 512) + k.val)))
      (h (Fin.ofNat 8192 (512 * (Y.val / 512) + k.val))))
    (fun r k => dsc (x.q1 r) (x.d1 r) (x.D1 r) (x.l1 r) (g (Fin.ofNat 8192 (512 * (Y.val / 512) + k.val)))
      (h (Fin.ofNat 8192 (512 * (Y.val / 512) + k.val)))) concatenates_S512x512_S512x512_S1024x512_d0
    (fun r c => dsc_real b.q0 b.d0 b.D0 b.l0 _ _ _ _ _ _ _ _ hb.q0 hb.d0 hb.D0 hb.l0 (rows_real K g hK _) (rows_real V h hV _) r c)
    (fun r c => dsc_real b.q1 b.d1 b.D1 b.l1 _ _ _ _ _ _ _ _ hb.q1 hb.d1 hb.D1 hb.l1 (rows_real K g hK _) (rows_real V h hV _) r c)
  have hs := stack_real b.q0 b.q1 x.q0 x.q1 concatenates_S512x128_S512x128_S1024x128_d0 hb.q0 hb.q1
  refine (stack_dot _ _ (fun r k => dsc (x.q0 r) (x.d0 r) (x.D0 r) (x.l0 r) (g (Fin.ofNat 8192 (512 * (Y.val / 512) + k.val)))
      (h (Fin.ofNat 8192 (512 * (Y.val / 512) + k.val))))
    (fun r k => dsc (x.q1 r) (x.d1 r) (x.D1 r) (x.l1 r) (g (Fin.ofNat 8192 (512 * (Y.val / 512) + k.val)))
      (h (Fin.ofNat 8192 (512 * (Y.val / 512) + k.val)))) x.q0 x.q1
    hp hs (Fin.ofNat 512 Y.val) l).trans ?_
  rw [row_split]

end Cert.Attn

end
-- ==== Proof.Model.lean ====
/-
  The attention and its gradients over the real numbers, by heads: `x` is the array of queries, keys and values by row and
  column (queries in columns 0–511, keys in 512–639, values in 640–767; eight query heads of 64 lanes, four to a key head), `y`
  the gradient of the output. Then the sums a lane block of two heads gives, read as these.
-/
module

public import proofs.«01_k».proof.Proof.BwdValue
public import Mathlib.Analysis.SpecialFunctions.Log.Basic

@[expose] public section

noncomputable section

namespace Cert.Attn

open scoped BigOperators

section
variable (x y : ℕ → ℕ → ℝ)

/-- The score of query `q` of head `h` on key `k`. -/
def sc (h q k : ℕ) : ℝ := (∑ j : Fin 64, x q (64 * h + j.val) * x k (512 + 64 * (h / 4) + j.val)) * (1 / 8)
/-- The softmax's denominator. -/
def den (h q : ℕ) : ℝ := ∑ k : Fin 8192, Real.exp (sc x h q k.val)
/-- The softmax weight. -/
def prob (h q k : ℕ) : ℝ := Real.exp (sc x h q k) / den x h q
/-- The attention's output. -/
def att (h q j : ℕ) : ℝ := ∑ k : Fin 8192, prob x h q k.val * x k.val (640 + 64 * (h / 4) + j)
/-- The output's gradient against the output, summed over the head. -/
def delta (h q : ℕ) : ℝ := ∑ j : Fin 64, y q (64 * h + j.val) * att x h q j.val
/-- The gradient of the softmax weight. -/
def dprob (h q k : ℕ) : ℝ := ∑ j : Fin 64, y q (64 * h + j.val) * x k (640 + 64 * (h / 4) + j.val)
/-- The gradient of the score. -/
def dscore (h q k : ℕ) : ℝ := prob x h q k * (dprob x y h q k - delta x y h q)
/-- The gradient of a query. -/
def gradq (h q j : ℕ) : ℝ := (∑ k : Fin 8192, dscore x y h q k.val * x k.val (512 + 64 * (h / 4) + j)) * (1 / 8)
/-- What the queries of head `h` give to the gradient of key `k`. -/
def gradk (h k j : ℕ) : ℝ := ∑ q : Fin 8192, dscore x y h q.val k * (x q.val (64 * h + j) * (1 / 8))
/-- What the queries of head `h` give to the gradient of value `k`. -/
def gradv (h k j : ℕ) : ℝ := ∑ q : Fin 8192, prob x h q.val k * y q.val (64 * h + j)

theorem den_pos (h q : ℕ) : 0 < den x h q := Finset.sum_pos (fun k _ => Real.exp_pos _) ⟨0, Finset.mem_univ _⟩

/-- The weight from the log-sum. -/
theorem prob_eq (h q k : ℕ) : Real.exp (sc x h q k - Real.log (den x h q)) = prob x h q k := by
  rw [Real.exp_sub, Real.exp_log (den_pos x h q)]; rfl

end

/-! ## The lanes of a block of two heads -/

/-- A lane of the low head. -/
def lo (j : Fin 64) : Fin 128 := ⟨j.val, by omega⟩
/-- A lane of the high head. -/
def hi (j : Fin 64) : Fin 128 := ⟨64 + j.val, by omega⟩

theorem sum_lanes (f : Fin 128 → ℝ) : ∑ l, f l = (∑ j, f (lo j)) + ∑ j, f (hi j) :=
  Fin.sum_univ_add (a := 64) (b := 64) f

theorem halfLo_lo (a : Fin 128 → ℝ) (j : Fin 64) : halfLo a (lo j) = a (lo j) := if_pos j.isLt
theorem halfLo_hi (a : Fin 128 → ℝ) (j : Fin 64) : halfLo a (hi j) = 0 := if_neg (by show ¬ 64 + j.val < 64; omega)
theorem halfHi_lo (a : Fin 128 → ℝ) (j : Fin 64) : halfHi a (lo j) = 0 := if_pos j.isLt
theorem halfHi_hi (a : Fin 128 → ℝ) (j : Fin 64) : halfHi a (hi j) = a (hi j) := if_neg (by show ¬ 64 + j.val < 64; omega)
theorem maskLo_eq (a : Fin 128 → ℝ) (l : Fin 128) : maskLo a l = halfLo a l * (1 / 8) := rfl
theorem maskHi_eq (a : Fin 128 → ℝ) (l : Fin 128) : maskHi a l = halfHi a l * (1 / 8) := rfl

theorem sum_halfLo (a b : Fin 128 → ℝ) : ∑ l, halfLo a l * b l = ∑ j, a (lo j) * b (lo j) := by
  rw [sum_lanes]; simp only [halfLo_lo, halfLo_hi, zero_mul, Finset.sum_const_zero, add_zero]
theorem sum_halfHi (a b : Fin 128 → ℝ) : ∑ l, halfHi a l * b l = ∑ j, a (hi j) * b (hi j) := by
  rw [sum_lanes]; simp only [halfHi_lo, halfHi_hi, zero_mul, Finset.sum_const_zero, zero_add]
theorem sum_halfLo_one (a : Fin 128 → ℝ) : ∑ l, halfLo a l = ∑ j, a (lo j) := by
  rw [sum_lanes]; simp only [halfLo_lo, halfLo_hi, Finset.sum_const_zero, add_zero]
theorem sum_halfHi_one (a : Fin 128 → ℝ) : ∑ l, halfHi a l = ∑ j, a (hi j) := by
  rw [sum_lanes]; simp only [halfHi_lo, halfHi_hi, Finset.sum_const_zero, zero_add]
theorem sum_maskLo (a b : Fin 128 → ℝ) : ∑ l, maskLo a l * b l = (∑ j, a (lo j) * b (lo j)) * (1 / 8) := by
  rw [← sum_halfLo, Finset.sum_mul]; exact Finset.sum_congr rfl fun l _ => by rw [maskLo_eq]; ring
theorem sum_maskHi (a b : Fin 128 → ℝ) : ∑ l, maskHi a l * b l = (∑ j, a (hi j) * b (hi j)) * (1 / 8) := by
  rw [← sum_halfHi, Finset.sum_mul]; exact Finset.sum_congr rfl fun l _ => by rw [maskHi_eq]; ring

section
variable (x y : ℕ → ℕ → ℝ)

/-- Lane `l` of the queries of pair `p`: heads `2 p` and `2 p + 1`. -/
def qlane (p q : ℕ) (l : Fin 128) : ℝ := x q (128 * p + l.val)
/-- The keys of pair `p`, held twice over the lanes. -/
def klane (p k : ℕ) (l : Fin 128) : ℝ := x k (512 + 64 * (p / 2) + l.val % 64)
/-- The values of pair `p`, held twice over the lanes. -/
def vlane (p k : ℕ) (l : Fin 128) : ℝ := x k (640 + 64 * (p / 2) + l.val % 64)
/-- The values of pair `p` with ones beside them. -/
def wlane (p k : ℕ) (l : Fin 256) : ℝ := if 64 ≤ l.val ∧ l.val < 192 then 1 else x k (640 + 64 * (p / 2) + l.val % 64)
/-- The head a lane of pair `p` belongs to. -/
def headOf (p : ℕ) (l : Fin 128) : ℕ := 2 * p + l.val / 64

theorem score_lo (p q k : ℕ) : ∑ l, maskLo (qlane x p q) l * klane x p k l = sc x (2 * p) q k := by
  rw [sum_maskLo]
  refine congrArg (· * (1 / 8)) (Finset.sum_congr rfl fun j _ => ?_)
  have hj := j.isLt
  show x q (128 * p + j.val) * x k (512 + 64 * (p / 2) + j.val % 64) = x q (64 * (2 * p) + j.val) * x k (512 + 64 * (2 * p / 4) + j.val)
  rw [show 128 * p + j.val = 64 * (2 * p) + j.val by omega, show 512 + 64 * (p / 2) + j.val % 64 = 512 + 64 * (2 * p / 4) + j.val by omega]

theorem score_hi (p q k : ℕ) : ∑ l, maskHi (qlane x p q) l * klane x p k l = sc x (2 * p + 1) q k := by
  rw [sum_maskHi]
  refine congrArg (· * (1 / 8)) (Finset.sum_congr rfl fun j _ => ?_)
  have hj := j.isLt
  show x q (128 * p + (64 + j.val)) * x k (512 + 64 * (p / 2) + (64 + j.val) % 64)
    = x q (64 * (2 * p + 1) + j.val) * x k (512 + 64 * ((2 * p + 1) / 4) + j.val)
  rw [show 128 * p + (64 + j.val) = 64 * (2 * p + 1) + j.val by omega,
    show 512 + 64 * (p / 2) + (64 + j.val) % 64 = 512 + 64 * ((2 * p + 1) / 4) + j.val by omega]

theorem dprob_lo (p q k : ℕ) : ∑ l, halfLo (qlane y p q) l * vlane x p k l = dprob x y (2 * p) q k := by
  rw [sum_halfLo]
  refine Finset.sum_congr rfl fun j _ => ?_
  have hj := j.isLt
  show y q (128 * p + j.val) * x k (640 + 64 * (p / 2) + j.val % 64) = y q (64 * (2 * p) + j.val) * x k (640 + 64 * (2 * p / 4) + j.val)
  rw [show 128 * p + j.val = 64 * (2 * p) + j.val by omega, show 640 + 64 * (p / 2) + j.val % 64 = 640 + 64 * (2 * p / 4) + j.val by omega]

theorem dprob_hi (p q k : ℕ) : ∑ l, halfHi (qlane y p q) l * vlane x p k l = dprob x y (2 * p + 1) q k := by
  rw [sum_halfHi]
  refine Finset.sum_congr rfl fun j _ => ?_
  have hj := j.isLt
  show y q (128 * p + (64 + j.val)) * x k (640 + 64 * (p / 2) + (64 + j.val) % 64)
    = y q (64 * (2 * p + 1) + j.val) * x k (640 + 64 * ((2 * p + 1) / 4) + j.val)
  rw [show 128 * p + (64 + j.val) = 64 * (2 * p + 1) + j.val by omega,
    show 640 + 64 * (p / 2) + (64 + j.val) % 64 = 640 + 64 * ((2 * p + 1) / 4) + j.val by omega]

/-- Lane `l` of pair `p`'s output. -/
def olane (p q : ℕ) (l : Fin 128) : ℝ := att x (headOf p l) q (l.val % 64)
/-- Lane `l` of pair `p`'s log-sums. -/
def llane (p q : ℕ) (l : Fin 128) : ℝ := Real.log (den x (headOf p l) q)

theorem delta_lo (p q : ℕ) : ∑ l, halfLo (fun l => qlane y p q l * olane x p q l) l = delta x y (2 * p) q := by
  rw [sum_halfLo_one]
  refine Finset.sum_congr rfl fun j _ => ?_
  have hj := j.isLt
  show y q (128 * p + j.val) * att x (2 * p + j.val / 64) q (j.val % 64) = y q (64 * (2 * p) + j.val) * att x (2 * p) q j.val
  rw [show 128 * p + j.val = 64 * (2 * p) + j.val by omega, show 2 * p + j.val / 64 = 2 * p by omega, show j.val % 64 = j.val by omega]

theorem delta_hi (p q : ℕ) : ∑ l, halfHi (fun l => qlane y p q l * olane x p q l) l = delta x y (2 * p + 1) q := by
  rw [sum_halfHi_one]
  refine Finset.sum_congr rfl fun j _ => ?_
  have hj := j.isLt
  show y q (128 * p + (64 + j.val)) * att x (2 * p + (64 + j.val) / 64) q ((64 + j.val) % 64)
    = y q (64 * (2 * p + 1) + j.val) * att x (2 * p + 1) q j.val
  rw [show 128 * p + (64 + j.val) = 64 * (2 * p + 1) + j.val by omega, show 2 * p + (64 + j.val) / 64 = 2 * p + 1 by omega,
    show (64 + j.val) % 64 = j.val by omega]

/-- A pair's output lane is the softmax average the block computes. -/
theorem olane_eq (p q : ℕ) (l : Fin 128) :
    (if l.val < 64 then (∑ k : Fin 8192, Real.exp (∑ j, maskLo (qlane x p q) j * klane x p k.val j) * wlane x p k.val (Fin.ofNat 256 l.val))
          / ∑ k : Fin 8192, Real.exp (∑ j, maskLo (qlane x p q) j * klane x p k.val j)
        else (∑ k : Fin 8192, Real.exp (∑ j, maskHi (qlane x p q) j * klane x p k.val j) * wlane x p k.val (Fin.ofNat 256 (128 + l.val)))
          / ∑ k : Fin 8192, Real.exp (∑ j, maskHi (qlane x p q) j * klane x p k.val j)) = olane x p q l := by
  have hl := l.isLt
  have avg : ∀ (h : ℕ) (v : ℕ → ℝ), (∑ k : Fin 8192, Real.exp (sc x h q k.val) * v k.val) / (∑ k : Fin 8192, Real.exp (sc x h q k.val))
      = ∑ k : Fin 8192, prob x h q k.val * v k.val := fun h v => by
    rw [Finset.sum_div]
    exact Finset.sum_congr rfl fun k _ => by rw [prob, den]; ring
  unfold olane headOf att
  simp only [score_lo, score_hi]
  split
  · next h =>
    rw [avg (2 * p) fun k => wlane x p k (Fin.ofNat 256 l.val), show 2 * p + l.val / 64 = 2 * p by omega]
    refine Finset.sum_congr rfl fun k _ => congrArg _ ?_
    have e : (Fin.ofNat 256 l.val).val = l.val := Nat.mod_eq_of_lt (by omega)
    unfold wlane
    rw [e, if_neg (by omega), show 640 + 64 * (p / 2) + l.val % 64 = 640 + 64 * (2 * p / 4) + l.val % 64 by omega]
  · next h =>
    rw [avg (2 * p + 1) fun k => wlane x p k (Fin.ofNat 256 (128 + l.val)), show 2 * p + l.val / 64 = 2 * p + 1 by omega]
    refine Finset.sum_congr rfl fun k _ => congrArg _ ?_
    have e : (Fin.ofNat 256 (128 + l.val)).val = 128 + l.val := Nat.mod_eq_of_lt (by omega)
    unfold wlane
    rw [e, if_neg (by omega), show 640 + 64 * (p / 2) + (128 + l.val) % 64 = 640 + 64 * ((2 * p + 1) / 4) + l.val % 64 by omega]

/-- A pair's log-sum lane. -/
theorem llane_eq (p q : ℕ) (l : Fin 128) :
    (if l.val < 64 then Real.log (∑ k : Fin 8192, Real.exp (∑ j, maskLo (qlane x p q) j * klane x p k.val j))
        else Real.log (∑ k : Fin 8192, Real.exp (∑ j, maskHi (qlane x p q) j * klane x p k.val j))) = llane x p q l := by
  have hl := l.isLt
  unfold llane headOf den
  simp only [score_lo, score_hi]
  split
  · next h => rw [show 2 * p + l.val / 64 = 2 * p by omega]
  · next h => rw [show 2 * p + l.val / 64 = 2 * p + 1 by omega]

/-- The reals a backward point's prologue makes for pair `p` and the queries from row `o`. -/
def pointReals (p o : ℕ) : BwdReals :=
  realsOf (fun r => qlane x p (o + r.val)) (fun r => olane x p (o + r.val)) (fun r => qlane y p (o + r.val)) (fun r => llane x p (o + r.val))

theorem wgt_lo (p o : ℕ) (r : Fin 512) (k : ℕ) :
    wgt ((pointReals x y p o).q0 r) ((pointReals x y p o).l0 r) (klane x p k) = prob x (2 * p) (o + r.val) k := by
  show Real.exp ((∑ j, maskLo (qlane x p (o + r.val)) j * klane x p k j) - llane x p (o + r.val) 0) = _
  rw [score_lo]
  exact prob_eq x (2 * p) (o + r.val) k

theorem wgt_hi (p o : ℕ) (r : Fin 512) (k : ℕ) :
    wgt ((pointReals x y p o).q1 r) ((pointReals x y p o).l1 r) (klane x p k) = prob x (2 * p + 1) (o + r.val) k := by
  show Real.exp ((∑ j, maskHi (qlane x p (o + r.val)) j * klane x p k j) - llane x p (o + r.val) 64) = _
  rw [score_hi]
  exact prob_eq x (2 * p + 1) (o + r.val) k

theorem dsc_lo (p o : ℕ) (r : Fin 512) (k : ℕ) :
    dsc ((pointReals x y p o).q0 r) ((pointReals x y p o).d0 r) ((pointReals x y p o).D0 r) ((pointReals x y p o).l0 r)
      (klane x p k) (vlane x p k) = dscore x y (2 * p) (o + r.val) k := by
  show wgt _ _ _ * ((∑ l, halfLo (qlane y p (o + r.val)) l * vlane x p k l)
    - ∑ l, halfLo (fun l => qlane y p (o + r.val) l * olane x p (o + r.val) l) l) = _
  rw [wgt_lo, dprob_lo, delta_lo]; rfl

theorem dsc_hi (p o : ℕ) (r : Fin 512) (k : ℕ) :
    dsc ((pointReals x y p o).q1 r) ((pointReals x y p o).d1 r) ((pointReals x y p o).D1 r) ((pointReals x y p o).l1 r)
      (klane x p k) (vlane x p k) = dscore x y (2 * p + 1) (o + r.val) k := by
  show wgt _ _ _ * ((∑ l, halfHi (qlane y p (o + r.val)) l * vlane x p k l)
    - ∑ l, halfHi (fun l => qlane y p (o + r.val) l * olane x p (o + r.val) l) l) = _
  rw [wgt_hi, dprob_hi, delta_hi]; rfl

/-- What the queries from row `o` of pair `p` give to the gradient of key `k`, at a lane of the block. -/
def partk (p o k : ℕ) (l : Fin 128) : ℝ :=
  ∑ r : Fin 512, dscore x y (headOf p l) (o + r.val) k * (x (o + r.val) (128 * p + l.val) * (1 / 8))
/-- What they give to the gradient of value `k`. -/
def partv (p o k : ℕ) (l : Fin 128) : ℝ := ∑ r : Fin 512, prob x (headOf p l) (o + r.val) k * y (o + r.val) (128 * p + l.val)

theorem partk_eq (p o k : ℕ) (l : Fin 128) :
    (∑ r, dsc ((pointReals x y p o).q0 r) ((pointReals x y p o).d0 r) ((pointReals x y p o).D0 r) ((pointReals x y p o).l0 r)
        (klane x p k) (vlane x p k) * (pointReals x y p o).q0 r l)
      + ∑ r, dsc ((pointReals x y p o).q1 r) ((pointReals x y p o).d1 r) ((pointReals x y p o).D1 r) ((pointReals x y p o).l1 r)
        (klane x p k) (vlane x p k) * (pointReals x y p o).q1 r l = partk x y p o k l := by
  have hl := l.isLt
  simp only [dsc_lo, dsc_hi]
  show (∑ r : Fin 512, _ * maskLo (qlane x p (o + r.val)) l) + (∑ r : Fin 512, _ * maskHi (qlane x p (o + r.val)) l) = _
  unfold partk headOf maskLo maskHi qlane
  by_cases h : l.val < 64
  · simp only [if_pos h, zero_mul, mul_zero, Finset.sum_const_zero, add_zero, show 2 * p + l.val / 64 = 2 * p by omega]
  · simp only [if_neg h, zero_mul, mul_zero, Finset.sum_const_zero, zero_add, show 2 * p + l.val / 64 = 2 * p + 1 by omega]

theorem partv_eq (p o k : ℕ) (l : Fin 128) :
    (∑ r, wgt ((pointReals x y p o).q0 r) ((pointReals x y p o).l0 r) (klane x p k) * (pointReals x y p o).d0 r l)
      + ∑ r, wgt ((pointReals x y p o).q1 r) ((pointReals x y p o).l1 r) (klane x p k) * (pointReals x y p o).d1 r l
      = partv x y p o k l := by
  have hl := l.isLt
  simp only [wgt_lo, wgt_hi]
  show (∑ r : Fin 512, _ * halfLo (qlane y p (o + r.val)) l) + (∑ r : Fin 512, _ * halfHi (qlane y p (o + r.val)) l) = _
  unfold partv headOf halfLo halfHi qlane
  by_cases h : l.val < 64
  · simp only [if_pos h, mul_zero, Finset.sum_const_zero, add_zero, show 2 * p + l.val / 64 = 2 * p by omega]
  · simp only [if_neg h, mul_zero, Finset.sum_const_zero, zero_add, show 2 * p + l.val / 64 = 2 * p + 1 by omega]

theorem gradq_eq (p o : ℕ) (r : Fin 512) (l : Fin 128) :
    (if l.val < 64 then ∑ k : Fin 8192, dsc ((pointReals x y p o).q0 r) ((pointReals x y p o).d0 r) ((pointReals x y p o).D0 r)
          ((pointReals x y p o).l0 r) (klane x p k.val) (vlane x p k.val) * klane x p k.val l
        else ∑ k : Fin 8192, dsc ((pointReals x y p o).q1 r) ((pointReals x y p o).d1 r) ((pointReals x y p o).D1 r)
          ((pointReals x y p o).l1 r) (klane x p k.val) (vlane x p k.val) * klane x p k.val l) * (1 / 8)
      = gradq x y (headOf p l) (o + r.val) (l.val % 64) := by
  have hl := l.isLt
  simp only [dsc_lo, dsc_hi]
  unfold gradq headOf klane
  refine congrArg (· * (1 / 8)) ?_
  by_cases h : l.val < 64
  · rw [if_pos h, show 2 * p + l.val / 64 = 2 * p by omega, show p / 2 = 2 * p / 4 by omega]
  · rw [if_neg h, show 2 * p + l.val / 64 = 2 * p + 1 by omega, show p / 2 = (2 * p + 1) / 4 by omega]

end

end Cert.Attn

end
-- ==== Proof.FwdArrays.lean ====
/-
  The arrays the forward call leaves: lane `l` of row `q` of the output is the attention's output of that lane's head, and of the
  log-sums the logarithm of that head's denominator.
-/
module

public import proofs.«01_k».proof.Proof.Model
public import proofs.«01_k».proof.Proof.Gen.KernelIdeal.Frame
public import Idealize.ShloMosaic.Lib.Pipeline.ValueKit

@[expose] public section

set_option maxRecDepth 8192

noncomputable section

namespace Cert.Attn

open Idealize.ShloMosaic hiding ix2 ix1 ix0 ix3 ix4
open Idealize.ShloMosaic.TcCoe Idealize.ShloMosaic.Tactic Idealize.ShloMosaic.ValueIdx
open Cert.KernelIdeal Cert.KernelIdeal.Gen
open scoped BigOperators

/-! ## Where the blocks lie: point `t` is pair `t / 32`, query block `t % 32` -/

theorem fwd_ix0 : ∀ t : Fin cfg0.N, win0_0.index t = ![t.val % 32, t.val / 32] := (by decide +kernel : ∀ t : Fin grid0.N, _)
theorem fwd_ix1 : ∀ t : Fin cfg0.N, win0_1.index t = ![0, t.val / 64] := (by decide +kernel : ∀ t : Fin grid0.N, _)
theorem fwd_ix2 : ∀ t : Fin cfg0.N, win0_2.index t = ![0, t.val / 64] := (by decide +kernel : ∀ t : Fin grid0.N, _)
theorem fwd_ix3 : ∀ t : Fin cfg0.N, win0_3.index t = ![t.val % 32, t.val / 32] := (by decide +kernel : ∀ t : Fin grid0.N, _)
theorem fwd_ix4 : ∀ t : Fin cfg0.N, win0_4.index t = ![t.val % 32, t.val / 32] := (by decide +kernel : ∀ t : Fin grid0.N, _)

/-- Keys held twice over the lanes of each key head. -/
def twice (x : ℕ → ℕ → ℝ) (o k l : ℕ) : ℝ := x k (o + 64 * (l / 128) + l % 64)
/-- Values with ones beside them, 256 lanes to a key head. -/
def withOnes (x : ℕ → ℕ → ℝ) (k l : ℕ) : ℝ := if 64 ≤ l % 256 ∧ l % 256 < 192 then 1 else x k (640 + 64 * (l / 256) + l % 64)

variable (V : (c : Dev nD) → (b : Ref sig .tc) → Buf (Elt Ideal) ((c : Thread nD τ).loc b)) (c : Dev nD) (x : ℕ → ℕ → ℝ)
  (hX : ∀ i : S8192x3072.Idx, V c main_v0 i = ((x (i 0).val (i 1).val : ℝ) : EReal))
  (hK : ∀ i : S8192x256.Idx, V c main_v4 i = ((twice x 512 (i 0).val (i 1).val : ℝ) : EReal))
  (hW : ∀ i : S8192x512.Idx, V c main_v9 i = ((withOnes x (i 0).val (i 1).val : ℝ) : EReal))

include hX in
theorem fwd_q (t : Fin cfg0.N) (r : Fin 256) (l : Fin 128) :
    iblk0 V c 0 t (ix2 r l) = ((qlane x (t.val / 32) (256 * (t.val % 32) + r.val) l : ℝ) : EReal) := by
  blk_simp [iblk0]
  rw [hX]
  blk_simp [fwd_ix0]
  show ((x (t.val % 32 * 256 + r.val) (t.val / 32 * 128 + l.val) : ℝ) : EReal) = _
  unfold qlane
  rw [Nat.mul_comm (t.val % 32), Nat.mul_comm (t.val / 32)]

include hK in
theorem fwd_k (t : Fin cfg0.N) (k : Fin 8192) (l : Fin 128) :
    iblk0 V c 1 t (ix2 k l) = ((klane x (t.val / 32) k.val l : ℝ) : EReal) := by
  have hl := l.isLt
  blk_simp [iblk0]
  rw [hK]
  blk_simp [fwd_ix1]
  show ((x k.val (512 + 64 * ((t.val / 64 * 128 + l.val) / 128) + (t.val / 64 * 128 + l.val) % 64) : ℝ) : EReal) = _
  unfold klane
  rw [show 512 + 64 * ((t.val / 64 * 128 + l.val) / 128) + (t.val / 64 * 128 + l.val) % 64 = 512 + 64 * (t.val / 32 / 2) + l.val % 64 by omega]

include hW in
theorem fwd_w (t : Fin cfg0.N) (k : Fin 8192) (l : Fin 256) :
    iblk0 V c 2 t (ix2 k l) = ((wlane x (t.val / 32) k.val l : ℝ) : EReal) := by
  have hl := l.isLt
  blk_simp [iblk0]
  rw [hW]
  blk_simp [fwd_ix2]
  show ((withOnes x k.val (t.val / 64 * 256 + l.val) : ℝ) : EReal) = _
  unfold withOnes wlane
  rw [show (t.val / 64 * 256 + l.val) % 256 = l.val by omega, show (t.val / 64 * 256 + l.val) / 256 = t.val / 32 / 2 by omega,
    show (t.val / 64 * 256 + l.val) % 64 = l.val % 64 by omega]

include hX hK hW in
/-- What a point leaves in its blocks of the output and of the log-sums. -/
theorem fwd_point (t : Fin cfg0.N) (r : Fin 256) (l : Fin 128) :
    (outsAt0 V c t).1 (ix2 r l) = ((olane x (t.val / 32) (256 * (t.val % 32) + r.val) l : ℝ) : EReal)
      ∧ (outsAt0 V c t).2 (ix2 r l) = ((llane x (t.val / 32) (256 * (t.val % 32) + r.val) l : ℝ) : EReal) := by
  unfold outsAt0
  have h := fwd_real (iblk0 V c 0 t) (iblk0 V c 1 t) (iblk0 V c 2 t) (fun r l => qlane x (t.val / 32) (256 * (t.val % 32) + r.val) l)
    (fun k l => klane x (t.val / 32) k.val l) (fun k l => wlane x (t.val / 32) k.val l) (fwd_q V c x hX t) (fwd_k V c x hK t)
    (fwd_w V c x hW t) (fun k l h0 h1 => if_pos ⟨h0, h1⟩) r l
  dsimp only
  rw [fwd_out, fwd_lse]
  exact ⟨h.1.trans (congrArg _ (olane_eq x (t.val / 32) (256 * (t.val % 32) + r.val) l)),
    h.2.trans (congrArg _ (llane_eq x (t.val / 32) (256 * (t.val % 32) + r.val) l))⟩

include hX hK hW in
/-- The output array. -/
theorem fwd_o (i : S8192x512.Idx) :
    (dat0 V c).arrAt 3 cfg0.N i = ((att x ((i 1).val / 64) (i 0).val ((i 1).val % 64) : ℝ) : EReal) := by
  refine (dat0 V c).arrAt_forall_of_covers 3 (fun i v => v = ((att x ((i 1).val / 64) (i 0).val ((i 1).val % 64) : ℝ) : EReal))
    (by decide +kernel) (fun t hf y => ?_) i
  blk_simp [fwd_ix3]
  rw [after0_3]
  obtain ⟨r, l, rfl⟩ : ∃ (r : Fin 256) (l : Fin 128), y = ix2 r l := ⟨y 0, y 1, ValueIdx.eq_ix2 y⟩
  have hl := l.isLt
  refine (fwd_point V c x hX hK hW t r l).1.trans ?_
  show _ = ((att x ((t.val / 32 * 128 + l.val) / 64) (t.val % 32 * 256 + r.val) ((t.val / 32 * 128 + l.val) % 64) : ℝ) : EReal)
  unfold olane headOf
  rw [show (t.val / 32 * 128 + l.val) / 64 = 2 * (t.val / 32) + l.val / 64 by omega,
    show (t.val / 32 * 128 + l.val) % 64 = l.val % 64 by omega, Nat.mul_comm (t.val % 32)]

include hX hK hW in
/-- The array of log-sums. -/
theorem fwd_l (i : S8192x512.Idx) :
    (dat0 V c).arrAt 4 cfg0.N i = ((Real.log (den x ((i 1).val / 64) (i 0).val) : ℝ) : EReal) := by
  refine (dat0 V c).arrAt_forall_of_covers 4 (fun i v => v = ((Real.log (den x ((i 1).val / 64) (i 0).val) : ℝ) : EReal))
    (by decide +kernel) (fun t hf y => ?_) i
  blk_simp [fwd_ix4]
  rw [after0_4]
  obtain ⟨r, l, rfl⟩ : ∃ (r : Fin 256) (l : Fin 128), y = ix2 r l := ⟨y 0, y 1, ValueIdx.eq_ix2 y⟩
  have hl := l.isLt
  refine (fwd_point V c x hX hK hW t r l).2.trans ?_
  show _ = ((Real.log (den x ((t.val / 32 * 128 + l.val) / 64) (t.val % 32 * 256 + r.val)) : ℝ) : EReal)
  unfold llane headOf
  rw [show (t.val / 32 * 128 + l.val) / 64 = 2 * (t.val / 32) + l.val / 64 by omega, Nat.mul_comm (t.val % 32)]

end Cert.Attn

end
-- ==== Proof.BwdArrays.lean ====
/-
  The arrays the backward call leaves: the gradient of the queries lane by lane; the gradients of keys and values, which gather
  over the 32 grid points of a key head, at the sum of what those points give.
-/
module

public import proofs.«01_k».proof.Proof.FwdArrays

@[expose] public section

set_option maxRecDepth 8192

noncomputable section

namespace Cert.Attn

open Idealize.ShloMosaic hiding ix2 ix1 ix0 ix3 ix4
open Idealize.ShloMosaic.TcCoe Idealize.ShloMosaic.Tactic Idealize.ShloMosaic.ValueIdx
open Cert.KernelIdeal Cert.KernelIdeal.Gen
open scoped BigOperators

/-! ## Where the blocks lie: point `t` is key head `t / 32`, pair `t / 16`, query block `t % 16` -/

theorem bwd_ix0 : ∀ t : Fin cfg1.N, win1_0.index t = ![t.val % 16, t.val / 16] := (by decide +kernel : ∀ t : Fin grid1.N, _)
theorem bwd_ix1 : ∀ t : Fin cfg1.N, win1_1.index t = ![0, t.val / 32] := (by decide +kernel : ∀ t : Fin grid1.N, _)
theorem bwd_ix2 : ∀ t : Fin cfg1.N, win1_2.index t = ![0, t.val / 32] := (by decide +kernel : ∀ t : Fin grid1.N, _)
theorem bwd_ix3 : ∀ t : Fin cfg1.N, win1_3.index t = ![t.val % 16, t.val / 16] := (by decide +kernel : ∀ t : Fin grid1.N, _)
theorem bwd_ix4 : ∀ t : Fin cfg1.N, win1_4.index t = ![t.val % 16, t.val / 16] := (by decide +kernel : ∀ t : Fin grid1.N, _)
theorem bwd_ix5 : ∀ t : Fin cfg1.N, win1_5.index t = ![t.val % 16, t.val / 16] := (by decide +kernel : ∀ t : Fin grid1.N, _)
theorem bwd_ix6 : ∀ t : Fin cfg1.N, win1_6.index t = ![t.val % 16, t.val / 16] := (by decide +kernel : ∀ t : Fin grid1.N, _)
theorem bwd_ix7 : ∀ t : Fin cfg1.N, win1_7.index t = ![0, t.val / 32] := (by decide +kernel : ∀ t : Fin grid1.N, _)
theorem bwd_ix8 : ∀ t : Fin cfg1.N, win1_8.index t = ![0, t.val / 32] := (by decide +kernel : ∀ t : Fin grid1.N, _)

/-- What the first `m` points of key head `g` give to the gradient of key `k`, at a lane of the block. -/
def gatherk (x y : ℕ → ℕ → ℝ) (g m k : ℕ) (l : Fin 128) : ℝ :=
  ∑ u ∈ Finset.range m, partk x y ((32 * g + u) / 16) (512 * ((32 * g + u) % 16)) k l
/-- What they give to the gradient of value `k`. -/
def gatherv (x y : ℕ → ℕ → ℝ) (g m k : ℕ) (l : Fin 128) : ℝ :=
  ∑ u ∈ Finset.range m, partv x y ((32 * g + u) / 16) (512 * ((32 * g + u) % 16)) k l

/-- The accumulators start at zero. -/
theorem start_gather (k : Fin 8192) (l : Fin 128) :
    k1_pay31 (F := Ideal) (ix2 k l) = ((0 : ℝ) : EReal) ∧ k1_pay32 (F := Ideal) (ix2 k l) = ((0 : ℝ) : EReal) := ⟨zero_f32, zero_f32⟩

variable (V : (c : Dev nD) → (b : Ref sig .tc) → Buf (Elt Ideal) ((c : Thread nD τ).loc b)) (c : Dev nD) (x y : ℕ → ℕ → ℝ)
  (hX : ∀ i : S8192x3072.Idx, V c main_v0 i = ((x (i 0).val (i 1).val : ℝ) : EReal))
  (hK : ∀ i : S8192x256.Idx, V c main_v4 i = ((twice x 512 (i 0).val (i 1).val : ℝ) : EReal))
  (hV : ∀ i : S8192x256.Idx, V c main_v13 i = ((twice x 640 (i 0).val (i 1).val : ℝ) : EReal))
  (hO : ∀ i : S8192x512.Idx, V c main_v10_0 i = ((att x ((i 1).val / 64) (i 0).val ((i 1).val % 64) : ℝ) : EReal))
  (hL : ∀ i : S8192x512.Idx, V c main_v10_1 i = ((Real.log (den x ((i 1).val / 64) (i 0).val) : ℝ) : EReal))
  (hD : ∀ i : S8192x512.Idx, V c main_v14 i = ((y (i 0).val (i 1).val : ℝ) : EReal))

include hX in
theorem bwd_q (t : Fin cfg1.N) (r : Fin 512) (l : Fin 128) :
    iblk1 V c 0 t (ix2 r l) = ((qlane x (t.val / 16) (512 * (t.val % 16) + r.val) l : ℝ) : EReal) := by
  blk_simp [iblk1]
  rw [hX]
  blk_simp [bwd_ix0]
  show ((x (t.val % 16 * 512 + r.val) (t.val / 16 * 128 + l.val) : ℝ) : EReal) = _
  unfold qlane
  rw [Nat.mul_comm (t.val % 16), Nat.mul_comm (t.val / 16)]

/-- A lane of a block held twice over the lanes, in the array. -/
theorem twice_lane (o t k : ℕ) (l : Fin 128) : twice x o k (t / 32 * 128 + l.val) = x k (o + 64 * (t / 16 / 2) + l.val % 64) := by
  have hl := l.isLt
  unfold twice
  rw [show o + 64 * ((t / 32 * 128 + l.val) / 128) + (t / 32 * 128 + l.val) % 64 = o + 64 * (t / 16 / 2) + l.val % 64 by omega]

include hK in
theorem bwd_k (t : Fin cfg1.N) (k : Fin 8192) (l : Fin 128) :
    iblk1 V c 1 t (ix2 k l) = ((klane x (t.val / 16) k.val l : ℝ) : EReal) := by
  blk_simp [iblk1]
  rw [hK]
  blk_simp [bwd_ix1]
  exact congrArg _ (twice_lane x 512 t.val k.val l)

include hV in
theorem bwd_v (t : Fin cfg1.N) (k : Fin 8192) (l : Fin 128) :
    iblk1 V c 2 t (ix2 k l) = ((vlane x (t.val / 16) k.val l : ℝ) : EReal) := by
  blk_simp [iblk1]
  rw [hV]
  blk_simp [bwd_ix2]
  exact congrArg _ (twice_lane x 640 t.val k.val l)

include hO in
theorem bwd_o (t : Fin cfg1.N) (r : Fin 512) (l : Fin 128) :
    iblk1 V c 3 t (ix2 r l) = ((olane x (t.val / 16) (512 * (t.val % 16) + r.val) l : ℝ) : EReal) := by
  have hl := l.isLt
  blk_simp [iblk1]
  rw [hO]
  blk_simp [bwd_ix3]
  show ((att x ((t.val / 16 * 128 + l.val) / 64) (t.val % 16 * 512 + r.val) ((t.val / 16 * 128 + l.val) % 64) : ℝ) : EReal) = _
  unfold olane headOf
  rw [show (t.val / 16 * 128 + l.val) / 64 = 2 * (t.val / 16) + l.val / 64 by omega,
    show (t.val / 16 * 128 + l.val) % 64 = l.val % 64 by omega, Nat.mul_comm (t.val % 16)]

include hL in
theorem bwd_l (t : Fin cfg1.N) (r : Fin 512) (l : Fin 128) :
    iblk1 V c 4 t (ix2 r l) = ((llane x (t.val / 16) (512 * (t.val % 16) + r.val) l : ℝ) : EReal) := by
  have hl := l.isLt
  blk_simp [iblk1]
  rw [hL]
  blk_simp [bwd_ix4]
  show ((Real.log (den x ((t.val / 16 * 128 + l.val) / 64) (t.val % 16 * 512 + r.val)) : ℝ) : EReal) = _
  unfold llane headOf
  rw [show (t.val / 16 * 128 + l.val) / 64 = 2 * (t.val / 16) + l.val / 64 by omega, Nat.mul_comm (t.val % 16)]

include hD in
theorem bwd_d (t : Fin cfg1.N) (r : Fin 512) (l : Fin 128) :
    iblk1 V c 5 t (ix2 r l) = ((qlane y (t.val / 16) (512 * (t.val % 16) + r.val) l : ℝ) : EReal) := by
  blk_simp [iblk1]
  rw [hD]
  blk_simp [bwd_ix5]
  show ((y (t.val % 16 * 512 + r.val) (t.val / 16 * 128 + l.val) : ℝ) : EReal) = _
  unfold qlane
  rw [Nat.mul_comm (t.val % 16), Nat.mul_comm (t.val / 16)]

include hX hO hL hD in
/-- What a point's prologue computes. -/
theorem bwd_regs (t : Fin cfg1.N) : IsReals (regsOf (iblk1 V c 0 t) (iblk1 V c 3 t) (iblk1 V c 4 t) (iblk1 V c 5 t))
    (pointReals x y (t.val / 16) (512 * (t.val % 16))) :=
  regs_real (iblk1 V c 0 t) (iblk1 V c 3 t) (iblk1 V c 4 t) (iblk1 V c 5 t) _ _ _ _ (bwd_q V c x hX t) (bwd_o V c x hO t)
    (bwd_l V c x hL t) (bwd_d V c y hD t)

include hX hK hV hO hL hD in
/-- A point's block of the queries' gradient. -/
theorem bwd_point_q (t : Fin cfg1.N) (r : Fin 512) (l : Fin 128) : (outsAt1 V c t.val t.isLt).1 (ix2 r l)
    = ((gradq x y (headOf (t.val / 16) l) (512 * (t.val % 16) + r.val) (l.val % 64) : ℝ) : EReal) := by
  have h := dq_real _ _ (bwd_regs V c x y hX hO hL hD t) (iblk1 V c 1 t) (iblk1 V c 2 t) (fun k l => klane x (t.val / 16) k.val l)
    (fun k l => vlane x (t.val / 16) k.val l) (bwd_k V c x hK t) (bwd_v V c x hV t) r l
  have e := h.trans (congrArg _ (gradq_eq x y (t.val / 16) (512 * (t.val % 16)) r l))
  by_cases h0 : t.val % 32 = 0
  · rw [outsAt1_A V c t h0]; dsimp only; rw [bwd_A_6]; exact e
  · rw [outsAt1_B V c t h0]; dsimp only; rw [bwd_B_6]; exact e

include hX hK hV hO hL hD in
/-- What a point adds to its blocks of the gradients of keys and values. -/
theorem bwd_point_kv (t : Fin cfg1.N) (C7 C8 : Vec Ideal S8192x128 .f32) (k : Fin 8192) (l : Fin 128) (γ δ : ℝ)
    (h7 : C7 (ix2 k l) = (γ : EReal)) (h8 : C8 (ix2 k l) = (δ : EReal)) :
    allRows (dkRows (regsOf (iblk1 V c 0 t) (iblk1 V c 3 t) (iblk1 V c 4 t) (iblk1 V c 5 t)) (iblk1 V c 1 t) (iblk1 V c 2 t) C7) (ix2 k l)
      = ((γ + partk x y (t.val / 16) (512 * (t.val % 16)) k.val l : ℝ) : EReal)
    ∧ allRows (dvRows (regsOf (iblk1 V c 0 t) (iblk1 V c 3 t) (iblk1 V c 4 t) (iblk1 V c 5 t)) (iblk1 V c 1 t) C8) (ix2 k l)
      = ((δ + partv x y (t.val / 16) (512 * (t.val % 16)) k.val l : ℝ) : EReal) := by
  have hb := bwd_regs V c x y hX hO hL hD t
  refine ⟨(dk_real _ _ hb (iblk1 V c 1 t) (iblk1 V c 2 t) C7 (fun k l => klane x (t.val / 16) k.val l)
    (fun k l => vlane x (t.val / 16) k.val l) γ (bwd_k V c x hK t) (bwd_v V c x hV t) k l h7).trans ?_,
    (dv_real _ _ hb (iblk1 V c 1 t) C8 (fun k l => klane x (t.val / 16) k.val l) δ (bwd_k V c x hK t) k l h8).trans ?_⟩
  · rw [partk_eq]
  · rw [partv_eq]

include hX hK hV hO hL hD in
/-- After point `n` the two accumulators hold what the points of its key head up to it gave. -/
theorem bwd_gather (n : ℕ) (hn : n < cfg1.N) (k : Fin 8192) (l : Fin 128) :
    (outsAt1 V c n hn).2.1 (ix2 k l) = ((gatherk x y (n / 32) (n % 32 + 1) k.val l : ℝ) : EReal)
      ∧ (outsAt1 V c n hn).2.2 (ix2 k l) = ((gatherv x y (n / 32) (n % 32 + 1) k.val l : ℝ) : EReal) := by
  induction n with
  | zero =>
    have e := bwd_point_kv V c x y hX hK hV hO hL hD ⟨0, hn⟩ (k1_pay31 (F := Ideal)) (k1_pay32 (F := Ideal)) k l 0 0 (start_gather k l).1 (start_gather k l).2
    have h := outsAt1_A V c ⟨0, hn⟩ rfl
    dsimp only at h
    rw [h]; dsimp only; rw [bwd_A_7, bwd_A_8, e.1, e.2]
    unfold gatherk gatherv
    rw [Finset.sum_range_one, Finset.sum_range_one, zero_add, zero_add]
    exact ⟨rfl, rfl⟩
  | succ n ih =>
    by_cases h0 : (n + 1) % 32 = 0
    · have e := bwd_point_kv V c x y hX hK hV hO hL hD ⟨n + 1, hn⟩ (k1_pay31 (F := Ideal)) (k1_pay32 (F := Ideal)) k l 0 0 (start_gather k l).1 (start_gather k l).2
      have h := outsAt1_A V c ⟨n + 1, hn⟩ h0
      dsimp only at h
      rw [h]; dsimp only; rw [bwd_A_7, bwd_A_8, e.1, e.2]
      unfold gatherk gatherv
      rw [h0, Finset.sum_range_one, Finset.sum_range_one, zero_add, zero_add, show 32 * ((n + 1) / 32) + 0 = n + 1 by omega]
      exact ⟨rfl, rfl⟩
    · obtain ⟨i7, i8⟩ := ih (Nat.lt_of_succ_lt hn)
      have e := bwd_point_kv V c x y hX hK hV hO hL hD ⟨n + 1, hn⟩ _ _ k l _ _ i7 i8
      have h := outsAt1_B V c ⟨n + 1, hn⟩ h0
      dsimp only at h
      rw [h]; dsimp only; rw [bwd_B_7, bwd_B_8]
      refine ⟨e.1.trans ?_, e.2.trans ?_⟩
      · unfold gatherk
        rw [show n / 32 = (n + 1) / 32 by omega, show n % 32 + 1 = (n + 1) % 32 by omega, Finset.sum_range_succ,
          show 32 * ((n + 1) / 32) + (n + 1) % 32 = n + 1 by omega]
      · unfold gatherv
        rw [show n / 32 = (n + 1) / 32 by omega, show n % 32 + 1 = (n + 1) % 32 by omega, Finset.sum_range_succ,
          show 32 * ((n + 1) / 32) + (n + 1) % 32 = n + 1 by omega]

include hX hK hV hO hL hD in
/-- The queries' gradient. -/
theorem bwd_dq (i : S8192x512.Idx) :
    (dat1 V c).arrAt 6 cfg1.N i = ((gradq x y ((i 1).val / 64) (i 0).val ((i 1).val % 64) : ℝ) : EReal) := by
  refine (dat1 V c).arrAt_forall_of_covers 6 (fun i v => v = ((gradq x y ((i 1).val / 64) (i 0).val ((i 1).val % 64) : ℝ) : EReal))
    (by decide +kernel) (fun t hf z => ?_) i
  blk_simp [bwd_ix6]
  rw [after1_6]
  obtain ⟨r, l, rfl⟩ : ∃ (r : Fin 512) (l : Fin 128), z = ix2 r l := ⟨z 0, z 1, ValueIdx.eq_ix2 z⟩
  have hl := l.isLt
  refine (bwd_point_q V c x y hX hK hV hO hL hD t r l).trans ?_
  show _ = ((gradq x y ((t.val / 16 * 128 + l.val) / 64) (t.val % 16 * 512 + r.val) ((t.val / 16 * 128 + l.val) % 64) : ℝ) : EReal)
  unfold headOf
  rw [show (t.val / 16 * 128 + l.val) / 64 = 2 * (t.val / 16) + l.val / 64 by omega,
    show (t.val / 16 * 128 + l.val) % 64 = l.val % 64 by omega, Nat.mul_comm (t.val % 16)]

include hX hK hV hO hL hD in
/-- The gradient of the keys, still over the lanes of a pair. -/
theorem bwd_dk (i : S8192x256.Idx) : (dat1 V c).arrAt 7 cfg1.N i
    = ((gatherk x y ((i 1).val / 128) 32 (i 0).val (Fin.ofNat 128 (i 1).val) : ℝ) : EReal) := by
  refine (dat1 V c).arrAt_forall_of_covers 7
    (fun i v => v = ((gatherk x y ((i 1).val / 128) 32 (i 0).val (Fin.ofNat 128 (i 1).val) : ℝ) : EReal))
    (by decide +kernel) (fun t hf z => ?_) i
  have h31 := (flush1_7 t).mp hf
  blk_simp [bwd_ix7]
  rw [after1_7]
  obtain ⟨k, l, rfl⟩ : ∃ (k : Fin 8192) (l : Fin 128), z = ix2 k l := ⟨z 0, z 1, ValueIdx.eq_ix2 z⟩
  have hl := l.isLt
  refine (bwd_gather V c x y hX hK hV hO hL hD t.val t.isLt k l).1.trans ?_
  show _ = ((gatherk x y ((t.val / 32 * 128 + l.val) / 128) 32 k.val (Fin.ofNat 128 (t.val / 32 * 128 + l.val)) : ℝ) : EReal)
  rw [h31, show (t.val / 32 * 128 + l.val) / 128 = t.val / 32 by omega,
    show Fin.ofNat 128 (t.val / 32 * 128 + l.val) = l from Fin.ext (by show (t.val / 32 * 128 + l.val) % 128 = l.val; omega)]

include hX hK hV hO hL hD in
/-- The gradient of the values, still over the lanes of a pair. -/
theorem bwd_dv (i : S8192x256.Idx) : (dat1 V c).arrAt 8 cfg1.N i
    = ((gatherv x y ((i 1).val / 128) 32 (i 0).val (Fin.ofNat 128 (i 1).val) : ℝ) : EReal) := by
  refine (dat1 V c).arrAt_forall_of_covers 8
    (fun i v => v = ((gatherv x y ((i 1).val / 128) 32 (i 0).val (Fin.ofNat 128 (i 1).val) : ℝ) : EReal))
    (by decide +kernel) (fun t hf z => ?_) i
  have h31 := (flush1_8 t).mp hf
  blk_simp [bwd_ix8]
  rw [after1_8]
  obtain ⟨k, l, rfl⟩ : ∃ (k : Fin 8192) (l : Fin 128), z = ix2 k l := ⟨z 0, z 1, ValueIdx.eq_ix2 z⟩
  have hl := l.isLt
  refine (bwd_gather V c x y hX hK hV hO hL hD t.val t.isLt k l).2.trans ?_
  show _ = ((gatherv x y ((t.val / 32 * 128 + l.val) / 128) 32 k.val (Fin.ofNat 128 (t.val / 32 * 128 + l.val)) : ℝ) : EReal)
  rw [h31, show (t.val / 32 * 128 + l.val) / 128 = t.val / 32 by omega,
    show Fin.ofNat 128 (t.val / 32 * 128 + l.val) = l from Fin.ext (by show (t.val / 32 * 128 + l.val) % 128 = l.val; omega)]

end Cert.Attn

end
-- ==== Proof.Host.lean ====
/-
  The host's lines around the two calls: the keys and values laid out twice over the lanes, the values with ones beside them, and
  the two halves of a key head's gradient added.
-/
module

public import proofs.«01_k».proof.Proof.BwdArrays

@[expose] public section

set_option maxRecDepth 8192

noncomputable section

namespace Cert.Attn

open Idealize.ShloMosaic hiding ix2 ix1 ix0 ix3 ix4
open Idealize.ShloMosaic.TcCoe Idealize.ShloMosaic.Tactic Idealize.ShloMosaic.ValueIdx
open Cert.KernelIdeal Cert.KernelIdeal.Gen
open scoped BigOperators

/-- A concatenation of pieces of 64 columns, at a column of piece `k`. -/
theorem piece64 {α : Type} (N : ℕ) (xs : List ((s : Shape) × (s.Idx → α)))
    (h : Shape.Concatenates (xs.map (·.1)) ⟨2, ![8192, N]⟩ 1) (j : (⟨2, ![8192, N]⟩ : Shape).Idx) (k : ℕ) (hk : k < xs.length)
    (x₁ : S8192x64.Idx → α) (hxk : xs[k] = ⟨S8192x64, x₁⟩)
    (hpre : (((xs.take k).map (·.1)).map fun s : Shape => if h : s.rank = 2 then s.size ((1 : Fin 2).cast h.symm) else 0).sum = 64 * k)
    (hj : (j 1).val / 64 = k) :
    concatenate ⟨2, ![8192, N]⟩ 1 xs h j = x₁ (ix2 (j 0) (Fin.ofNat 64 (j 1).val)) := by
  refine concatenate_apply_piece (t := ⟨2, ![8192, N]⟩) 1 xs h j k hk S8192x64 x₁ hxk rfl (64 * k) hpre _ (fun b hb => ?_) ?_
  · match b with
    | ⟨0, _⟩ => rfl
    | ⟨1, _⟩ => exact absurd rfl hb
  · show 64 * k + (j 1).val % 64 = (j 1).val
    omega

variable (m : (ℓ : Loc nD τ sig) → Buf (Elt Ideal) ℓ) (ρ : Dev nD → PrngReg) (c : Dev nD)

/-- The projections' rows as the calls take them. -/
def rowsOf (X : FVec Ideal S8192x3072 .f32) : FVec Ideal S8192x3072 .bf16 := truncf .bf16 X bitsLt_bf16_f32
/-- The output's gradient as the backward call takes it. -/
def gradOf (Y : FVec Ideal S8192x512 .f32) : FVec Ideal S8192x512 .bf16 := truncf .bf16 Y bitsLt_bf16_f32
/-- The two key heads. -/
def keysOf (X : FVec Ideal S8192x3072 .f32) : FVec Ideal S8192x128 .bf16 :=
  extractStridedSlice S8192x128 ![0, 512] (rowsOf X) slices_S8192x3072_S8192x128_0_512
/-- The two value heads. -/
def valuesOf (X : FVec Ideal S8192x3072 .f32) : FVec Ideal S8192x128 .bf16 :=
  extractStridedSlice S8192x128 ![0, 640] (rowsOf X) slices_S8192x3072_S8192x128_0_640
/-- The first of two heads. -/
def head0 (Y : FVec Ideal S8192x128 .bf16) : FVec Ideal S8192x64 .bf16 := extractStridedSlice S8192x64 ![0, 0] Y slices_S8192x128_S8192x64_0_0
/-- The second. -/
def head1 (Y : FVec Ideal S8192x128 .bf16) : FVec Ideal S8192x64 .bf16 := extractStridedSlice S8192x64 ![0, 64] Y slices_S8192x128_S8192x64_0_64
/-- Ones. -/
def onesOf : FVec Ideal S8192x64 .bf16 := broadcastInDim S8192x64 ![] bcast_S_S8192x64 (constant S_ .bf16 0x3F80#16)
/-- Two heads, each held twice over the lanes. -/
def twiceOf (Y : FVec Ideal S8192x128 .bf16) : FVec Ideal S8192x256 .bf16 :=
  concatenate S8192x256 1 [⟨S8192x64, head0 Y⟩, ⟨S8192x64, head0 Y⟩, ⟨S8192x64, head1 Y⟩, ⟨S8192x64, head1 Y⟩]
    concatenates_S8192x64_S8192x64_S8192x64_S8192x64_S8192x256_d1
/-- Two heads with ones beside them. -/
def withOnesOf (Y : FVec Ideal S8192x128 .bf16) : FVec Ideal S8192x512 .bf16 :=
  concatenate S8192x512 1 [⟨S8192x64, head0 Y⟩, ⟨S8192x64, onesOf⟩, ⟨S8192x64, onesOf⟩, ⟨S8192x64, head0 Y⟩, ⟨S8192x64, head1 Y⟩,
    ⟨S8192x64, onesOf⟩, ⟨S8192x64, onesOf⟩, ⟨S8192x64, head1 Y⟩]
    concatenates_S8192x64_S8192x64_S8192x64_S8192x64_S8192x64_S8192x64_S8192x64_S8192x64_S8192x512_d1

/-- The first argument's contents. -/
abbrev argX : FVec Ideal S8192x3072 .f32 := m ((c : Thread nD τ).loc main_arg0)
/-- The second argument's. -/
abbrev argY : FVec Ideal S8192x512 .f32 := m ((c : Thread nD τ).loc main_arg1)

theorem host_v0 : (W1 m ρ c (Proc.devRef .tc main_v0) : FVec Ideal S8192x3072 .bf16) = rowsOf (argX m c) := by
  unfold_abbrev_sides
  after_results
  rfl

theorem host_v4 : (W1 m ρ c (Proc.devRef .tc main_v4) : FVec Ideal S8192x256 .bf16) = twiceOf (keysOf (argX m c)) := by
  unfold_abbrev_sides
  after_results_simp
  rfl

theorem host_v9 : (W1 m ρ c (Proc.devRef .tc main_v9) : FVec Ideal S8192x512 .bf16) = withOnesOf (valuesOf (argX m c)) := by
  unfold_abbrev_sides
  after_results_simp
  rfl

theorem host_v5 : (W1 m ρ c (Proc.devRef .tc main_v5) : FVec Ideal S8192x128 .bf16) = valuesOf (argX m c) := by
  unfold_abbrev_sides
  after_results_simp
  rfl

theorem host_v13 (W : Valuation τ sig (Elt Ideal)) :
    (StableHlo.after hostOps1 W (Proc.devRef .tc main_v13) : FVec Ideal S8192x256 .bf16) = twiceOf (W (Proc.devRef .tc main_v5)) := by
  unfold_abbrev_sides
  after_results_simp
  rfl

theorem host_v14 (W : Valuation τ sig (Elt Ideal)) :
    (StableHlo.after hostOps1 W (Proc.devRef .tc main_v14) : FVec Ideal S8192x512 .bf16)
      = gradOf (W (Proc.devRef .tc main_arg1)) := by
  unfold_abbrev_sides
  after_results_simp
  rfl

/-- The two halves of each key head's gradient added. -/
def foldOf (Z : FVec Ideal S8192x256 .f32) : FVec Ideal S8192x128 .f32 :=
  concatenate S8192x128 1 [⟨S8192x64, addf (extractStridedSlice S8192x64 ![0, 0] Z slices_S8192x256_S8192x64_0_0)
      (extractStridedSlice S8192x64 ![0, 64] Z slices_S8192x256_S8192x64_0_64)⟩,
    ⟨S8192x64, addf (extractStridedSlice S8192x64 ![0, 128] Z slices_S8192x256_S8192x64_0_128)
      (extractStridedSlice S8192x64 ![0, 192] Z slices_S8192x256_S8192x64_0_192)⟩] concatenates_S8192x64_S8192x64_S8192x128_d1

theorem host_v22 (W : Valuation τ sig (Elt Ideal)) :
    (StableHlo.after hostOps2 W (Proc.devRef .tc main_v22) : FVec Ideal S8192x128 .f32) = foldOf (W (Proc.devRef .tc main_v15_1)) := by
  unfold_abbrev_sides
  after_results_simp
  rfl

theorem host_v29 (W : Valuation τ sig (Elt Ideal)) :
    (StableHlo.after hostOps2 W (Proc.devRef .tc main_v29) : FVec Ideal S8192x128 .f32) = foldOf (W (Proc.devRef .tc main_v15_2)) := by
  unfold_abbrev_sides
  after_results_simp
  rfl

/-! ## Read at the reals -/

section
variable (x : ℕ → ℕ → ℝ) (X : FVec Ideal S8192x3072 .f32) (hx : ∀ i : S8192x3072.Idx, X i = ((x (i 0).val (i 1).val : ℝ) : EReal))
include hx

theorem rows_at (i : S8192x3072.Idx) : rowsOf X i = ((x (i 0).val (i 1).val : ℝ) : EReal) := by
  unfold rowsOf
  rw [truncf_apply]
  exact hx i

theorem keys_at (i : S8192x128.Idx) : keysOf X i = ((x (i 0).val (512 + (i 1).val) : ℝ) : EReal) := by
  unfold keysOf
  refine (rows_at x X hx _).trans ?_
  show ((x (0 + (i 0).val) (512 + (i 1).val) : ℝ) : EReal) = _
  rw [Nat.zero_add]

theorem values_at (i : S8192x128.Idx) : valuesOf X i = ((x (i 0).val (640 + (i 1).val) : ℝ) : EReal) := by
  unfold valuesOf
  refine (rows_at x X hx _).trans ?_
  show ((x (0 + (i 0).val) (640 + (i 1).val) : ℝ) : EReal) = _
  rw [Nat.zero_add]

end

theorem grad_at (y : ℕ → ℕ → ℝ) (Y : FVec Ideal S8192x512 .f32) (hy : ∀ i : S8192x512.Idx, Y i = ((y (i 0).val (i 1).val : ℝ) : EReal))
    (i : S8192x512.Idx) : gradOf Y i = ((y (i 0).val (i 1).val : ℝ) : EReal) := by
  unfold gradOf
  rw [truncf_apply]
  exact hy i

section
variable (x : ℕ → ℕ → ℝ) (o : ℕ) (Y : FVec Ideal S8192x128 .bf16) (hy : ∀ i : S8192x128.Idx, Y i = ((x (i 0).val (o + (i 1).val) : ℝ) : EReal))
include hy

theorem head0_at (i : S8192x64.Idx) : head0 Y i = ((x (i 0).val (o + (i 1).val) : ℝ) : EReal) := by
  unfold head0
  refine (hy _).trans ?_
  show ((x (0 + (i 0).val) (o + (0 + (i 1).val)) : ℝ) : EReal) = _
  rw [Nat.zero_add, Nat.zero_add]

theorem head1_at (i : S8192x64.Idx) : head1 Y i = ((x (i 0).val (o + (64 + (i 1).val)) : ℝ) : EReal) := by
  unfold head1
  refine (hy _).trans ?_
  show ((x (0 + (i 0).val) (o + (64 + (i 1).val)) : ℝ) : EReal) = _
  rw [Nat.zero_add]

theorem twice_at (i : S8192x256.Idx) : twiceOf Y i = ((twice x o (i 0).val (i 1).val : ℝ) : EReal) := by
  have hi : (i 1).val < 256 := (i 1).isLt
  have a0 : ∀ n, (i 1).val / 64 = n → n < 2 → head0 Y (ix2 (i 0) (Fin.ofNat 64 (i 1).val)) = ((twice x o (i 0).val (i 1).val : ℝ) : EReal) := fun n hn hn' => by
    rw [head0_at x o Y hy]
    show ((x (i 0).val (o + (i 1).val % 64) : ℝ) : EReal) = _
    unfold twice
    rw [show o + 64 * ((i 1).val / 128) + (i 1).val % 64 = o + (i 1).val % 64 by omega]
  have a1 : ∀ n, (i 1).val / 64 = n → 2 ≤ n → head1 Y (ix2 (i 0) (Fin.ofNat 64 (i 1).val)) = ((twice x o (i 0).val (i 1).val : ℝ) : EReal) := fun n hn hn' => by
    rw [head1_at x o Y hy]
    show ((x (i 0).val (o + (64 + (i 1).val % 64)) : ℝ) : EReal) = _
    unfold twice
    rw [show o + 64 * ((i 1).val / 128) + (i 1).val % 64 = o + (64 + (i 1).val % 64) by omega]
  unfold twiceOf
  obtain h | h | h | h : (i 1).val / 64 = 0 ∨ (i 1).val / 64 = 1 ∨ (i 1).val / 64 = 2 ∨ (i 1).val / 64 = 3 := by omega
  · exact (piece64 256 _ _ i 0 (by show 0 < 4; decide) _ rfl rfl h).trans (a0 0 h (by decide))
  · exact (piece64 256 _ _ i 1 (by show 1 < 4; decide) _ rfl rfl h).trans (a0 1 h (by decide))
  · exact (piece64 256 _ _ i 2 (by show 2 < 4; decide) _ rfl rfl h).trans (a1 2 h (by decide))
  · exact (piece64 256 _ _ i 3 (by show 3 < 4; decide) _ rfl rfl h).trans (a1 3 h (by decide))

end

theorem ones_at (i : S8192x64.Idx) : onesOf i = ((1 : ℝ) : EReal) := one_bf16

theorem withOnes_at (x : ℕ → ℕ → ℝ) (Y : FVec Ideal S8192x128 .bf16)
    (hy : ∀ i : S8192x128.Idx, Y i = ((x (i 0).val (640 + (i 1).val) : ℝ) : EReal)) (i : S8192x512.Idx) :
    withOnesOf Y i = ((withOnes x (i 0).val (i 1).val : ℝ) : EReal) := by
  have hi : (i 1).val < 512 := (i 1).isLt
  have a0 : (i 1).val / 64 = 0 ∨ (i 1).val / 64 = 3 →
      head0 Y (ix2 (i 0) (Fin.ofNat 64 (i 1).val)) = ((withOnes x (i 0).val (i 1).val : ℝ) : EReal) := fun hn => by
    rw [head0_at x 640 Y hy]
    show ((x (i 0).val (640 + (i 1).val % 64) : ℝ) : EReal) = _
    unfold withOnes
    rw [if_neg (by omega), show 640 + 64 * ((i 1).val / 256) + (i 1).val % 64 = 640 + (i 1).val % 64 by omega]
  have a1 : (i 1).val / 64 = 4 ∨ (i 1).val / 64 = 7 →
      head1 Y (ix2 (i 0) (Fin.ofNat 64 (i 1).val)) = ((withOnes x (i 0).val (i 1).val : ℝ) : EReal) := fun hn => by
    rw [head1_at x 640 Y hy]
    show ((x (i 0).val (640 + (64 + (i 1).val % 64)) : ℝ) : EReal) = _
    unfold withOnes
    rw [if_neg (by omega), show 640 + 64 * ((i 1).val / 256) + (i 1).val % 64 = 640 + (64 + (i 1).val % 64) by omega]
  have a2 : (i 1).val / 64 = 1 ∨ (i 1).val / 64 = 2 ∨ (i 1).val / 64 = 5 ∨ (i 1).val / 64 = 6 →
      onesOf (ix2 (i 0) (Fin.ofNat 64 (i 1).val)) = ((withOnes x (i 0).val (i 1).val : ℝ) : EReal) := fun hn => by
    rw [ones_at]
    unfold withOnes
    rw [if_pos (by omega)]
  unfold withOnesOf
  obtain h | h | h | h | h | h | h | h : (i 1).val / 64 = 0 ∨ (i 1).val / 64 = 1 ∨ (i 1).val / 64 = 2 ∨ (i 1).val / 64 = 3
      ∨ (i 1).val / 64 = 4 ∨ (i 1).val / 64 = 5 ∨ (i 1).val / 64 = 6 ∨ (i 1).val / 64 = 7 := by omega
  · exact (piece64 512 _ _ i 0 (by show 0 < 8; decide) _ rfl rfl h).trans (a0 (by omega))
  · exact (piece64 512 _ _ i 1 (by show 1 < 8; decide) _ rfl rfl h).trans (a2 (by omega))
  · exact (piece64 512 _ _ i 2 (by show 2 < 8; decide) _ rfl rfl h).trans (a2 (by omega))
  · exact (piece64 512 _ _ i 3 (by show 3 < 8; decide) _ rfl rfl h).trans (a0 (by omega))
  · exact (piece64 512 _ _ i 4 (by show 4 < 8; decide) _ rfl rfl h).trans (a1 (by omega))
  · exact (piece64 512 _ _ i 5 (by show 5 < 8; decide) _ rfl rfl h).trans (a2 (by omega))
  · exact (piece64 512 _ _ i 6 (by show 6 < 8; decide) _ rfl rfl h).trans (a2 (by omega))
  · exact (piece64 512 _ _ i 7 (by show 7 < 8; decide) _ rfl rfl h).trans (a1 (by omega))

/-- The fold of two halves, at the reals. -/
theorem fold_at (z : ℕ → ℕ → ℝ) (Z : FVec Ideal S8192x256 .f32) (hz : ∀ i : S8192x256.Idx, Z i = ((z (i 0).val (i 1).val : ℝ) : EReal))
    (i : S8192x128.Idx) : foldOf Z i = ((z (i 0).val (128 * ((i 1).val / 64) + (i 1).val % 64)
      + z (i 0).val (128 * ((i 1).val / 64) + 64 + (i 1).val % 64) : ℝ) : EReal) := by
  have hi : (i 1).val < 128 := (i 1).isLt
  unfold foldOf
  obtain h | h : (i 1).val / 64 = 0 ∨ (i 1).val / 64 = 1 := by omega
  · refine (piece64 128 _ _ i 0 (by show 0 < 2; decide) _ rfl rfl h).trans ?_
    rw [h, EReal.coe_add]
    refine congrArg₂ (· + ·) ((hz _).trans ?_) ((hz _).trans ?_)
    · show ((z (0 + (i 0).val) (0 + (i 1).val % 64) : ℝ) : EReal) = _
      rw [Nat.zero_add]
    · show ((z (0 + (i 0).val) (64 + (i 1).val % 64) : ℝ) : EReal) = _
      rw [Nat.zero_add]
  · refine (piece64 128 _ _ i 1 (by show 1 < 2; decide) _ rfl rfl h).trans ?_
    rw [h, EReal.coe_add]
    refine congrArg₂ (· + ·) ((hz _).trans ?_) ((hz _).trans ?_)
    · show ((z (0 + (i 0).val) (128 + (i 1).val % 64) : ℝ) : EReal) = _
      rw [Nat.zero_add]
    · show ((z (0 + (i 0).val) (192 + (i 1).val % 64) : ℝ) : EReal) = _
      rw [Nat.zero_add]

end Cert.Attn

end
-- ==== Proof.KernelValue.lean ====
/-
  The kernel's run, at the real attention and its gradients: the launch keeps every buffer's last contents, and the four results
  are the output, the queries' gradient, and the keys' and values' gradients summed over the four heads that share them.
-/
module

public import proofs.«01_k».proof.Proof.Host

@[expose] public section

set_option maxRecDepth 8192

noncomputable section

namespace Cert.Attn

open Idealize.ShloMosaic hiding ix2 ix1 ix0 ix3 ix4
open Idealize.ShloMosaic.TcCoe Idealize.ShloMosaic.Tactic Idealize.ShloMosaic.ValueIdx
open Idealize.SL Idealize.SL.Sem Idealize.SL.RA
open Cert.KernelIdeal Cert.KernelIdeal.Gen
open scoped BigOperators

/-! ## The sums over a key head's points, as sums over heads and queries -/

section
variable (x y : ℕ → ℕ → ℝ)

/-- Sixteen blocks of 512 queries are the 8192 queries. -/
theorem sum_blocks (f : ℕ → ℝ) : ∑ u ∈ Finset.range 16, ∑ r : Fin 512, f (512 * u + r.val) = ∑ q : Fin 8192, f q.val := by
  have h : ∀ n, ∑ u ∈ Finset.range n, ∑ r : Fin 512, f (512 * u + r.val) = ∑ q ∈ Finset.range (512 * n), f q := fun n => by
    induction n with
    | zero => rfl
    | succ n ih =>
      rw [Finset.sum_range_succ, ih, Nat.mul_succ, Finset.sum_range_add]
      exact congrArg _ (Finset.sum_range fun r => f (512 * n + r)).symm
  rw [h 16]
  exact Finset.sum_range f

theorem gatherk_pair (g k : ℕ) (l : Fin 128) : gatherk x y g 32 k l
    = (∑ q : Fin 8192, dscore x y (headOf (2 * g) l) q.val k * (x q.val (128 * (2 * g) + l.val) * (1 / 8)))
      + ∑ q : Fin 8192, dscore x y (headOf (2 * g + 1) l) q.val k * (x q.val (128 * (2 * g + 1) + l.val) * (1 / 8)) := by
  unfold gatherk
  rw [show 32 = 16 + 16 from rfl, Finset.sum_range_add]
  refine congrArg₂ (· + ·) (Eq.trans (Finset.sum_congr rfl fun u hu => ?_) (sum_blocks fun q => dscore x y (headOf (2 * g) l) q k * (x q (128 * (2 * g) + l.val) * (1 / 8))))
    (Eq.trans (Finset.sum_congr rfl fun u hu => ?_) (sum_blocks fun q => dscore x y (headOf (2 * g + 1) l) q k * (x q (128 * (2 * g + 1) + l.val) * (1 / 8))))
  · have hu := Finset.mem_range.mp hu
    rw [show ((16 + 16) * g + u) / 16 = 2 * g by omega, show ((16 + 16) * g + u) % 16 = u by omega]
    rfl
  · have hu := Finset.mem_range.mp hu
    rw [show ((16 + 16) * g + (16 + u)) / 16 = 2 * g + 1 by omega, show ((16 + 16) * g + (16 + u)) % 16 = u by omega]
    rfl

theorem gatherv_pair (g k : ℕ) (l : Fin 128) : gatherv x y g 32 k l
    = (∑ q : Fin 8192, prob x (headOf (2 * g) l) q.val k * y q.val (128 * (2 * g) + l.val))
      + ∑ q : Fin 8192, prob x (headOf (2 * g + 1) l) q.val k * y q.val (128 * (2 * g + 1) + l.val) := by
  unfold gatherv
  rw [show 32 = 16 + 16 from rfl, Finset.sum_range_add]
  refine congrArg₂ (· + ·) (Eq.trans (Finset.sum_congr rfl fun u hu => ?_) (sum_blocks fun q => prob x (headOf (2 * g) l) q k * y q (128 * (2 * g) + l.val)))
    (Eq.trans (Finset.sum_congr rfl fun u hu => ?_) (sum_blocks fun q => prob x (headOf (2 * g + 1) l) q k * y q (128 * (2 * g + 1) + l.val)))
  · have hu := Finset.mem_range.mp hu
    rw [show ((16 + 16) * g + u) / 16 = 2 * g by omega, show ((16 + 16) * g + u) % 16 = u by omega]
    rfl
  · have hu := Finset.mem_range.mp hu
    rw [show ((16 + 16) * g + (16 + u)) / 16 = 2 * g + 1 by omega, show ((16 + 16) * g + (16 + u)) % 16 = u by omega]
    rfl

/-- The gradient of key `k` of key head `g`: the four heads that read it. -/
def keyGrad (g k j : ℕ) : ℝ := ∑ a : Fin 4, gradk x y (4 * g + a.val) k j
/-- The gradient of value `k`. -/
def valueGrad (g k j : ℕ) : ℝ := ∑ a : Fin 4, gradv x y (4 * g + a.val) k j

theorem keyGrad_fold (g k j : ℕ) (hj : j < 64) (l0 l1 : Fin 128) (h0 : l0.val = j) (h1 : l1.val = 64 + j) :
    gatherk x y g 32 k l0 + gatherk x y g 32 k l1 = keyGrad x y g k j := by
  rw [gatherk_pair, gatherk_pair]
  unfold keyGrad gradk headOf
  rw [Fin.sum_univ_four, h0, h1, show 2 * (2 * g) + j / 64 = 4 * g + (0 : Fin 4).val by show _ = 4 * g + 0; omega,
    show 2 * (2 * g) + (64 + j) / 64 = 4 * g + (1 : Fin 4).val by show _ = 4 * g + 1; omega,
    show 2 * (2 * g + 1) + j / 64 = 4 * g + (2 : Fin 4).val by show _ = 4 * g + 2; omega,
    show 2 * (2 * g + 1) + (64 + j) / 64 = 4 * g + (3 : Fin 4).val by show _ = 4 * g + 3; omega,
    show 128 * (2 * g) + j = 64 * (4 * g + (0 : Fin 4).val) + j by show _ = 64 * (4 * g + 0) + j; omega,
    show 128 * (2 * g) + (64 + j) = 64 * (4 * g + (1 : Fin 4).val) + j by show _ = 64 * (4 * g + 1) + j; omega,
    show 128 * (2 * g + 1) + j = 64 * (4 * g + (2 : Fin 4).val) + j by show _ = 64 * (4 * g + 2) + j; omega,
    show 128 * (2 * g + 1) + (64 + j) = 64 * (4 * g + (3 : Fin 4).val) + j by show _ = 64 * (4 * g + 3) + j; omega]
  ring

theorem valueGrad_fold (g k j : ℕ) (hj : j < 64) (l0 l1 : Fin 128) (h0 : l0.val = j) (h1 : l1.val = 64 + j) :
    gatherv x y g 32 k l0 + gatherv x y g 32 k l1 = valueGrad x y g k j := by
  rw [gatherv_pair, gatherv_pair]
  unfold valueGrad gradv headOf
  rw [Fin.sum_univ_four, h0, h1, show 2 * (2 * g) + j / 64 = 4 * g + (0 : Fin 4).val by show _ = 4 * g + 0; omega,
    show 2 * (2 * g) + (64 + j) / 64 = 4 * g + (1 : Fin 4).val by show _ = 4 * g + 1; omega,
    show 2 * (2 * g + 1) + j / 64 = 4 * g + (2 : Fin 4).val by show _ = 4 * g + 2; omega,
    show 2 * (2 * g + 1) + (64 + j) / 64 = 4 * g + (3 : Fin 4).val by show _ = 4 * g + 3; omega,
    show 128 * (2 * g) + j = 64 * (4 * g + (0 : Fin 4).val) + j by show _ = 64 * (4 * g + 0) + j; omega,
    show 128 * (2 * g) + (64 + j) = 64 * (4 * g + (1 : Fin 4).val) + j by show _ = 64 * (4 * g + 1) + j; omega,
    show 128 * (2 * g + 1) + j = 64 * (4 * g + (2 : Fin 4).val) + j by show _ = 64 * (4 * g + 2) + j; omega,
    show 128 * (2 * g + 1) + (64 + j) = 64 * (4 * g + (3 : Fin 4).val) + j by show _ = 64 * (4 * g + 3) + j; omega]
  ring

end

variable (m : (ℓ : Loc nD τ sig) → Buf (Elt Ideal) ℓ) (ρ : Dev nD → PrngReg)

/-! ## The results' contents at the end -/

section
variable (c : Dev nD) (x y : ℕ → ℕ → ℝ) (hx : ∀ i : S8192x3072.Idx, argX m c i = ((x (i 0).val (i 1).val : ℝ) : EReal))
  (hy : ∀ i : S8192x512.Idx, argY m c i = ((y (i 0).val (i 1).val : ℝ) : EReal))

include hx in
theorem entry_x (i : S8192x3072.Idx) : V1 m ρ c main_v0 i = ((x (i 0).val (i 1).val : ℝ) : EReal) :=
  (congrFun (host_v0 m ρ c) i).trans (rows_at x _ hx i)

include hx in
theorem entry_k (i : S8192x256.Idx) : V1 m ρ c main_v4 i = ((twice x 512 (i 0).val (i 1).val : ℝ) : EReal) :=
  (congrFun (host_v4 m ρ c) i).trans (twice_at x 512 _ (keys_at x _ hx) i)

include hx in
theorem entry_w (i : S8192x512.Idx) : V1 m ρ c main_v9 i = ((withOnes x (i 0).val (i 1).val : ℝ) : EReal) :=
  (congrFun (host_v9 m ρ c) i).trans (withOnes_at x _ (values_at x _ hx) i)

include hx in
/-- The output the forward call leaves, still there when the backward call starts. -/
theorem second_o (i : S8192x512.Idx) : V3 m ρ c main_v10_0 i = ((att x ((i 1).val / 64) (i 0).val ((i 1).val % 64) : ℝ) : EReal) :=
  (congrFun ((W3_of m ρ c main_v10_0 (by decide)).trans (W2_arr m ρ c 3)) i).trans
    (fwd_o (V1 m ρ) c x (entry_x m ρ c x hx) (entry_k m ρ c x hx) (entry_w m ρ c x hx) i)

include hx in
theorem second_l (i : S8192x512.Idx) : V3 m ρ c main_v10_1 i = ((Real.log (den x ((i 1).val / 64) (i 0).val) : ℝ) : EReal) :=
  (congrFun ((W3_of m ρ c main_v10_1 (by decide)).trans (W2_arr m ρ c 4)) i).trans
    (fwd_l (V1 m ρ) c x (entry_x m ρ c x hx) (entry_k m ρ c x hx) (entry_w m ρ c x hx) i)

include hx in
theorem second_x (i : S8192x3072.Idx) : V3 m ρ c main_v0 i = ((x (i 0).val (i 1).val : ℝ) : EReal) :=
  (congrFun ((W3_of m ρ c main_v0 (by decide)).trans (W2_of m ρ c main_v0 (by decide))) i).trans (entry_x m ρ c x hx i)

include hx in
theorem second_k (i : S8192x256.Idx) : V3 m ρ c main_v4 i = ((twice x 512 (i 0).val (i 1).val : ℝ) : EReal) :=
  (congrFun ((W3_of m ρ c main_v4 (by decide)).trans (W2_of m ρ c main_v4 (by decide))) i).trans (entry_k m ρ c x hx i)

include hx in
theorem second_v (i : S8192x256.Idx) : V3 m ρ c main_v13 i = ((twice x 640 (i 0).val (i 1).val : ℝ) : EReal) := by
  refine (congrFun (host_v13 (W2 m ρ c)) i).trans (twice_at x 640 _ (fun i => ?_) i)
  exact (congrFun ((W2_of m ρ c main_v5 (by decide)).trans (host_v5 m ρ c)) i).trans (values_at x _ hx i)

include hy in
theorem second_d (i : S8192x512.Idx) : V3 m ρ c main_v14 i = ((y (i 0).val (i 1).val : ℝ) : EReal) := by
  refine (congrFun (host_v14 (W2 m ρ c)) i).trans (grad_at y _ (fun i => ?_) i)
  exact (congrFun (W2_args m ρ c main_arg1 (by decide)) i).trans (hy i)

include hx in
/-- The output. -/
theorem last_o (i : S8192x512.Idx) :
    W5 m ρ c (Proc.devRef .tc main_v10_0) i = ((att x ((i 1).val / 64) (i 0).val ((i 1).val % 64) : ℝ) : EReal) :=
  (congrFun ((W5_of m ρ c main_v10_0 (by decide)).trans (W4_of m ρ c main_v10_0 (by decide))) i).trans (second_o m ρ c x hx i)

include hx hy in
/-- The queries' gradient. -/
theorem last_dq (i : S8192x512.Idx) :
    W5 m ρ c (Proc.devRef .tc main_v15_0) i = ((gradq x y ((i 1).val / 64) (i 0).val ((i 1).val % 64) : ℝ) : EReal) :=
  (congrFun ((W5_of m ρ c main_v15_0 (by decide)).trans (W4_arr m ρ c 6)) i).trans
    (bwd_dq (V3 m ρ) c x y (second_x m ρ c x hx) (second_k m ρ c x hx) (second_v m ρ c x hx) (second_o m ρ c x hx) (second_l m ρ c x hx)
      (second_d m ρ c y hy) i)

include hx hy in
/-- The keys' gradient. -/
theorem last_dk (i : S8192x128.Idx) :
    W5 m ρ c (Proc.devRef .tc main_v22) i = ((keyGrad x y ((i 1).val / 64) (i 0).val ((i 1).val % 64) : ℝ) : EReal) := by
  have hi : (i 1).val < 128 := (i 1).isLt
  refine (congrFun (host_v22 (W4 m ρ c)) i).trans ((fold_at (fun k l => gatherk x y (l / 128) 32 k (Fin.ofNat 128 l)) _ (fun i => ?_) i).trans
    (congrArg _ ?_))
  · exact (congrFun (W4_arr m ρ c 7) i).trans
      (bwd_dk (V3 m ρ) c x y (second_x m ρ c x hx) (second_k m ρ c x hx) (second_v m ρ c x hx) (second_o m ρ c x hx) (second_l m ρ c x hx)
        (second_d m ρ c y hy) i)
  · dsimp only
    rw [show (128 * ((i 1).val / 64) + (i 1).val % 64) / 128 = (i 1).val / 64 by omega,
      show (128 * ((i 1).val / 64) + 64 + (i 1).val % 64) / 128 = (i 1).val / 64 by omega]
    exact keyGrad_fold x y _ _ _ (by omega) _ _ (by show (128 * ((i 1).val / 64) + (i 1).val % 64) % 128 = _; omega)
      (by show (128 * ((i 1).val / 64) + 64 + (i 1).val % 64) % 128 = _; omega)

include hx hy in
/-- The values' gradient. -/
theorem last_dv (i : S8192x128.Idx) :
    W5 m ρ c (Proc.devRef .tc main_v29) i = ((valueGrad x y ((i 1).val / 64) (i 0).val ((i 1).val % 64) : ℝ) : EReal) := by
  have hi : (i 1).val < 128 := (i 1).isLt
  refine (congrFun (host_v29 (W4 m ρ c)) i).trans ((fold_at (fun k l => gatherv x y (l / 128) 32 k (Fin.ofNat 128 l)) _ (fun i => ?_) i).trans
    (congrArg _ ?_))
  · exact (congrFun (W4_arr m ρ c 8) i).trans
      (bwd_dv (V3 m ρ) c x y (second_x m ρ c x hx) (second_k m ρ c x hx) (second_v m ρ c x hx) (second_o m ρ c x hx) (second_l m ρ c x hx)
        (second_d m ρ c y hy) i)
  · dsimp only
    rw [show (128 * ((i 1).val / 64) + (i 1).val % 64) / 128 = (i 1).val / 64 by omega,
      show (128 * ((i 1).val / 64) + 64 + (i 1).val % 64) / 128 = (i 1).val / 64 by omega]
    exact valueGrad_fold x y _ _ _ (by omega) _ _ (by show (128 * ((i 1).val / 64) + (i 1).val % 64) % 128 = _; omega)
      (by show (128 * ((i 1).val / 64) + 64 + (i 1).val % 64) % 128 = _; omega)

end

end Cert.Attn

end
-- ==== Proof.Launch.lean ====
/-
  The launch of the kernel's program, read for its results: every fair execution ends, and each result buffer then holds what the
  fold over the program's segments leaves in it.
-/
module

public import proofs.«01_k».proof.Proof.KernelValue

@[expose] public section

set_option maxRecDepth 8192

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- What the four result buffers and the two arguments hold at the end of every fair execution. -/
theorem kernel_run : θ_run (defs (F := Ideal)) (onTc (τ := τ) (main (F := Ideal))) ⟨m, fun _ => 0, ρ⟩ (fun r => ∀ c : Dev nD,
      r.2.mem ((c.tc : Thread nD τ).loc main_v10_0) = W5 m ρ c (Proc.devRef .tc main_v10_0)
      ∧ r.2.mem ((c.tc : Thread nD τ).loc main_v15_0) = W5 m ρ c (Proc.devRef .tc main_v15_0)
      ∧ r.2.mem ((c.tc : Thread nD τ).loc main_v22) = W5 m ρ c (Proc.devRef .tc main_v22)
      ∧ r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v10_0 (by decide)), h c _ (mem_uc main_v15_0 (by decide)), h c _ (mem_uc main_v22 (by decide)),
       h c _ (mem_uc main_v29 (by decide)),
       (h c _ (mem_uc main_arg0 (by decide))).trans (W5_main_arg0 m ρ c),
       (h c _ (mem_uc main_arg1 (by decide))).trans (W5_main_arg1 m ρ c)⟩)

end Cert.Attn

end
-- ==== Proof.Finite.lean ====
/-
  The precondition: when every entry of both arguments compares below `+∞` in absolute value, every entry is a real number.
-/
module

public import proofs.«01_k».proof.Proof.Base
public import proofs.«01_k».proof.Pre_finite
public import Idealize.ShloMosaic.Lib.ReduceAll

@[expose] public section

set_option maxRecDepth 8192

noncomputable section

namespace Cert.Attn

open Idealize.ShloMosaic
open Cert.Pre_finite

/-- The shape relations the precondition's operations take. -/
theorem finite_facts : Cert.Pre_finite.Facts where
  bcast_S_S8192x3072 := by decide
  reducesTo_S8192x3072_S_d0_1 := by decide
  h_S_ := by decide
  bcast_S_S8192x512 := by decide
  reducesTo_S8192x512_S_d0_1 := by decide

/-- An extended real whose absolute value compares below `+∞` is a real number. -/
theorem real_of_lt (a : EReal) (h : Ideal.cmp .olt (max a (-a)) (⊤ : EReal) = 1#1) : a = ((a.toReal : ℝ) : EReal) := by
  induction a using EReal.rec with
  | bot => exact absurd h (by simp [Ideal.cmp])
  | coe r => rfl
  | top => exact absurd h (by simp [Ideal.cmp])

attribute [local instance] finite_facts

instance : Subsingleton S_.Idx := ⟨fun _ _ => funext fun a => a.elim0⟩

/-- Every entry of both arguments is a real number. -/
theorem entries_real (a0 : FVec Ideal S8192x3072 .f32) (a1 : FVec Ideal S8192x512 .f32)
    (h : Cert.Pre_finite.fn (F := Ideal) a0 a1 = fun _ => 1#1) :
    (∀ i, a0 i = (((a0 i : EReal).toReal : ℝ) : EReal)) ∧ ∀ i, a1 i = (((a1 i : EReal).toReal : ℝ) : EReal) := by
  have h0 := congrFun h (fun a => a.elim0)
  obtain ⟨h1, h2⟩ := IntOp.andi_eq_one.1 h0
  refine ⟨fun i => real_of_lt _ ?_, fun i => real_of_lt _ ?_⟩
  · have := Host.reduce_andi_all _ _ _ _ _ h1 i
    rw [← posinf_f32]
    exact this
  · have := Host.reduce_andi_all _ _ _ _ _ h2 i
    rw [← posinf_f32]
    exact this

end Cert.Attn

end
-- ==== Proof.RefScores.lean ====
/-
  The reference read over the reals, first half: the heads' queries, keys and values, the scores, the softmax weights, the
  output, and the values' gradient.
-/
module

public import proofs.«01_k».proof.Proof.Model
public import proofs.«01_k».proof.Proof.Gen.ReferenceIdeal.Read
public import Idealize.ShloMosaic.Lib.KernelVsHost
public import Idealize.ShloMosaic.Lib.TwoAxisContraction

@[expose] public section

set_option maxRecDepth 8192

noncomputable section

namespace Cert.Attn.Ref

open Idealize.ShloMosaic
open Cert.ReferenceIdeal Cert.ReferenceIdeal.Gen Cert.ReferenceIdeal.Read
open scoped BigOperators

section
variable (X : FVec Ideal S8192x3072 .f32) (x : ℕ → ℕ → ℝ) (hx : ∀ i, X i = ((x (i 0).val (i 1).val : ℝ) : EReal))

include hx in
/-- The queries by key head and head of the group. -/
theorem q_at (i : S8192x2x4x64.Idx) :
    val_main_v3 (F := Ideal) X i = ((x (i 0).val (64 * (4 * (i 1).val + (i 2).val) + (i 3).val) : ℝ) : EReal) := by
  have h1 : (i 1).val < 2 := (i 1).isLt
  have h2 : (i 2).val < 4 := (i 2).isLt
  have h3 : (i 3).val < 64 := (i 3).isLt
  rw [val_main_v3_apply, val_main_v0_apply, hx]
  show ((x (((((i 0).val * 2 + (i 1).val) * 4 + (i 2).val) * 64 + (i 3).val) / 512)
    (((((i 0).val * 2 + (i 1).val) * 4 + (i 2).val) * 64 + (i 3).val) % 512) : ℝ) : EReal) = _
  rw [show ((((i 0).val * 2 + (i 1).val) * 4 + (i 2).val) * 64 + (i 3).val) / 512 = (i 0).val by omega,
    show ((((i 0).val * 2 + (i 1).val) * 4 + (i 2).val) * 64 + (i 3).val) % 512 = 64 * (4 * (i 1).val + (i 2).val) + (i 3).val by omega]

include hx in
/-- The keys by key head. -/
theorem k_at (i : S8192x2x64.Idx) : val_main_v4 (F := Ideal) X i = ((x (i 0).val (512 + 64 * (i 1).val + (i 2).val) : ℝ) : EReal) := by
  have h1 : (i 1).val < 2 := (i 1).isLt
  have h2 : (i 2).val < 64 := (i 2).isLt
  rw [val_main_v4_apply, val_main_v1_apply, hx]
  show ((x ((((i 0).val * 2 + (i 1).val) * 64 + (i 2).val) / 128)
    (512 + ((((i 0).val * 2 + (i 1).val) * 64 + (i 2).val) % 128)) : ℝ) : EReal) = _
  rw [show (((i 0).val * 2 + (i 1).val) * 64 + (i 2).val) / 128 = (i 0).val by omega,
    show 512 + ((((i 0).val * 2 + (i 1).val) * 64 + (i 2).val) % 128) = 512 + 64 * (i 1).val + (i 2).val by omega]

include hx in
/-- The values by key head. -/
theorem v_at (i : S8192x2x64.Idx) : val_main_v5 (F := Ideal) X i = ((x (i 0).val (640 + 64 * (i 1).val + (i 2).val) : ℝ) : EReal) := by
  have h1 : (i 1).val < 2 := (i 1).isLt
  have h2 : (i 2).val < 64 := (i 2).isLt
  rw [val_main_v5_apply, val_main_v2_apply, hx]
  show ((x ((((i 0).val * 2 + (i 1).val) * 64 + (i 2).val) / 128)
    (640 + ((((i 0).val * 2 + (i 1).val) * 64 + (i 2).val) % 128)) : ℝ) : EReal) = _
  rw [show (((i 0).val * 2 + (i 1).val) * 64 + (i 2).val) / 128 = (i 0).val by omega,
    show 640 + ((((i 0).val * 2 + (i 1).val) * 64 + (i 2).val) % 128) = 640 + 64 * (i 1).val + (i 2).val by omega]

include hx in
/-- The scores. -/
theorem sc_at (i : S2x4x8192x8192.Idx) :
    val_main_v9 (F := Ideal) X i = ((sc x (4 * (i 0).val + (i 1).val) (i 2).val (i 3).val : ℝ) : EReal) := by
  have h1 : (i 1).val < 4 := (i 1).isLt
  rw [val_main_v9_apply, val_main_v7_apply, val_main_v6_apply, val_main_v8_apply, val_main_cst_apply]
  refine (congrArg₂ (fun a b : EReal => a * b) (sum_mul_coe (fun j => k_at X x hx _) (fun j => q_at X x hx _)) eighth_f32).trans ?_
  rw [← EReal.coe_mul]
  unfold sc
  refine congrArg (fun r : ℝ => (r : EReal)) (congrArg (· * (1 / 8 : ℝ)) (Finset.sum_congr rfl fun j _ => ?_))
  rw [show (4 * (i 0).val + (i 1).val) / 4 = (i 0).val by omega]
  exact mul_comm _ _

/-- The softmax's shift, a real number where every score is one. -/
def shift (i : S2x4x8192.Idx) : ℝ := (val_main_v17 (F := Ideal) X i : EReal).toReal

theorem reduces_scores : S2x4x8192x8192.Reduces [3] S2x4x8192 := by decide

/-- The greatest score of a row is a real number. -/
theorem greatest_real (V : FVec Ideal S2x4x8192x8192 .f32) (f : S2x4x8192x8192.Idx → ℝ) (hV : ∀ i, V i = ((f i : ℝ) : EReal))
    (i : S2x4x8192.Idx) : ∃ r : ℝ, (Host.reduce FloatOps.maximumf V (constant (F := Ideal) S_ .f32 0xFF800000#32)
      reducesTo_S2x4x8192x8192_S2x4x8192_d3 h_S_ : FVec Ideal S2x4x8192 .f32) i = (r : EReal) := by
  obtain ⟨r, hr⟩ := fold_max_coe (Finset.univ : Finset (Fin (S2x4x8192x8192.size 3))) ⟨⟨0, by decide⟩, Finset.mem_univ _⟩
    _ _ (fun k => hV (reduces_scores.lift i k))
  refine ⟨r, (congrFun (hostReduce_maximumf_eq_multiReduction (F := Ideal) (φ := .f32) (u := S_) V 0xFF800000#32
    reducesTo_S2x4x8192x8192_S2x4x8192_d3 h_S_ reduces_scores (.inl rfl) rfl) i).trans (Eq.trans ?_ hr)⟩
  refine (Ideal.multiReduction_maximumf_single (φ := .f32) V 0xFF800000#32 reduces_scores (.inl rfl) rfl i).trans ?_
  rw [show (FloatOps.ofBits .f32 0xFF800000#32 : Ideal .f32) = (⊥ : EReal) from neginf_f32]
  rfl

include hx in
theorem shift_at (i : S2x4x8192.Idx) : val_main_v17 (F := Ideal) X i = ((shift X i : ℝ) : EReal) := by
  have h : ∃ r : ℝ, val_main_v10 (F := Ideal) X i = (r : EReal) := greatest_real _ _ (sc_at X x hx) i
  obtain ⟨r, hr⟩ := h
  have h17 : val_main_v17 (F := Ideal) X i = (r : EReal) := by
    rw [val_main_v17_apply, val_main_v16_apply, val_main_cst_2_apply, hr]
    show max (Ideal.ofBits .f32 0xFF800000#32) (r : EReal) = _
    rw [neginf_f32]
    exact max_eq_right bot_le
  unfold shift
  rw [h17]
  rfl

/-- The row of a score. -/
abbrev row (i : S2x4x8192x8192.Idx) : S2x4x8192.Idx := idx_main_v27 (idx_main_v28 i)

theorem row_sum (i : S2x4x8192.Idx) (k : Fin 8192) : row (idx_main_v31 i k) = i :=
  funext fun a => by match a with | ⟨0, _⟩ => rfl | ⟨1, _⟩ => rfl | ⟨2, _⟩ => rfl

/-- The exponential of a shifted score. -/
def ex (i : S2x4x8192x8192.Idx) : ℝ :=
  Real.exp (sc x (4 * (i 0).val + (i 1).val) (i 2).val (i 3).val - shift X (row i))

include hx in
theorem ex_at (i : S2x4x8192x8192.Idx) : val_main_v30 (F := Ideal) X i = ((ex X x i : ℝ) : EReal) := by
  rw [val_main_v30_apply, val_main_v29_apply, sc_at X x hx, val_main_v28_apply, val_main_v27_apply, shift_at X x hx]
  show Ideal.exp (((sc x (4 * (i 0).val + (i 1).val) (i 2).val (i 3).val : ℝ) : EReal) - ((shift X (idx_main_v27 (idx_main_v28 i)) : ℝ) : EReal)) = _
  rw [← EReal.coe_sub, Ideal.exp_coe]
  rfl

/-- The denominator of the shifted softmax. -/
def sh (i : S2x4x8192.Idx) : ℝ := den x (4 * (i 0).val + (i 1).val) (i 2).val * Real.exp (-shift X i)

theorem sh_pos (i : S2x4x8192.Idx) : 0 < sh X x i := mul_pos (den_pos x _ _) (Real.exp_pos _)

include hx in
theorem sh_at (i : S2x4x8192.Idx) : val_main_v31 (F := Ideal) X i = ((sh X x i : ℝ) : EReal) := by
  rw [val_main_v31_apply, val_main_cst_8_apply]
  refine (congrArg₂ (fun a b : EReal => a + b) zero_f32 (sum_coe fun k => ex_at X x hx (idx_main_v31 i k))).trans ?_
  rw [← EReal.coe_add, zero_add]
  refine congrArg (fun r : ℝ => (r : EReal)) ?_
  unfold sh den
  rw [Finset.sum_mul]
  refine Finset.sum_congr rfl fun k _ => ?_
  unfold ex
  rw [← Real.exp_add, ← sub_eq_add_neg, row_sum]

/-- An exponential over its row's denominator is the softmax weight. -/
theorem ex_div (i : S2x4x8192x8192.Idx) : ex X x i / sh X x (row i) = prob x (4 * (i 0).val + (i 1).val) (i 2).val (i 3).val := by
  have hs : ex X x i = Real.exp (sc x (4 * (i 0).val + (i 1).val) (i 2).val (i 3).val) * Real.exp (-shift X (row i)) := by
    rw [← Real.exp_add, ← sub_eq_add_neg]; rfl
  rw [hs]
  unfold sh prob
  exact mul_div_mul_right _ _ (Real.exp_pos _).ne'

include hx in
theorem prob_at (i : S2x4x8192x8192.Idx) :
    val_main_v34 (F := Ideal) X i = ((prob x (4 * (i 0).val + (i 1).val) (i 2).val (i 3).val : ℝ) : EReal) := by
  rw [val_main_v34_apply, ex_at X x hx, val_main_v33_apply, val_main_v32_apply, sh_at X x hx]
  exact (div_coe (sh_pos X x _).ne').trans (congrArg (fun r : ℝ => (r : EReal)) (ex_div X x i))

include hx in
/-- The output. -/
theorem out_at (i : S8192x512.Idx) :
    val_main_v68 (F := Ideal) X i = ((att x ((i 1).val / 64) (i 0).val ((i 1).val % 64) : ℝ) : EReal) := by
  have h1 : (i 1).val < 512 := (i 1).isLt
  rw [val_main_v68_apply]
  show val_main_v40 (F := Ideal) X i = _
  rw [val_main_v40_apply, val_main_v39_apply, val_main_v38_apply]
  refine (sum_mul_coe (fun k => v_at X x hx _) (fun k => prob_at X x hx _)).trans (congrArg (fun r : ℝ => (r : EReal)) ?_)
  unfold att
  refine Finset.sum_congr rfl fun k _ => ?_
  show x k.val (640 + 64 * (((i 0).val * 512 + (i 1).val) / 256 % 2) + ((i 0).val * 512 + (i 1).val) % 64)
      * prob x (4 * (((i 0).val * 512 + (i 1).val) / 256 % 2) + ((i 0).val * 512 + (i 1).val) / 64 % 4)
          (((i 0).val * 512 + (i 1).val) / 512) k.val = _
  rw [show ((i 0).val * 512 + (i 1).val) % 64 = (i 1).val % 64 by omega,
    show 4 * (((i 0).val * 512 + (i 1).val) / 256 % 2) + ((i 0).val * 512 + (i 1).val) / 64 % 4 = (i 1).val / 64 by omega,
    show ((i 0).val * 512 + (i 1).val) / 512 = (i 0).val by omega,
    show ((i 0).val * 512 + (i 1).val) / 256 % 2 = (i 1).val / 64 / 4 by omega]
  exact mul_comm _ _

end

end Cert.Attn.Ref

end
-- ==== Proof.RefGrads.lean ====
/-
  The reference read over the reals, second half: the softmax's gradient, and the gradients of the queries, keys and values.
-/
module

public import proofs.«01_k».proof.Proof.RefScores

@[expose] public section

set_option maxRecDepth 8192

noncomputable section

namespace Cert.Attn.Ref

open Idealize.ShloMosaic hiding ix4
open Idealize.ShloMosaic.ValueIdx
open Cert.ReferenceIdeal Cert.ReferenceIdeal.Gen Cert.ReferenceIdeal.Read
open scoped BigOperators

/-! ## The two products that contract a head of the group and a query at once -/

/-- Output's gradient against the softmax weights: the sum over the group's heads and the queries. -/
theorem dot_values (L : FVec Ideal S2x64x4x8192 .f32) (R : FVec Ideal S2x4x8192x8192 .f32) (i : S2x64x8192.Idx) :
    (Host.dotGeneral dot_S2x64x4x8192_S2x4x8192x8192_S2x64x8192_23_12_1_3_0_0 none L R : FVec Ideal S2x64x8192 .f32) i
      = ∑ a : Fin 4, ∑ q : Fin 8192, (L (ix4 (i 0) (i 1) a q) : EReal) * (R (ix4 (i 0) a q (i 2)) : EReal) := by
  let D := dot_S2x64x4x8192_S2x4x8192x8192_S2x64x8192_23_12_1_3_0_0
  simp only [Host.dotGeneral]
  rw [Ideal.dotGeneral_apply, sum_contr2 D 4 8192 rfl rfl rfl]
  refine Finset.sum_congr rfl fun a _ => Finset.sum_congr rfl fun q _ => ?_
  have h0 := contrEquiv2_symm_val0 D 4 8192 rfl rfl rfl (a, q)
  have h1 := contrEquiv2_symm_val1 D 4 8192 rfl rfl rfl (a, q)
  have el : D.lhsIdx i ((contrEquiv2 D 4 8192 rfl rfl rfl).symm (a, q)) = ix4 (i 0) (i 1) a q := by
    funext b; apply Fin.ext
    match b with
    | ⟨0, _⟩ => rfl
    | ⟨1, _⟩ => rfl
    | ⟨2, _⟩ => exact h0
    | ⟨3, _⟩ => exact h1
  have er : D.rhsIdx i ((contrEquiv2 D 4 8192 rfl rfl rfl).symm (a, q)) = ix4 (i 0) a q (i 2) := by
    funext b; apply Fin.ext
    match b with
    | ⟨0, _⟩ => rfl
    | ⟨1, _⟩ => exact h0
    | ⟨2, _⟩ => exact h1
    | ⟨3, _⟩ => rfl
  exact congrArg₂ (fun s t => (L s : EReal) * (R t : EReal)) el er

/-- Scores' gradient against the queries: the sum over the queries and the group's heads. -/
theorem dot_keys (L : FVec Ideal S2x8192x8192x4 .f32) (R : FVec Ideal S8192x2x4x64 .f32) (i : S2x8192x64.Idx) :
    (Host.dotGeneral dot_S2x8192x8192x4_S8192x2x4x64_S2x8192x64_23_02_1_3_0_1 none L R : FVec Ideal S2x8192x64 .f32) i
      = ∑ q : Fin 8192, ∑ a : Fin 4, (L (ix4 (i 0) (i 1) q a) : EReal) * (R (ix4 q (i 0) a (i 2)) : EReal) := by
  let D := dot_S2x8192x8192x4_S8192x2x4x64_S2x8192x64_23_02_1_3_0_1
  simp only [Host.dotGeneral]
  rw [Ideal.dotGeneral_apply, sum_contr2 D 8192 4 rfl rfl rfl]
  refine Finset.sum_congr rfl fun q _ => Finset.sum_congr rfl fun a _ => ?_
  have h0 := contrEquiv2_symm_val0 D 8192 4 rfl rfl rfl (q, a)
  have h1 := contrEquiv2_symm_val1 D 8192 4 rfl rfl rfl (q, a)
  have el : D.lhsIdx i ((contrEquiv2 D 8192 4 rfl rfl rfl).symm (q, a)) = ix4 (i 0) (i 1) q a := by
    funext b; apply Fin.ext
    match b with
    | ⟨0, _⟩ => rfl
    | ⟨1, _⟩ => rfl
    | ⟨2, _⟩ => exact h0
    | ⟨3, _⟩ => exact h1
  have er : D.rhsIdx i ((contrEquiv2 D 8192 4 rfl rfl rfl).symm (q, a)) = ix4 q (i 0) a (i 2) := by
    funext b; apply Fin.ext
    match b with
    | ⟨0, _⟩ => exact h0
    | ⟨1, _⟩ => rfl
    | ⟨2, _⟩ => exact h1
    | ⟨3, _⟩ => rfl
  exact congrArg₂ (fun s t => (L s : EReal) * (R t : EReal)) el er

/-- The output's gradient against the output is the softmax weights' gradient against the weights. -/
theorem delta_eq (x y : ℕ → ℕ → ℝ) (h q : ℕ) : delta x y h q = ∑ k : Fin 8192, dprob x y h q k.val * prob x h q k.val := by
  unfold delta att dprob
  simp only [Finset.mul_sum, Finset.sum_mul]
  rw [Finset.sum_comm]
  exact Finset.sum_congr rfl fun k _ => Finset.sum_congr rfl fun j _ => by ring

section
variable (X : FVec Ideal S8192x3072 .f32) (x : ℕ → ℕ → ℝ) (hx : ∀ i, X i = ((x (i 0).val (i 1).val : ℝ) : EReal))
variable (Y : FVec Ideal S8192x512 .f32) (y : ℕ → ℕ → ℝ) (hy : ∀ i, Y i = ((y (i 0).val (i 1).val : ℝ) : EReal))

include hy in
/-- The output's gradient by key head, lane, head of the group and query. -/
theorem do_at (i : S2x64x4x8192.Idx) :
    val_main_v42 (F := Ideal) Y i = ((y (i 3).val (64 * (4 * (i 0).val + (i 2).val) + (i 1).val) : ℝ) : EReal) := by
  have h0 : (i 0).val < 2 := (i 0).isLt
  have h1 : (i 1).val < 64 := (i 1).isLt
  have h2 : (i 2).val < 4 := (i 2).isLt
  rw [val_main_v42_apply, val_main_v41_apply, hy]
  show ((y (((((i 3).val * 2 + (i 0).val) * 4 + (i 2).val) * 64 + (i 1).val) / 512)
    (((((i 3).val * 2 + (i 0).val) * 4 + (i 2).val) * 64 + (i 1).val) % 512) : ℝ) : EReal) = _
  rw [show ((((i 3).val * 2 + (i 0).val) * 4 + (i 2).val) * 64 + (i 1).val) / 512 = (i 3).val by omega,
    show ((((i 3).val * 2 + (i 0).val) * 4 + (i 2).val) * 64 + (i 1).val) % 512 = 64 * (4 * (i 0).val + (i 2).val) + (i 1).val by omega]

include hx hy in
/-- The softmax weights' gradient. -/
theorem dprob_at (i : S2x4x8192x8192.Idx) :
    val_main_v43 (F := Ideal) X Y i = ((dprob x y (4 * (i 0).val + (i 1).val) (i 2).val (i 3).val : ℝ) : EReal) := by
  have h1 : (i 1).val < 4 := (i 1).isLt
  rw [val_main_v43_apply]
  refine (sum_mul_coe (fun j => do_at Y y hy _) (fun j => v_at X x hx _)).trans (congrArg (fun r : ℝ => (r : EReal)) ?_)
  unfold dprob
  rw [show (4 * (i 0).val + (i 1).val) / 4 = (i 0).val by omega]

include hx in
/-- One over the square of a row's denominator. -/
theorem inv_sq_at (i : S2x4x8192x1.Idx) :
    val_main_v37 (F := Ideal) X i = ((1 / (sh X x (idx_main_v32 i) * sh X x (idx_main_v32 i)) : ℝ) : EReal) := by
  rw [val_main_v37_apply, val_main_v36_apply, val_main_cst_9_apply, val_main_v35_apply, val_main_v32_apply, sh_at X x hx]
  show Ideal.div (Ideal.ofBits .f32 0x3F800000#32) (((sh X x (idx_main_v32 i) : ℝ) : EReal) * ((sh X x (idx_main_v32 i) : ℝ) : EReal)) = _
  rw [one_f32, ← EReal.coe_mul]
  exact div_coe (mul_pos (sh_pos X x _) (sh_pos X x _)).ne'

include hx hy in
/-- A row's sum of weights' gradients over the square of the denominator. -/
theorem mean_at (i : S2x4x8192.Idx) :
    val_main_v49 (F := Ideal) X Y i = ((delta x y (4 * (i 0).val + (i 1).val) (i 2).val / sh X x i : ℝ) : EReal) := by
  rw [val_main_v49_apply, val_main_cst_10_apply]
  have hterm : ∀ k, val_main_v48 (F := Ideal) X Y (idx_main_v49 i k)
      = ((dprob x y (4 * (i 0).val + (i 1).val) (i 2).val k.val * prob x (4 * (i 0).val + (i 1).val) (i 2).val k.val / sh X x i : ℝ) : EReal) := fun k => by
    have hr : row (idx_main_v49 i k) = i := row_sum i k
    have hr' : idx_main_v32 (idx_main_v46 (idx_main_v49 i k)) = i := hr
    rw [val_main_v48_apply, val_main_v47_apply, dprob_at X x hx Y y hy, val_main_v46_apply, inv_sq_at X x hx, ex_at X x hx]
    refine (congrArg₂ (fun a b : EReal => a * b) (EReal.coe_mul _ _).symm rfl).trans ((EReal.coe_mul _ _).symm.trans
      (congrArg (fun r : ℝ => (r : EReal)) ?_))
    have hd := ex_div X x (idx_main_v49 i k)
    rw [hr] at hd
    rw [hr', show prob x (4 * (i 0).val + (i 1).val) (i 2).val k.val = _ from hd.symm]
    show dprob x y (4 * (i 0).val + (i 1).val) (i 2).val k.val * _ * _ = _
    have := (sh_pos X x i).ne'
    field_simp
  refine (congrArg₂ (fun a b : EReal => a + b) zero_f32 (sum_coe hterm)).trans ?_
  rw [← EReal.coe_add, zero_add, delta_eq, Finset.sum_div]

include hx hy in
/-- Minus that, at a row. -/
theorem neg_mean_at (i : S2x4x8192.Idx) :
    val_main_v54 (F := Ideal) X Y i = ((-(delta x y (4 * (i 0).val + (i 1).val) (i 2).val / sh X x i) : ℝ) : EReal) := by
  have hi : idx_main_v50 (idx_main_v54 i 0) = i := by
    have h0 : (i 0).val < 2 := (i 0).isLt
    have h1 : (i 1).val < 4 := (i 1).isLt
    have h2 : (i 2).val < 8192 := (i 2).isLt
    funext b; apply Fin.ext
    match b with
    | ⟨0, _⟩ => show ((((i 0).val * 4 + (i 1).val) * 8192 + (i 2).val) * 1 + 0) / 32768 = (i 0).val; omega
    | ⟨1, _⟩ => show ((((i 0).val * 4 + (i 1).val) * 8192 + (i 2).val) * 1 + 0) / 8192 % 4 = (i 1).val; omega
    | ⟨2, _⟩ => show ((((i 0).val * 4 + (i 1).val) * 8192 + (i 2).val) * 1 + 0) % 8192 = (i 2).val; omega
  rw [val_main_v54_apply, val_main_cst_11_apply, Fin.sum_univ_one, val_main_v51_apply, val_main_v50_apply, hi, mean_at X x hx Y y hy]
  refine (congrArg₂ (fun a b : EReal => a + b) zero_f32 (EReal.coe_neg _).symm).trans ?_
  rw [← EReal.coe_add, zero_add]

include hx hy in
/-- The scores' gradient before the scale. -/
theorem dscore_at (i : S2x4x8192x8192.Idx) :
    val_main_v57 (F := Ideal) X Y i = ((dscore x y (4 * (i 0).val + (i 1).val) (i 2).val (i 3).val : ℝ) : EReal) := by
  have hr : idx_main_v32 (idx_main_v52 i) = row i := rfl
  have hr' : idx_main_v55 i = row i := rfl
  rw [val_main_v57_apply, val_main_v56_apply, val_main_v53_apply, dprob_at X x hx Y y hy, val_main_v52_apply, val_main_v32_apply, hr,
    sh_at X x hx, val_main_v55_apply, hr', neg_mean_at X x hx Y y hy, ex_at X x hx]
  refine (congrArg₂ (fun a b : EReal => a * b) ((congrArg₂ (fun a b : EReal => a + b) (div_coe (sh_pos X x _).ne') rfl).trans
    (EReal.coe_add _ _).symm) rfl).trans ((EReal.coe_mul _ _).symm.trans (congrArg (fun r : ℝ => (r : EReal)) ?_))
  unfold dscore
  rw [← ex_div X x i]
  show (_ / sh X x (row i) + -(delta x y (4 * (i 0).val + (i 1).val) (i 2).val / sh X x (row i))) * _ = _
  ring

include hx hy in
/-- The scores' gradient, scaled, by key head, key, query and head of the group. -/
theorem dlogit_at (i : S2x8192x8192x4.Idx) :
    val_main_v60 (F := Ideal) X Y i = ((dscore x y (4 * (i 0).val + (i 3).val) (i 2).val (i 1).val * (1 / 8) : ℝ) : EReal) := by
  rw [val_main_v60_apply, val_main_v59_apply, dscore_at X x hx Y y hy, val_main_v58_apply, val_main_cst_12_apply]
  exact (congrArg (fun b : EReal => _ * b) eighth_f32).trans (EReal.coe_mul _ _).symm

include hx hy in
/-- The queries' gradient. -/
theorem dq_at (i : S8192x512.Idx) :
    val_main_v69 (F := Ideal) X Y i = ((gradq x y ((i 1).val / 64) (i 0).val ((i 1).val % 64) : ℝ) : EReal) := by
  have h1 : (i 1).val < 512 := (i 1).isLt
  rw [val_main_v69_apply]
  show val_main_v67 (F := Ideal) X Y i = _
  rw [val_main_v67_apply, val_main_v62_apply, val_main_v61_apply]
  refine (sum_mul_coe (fun k => dlogit_at X x hx Y y hy _) (fun k => k_at X x hx _)).trans (congrArg (fun r : ℝ => (r : EReal)) ?_)
  unfold gradq
  rw [Finset.sum_mul]
  refine Finset.sum_congr rfl fun k _ => ?_
  show dscore x y (4 * (((i 0).val * 512 + (i 1).val) / 256 % 2) + ((i 0).val * 512 + (i 1).val) / 64 % 4)
        (((i 0).val * 512 + (i 1).val) / 512) k.val * (1 / 8)
      * x k.val (512 + 64 * (((i 0).val * 512 + (i 1).val) / 256 % 2) + ((i 0).val * 512 + (i 1).val) % 64) = _
  rw [show ((i 0).val * 512 + (i 1).val) % 64 = (i 1).val % 64 by omega,
    show 4 * (((i 0).val * 512 + (i 1).val) / 256 % 2) + ((i 0).val * 512 + (i 1).val) / 64 % 4 = (i 1).val / 64 by omega,
    show ((i 0).val * 512 + (i 1).val) / 512 = (i 0).val by omega,
    show ((i 0).val * 512 + (i 1).val) / 256 % 2 = (i 1).val / 64 / 4 by omega]
  ring

include hx hy in
/-- The keys' gradient: the sum over the four heads of the group. -/
theorem dk_at (i : S8192x128.Idx) :
    val_main_v66 (F := Ideal) X Y i = ((∑ a : Fin 4, gradk x y (4 * ((i 1).val / 64) + a.val) (i 0).val ((i 1).val % 64) : ℝ) : EReal) := by
  have h1 : (i 1).val < 128 := (i 1).isLt
  rw [val_main_v66_apply, val_main_v64_apply]
  refine (dot_keys (val_main_v60 (F := Ideal) X Y) (val_main_v3 (F := Ideal) X) _).trans ((sum_coe fun q => sum_mul_coe
    (fun a => dlogit_at X x hx Y y hy _) (fun a => q_at X x hx _)).trans (congrArg (fun r : ℝ => (r : EReal)) ?_))
  rw [Finset.sum_comm]
  unfold gradk
  refine Finset.sum_congr rfl fun a _ => Finset.sum_congr rfl fun q _ => ?_
  show dscore x y (4 * (((i 0).val * 128 + (i 1).val) / 64 % 2) + a.val) q.val (((i 0).val * 128 + (i 1).val) / 128) * (1 / 8)
      * x q.val (64 * (4 * (((i 0).val * 128 + (i 1).val) / 64 % 2) + a.val) + ((i 0).val * 128 + (i 1).val) % 64) = _
  rw [show ((i 0).val * 128 + (i 1).val) / 64 % 2 = (i 1).val / 64 by omega,
    show ((i 0).val * 128 + (i 1).val) / 128 = (i 0).val by omega,
    show ((i 0).val * 128 + (i 1).val) % 64 = (i 1).val % 64 by omega]
  ring

include hx hy in
/-- The values' gradient: the sum over the four heads of the group. -/
theorem dv_at (i : S8192x128.Idx) :
    val_main_v65 (F := Ideal) X Y i = ((∑ a : Fin 4, gradv x y (4 * ((i 1).val / 64) + a.val) (i 0).val ((i 1).val % 64) : ℝ) : EReal) := by
  have h1 : (i 1).val < 128 := (i 1).isLt
  rw [val_main_v65_apply, val_main_v45_apply]
  refine (dot_values (val_main_v42 (F := Ideal) Y) (val_main_v34 (F := Ideal) X) _).trans ((sum_coe fun a => sum_mul_coe
    (fun q => do_at Y y hy _) (fun q => prob_at X x hx _)).trans (congrArg (fun r : ℝ => (r : EReal)) ?_))
  unfold gradv
  refine Finset.sum_congr rfl fun a _ => Finset.sum_congr rfl fun q _ => ?_
  show y q.val (64 * (4 * (((i 0).val * 128 + (i 1).val) / 64 % 2) + a.val) + ((i 0).val * 128 + (i 1).val) % 64)
      * prob x (4 * (((i 0).val * 128 + (i 1).val) / 64 % 2) + a.val) q.val (((i 0).val * 128 + (i 1).val) / 128) = _
  rw [show ((i 0).val * 128 + (i 1).val) / 64 % 2 = (i 1).val / 64 by omega,
    show ((i 0).val * 128 + (i 1).val) / 128 = (i 0).val by omega,
    show ((i 0).val * 128 + (i 1).val) % 64 = (i 1).val % 64 by omega]
  exact mul_comm _ _

end

end Cert.Attn.Ref

end
-- ==== Proof.Algebraic.lean ====
/-
  The equation: from the same arguments, every entry a real number, the kernel's run and the reference's leave the same four
  results over the extended reals.
-/
module

public import proofs.«01_k».proof.Proof.Launch
public import proofs.«01_k».proof.Proof.Finite
public import proofs.«01_k».proof.Proof.RefGrads
public import proofs.«01_k».proof.Proof.Gen.ReferenceIdeal.Run
public import proofs.«01_k».proof.Defs

@[expose] public section

set_option maxRecDepth 8192

noncomputable section

namespace Cert.Attn

open Idealize.ShloMosaic Idealize.ShloMosaic.TcCoe
open Idealize.SL Idealize.SL.Sem
open Cert.KernelIdeal (nD τ sig main_arg0 main_arg1)

/-- An array's entry as a real number, by its row and column. -/
def entry {M N : ℕ} (hM : 0 < M) (hN : 0 < N) (A : (⟨2, ![M, N]⟩ : Shape).Idx → EReal) (r c : ℕ) : ℝ :=
  (A (ValueIdx.ix2 ⟨r % M, Nat.mod_lt _ hM⟩ ⟨c % N, Nat.mod_lt _ hN⟩)).toReal

theorem entry_eq {M N : ℕ} (hM : 0 < M) (hN : 0 < N) (A : (⟨2, ![M, N]⟩ : Shape).Idx → EReal)
    (hA : ∀ i, A i = (((A i).toReal : ℝ) : EReal)) (i : (⟨2, ![M, N]⟩ : Shape).Idx) :
    A i = ((entry hM hN A (i 0).val (i 1).val : ℝ) : EReal) := by
  refine (hA i).trans (congrArg (fun j => (((A j).toReal : ℝ) : EReal)) (funext fun b => Fin.ext ?_))
  match b with
  | ⟨0, _⟩ => exact (Nat.mod_eq_of_lt (i 0).isLt).symm
  | ⟨1, _⟩ => exact (Nat.mod_eq_of_lt (i 1).isLt).symm

attribute [local instance] finite_facts

theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  refine ⟨fun c => Cert.KernelIdeal.Gen.W5 m g c (Proc.devRef .tc Cert.KernelIdeal.main_v10_0),
    fun c => Cert.KernelIdeal.Gen.W5 m g c (Proc.devRef .tc Cert.KernelIdeal.main_v15_0),
    fun c => Cert.KernelIdeal.Gen.W5 m g c (Proc.devRef .tc Cert.KernelIdeal.main_v22),
    fun c => Cert.KernelIdeal.Gen.W5 m g c (Proc.devRef .tc Cert.KernelIdeal.main_v29), kernel_run m g, ?_⟩
  refine (θ_run Cert.ReferenceIdeal.defs _ _).mono (fun r h c => ?_) (Cert.ReferenceIdeal.Value.run (F := Ideal) m' g')
  obtain ⟨h68, h69, h66, h65, ha0, ha1⟩ := h c
  obtain ⟨e0, e1⟩ := hargs c
  obtain ⟨hX, hY⟩ := entries_real _ _ (hpre c)
  have hx := entry_eq (by decide : 0 < 8192) (by decide : 0 < 3072) (argX m c) hX
  have hy := entry_eq (by decide : 0 < 8192) (by decide : 0 < 512) (argY m c) hY
  refine ⟨h68.trans ?_, h69.trans ?_, h66.trans ?_, h65.trans ?_, ha0, ha1⟩
  · refine (Cert.ReferenceIdeal.Read.val_main_v68_eq (F := Ideal) _).trans ?_
    rw [e0]
    funext i
    exact (Ref.out_at (argX m c) _ hx i).trans (last_o m g c _ hx i).symm
  · refine (Cert.ReferenceIdeal.Read.val_main_v69_eq (F := Ideal) m' c).trans ?_
    rw [e0, e1]
    funext i
    exact (Ref.dq_at (argX m c) _ hx (argY m c) _ hy i).trans (last_dq m g c _ _ hx hy i).symm
  · refine (Cert.ReferenceIdeal.Read.val_main_v66_eq (F := Ideal) m' c).trans ?_
    rw [e0, e1]
    funext i
    exact (Ref.dk_at (argX m c) _ hx (argY m c) _ hy i).trans (last_dk m g c _ _ hx hy i).symm
  · refine (Cert.ReferenceIdeal.Read.val_main_v65_eq (F := Ideal) _ _).trans ?_
    rw [e0, e1]
    funext i
    exact (Ref.dv_at (argX m c) _ hx (argY m c) _ hy i).trans (last_dv m g c _ _ hx hy i).symm

end Cert.Attn

end
-- ==== Proof.Rms.lean ====
/-
  The root-mean-square norm of a row of 1024 real numbers, `x · (mean x² + ε)^(-1/2)`, and its gradient, as the printed
  programs' scalar operations compute them.
-/
module

public import proofs.«01_k».proof.Proof.Base

@[expose] public section

noncomputable section

namespace Cert.Ffn

open Idealize.ShloMosaic
open Cert.Attn
open scoped BigOperators

/-- The norm's `ε`, the binary number nearest to `10⁻⁶`. -/
def eps : ℝ := 8796093 / 2 ^ 43

theorem eps_pos : 0 < eps := by unfold eps; positivity

theorem eps_f32 : Ideal.ofBits .f32 0x358637BD#32 = (eps : EReal) := by
  unfold eps
  simp [Ideal.ofBits, Ideal.ieee, -EReal.coe_mul]; norm_num
theorem lanes_f32 : Ideal.ofBits .f32 0x44800000#32 = ((1024 : ℝ) : EReal) := by
  simp [Ideal.ofBits, Ideal.ieee, -EReal.coe_mul]; norm_num
theorem neghalf_f32 : Ideal.ofBits .f32 0xBF000000#32 = ((-1 / 2 : ℝ) : EReal) := by
  simp [Ideal.ofBits, Ideal.ieee, -EReal.coe_mul, -EReal.coe_neg]; norm_num

/-- A row's mean square, `ε` added. -/
def msq (f : ℕ → ℝ) : ℝ := (∑ k : Fin 1024, f k * f k) / 1024 + eps

/-- What a row is multiplied by. -/
def scale (f : ℕ → ℝ) : ℝ := (Real.sqrt (msq f))⁻¹

theorem msq_pos (f : ℕ → ℝ) : 0 < msq f :=
  add_pos_of_nonneg_of_pos (div_nonneg (Finset.sum_nonneg fun k _ => mul_self_nonneg (f k)) (by norm_num)) eps_pos

/-- `(mean x² + ε)^(-3/2)` as a quotient. -/
theorem scale_div (f : ℕ → ℝ) : scale f / msq f = scale f * scale f * scale f := by
  have h : (msq f)⁻¹ = scale f * scale f := by
    unfold scale
    rw [← mul_inv, Real.mul_self_sqrt (msq_pos f).le]
  rw [div_eq_mul_inv, h, mul_assoc]

theorem scale_coe (f : ℕ → ℝ) :
    Ideal.rsqrt (((∑ k : Fin 1024, f k * f k) / 1024 + eps : ℝ) : EReal) = ((scale f : ℝ) : EReal) := by
  have h := msq_pos f
  unfold scale
  unfold msq at h ⊢
  rw [Ideal.rsqrt_coe, if_neg (not_lt.mpr h.le), if_neg h.ne']

theorem div_msq (a : ℝ) (f : ℕ → ℝ) :
    Ideal.div (a : EReal) (((∑ k : Fin 1024, f k * f k) / 1024 + eps : ℝ) : EReal) = ((a / msq f : ℝ) : EReal) :=
  div_coe (msq_pos f).ne'

theorem div_lanes (a : ℝ) : Ideal.div (a : EReal) ((1024 : ℝ) : EReal) = ((a / 1024 : ℝ) : EReal) := div_coe (by norm_num)

/-- The norm of row `f` weighted by `g`, at lane `l`. -/
def normed (f g : ℕ → ℝ) (l : ℕ) : ℝ := f l * scale f * g l

/-! ## The gradient, for rows of any extended reals -/

/-- What a row is multiplied by. -/
def scaleOf (f : ℕ → EReal) : EReal := Ideal.rsqrt (Ideal.div (∑ k : Fin 1024, f k * f k) ((1024 : ℝ) : EReal) + (eps : EReal))

/-- The gradient of the row `f`, where `h` is that of its norm weighted by `g`. -/
def normGrad (f g h : ℕ → EReal) (l : ℕ) : EReal :=
  scaleOf f * (h l * g l - f l * scaleOf f * Ideal.div (∑ k : Fin 1024, h k * g k * (f k * scaleOf f)) ((1024 : ℝ) : EReal))

/-- The mean's share of the gradient, as a differentiated power leaves it: half of it. -/
def halfGrad (f g h : ℕ → EReal) : EReal :=
  Ideal.div ((∑ k : Fin 1024, f k * (h k * g k)) * (((-1 / 2 : ℝ) : EReal) * Ideal.div (scaleOf f)
    (Ideal.div (∑ k : Fin 1024, f k * f k) ((1024 : ℝ) : EReal) + (eps : EReal)))) ((1024 : ℝ) : EReal)

/-- A factor that is a real number and not negative may be drawn out of a sum. -/
theorem sum_mul_real {σ : ℝ} (h : 0 ≤ σ) (a : Fin 1024 → EReal) : ∑ k, a k * (σ : EReal) = (∑ k, a k) * (σ : EReal) := by
  let F : EReal →+ EReal :=
    ⟨⟨fun a => a * (σ : EReal), zero_mul _⟩,
      fun a b => EReal.right_distrib_of_nonneg_of_ne_top (by exact_mod_cast h) (EReal.coe_ne_top _) a b⟩
  exact (map_sum F a Finset.univ).symm

/-- Twice a product with a real number. -/
theorem mul_twice (T : EReal) (a : ℝ) : T * (a : EReal) + T * (a : EReal) = T * ((2 * a : ℝ) : EReal) := by
  induction T using EReal.rec with
  | coe t => rw [← EReal.coe_mul, ← EReal.coe_mul, ← EReal.coe_add]; exact congrArg _ (by ring)
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

theorem square_nonneg (a : EReal) : 0 ≤ a * a := by
  induction a using EReal.rec with
  | coe r => rw [← EReal.coe_mul]; exact_mod_cast mul_self_nonneg r
  | top => simp
  | bot => simp

/-- With an infinite entry the mean square is `+∞`. -/
theorem sum_squares_top (f : ℕ → EReal) (q : Fin 1024) (hq : f q = ⊤ ∨ f q = ⊥) : ∑ k : Fin 1024, f k * f k = ⊤ := by
  have hs : f q * f q = ⊤ := by rcases hq with h | h <;> rw [h] <;> simp
  rw [← Finset.add_sum_erase _ _ (Finset.mem_univ q), hs]
  refine EReal.top_add_of_ne_bot (ne_of_gt (lt_of_lt_of_le (by simp : (⊥ : EReal) < 0) ?_))
  exact Finset.sum_nonneg fun k _ => square_nonneg (f k)

/-- The same gradient with the mean's share in two halves. Where an entry is infinite, both are zero. -/
theorem normGrad_halves (f g h : ℕ → EReal) (l : Fin 1024) :
    h l * g l * scaleOf f + f l * halfGrad f g h + halfGrad f g h * f l = normGrad f g h l := by
  by_cases hf : ∃ q : Fin 1024, f q = ⊤ ∨ f q = ⊥
  · obtain ⟨q, hq⟩ := hf
    have hv : Ideal.div (∑ k : Fin 1024, f k * f k) ((1024 : ℝ) : EReal) + (eps : EReal) = ⊤ := by
      rw [sum_squares_top f q hq, Ideal.div_coe (by norm_num), EReal.top_mul_coe_of_pos (by norm_num)]
      exact EReal.top_add_coe eps
    have hs : scaleOf f = 0 := by unfold scaleOf; rw [hv]; rfl
    unfold normGrad halfGrad
    rw [hv, hs, Ideal.div_coe (by norm_num)]
    simp [Ideal.div]
  · have hr : ∀ q : Fin 1024, f q = (((f q).toReal : ℝ) : EReal) := fun q =>
      (EReal.coe_toReal (fun e => hf ⟨q, .inl e⟩) (fun e => hf ⟨q, .inr e⟩)).symm
    have hm : Ideal.div (∑ k : Fin 1024, f k * f k) ((1024 : ℝ) : EReal) + (eps : EReal)
        = ((msq fun k => (f k).toReal : ℝ) : EReal) := by
      rw [sum_mul_coe hr hr, div_lanes, ← EReal.coe_add]
      rfl
    have hs : scaleOf f = ((scale fun k => (f k).toReal : ℝ) : EReal) := by
      unfold scaleOf
      rw [hm]
      exact scale_coe fun k => (f k).toReal
    have hp : 0 ≤ scale fun k => (f k).toReal := inv_nonneg.mpr (Real.sqrt_nonneg _)
    have hk : ∑ k : Fin 1024, h k * g k * (f k * scaleOf f) = (∑ k : Fin 1024, f k * (h k * g k)) * scaleOf f := by
      rw [hs, ← sum_mul_real hp]
      exact Finset.sum_congr rfl fun k _ => by rw [← mul_assoc, mul_comm (f k)]
    unfold normGrad halfGrad
    rw [hk, hm, hs]
    generalize (∑ k : Fin 1024, f k * (h k * g k)) = T
    generalize hσ : (scale fun k => (f k).toReal) = σ at hp ⊢
    have hd : σ / (msq fun k => (f k).toReal) = σ * σ * σ := by rw [← hσ]; exact scale_div _
    rw [div_coe (msq_pos _).ne', hd, hr l, Ideal.div_coe (by norm_num), Ideal.div_coe (by norm_num), sub_eq_add_neg,
      EReal.left_distrib_of_nonneg_of_ne_top (by exact_mod_cast hp) (EReal.coe_ne_top _), mul_comm (h l * g l), add_assoc]
    refine congrArg₂ (· + ·) rfl ?_
    generalize (f l).toReal = φ
    have e1 : T * (((-1 / 2 : ℝ) : EReal) * ((σ * σ * σ : ℝ) : EReal)) * ((1 / 1024 : ℝ) : EReal) = T * ((-1 / 2 * (σ * σ * σ) / 1024 : ℝ) : EReal) := by
      rw [mul_assoc, ← EReal.coe_mul, ← EReal.coe_mul]
      exact congrArg _ (congrArg _ (by ring))
    have e2 : (σ : EReal) * -((φ : EReal) * (σ : EReal) * (T * (σ : EReal) * ((1 / 1024 : ℝ) : EReal)))
        = T * ((-(σ * (φ * σ * σ * (1 / 1024))) : ℝ) : EReal) := by
      have e : (φ : EReal) * (σ : EReal) * (T * (σ : EReal) * ((1 / 1024 : ℝ) : EReal)) = T * ((φ * σ * σ * (1 / 1024) : ℝ) : EReal) := by
        rw [EReal.coe_mul, EReal.coe_mul, EReal.coe_mul]
        ac_rfl
      rw [e, ← mul_neg, ← EReal.coe_neg, mul_left_comm, ← EReal.coe_mul]
      exact congrArg _ (congrArg _ (by ring))
    rw [e1, e2, mul_comm (φ : EReal), mul_assoc, ← EReal.coe_mul, mul_twice]
    exact congrArg _ (congrArg _ (by ring))

end Cert.Ffn

end
-- ==== Proof.Sums.lean ====
/-
  Facts about sums and products that the channel mixer's calls share: 8192 rows as eight blocks of 1024, and the product of a
  transposed matrix with another.
-/
module

public import proofs.«01_k».proof.Proof.Base
public import Idealize.ShloMosaic.Lib.MatmulPlain
public import Idealize.ShloMosaic.Lib.KernelVsHost

@[expose] public section

noncomputable section

namespace Cert.Ffn

open Idealize.ShloMosaic Idealize.ShloMosaic.ValueIdx
open scoped BigOperators

theorem zeros2 : (![0, 0] : Fin 2 → Nat) = fun _ => 0 := funext fun a => by fin_cases a <;> rfl

/-- An index of a one-row array. -/
theorem one_row {N : ℕ} (i : (⟨2, ![1, N]⟩ : Shape).Idx) : i = ix2 (0 : Fin 1) (i 1) := funext fun b => Fin.ext (by
  match b with
  | ⟨0, _⟩ => have h : (i 0).val < 1 := (i 0).isLt; show (i 0).val = 0; omega
  | ⟨1, _⟩ => rfl)

/-- An array's entry by its row and column. -/
def entry {M N : ℕ} (hM : 0 < M) (hN : 0 < N) (A : (⟨2, ![M, N]⟩ : Shape).Idx → EReal) (r c : ℕ) : EReal :=
  A (ix2 ⟨r % M, Nat.mod_lt _ hM⟩ ⟨c % N, Nat.mod_lt _ hN⟩)

theorem entry_eq {M N : ℕ} (hM : 0 < M) (hN : 0 < N) (A : (⟨2, ![M, N]⟩ : Shape).Idx → EReal) (i : (⟨2, ![M, N]⟩ : Shape).Idx) :
    A i = entry hM hN A (i 0).val (i 1).val := by
  refine congrArg A (funext fun b => Fin.ext ?_)
  match b with
  | ⟨0, _⟩ => exact (Nat.mod_eq_of_lt (i 0).isLt).symm
  | ⟨1, _⟩ => exact (Nat.mod_eq_of_lt (i 1).isLt).symm

/-- The same of an array whose entries are real numbers. -/
def real {M N : ℕ} (hM : 0 < M) (hN : 0 < N) (A : (⟨2, ![M, N]⟩ : Shape).Idx → EReal) (r c : ℕ) : ℝ := (entry hM hN A r c).toReal

theorem real_eq {M N : ℕ} (hM : 0 < M) (hN : 0 < N) (A : (⟨2, ![M, N]⟩ : Shape).Idx → EReal)
    (hA : ∀ i, A i = (((A i).toReal : ℝ) : EReal)) (i : (⟨2, ![M, N]⟩ : Shape).Idx) :
    A i = ((real hM hN A (i 0).val (i 1).val : ℝ) : EReal) := by
  unfold real
  rw [← entry_eq hM hN A i]
  exact hA i

/-- A vector's entry. -/
def entry1 {N : ℕ} (hN : 0 < N) (A : (⟨1, ![N]⟩ : Shape).Idx → EReal) (c : ℕ) : EReal := A (ix1 ⟨c % N, Nat.mod_lt _ hN⟩)

theorem entry1_eq {N : ℕ} (hN : 0 < N) (A : (⟨1, ![N]⟩ : Shape).Idx → EReal) (i : (⟨1, ![N]⟩ : Shape).Idx) :
    A i = entry1 hN A (i 0).val := by
  refine congrArg A (funext fun b => Fin.ext ?_)
  match b with
  | ⟨0, _⟩ => exact (Nat.mod_eq_of_lt (i 0).isLt).symm

/-- The same of a vector. -/
def real1 {N : ℕ} (hN : 0 < N) (A : (⟨1, ![N]⟩ : Shape).Idx → EReal) (c : ℕ) : ℝ := (A (ix1 ⟨c % N, Nat.mod_lt _ hN⟩)).toReal

theorem real_eq1 {N : ℕ} (hN : 0 < N) (A : (⟨1, ![N]⟩ : Shape).Idx → EReal) (hA : ∀ i, A i = (((A i).toReal : ℝ) : EReal))
    (i : (⟨1, ![N]⟩ : Shape).Idx) : A i = ((real1 hN A (i 0).val : ℝ) : EReal) := by
  refine (hA i).trans (congrArg (fun j => (((A j).toReal : ℝ) : EReal)) (funext fun b => Fin.ext ?_))
  match b with
  | ⟨0, _⟩ => exact (Nat.mod_eq_of_lt (i 0).isLt).symm

/-- Blocks of `n` terms, added block by block. -/
theorem sum_by_blocks {α : Type} [AddCommMonoid α] (n : ℕ) (f : ℕ → α) (b : ℕ) :
    ∑ u ∈ Finset.range b, ∑ r : Fin n, f (n * u + r.val) = ∑ q ∈ Finset.range (n * b), f q := by
  induction b with
  | zero => rfl
  | succ b ih =>
    rw [Finset.sum_range_succ, ih, Nat.mul_succ, Finset.sum_range_add]
    exact congrArg _ (Finset.sum_range fun r => f (n * b + r)).symm

/-- Eight blocks of 1024 rows are the 8192 rows. -/
theorem sum_rows {α : Type} [AddCommMonoid α] (f : ℕ → α) :
    ∑ u ∈ Finset.range 8, ∑ r : Fin 1024, f (1024 * u + r.val) = ∑ q : Fin 8192, f q.val :=
  (sum_by_blocks 1024 f 8).trans (Finset.sum_range f)

/-- The product of the transpose of a `K × M` matrix with a `K × N` one, from zero. -/
theorem product_tn {K M N : ℕ} {φ₁ φ₂ : FTy} (D : DotDims ⟨2, ![K, M]⟩ ⟨2, ![K, N]⟩ ⟨2, ![M, N]⟩) (hr : D.contr.rank = 1)
    (hs : D.contr.size ⟨0, by rw [hr]; exact Nat.one_pos⟩ = K)
    (hl0 : ∀ i q, (D.lhsIdx i q 0).val = (q ⟨0, by rw [hr]; exact Nat.one_pos⟩).val) (hl1 : ∀ i q, (D.lhsIdx i q 1).val = (i 0).val)
    (hr0 : ∀ i q, (D.rhsIdx i q 0).val = (q ⟨0, by rw [hr]; exact Nat.one_pos⟩).val) (hr1 : ∀ i q, (D.rhsIdx i q 1).val = (i 1).val)
    (p : FVec Ideal ⟨2, ![K, M]⟩ φ₁) (s : FVec Ideal ⟨2, ![K, N]⟩ φ₂) (r : Fin M) (l : Fin N) :
    matmul D none p s (constant ⟨2, ![M, N]⟩ .f32 0x00000000#32) (ix2 r l) = ∑ k : Fin K, p (ix2 k r) * s (ix2 k l) := by
  refine (Ideal.matmul_constant_zero_apply D none p s (ix2 r l)).trans ?_
  rw [← Equiv.sum_comp (contrEquiv1 D K hr hs).symm]
  refine Finset.sum_congr rfl fun k _ => ?_
  have hk := contrEquiv1_symm_val D K hr hs k
  have el : D.lhsIdx (ix2 r l) ((contrEquiv1 D K hr hs).symm k) = ix2 k r := by
    funext a; apply Fin.ext
    match a with
    | ⟨0, _⟩ => exact (hl0 _ _).trans hk
    | ⟨1, _⟩ => exact hl1 _ _
  have er : D.rhsIdx (ix2 r l) ((contrEquiv1 D K hr hs).symm k) = ix2 k l := by
    funext a; apply Fin.ext
    match a with
    | ⟨0, _⟩ => exact (hr0 _ _).trans hk
    | ⟨1, _⟩ => exact hr1 _ _
  rw [el, er]

end Cert.Ffn

end
-- ==== Proof.MixerPoints.lean ====
/-
  The channel mixer's points: what each of the nine calls computes of its blocks, entry by entry over the extended reals, and the
  logistic function at a real number.
-/
module

public import proofs.«01_k».proof.Proof.Rms
public import proofs.«01_k».proof.Proof.Sums
public import proofs.«01_k».proof.Proof.Gen.Kernel2Ideal.Frame
public import Idealize.ShloMosaic.Lib.Pointwise

@[expose] public section

set_option maxRecDepth 8192

noncomputable section

namespace Cert.Ffn.Mixer

open scoped BigOperators
open Idealize.ShloMosaic Idealize.ShloMosaic.TcCoe Idealize.ShloMosaic.Tactic
open Cert.Kernel2Ideal Cert.Kernel2Ideal.Gen
open Cert.Attn

/-! ## The arithmetic over the real numbers -/

/-- The logistic function. -/
def logi (z : ℝ) : ℝ := 1 / (1 + Real.exp (-z))
/-- Its gradient's share in that of `z · logi z`. -/
def slope (z : ℝ) : ℝ := logi z + z * logi z * (1 - logi z)

theorem logi_coe (z : ℝ) : Ideal.div 1 (1 + Ideal.exp (-(z : EReal))) = ((logi z : ℝ) : EReal) := by
  have h : Ideal.exp (-(z : EReal)) = ((Real.exp (-z) : ℝ) : EReal) := by rw [← EReal.coe_neg]; rfl
  rw [h, ← EReal.coe_one, ← EReal.coe_add]
  exact div_coe (by positivity)

theorem logi_coe' (z : ℝ) : Ideal.div 1 (1 + Ideal.exp (0 - (z : EReal))) = ((logi z : ℝ) : EReal) := by
  rw [zero_sub]
  exact logi_coe z

/-- A matrix product over `K`. -/
def mul (K : ℕ) (a b : ℕ → ℕ → ℝ) (r l : ℕ) : ℝ := ∑ k : Fin K, a r k.val * b k.val l
/-- The product with a transpose. -/
def mulT (K : ℕ) (a b : ℕ → ℕ → ℝ) (r l : ℕ) : ℝ := ∑ k : Fin K, a r k.val * b l k.val

/-! ## The calls' payloads at an entry -/

section
variable (X : Vec Ideal S512x1024 .f32) (G : Vec Ideal S1x1024 .f32) (x : Fin 512 → ℕ → ℝ) (g : ℕ → ℝ)
  (hX : ∀ (r : Fin 512) (l : Fin 1024), X (ix2 r l) = ((x r l.val : ℝ) : EReal))
  (hG : ∀ l : Fin 1024, G (ix2 0 l) = ((g l.val : ℝ) : EReal))

include hX hG in
theorem norm_apply (r : Fin 512) (l : Fin 1024) : k0_pay2 X G (ix2 r l) = ((normed (x r) g l.val : ℝ) : EReal) := by
  pointwise [k0_pay2, k0_pay1]
  simp only [hX, hG, eps_f32, lanes_f32, ← EReal.coe_mul, ← coe_sum, scale_coe, div_lanes, ← EReal.coe_add]
  rfl

include hX hG in
theorem normT_apply (r : Fin 512) (l : Fin 1024) : k0_pay3 X G (ix2 l r) = ((normed (x r) g l.val : ℝ) : EReal) := by
  pointwise [k0_pay3, k0_pay1]
  simp only [hX, hG, eps_f32, lanes_f32, ← EReal.coe_mul, ← coe_sum, scale_coe, div_lanes, ← EReal.coe_add]
  rfl
end

theorem gate_apply (A : Vec Ideal S1024x1024 .bf16) (B : Vec Ideal S1024x1408 .bf16) (r : Fin 1024) (l : Fin 1408) :
    k1_pay1 A B (ix2 r l) = ∑ k : Fin 1024, A (ix2 r k) * B (ix2 k l) := by
  pointwise [k1_pay1]

theorem up_apply (A : Vec Ideal S1024x1024 .bf16) (B : Vec Ideal S1024x1408 .bf16) (r : Fin 1024) (l : Fin 1408) :
    k2_pay1 A B (ix2 r l) = ∑ k : Fin 1024, A (ix2 r k) * B (ix2 k l) := by
  pointwise [k2_pay1]

theorem down_apply (A : Vec Ideal S1024x2816 .bf16) (B : Vec Ideal S2816x512 .bf16) (C : Vec Ideal S1024x512 .f32) (r : Fin 1024)
    (l : Fin 512) : k4_pay1 A B C (ix2 r l) = ∑ k : Fin 2816, A (ix2 r k) * B (ix2 k l) + C (ix2 r l) := by
  pointwise [k4_pay1]

theorem down_dx_apply (A : Vec Ideal S1024x1024 .f32) (B : Vec Ideal S1408x1024 .bf16) (r : Fin 1024) (l : Fin 1408) :
    k5_pay1 A B (ix2 r l) = ∑ k : Fin 1024, A (ix2 r k) * B (ix2 l k) := by
  pointwise [k5_pay1]

theorem gate_dx_apply (A : Vec Ideal S1024x2816 .bf16) (B : Vec Ideal S512x2816 .bf16) (r : Fin 1024) (l : Fin 512) :
    k7_pay1 A B (ix2 r l) = ∑ k : Fin 2816, A (ix2 r k) * B (ix2 l k) := by
  pointwise [k7_pay1]

theorem up_dx_apply (A : Vec Ideal S1024x2816 .bf16) (B : Vec Ideal S512x2816 .bf16) (C : Vec Ideal S1024x512 .f32) (r : Fin 1024)
    (l : Fin 512) : k8_pay1 A B C (ix2 r l) = ∑ k : Fin 2816, A (ix2 r k) * B (ix2 l k) + C (ix2 r l) := by
  pointwise [k8_pay1]

section
variable (A B D : Vec Ideal S512x1408 .bf16) (r : Fin 512) (l : Fin 1408) (a b d : ℝ) (hA : A (ix2 r l) = (a : EReal))
  (hB : B (ix2 r l) = (b : EReal)) (hD : D (ix2 r l) = (d : EReal))

include hA hB in
theorem act_apply : k3_pay1 A B (ix2 r l) = ((a * logi a * b : ℝ) : EReal) := by
  pointwise [k3_pay1]
  simp only [hA, hB, logi_coe', ← EReal.coe_mul]

include hA hB hD in
theorem act_da_apply : k6_pay5 A D B (ix2 r l) = ((d * b * slope a : ℝ) : EReal) := by
  pointwise [k6_pay5, k6_pay4, k6_pay3, k6_pay2, k6_pay1]
  simp only [hA, hB, hD, logi_coe']
  rw [← EReal.coe_one]
  simp only [← EReal.coe_mul, ← EReal.coe_sub, ← EReal.coe_add]
  rfl

include hA hD in
theorem act_db_apply : k6_pay6 A D (ix2 r l) = ((d * (a * logi a) : ℝ) : EReal) := by
  pointwise [k6_pay6, k6_pay4, k6_pay3, k6_pay2, k6_pay1]
  simp only [hA, hD, logi_coe', ← EReal.coe_mul]
end

/-! ## What a point leaves in its blocks -/

section
variable {F : FTy → Type} [FloatOps F] (c : Dev nD) (q : Memref sig .tc .vmem S8x128 .f32) (hq : q.IsWhole)

theorem gate_out (i : grid1.Coords) (a3 : Memref sig .tc .vmem S1024x1024 .bf16) (h3 : a3.IsWhole) (a4 : Memref sig .tc .vmem S1024x1408 .bf16)
    (h4 : a4.IsWhole) (a5 : Memref sig .tc .vmem S1024x1408 .bf16) (h5 : a5.IsWhole) (x : Vec F S1024x1024 .bf16) (y : Vec F S1024x1408 .bf16) :
    out1_A_2 c i a3 h3 a4 h4 a5 h5 q hq x y = k1_pay1 x y := by
  unfold out1_A_2
  rw [View.read_writes_eq_canon _ _ _ (cover1_A_2 c i a3 h3 a4 h4 a5 h5 q hq x y)]
  unfold kernelRun1_A
  dsimp only
  sl_unfold_words
  rw [View.canon_unit_zero zeros2]
  simp only [View.readAt_eq_ld, h3.read_unread, h4.read_unread, View.ld_unit_zero (S := S1024x1024) zeros2,
    View.ld_unit_zero (S := S1024x1408) zeros2]

theorem up_out (i : grid2.Coords) (a3 : Memref sig .tc .vmem S1024x1024 .bf16) (h3 : a3.IsWhole) (a4 : Memref sig .tc .vmem S1024x1408 .bf16)
    (h4 : a4.IsWhole) (a5 : Memref sig .tc .vmem S1024x1408 .bf16) (h5 : a5.IsWhole) (x : Vec F S1024x1024 .bf16) (y : Vec F S1024x1408 .bf16) :
    out2_A_2 c i a3 h3 a4 h4 a5 h5 q hq x y = k2_pay1 x y := by
  unfold out2_A_2
  rw [View.read_writes_eq_canon _ _ _ (cover2_A_2 c i a3 h3 a4 h4 a5 h5 q hq x y)]
  unfold kernelRun2_A
  dsimp only
  sl_unfold_words
  rw [View.canon_unit_zero zeros2]
  simp only [View.readAt_eq_ld, h3.read_unread, h4.read_unread, View.ld_unit_zero (S := S1024x1024) zeros2,
    View.ld_unit_zero (S := S1024x1408) zeros2]

theorem down_out (i : grid4.Coords) (a3 : Memref sig .tc .vmem S1024x2816 .bf16) (h3 : a3.IsWhole) (a4 : Memref sig .tc .vmem S2816x512 .bf16)
    (h4 : a4.IsWhole) (a5 : Memref sig .tc .vmem S1024x512 .f32) (h5 : a5.IsWhole) (a6 : Memref sig .tc .vmem S1024x512 .f32) (h6 : a6.IsWhole)
    (x : Vec F S1024x2816 .bf16) (y : Vec F S2816x512 .bf16) (z : Vec F S1024x512 .f32) :
    out4_A_3 c i a3 h3 a4 h4 a5 h5 a6 h6 q hq x y z = k4_pay1 x y z := by
  unfold out4_A_3
  rw [View.read_writes_eq_canon _ _ _ (cover4_A_3 c i a3 h3 a4 h4 a5 h5 a6 h6 q hq x y z)]
  unfold kernelRun4_A
  dsimp only
  sl_unfold_words
  rw [View.canon_unit_zero zeros2]
  simp only [View.readAt_eq_ld, h3.read_unread, h4.read_unread, h5.read_unread, View.ld_unit_zero (S := S1024x2816) zeros2,
    View.ld_unit_zero (S := S2816x512) zeros2, View.ld_unit_zero (S := S1024x512) zeros2]

theorem down_dx_out (i : grid5.Coords) (a3 : Memref sig .tc .vmem S1024x1024 .f32) (h3 : a3.IsWhole) (a4 : Memref sig .tc .vmem S1408x1024 .bf16)
    (h4 : a4.IsWhole) (a5 : Memref sig .tc .vmem S1024x1408 .bf16) (h5 : a5.IsWhole) (x : Vec F S1024x1024 .f32) (y : Vec F S1408x1024 .bf16) :
    out5_A_2 c i a3 h3 a4 h4 a5 h5 q hq x y = k5_pay1 x y := by
  unfold out5_A_2
  rw [View.read_writes_eq_canon _ _ _ (cover5_A_2 c i a3 h3 a4 h4 a5 h5 q hq x y)]
  unfold kernelRun5_A
  dsimp only
  sl_unfold_words
  rw [View.canon_unit_zero zeros2]
  simp only [View.readAt_eq_ld, h3.read_unread, h4.read_unread, View.ld_unit_zero (S := S1024x1024) zeros2,
    View.ld_unit_zero (S := S1408x1024) zeros2]

theorem gate_dx_out (i : grid7.Coords) (a3 : Memref sig .tc .vmem S1024x2816 .bf16) (h3 : a3.IsWhole) (a4 : Memref sig .tc .vmem S512x2816 .bf16)
    (h4 : a4.IsWhole) (a5 : Memref sig .tc .vmem S1024x512 .f32) (h5 : a5.IsWhole) (x : Vec F S1024x2816 .bf16) (y : Vec F S512x2816 .bf16) :
    out7_A_2 c i a3 h3 a4 h4 a5 h5 q hq x y = k7_pay1 x y := by
  unfold out7_A_2
  rw [View.read_writes_eq_canon _ _ _ (cover7_A_2 c i a3 h3 a4 h4 a5 h5 q hq x y)]
  unfold kernelRun7_A
  dsimp only
  sl_unfold_words
  rw [View.canon_unit_zero zeros2]
  simp only [View.readAt_eq_ld, h3.read_unread, h4.read_unread, View.ld_unit_zero (S := S1024x2816) zeros2,
    View.ld_unit_zero (S := S512x2816) zeros2]

theorem up_dx_out (i : grid8.Coords) (a3 : Memref sig .tc .vmem S1024x2816 .bf16) (h3 : a3.IsWhole) (a4 : Memref sig .tc .vmem S512x2816 .bf16)
    (h4 : a4.IsWhole) (a5 : Memref sig .tc .vmem S1024x512 .f32) (h5 : a5.IsWhole) (a6 : Memref sig .tc .vmem S1024x512 .f32) (h6 : a6.IsWhole)
    (x : Vec F S1024x2816 .bf16) (y : Vec F S512x2816 .bf16) (z : Vec F S1024x512 .f32) :
    out8_A_3 c i a3 h3 a4 h4 a5 h5 a6 h6 q hq x y z = k8_pay1 x y z := by
  unfold out8_A_3
  rw [View.read_writes_eq_canon _ _ _ (cover8_A_3 c i a3 h3 a4 h4 a5 h5 a6 h6 q hq x y z)]
  unfold kernelRun8_A
  dsimp only
  sl_unfold_words
  rw [View.canon_unit_zero zeros2]
  simp only [View.readAt_eq_ld, h3.read_unread, h4.read_unread, h5.read_unread, View.ld_unit_zero (S := S1024x2816) zeros2,
    View.ld_unit_zero (S := S512x2816) zeros2, View.ld_unit_zero (S := S1024x512) zeros2]

theorem norm_out (x : Vec F S512x1024 .f32) (g : Vec F S1x1024 .f32) : out0_2 x g = k0_pay2 x g := by
  unfold out0_2
  rw [View.canon_unit_zero zeros2]
  simp only [View.ld_unit_zero (S := S512x1024) zeros2, View.ld_unit_zero (S := S1x1024) zeros2]

theorem normT_out (x : Vec F S512x1024 .f32) (g : Vec F S1x1024 .f32) : out0_3 x g = k0_pay3 x g := by
  unfold out0_3
  rw [View.canon_unit_zero zeros2]
  simp only [View.ld_unit_zero (S := S512x1024) zeros2, View.ld_unit_zero (S := S1x1024) zeros2]

variable (x y z : Vec F S512x1408 .bf16)

theorem act_out : out3_2 x y = k3_pay1 x y := by
  unfold out3_2
  rw [View.canon_unit_zero zeros2]
  simp only [View.ld_unit_zero (S := S512x1408) zeros2]

theorem act_da_out : out6_3 x y z = k6_pay5 x z y := by
  unfold out6_3
  rw [View.canon_unit_zero zeros2]
  simp only [View.ld_unit_zero (S := S512x1408) zeros2]

theorem act_db_out : out6_4 x y z = k6_pay6 x z := by
  unfold out6_4
  rw [View.canon_unit_zero zeros2]
  simp only [View.ld_unit_zero (S := S512x1408) zeros2]
end

end Cert.Ffn.Mixer

end
-- ==== Proof.MixerArrays.lean ====
/-
  The channel mixer's arrays: each call's result, entry by entry, when its operands hold real numbers.
-/
module

public import proofs.«01_k».proof.Proof.MixerPoints
public import Idealize.ShloMosaic.Lib.Pipeline.ValueKit

@[expose] public section

set_option maxRecDepth 8192

noncomputable section

namespace Cert.Ffn.Mixer

open Idealize.ShloMosaic hiding ix2 ix1 ix0 ix3 ix4
open Idealize.ShloMosaic.TcCoe Idealize.ShloMosaic.Tactic Idealize.ShloMosaic.ValueIdx
open Cert.Kernel2Ideal Cert.Kernel2Ideal.Gen
open Cert.Attn
open scoped BigOperators

/-! ## Where the blocks lie: the norm's point `t` is row block `t`, every other call's row block `t / 2`, column block `t % 2` -/

theorem ix0_0 : ∀ t : Fin cfg0.N, win0_0.index t = ![t.val, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![t.val, 0] := (by decide +kernel : ∀ t : Fin grid0.N, _)
theorem ix0_3 : ∀ t : Fin cfg0.N, win0_3.index t = ![0, t.val] := (by decide +kernel : ∀ t : Fin grid0.N, _)
theorem ix1_0 : ∀ t : Fin cfg1.N, win1_0.index t = ![t.val / 2, 0] := (by decide +kernel : ∀ t : Fin grid1.N, _)
theorem ix1_1 : ∀ t : Fin cfg1.N, win1_1.index t = ![0, t.val % 2] := (by decide +kernel : ∀ t : Fin grid1.N, _)
theorem ix1_2 : ∀ t : Fin cfg1.N, win1_2.index t = ![t.val / 2, t.val % 2] := (by decide +kernel : ∀ t : Fin grid1.N, _)
theorem ix2_0 : ∀ t : Fin cfg2.N, win2_0.index t = ![t.val / 2, 0] := (by decide +kernel : ∀ t : Fin grid2.N, _)
theorem ix2_1 : ∀ t : Fin cfg2.N, win2_1.index t = ![0, t.val % 2] := (by decide +kernel : ∀ t : Fin grid2.N, _)
theorem ix2_2 : ∀ t : Fin cfg2.N, win2_2.index t = ![t.val / 2, t.val % 2] := (by decide +kernel : ∀ t : Fin grid2.N, _)
theorem ix3_0 : ∀ t : Fin cfg3.N, win3_0.index t = ![t.val / 2, t.val % 2] := (by decide +kernel : ∀ t : Fin grid3.N, _)
theorem ix3_1 : ∀ t : Fin cfg3.N, win3_1.index t = ![t.val / 2, t.val % 2] := (by decide +kernel : ∀ t : Fin grid3.N, _)
theorem ix3_2 : ∀ t : Fin cfg3.N, win3_2.index t = ![t.val / 2, t.val % 2] := (by decide +kernel : ∀ t : Fin grid3.N, _)
theorem ix4_0 : ∀ t : Fin cfg4.N, win4_0.index t = ![t.val / 2, 0] := (by decide +kernel : ∀ t : Fin grid4.N, _)
theorem ix4_1 : ∀ t : Fin cfg4.N, win4_1.index t = ![0, t.val % 2] := (by decide +kernel : ∀ t : Fin grid4.N, _)
theorem ix4_2 : ∀ t : Fin cfg4.N, win4_2.index t = ![t.val / 2, t.val % 2] := (by decide +kernel : ∀ t : Fin grid4.N, _)
theorem ix4_3 : ∀ t : Fin cfg4.N, win4_3.index t = ![t.val / 2, t.val % 2] := (by decide +kernel : ∀ t : Fin grid4.N, _)
theorem ix5_0 : ∀ t : Fin cfg5.N, win5_0.index t = ![t.val / 2, 0] := (by decide +kernel : ∀ t : Fin grid5.N, _)
theorem ix5_1 : ∀ t : Fin cfg5.N, win5_1.index t = ![t.val % 2, 0] := (by decide +kernel : ∀ t : Fin grid5.N, _)
theorem ix5_2 : ∀ t : Fin cfg5.N, win5_2.index t = ![t.val / 2, t.val % 2] := (by decide +kernel : ∀ t : Fin grid5.N, _)
theorem ix6_0 : ∀ t : Fin cfg6.N, win6_0.index t = ![t.val / 2, t.val % 2] := (by decide +kernel : ∀ t : Fin grid6.N, _)
theorem ix6_1 : ∀ t : Fin cfg6.N, win6_1.index t = ![t.val / 2, t.val % 2] := (by decide +kernel : ∀ t : Fin grid6.N, _)
theorem ix6_2 : ∀ t : Fin cfg6.N, win6_2.index t = ![t.val / 2, t.val % 2] := (by decide +kernel : ∀ t : Fin grid6.N, _)
theorem ix6_3 : ∀ t : Fin cfg6.N, win6_3.index t = ![t.val / 2, t.val % 2] := (by decide +kernel : ∀ t : Fin grid6.N, _)
theorem ix6_4 : ∀ t : Fin cfg6.N, win6_4.index t = ![t.val / 2, t.val % 2] := (by decide +kernel : ∀ t : Fin grid6.N, _)
theorem ix7_0 : ∀ t : Fin cfg7.N, win7_0.index t = ![t.val / 2, 0] := (by decide +kernel : ∀ t : Fin grid7.N, _)
theorem ix7_1 : ∀ t : Fin cfg7.N, win7_1.index t = ![t.val % 2, 0] := (by decide +kernel : ∀ t : Fin grid7.N, _)
theorem ix7_2 : ∀ t : Fin cfg7.N, win7_2.index t = ![t.val / 2, t.val % 2] := (by decide +kernel : ∀ t : Fin grid7.N, _)
theorem ix8_0 : ∀ t : Fin cfg8.N, win8_0.index t = ![t.val / 2, 0] := (by decide +kernel : ∀ t : Fin grid8.N, _)
theorem ix8_1 : ∀ t : Fin cfg8.N, win8_1.index t = ![t.val % 2, 0] := (by decide +kernel : ∀ t : Fin grid8.N, _)
theorem ix8_2 : ∀ t : Fin cfg8.N, win8_2.index t = ![t.val / 2, t.val % 2] := (by decide +kernel : ∀ t : Fin grid8.N, _)
theorem ix8_3 : ∀ t : Fin cfg8.N, win8_3.index t = ![t.val / 2, t.val % 2] := (by decide +kernel : ∀ t : Fin grid8.N, _)

variable (V : (c : Dev nD) → (b : Ref sig .tc) → Buf (Elt Ideal) ((c : Thread nD τ).loc b)) (c : Dev nD)

section
variable (x : ℕ → ℕ → ℝ) (g : ℕ → ℝ) (hX : ∀ i : S8192x1024.Idx, V c main_arg0 i = ((x (i 0).val (i 1).val : ℝ) : EReal))
  (hG : ∀ i : S1x1024.Idx, V c main_v0 i = ((g (i 1).val : ℝ) : EReal))

include hX in
theorem norm_x (t : Fin cfg0.N) (r : Fin 512) (l : Fin 1024) : iblk0 V c 0 t (ix2 r l) = ((x (t.val * 512 + r.val) l.val : ℝ) : EReal) := by
  blk_simp [iblk0]
  rw [hX]
  blk_simp [ix0_0]

include hG in
theorem norm_g (t : Fin cfg0.N) (l : Fin 1024) : iblk0 V c 1 t (ix2 0 l) = ((g l.val : ℝ) : EReal) := by
  blk_simp [iblk0]
  rw [hG]
  blk_simp [ix0_1]

include hX hG in
/-- The normed rows. -/
theorem norm_rows (i : S8192x1024.Idx) : (dat0 V c).arrAt 2 cfg0.N i = ((normed (x (i 0).val) g (i 1).val : ℝ) : EReal) := by
  refine (dat0 V c).arrAt_forall_of_covers 2 (fun i v => v = ((normed (x (i 0).val) g (i 1).val : ℝ) : EReal)) (by decide +kernel)
    (fun t hf y => ?_) i
  blk_simp [ix0_2]
  rw [after0_2, norm_out]
  obtain ⟨r, l, rfl⟩ : ∃ (r : Fin 512) (l : Fin 1024), y = ix2 r l := ⟨y 0, y 1, ValueIdx.eq_ix2 y⟩
  exact norm_apply (iblk0 V c 0 t) (iblk0 V c 1 t) _ _ (norm_x V c x hX t) (norm_g V c g hG t) r l

include hX hG in
/-- The normed rows, transposed. -/
theorem norm_cols (i : S1024x8192.Idx) : (dat0 V c).arrAt 3 cfg0.N i = ((normed (x (i 1).val) g (i 0).val : ℝ) : EReal) := by
  refine (dat0 V c).arrAt_forall_of_covers 3 (fun i v => v = ((normed (x (i 1).val) g (i 0).val : ℝ) : EReal)) (by decide +kernel)
    (fun t hf y => ?_) i
  blk_simp [ix0_3]
  rw [after0_3, normT_out]
  obtain ⟨l, r, rfl⟩ : ∃ (l : Fin 1024) (r : Fin 512), y = ix2 l r := ⟨y 0, y 1, ValueIdx.eq_ix2 y⟩
  exact normT_apply (iblk0 V c 0 t) (iblk0 V c 1 t) _ _ (norm_x V c x hX t) (norm_g V c g hG t) r l
end

/-- The gate's product. -/
theorem gate_rows (a b : ℕ → ℕ → ℝ) (hA : ∀ i : S8192x1024.Idx, V c main_v4_0 i = ((a (i 0).val (i 1).val : ℝ) : EReal))
  (hB : ∀ i : S1024x2816.Idx, V c main_v1 i = ((b (i 0).val (i 1).val : ℝ) : EReal))
    (i : S8192x2816.Idx) : (dat1 V c).arrAt 2 cfg1.N i = ((mul 1024 a b (i 0).val (i 1).val : ℝ) : EReal) := by
  refine (dat1 V c).arrAt_forall_of_covers 2 (fun i v => v = ((mul 1024 a b (i 0).val (i 1).val : ℝ) : EReal)) (by decide +kernel)
    (fun t hf y => ?_) i
  have ha (r : Fin 1024) (k : Fin 1024) : iblk1 V c 0 t (ix2 r k) = ((a (t.val / 2 * 1024 + r.val) k.val : ℝ) : EReal) := by
    blk_simp [iblk1]
    rw [hA]
    blk_simp [ix1_0]
  have hb (k : Fin 1024) (l : Fin 1408) : iblk1 V c 1 t (ix2 k l) = ((b k.val (t.val % 2 * 1408 + l.val) : ℝ) : EReal) := by
    blk_simp [iblk1]
    rw [hB]
    blk_simp [ix1_1]
  blk_simp [ix1_2]
  rw [after1_2]
  unfold outsAt1
  rw [gate_out]
  obtain ⟨r, l, rfl⟩ : ∃ (r : Fin 1024) (l : Fin 1408), y = ix2 r l := ⟨y 0, y 1, ValueIdx.eq_ix2 y⟩
  exact (gate_apply _ _ r l).trans (sum_mul_coe (fun k => ha r k) (fun k => hb k l))

/-- The product beside it. -/
theorem up_rows (a b : ℕ → ℕ → ℝ) (hA : ∀ i : S8192x1024.Idx, V c main_v4_0 i = ((a (i 0).val (i 1).val : ℝ) : EReal))
  (hB : ∀ i : S1024x2816.Idx, V c main_v2 i = ((b (i 0).val (i 1).val : ℝ) : EReal))
    (i : S8192x2816.Idx) : (dat2 V c).arrAt 2 cfg2.N i = ((mul 1024 a b (i 0).val (i 1).val : ℝ) : EReal) := by
  refine (dat2 V c).arrAt_forall_of_covers 2 (fun i v => v = ((mul 1024 a b (i 0).val (i 1).val : ℝ) : EReal)) (by decide +kernel)
    (fun t hf y => ?_) i
  have ha (r : Fin 1024) (k : Fin 1024) : iblk2 V c 0 t (ix2 r k) = ((a (t.val / 2 * 1024 + r.val) k.val : ℝ) : EReal) := by
    blk_simp [iblk2]
    rw [hA]
    blk_simp [ix2_0]
  have hb (k : Fin 1024) (l : Fin 1408) : iblk2 V c 1 t (ix2 k l) = ((b k.val (t.val % 2 * 1408 + l.val) : ℝ) : EReal) := by
    blk_simp [iblk2]
    rw [hB]
    blk_simp [ix2_1]
  blk_simp [ix2_2]
  rw [after2_2]
  unfold outsAt2
  rw [up_out]
  obtain ⟨r, l, rfl⟩ : ∃ (r : Fin 1024) (l : Fin 1408), y = ix2 r l := ⟨y 0, y 1, ValueIdx.eq_ix2 y⟩
  exact (up_apply _ _ r l).trans (sum_mul_coe (fun k => ha r k) (fun k => hb k l))

/-- The result: the last product, the residual added. -/
theorem down_rows (a b d : ℕ → ℕ → ℝ) (hA : ∀ i : S8192x2816.Idx, V c main_v7 i = ((a (i 0).val (i 1).val : ℝ) : EReal))
  (hB : ∀ i : S2816x1024.Idx, V c main_v3 i = ((b (i 0).val (i 1).val : ℝ) : EReal))
  (hD : ∀ i : S8192x1024.Idx, V c main_arg0 i = ((d (i 0).val (i 1).val : ℝ) : EReal))
    (i : S8192x1024.Idx) : (dat4 V c).arrAt 3 cfg4.N i = ((mul 2816 a b (i 0).val (i 1).val + d (i 0).val (i 1).val : ℝ) : EReal) := by
  refine (dat4 V c).arrAt_forall_of_covers 3 (fun i v => v = ((mul 2816 a b (i 0).val (i 1).val + d (i 0).val (i 1).val : ℝ) : EReal)) (by decide +kernel)
    (fun t hf y => ?_) i
  have ha (r : Fin 1024) (k : Fin 2816) : iblk4 V c 0 t (ix2 r k) = ((a (t.val / 2 * 1024 + r.val) k.val : ℝ) : EReal) := by
    blk_simp [iblk4]
    rw [hA]
    blk_simp [ix4_0]
  have hb (k : Fin 2816) (l : Fin 512) : iblk4 V c 1 t (ix2 k l) = ((b k.val (t.val % 2 * 512 + l.val) : ℝ) : EReal) := by
    blk_simp [iblk4]
    rw [hB]
    blk_simp [ix4_1]
  have hd (r : Fin 1024) (l : Fin 512) : iblk4 V c 2 t (ix2 r l) = ((d (t.val / 2 * 1024 + r.val) (t.val % 2 * 512 + l.val) : ℝ) : EReal) := by
    blk_simp [iblk4]
    rw [hD]
    blk_simp [ix4_2]
  blk_simp [ix4_3]
  rw [after4_3]
  unfold outsAt4
  rw [down_out]
  obtain ⟨r, l, rfl⟩ : ∃ (r : Fin 1024) (l : Fin 512), y = ix2 r l := ⟨y 0, y 1, ValueIdx.eq_ix2 y⟩
  exact (down_apply _ _ _ r l).trans ((congrArg₂ (· + ·) (sum_mul_coe (fun k => ha r k) (fun k => hb k l)) (hd r l)).trans (EReal.coe_add _ _).symm)

/-- The gradient of the gated rows. -/
theorem down_dx_rows (a b : ℕ → ℕ → ℝ) (hA : ∀ i : S8192x1024.Idx, V c main_arg5 i = ((a (i 0).val (i 1).val : ℝ) : EReal))
  (hB : ∀ i : S2816x1024.Idx, V c main_v3 i = ((b (i 0).val (i 1).val : ℝ) : EReal))
    (i : S8192x2816.Idx) : (dat5 V c).arrAt 2 cfg5.N i = ((mulT 1024 a b (i 0).val (i 1).val : ℝ) : EReal) := by
  refine (dat5 V c).arrAt_forall_of_covers 2 (fun i v => v = ((mulT 1024 a b (i 0).val (i 1).val : ℝ) : EReal)) (by decide +kernel)
    (fun t hf y => ?_) i
  have ha (r : Fin 1024) (k : Fin 1024) : iblk5 V c 0 t (ix2 r k) = ((a (t.val / 2 * 1024 + r.val) k.val : ℝ) : EReal) := by
    blk_simp [iblk5]
    rw [hA]
    blk_simp [ix5_0]
  have hb (l : Fin 1408) (k : Fin 1024) : iblk5 V c 1 t (ix2 l k) = ((b (t.val % 2 * 1408 + l.val) k.val : ℝ) : EReal) := by
    blk_simp [iblk5]
    rw [hB]
    blk_simp [ix5_1]
  blk_simp [ix5_2]
  rw [after5_2]
  unfold outsAt5
  rw [down_dx_out]
  obtain ⟨r, l, rfl⟩ : ∃ (r : Fin 1024) (l : Fin 1408), y = ix2 r l := ⟨y 0, y 1, ValueIdx.eq_ix2 y⟩
  exact (down_dx_apply _ _ r l).trans (sum_mul_coe (fun k => ha r k) (fun k => hb l k))

/-- The gate's share of the normed rows' gradient. -/
theorem gate_dx_rows (a b : ℕ → ℕ → ℝ) (hA : ∀ i : S8192x2816.Idx, V c main_v10_0 i = ((a (i 0).val (i 1).val : ℝ) : EReal))
  (hB : ∀ i : S1024x2816.Idx, V c main_v1 i = ((b (i 0).val (i 1).val : ℝ) : EReal))
    (i : S8192x1024.Idx) : (dat7 V c).arrAt 2 cfg7.N i = ((mulT 2816 a b (i 0).val (i 1).val : ℝ) : EReal) := by
  refine (dat7 V c).arrAt_forall_of_covers 2 (fun i v => v = ((mulT 2816 a b (i 0).val (i 1).val : ℝ) : EReal)) (by decide +kernel)
    (fun t hf y => ?_) i
  have ha (r : Fin 1024) (k : Fin 2816) : iblk7 V c 0 t (ix2 r k) = ((a (t.val / 2 * 1024 + r.val) k.val : ℝ) : EReal) := by
    blk_simp [iblk7]
    rw [hA]
    blk_simp [ix7_0]
  have hb (l : Fin 512) (k : Fin 2816) : iblk7 V c 1 t (ix2 l k) = ((b (t.val % 2 * 512 + l.val) k.val : ℝ) : EReal) := by
    blk_simp [iblk7]
    rw [hB]
    blk_simp [ix7_1]
  blk_simp [ix7_2]
  rw [after7_2]
  unfold outsAt7
  rw [gate_dx_out]
  obtain ⟨r, l, rfl⟩ : ∃ (r : Fin 1024) (l : Fin 512), y = ix2 r l := ⟨y 0, y 1, ValueIdx.eq_ix2 y⟩
  exact (gate_dx_apply _ _ r l).trans (sum_mul_coe (fun k => ha r k) (fun k => hb l k))

/-- The other product's share, the gate's added. -/
theorem up_dx_rows (a b d : ℕ → ℕ → ℝ) (hA : ∀ i : S8192x2816.Idx, V c main_v10_1 i = ((a (i 0).val (i 1).val : ℝ) : EReal))
  (hB : ∀ i : S1024x2816.Idx, V c main_v2 i = ((b (i 0).val (i 1).val : ℝ) : EReal))
  (hD : ∀ i : S8192x1024.Idx, V c main_v11 i = ((d (i 0).val (i 1).val : ℝ) : EReal))
    (i : S8192x1024.Idx) : (dat8 V c).arrAt 3 cfg8.N i = ((mulT 2816 a b (i 0).val (i 1).val + d (i 0).val (i 1).val : ℝ) : EReal) := by
  refine (dat8 V c).arrAt_forall_of_covers 3 (fun i v => v = ((mulT 2816 a b (i 0).val (i 1).val + d (i 0).val (i 1).val : ℝ) : EReal)) (by decide +kernel)
    (fun t hf y => ?_) i
  have ha (r : Fin 1024) (k : Fin 2816) : iblk8 V c 0 t (ix2 r k) = ((a (t.val / 2 * 1024 + r.val) k.val : ℝ) : EReal) := by
    blk_simp [iblk8]
    rw [hA]
    blk_simp [ix8_0]
  have hb (l : Fin 512) (k : Fin 2816) : iblk8 V c 1 t (ix2 l k) = ((b (t.val % 2 * 512 + l.val) k.val : ℝ) : EReal) := by
    blk_simp [iblk8]
    rw [hB]
    blk_simp [ix8_1]
  have hd (r : Fin 1024) (l : Fin 512) : iblk8 V c 2 t (ix2 r l) = ((d (t.val / 2 * 1024 + r.val) (t.val % 2 * 512 + l.val) : ℝ) : EReal) := by
    blk_simp [iblk8]
    rw [hD]
    blk_simp [ix8_2]
  blk_simp [ix8_3]
  rw [after8_3]
  unfold outsAt8
  rw [up_dx_out]
  obtain ⟨r, l, rfl⟩ : ∃ (r : Fin 1024) (l : Fin 512), y = ix2 r l := ⟨y 0, y 1, ValueIdx.eq_ix2 y⟩
  exact (up_dx_apply _ _ _ r l).trans ((congrArg₂ (· + ·) (sum_mul_coe (fun k => ha r k) (fun k => hb l k)) (hd r l)).trans (EReal.coe_add _ _).symm)

/-! ## The gating and its gradients -/

section
variable (a b d : ℕ → ℕ → ℝ) (hA : ∀ i : S8192x2816.Idx, V c main_v5 i = ((a (i 0).val (i 1).val : ℝ) : EReal))
  (hB : ∀ i : S8192x2816.Idx, V c main_v6 i = ((b (i 0).val (i 1).val : ℝ) : EReal))
  (hD : ∀ i : S8192x2816.Idx, V c main_v9 i = ((d (i 0).val (i 1).val : ℝ) : EReal))

include hA hB in
/-- The gated rows. -/
theorem act_rows (i : S8192x2816.Idx) : (dat3 V c).arrAt 2 cfg3.N i
    = ((a (i 0).val (i 1).val * logi (a (i 0).val (i 1).val) * b (i 0).val (i 1).val : ℝ) : EReal) := by
  refine (dat3 V c).arrAt_forall_of_covers 2
    (fun i v => v = ((a (i 0).val (i 1).val * logi (a (i 0).val (i 1).val) * b (i 0).val (i 1).val : ℝ) : EReal)) (by decide +kernel)
    (fun t hf y => ?_) i
  blk_simp [ix3_2]
  rw [after3_2, act_out]
  obtain ⟨r, l, rfl⟩ : ∃ (r : Fin 512) (l : Fin 1408), y = ix2 r l := ⟨y 0, y 1, ValueIdx.eq_ix2 y⟩
  refine act_apply (iblk3 V c 0 t) (iblk3 V c 1 t) r l _ _ ?_ ?_
  · blk_simp [iblk3]
    rw [hA]
    blk_simp [ix3_0]
    rfl
  · blk_simp [iblk3]
    rw [hB]
    blk_simp [ix3_1]
    rfl

theorem act_a (hA : ∀ i : S8192x2816.Idx, V c main_v5 i = ((a (i 0).val (i 1).val : ℝ) : EReal)) (t : Fin cfg6.N) (r : Fin 512)
    (l : Fin 1408) : iblk6 V c 0 t (ix2 r l) = ((a (t.val / 2 * 512 + r.val) (t.val % 2 * 1408 + l.val) : ℝ) : EReal) := by
  blk_simp [iblk6]
  rw [hA]
  blk_simp [ix6_0]

theorem act_d (hD : ∀ i : S8192x2816.Idx, V c main_v9 i = ((d (i 0).val (i 1).val : ℝ) : EReal)) (t : Fin cfg6.N) (r : Fin 512)
    (l : Fin 1408) : iblk6 V c 2 t (ix2 r l) = ((d (t.val / 2 * 512 + r.val) (t.val % 2 * 1408 + l.val) : ℝ) : EReal) := by
  blk_simp [iblk6]
  rw [hD]
  blk_simp [ix6_2]

include hA hB hD in
/-- The gradient of the gate's product. -/
theorem act_da_rows (i : S8192x2816.Idx) : (dat6 V c).arrAt 3 cfg6.N i
    = ((d (i 0).val (i 1).val * b (i 0).val (i 1).val * slope (a (i 0).val (i 1).val) : ℝ) : EReal) := by
  refine (dat6 V c).arrAt_forall_of_covers 3
    (fun i v => v = ((d (i 0).val (i 1).val * b (i 0).val (i 1).val * slope (a (i 0).val (i 1).val) : ℝ) : EReal)) (by decide +kernel)
    (fun t hf y => ?_) i
  blk_simp [ix6_3]
  rw [after6_3, act_da_out]
  obtain ⟨r, l, rfl⟩ : ∃ (r : Fin 512) (l : Fin 1408), y = ix2 r l := ⟨y 0, y 1, ValueIdx.eq_ix2 y⟩
  refine act_da_apply (iblk6 V c 0 t) (iblk6 V c 1 t) (iblk6 V c 2 t) r l _ _ _ (act_a V c a hA t r l) ?_ (act_d V c d hD t r l)
  blk_simp [iblk6]
  rw [hB]
  blk_simp [ix6_1]
  rfl

include hA hD in
/-- The gradient of the product beside it. -/
theorem act_db_rows (i : S8192x2816.Idx) : (dat6 V c).arrAt 4 cfg6.N i
    = ((d (i 0).val (i 1).val * (a (i 0).val (i 1).val * logi (a (i 0).val (i 1).val)) : ℝ) : EReal) := by
  refine (dat6 V c).arrAt_forall_of_covers 4
    (fun i v => v = ((d (i 0).val (i 1).val * (a (i 0).val (i 1).val * logi (a (i 0).val (i 1).val)) : ℝ) : EReal)) (by decide +kernel)
    (fun t hf y => ?_) i
  blk_simp [ix6_4]
  rw [after6_4, act_db_out]
  obtain ⟨r, l, rfl⟩ : ∃ (r : Fin 512) (l : Fin 1408), y = ix2 r l := ⟨y 0, y 1, ValueIdx.eq_ix2 y⟩
  exact act_db_apply (iblk6 V c 0 t) (iblk6 V c 2 t) r l _ _ (act_a V c a hA t r l) (act_d V c d hD t r l)
end

end Cert.Ffn.Mixer

end
-- ==== Proof.MixerChain.lean ====
/-
  The channel mixer call by call: what each buffer holds when a later call reads it, and the three results at the end.
-/
module

public import proofs.«01_k».proof.Proof.MixerArrays
public import Idealize.ShloMosaic.Lib.Tactic

@[expose] public section

set_option maxRecDepth 8192

noncomputable section

namespace Cert.Ffn.Mixer

open Idealize.ShloMosaic hiding ix2 ix1 ix0 ix3 ix4
open Idealize.ShloMosaic.TcCoe Idealize.ShloMosaic.Tactic Idealize.ShloMosaic.ValueIdx
open Cert.Kernel2Ideal Cert.Kernel2Ideal.Gen
open Cert.Attn
open scoped BigOperators

/-! ## The channel mixer over the real numbers: input `x`, norm `g`, weights `wg`, `wu`, `wd`, gradient `d` of the result -/

section
variable (x : ℕ → ℕ → ℝ) (g : ℕ → ℝ) (wg wu wd d : ℕ → ℕ → ℝ) (r l : ℕ)

/-- The normed rows. -/
def rowsN : ℝ := normed (x r) g l
/-- The gate's product. -/
def gateP : ℝ := mul 1024 (rowsN x g) wg r l
/-- The gated rows. -/
def gated : ℝ := gateP x g wg r l * logi (gateP x g wg r l) * mul 1024 (rowsN x g) wu r l
/-- The result. -/
def mixed : ℝ := mul 2816 (gated x g wg wu) wd r l + x r l
/-- The gate's gradient. -/
def gradA : ℝ := mulT 1024 d wd r l * mul 1024 (rowsN x g) wu r l * slope (gateP x g wg r l)
/-- The gradient of the product beside it. -/
def gradB : ℝ := mulT 1024 d wd r l * (gateP x g wg r l * logi (gateP x g wg r l))
/-- The gradient of the normed rows. -/
def gradN : ℝ := mulT 2816 (gradB x g wg wd d) wu r l + mulT 2816 (gradA x g wg wu wd d) wg r l
end

variable (m : (ℓ : Loc nD τ sig) → Buf (Elt Ideal) ℓ) (ρ : Dev nD → PrngReg) (c : Dev nD)

/-- The layer's input. -/
abbrev argX : FVec Ideal S8192x1024 .f32 := m ((c : Thread nD τ).loc main_arg0)
/-- The norm's weights. -/
abbrev argG : FVec Ideal S1024 .f32 := m ((c : Thread nD τ).loc main_arg1)
/-- The gate's weights. -/
abbrev argWg : FVec Ideal S1024x2816 .f32 := m ((c : Thread nD τ).loc main_arg2)
/-- The weights beside it. -/
abbrev argWu : FVec Ideal S1024x2816 .f32 := m ((c : Thread nD τ).loc main_arg3)
/-- The last product's weights. -/
abbrev argWd : FVec Ideal S2816x1024 .f32 := m ((c : Thread nD τ).loc main_arg4)
/-- The result's gradient. -/
abbrev argD : FVec Ideal S8192x1024 .f32 := m ((c : Thread nD τ).loc main_arg5)

theorem host_g : (W1 m ρ c (Proc.devRef .tc main_v0) : FVec Ideal S1x1024 .f32) = broadcastInDim S1x1024 ![1] bcast_S1024_S1x1024_1 (argG m c) := by
  unfold_abbrev_sides
  after_results

theorem host_wg : (W1 m ρ c (Proc.devRef .tc main_v1) : FVec Ideal S1024x2816 .bf16) = truncf .bf16 (argWg m c) bitsLt_bf16_f32 := by
  unfold_abbrev_sides
  after_results

theorem host_wu : (W1 m ρ c (Proc.devRef .tc main_v2) : FVec Ideal S1024x2816 .bf16) = truncf .bf16 (argWu m c) bitsLt_bf16_f32 := by
  unfold_abbrev_sides
  after_results

theorem host_wd : (W1 m ρ c (Proc.devRef .tc main_v3) : FVec Ideal S2816x1024 .bf16) = truncf .bf16 (argWd m c) bitsLt_bf16_f32 := by
  unfold_abbrev_sides
  after_results

variable (x : ℕ → ℕ → ℝ) (g : ℕ → ℝ) (wg wu wd d : ℕ → ℕ → ℝ)
  (hX : ∀ i, argX m c i = ((x (i 0).val (i 1).val : ℝ) : EReal)) (hG : ∀ i, argG m c i = ((g (i 0).val : ℝ) : EReal))
  (hWg : ∀ i, argWg m c i = ((wg (i 0).val (i 1).val : ℝ) : EReal)) (hWu : ∀ i, argWu m c i = ((wu (i 0).val (i 1).val : ℝ) : EReal))
  (hWd : ∀ i, argWd m c i = ((wd (i 0).val (i 1).val : ℝ) : EReal)) (hD : ∀ i, argD m c i = ((d (i 0).val (i 1).val : ℝ) : EReal))

/-! ## The arguments where a call reads them -/

include hX in
theorem x_1 (i : S8192x1024.Idx) : V1 m ρ c main_arg0 i = ((x (i 0).val (i 1).val : ℝ) : EReal) :=
  (congrFun (W1_args m ρ c main_arg0 (by decide)) i).trans (hX i)

include hX in
theorem x_5 (i : S8192x1024.Idx) : V5 m ρ c main_arg0 i = ((x (i 0).val (i 1).val : ℝ) : EReal) :=
  (congrFun (W5_args m ρ c main_arg0 (by decide)) i).trans (hX i)

include hD in
theorem d_6 (i : S8192x1024.Idx) : V6 m ρ c main_arg5 i = ((d (i 0).val (i 1).val : ℝ) : EReal) :=
  (congrFun (W6_args m ρ c main_arg5 (by decide)) i).trans (hD i)

include hG in
theorem g_1 (i : S1x1024.Idx) : V1 m ρ c main_v0 i = ((g (i 1).val : ℝ) : EReal) :=
  (congrFun (host_g m ρ c) i).trans (hG _)

include hWg in
theorem wg_2 (i : S1024x2816.Idx) : V2 m ρ c main_v1 i = ((wg (i 0).val (i 1).val : ℝ) : EReal) :=
  (congrFun ((W2_of m ρ c main_v1 (by decide)).trans (host_wg m ρ c)) i).trans (hWg i)

include hWg in
theorem wg_8 (i : S1024x2816.Idx) : V8 m ρ c main_v1 i = ((wg (i 0).val (i 1).val : ℝ) : EReal) :=
  (congrFun ((W8_of m ρ c main_v1 (by decide)).trans <| (W7_of m ρ c main_v1 (by decide)).trans <| (W6_of m ρ c main_v1 (by decide)).trans <|
    (W5_of m ρ c main_v1 (by decide)).trans <| (W4_of m ρ c main_v1 (by decide)).trans (W3_of m ρ c main_v1 (by decide))) i).trans
    (wg_2 m ρ c wg hWg i)

include hWu in
theorem wu_3 (i : S1024x2816.Idx) : V3 m ρ c main_v2 i = ((wu (i 0).val (i 1).val : ℝ) : EReal) :=
  (congrFun ((W3_of m ρ c main_v2 (by decide)).trans <| (W2_of m ρ c main_v2 (by decide)).trans (host_wu m ρ c)) i).trans (hWu i)

include hWu in
theorem wu_9 (i : S1024x2816.Idx) : V9 m ρ c main_v2 i = ((wu (i 0).val (i 1).val : ℝ) : EReal) :=
  (congrFun ((W9_of m ρ c main_v2 (by decide)).trans <| (W8_of m ρ c main_v2 (by decide)).trans <| (W7_of m ρ c main_v2 (by decide)).trans <|
    (W6_of m ρ c main_v2 (by decide)).trans <| (W5_of m ρ c main_v2 (by decide)).trans (W4_of m ρ c main_v2 (by decide))) i).trans
    (wu_3 m ρ c wu hWu i)

include hWd in
theorem wd_5 (i : S2816x1024.Idx) : V5 m ρ c main_v3 i = ((wd (i 0).val (i 1).val : ℝ) : EReal) :=
  (congrFun ((W5_of m ρ c main_v3 (by decide)).trans <| (W4_of m ρ c main_v3 (by decide)).trans <| (W3_of m ρ c main_v3 (by decide)).trans <|
    (W2_of m ρ c main_v3 (by decide)).trans (host_wd m ρ c)) i).trans (hWd i)

include hWd in
theorem wd_6 (i : S2816x1024.Idx) : V6 m ρ c main_v3 i = ((wd (i 0).val (i 1).val : ℝ) : EReal) :=
  (congrFun (W6_of m ρ c main_v3 (by decide)) i).trans (wd_5 m ρ c wd hWd i)

/-! ## The calls' results where a later call reads them -/

include hX hG in
theorem h_2 (i : S8192x1024.Idx) : V2 m ρ c main_v4_0 i = ((rowsN x g (i 0).val (i 1).val : ℝ) : EReal) :=
  (congrFun (W2_arr m ρ c 2) i).trans (norm_rows (V1 m ρ) c x g (x_1 m ρ c x hX) (g_1 m ρ c g hG) i)

include hX hG in
theorem h_3 (i : S8192x1024.Idx) : V3 m ρ c main_v4_0 i = ((rowsN x g (i 0).val (i 1).val : ℝ) : EReal) :=
  (congrFun (W3_of m ρ c main_v4_0 (by decide)) i).trans (h_2 m ρ c x g hX hG i)

include hX hG hWg in
theorem z_4 (i : S8192x2816.Idx) : V4 m ρ c main_v5 i = ((gateP x g wg (i 0).val (i 1).val : ℝ) : EReal) :=
  (congrFun ((W4_of m ρ c main_v5 (by decide)).trans (W3_arr m ρ c 2)) i).trans
    (gate_rows (V2 m ρ) c _ _ (h_2 m ρ c x g hX hG) (wg_2 m ρ c wg hWg) i)

include hX hG hWg in
theorem z_7 (i : S8192x2816.Idx) : V7 m ρ c main_v5 i = ((gateP x g wg (i 0).val (i 1).val : ℝ) : EReal) :=
  (congrFun ((W7_of m ρ c main_v5 (by decide)).trans <| (W6_of m ρ c main_v5 (by decide)).trans (W5_of m ρ c main_v5 (by decide))) i).trans
    (z_4 m ρ c x g wg hX hG hWg i)

include hX hG hWu in
theorem u_4 (i : S8192x2816.Idx) : V4 m ρ c main_v6 i = ((mul 1024 (rowsN x g) wu (i 0).val (i 1).val : ℝ) : EReal) :=
  (congrFun (W4_arr m ρ c 2) i).trans (up_rows (V3 m ρ) c _ _ (h_3 m ρ c x g hX hG) (wu_3 m ρ c wu hWu) i)

include hX hG hWu in
theorem u_7 (i : S8192x2816.Idx) : V7 m ρ c main_v6 i = ((mul 1024 (rowsN x g) wu (i 0).val (i 1).val : ℝ) : EReal) :=
  (congrFun ((W7_of m ρ c main_v6 (by decide)).trans <| (W6_of m ρ c main_v6 (by decide)).trans (W5_of m ρ c main_v6 (by decide))) i).trans
    (u_4 m ρ c x g wu hX hG hWu i)

include hX hG hWg hWu in
theorem f_5 (i : S8192x2816.Idx) : V5 m ρ c main_v7 i = ((gated x g wg wu (i 0).val (i 1).val : ℝ) : EReal) :=
  (congrFun (W5_arr m ρ c 2) i).trans (act_rows (V4 m ρ) c _ _ (z_4 m ρ c x g wg hX hG hWg) (u_4 m ρ c x g wu hX hG hWu) i)

include hWd hD in
theorem df_7 (i : S8192x2816.Idx) : V7 m ρ c main_v9 i = ((mulT 1024 d wd (i 0).val (i 1).val : ℝ) : EReal) :=
  (congrFun (W7_arr m ρ c 2) i).trans (down_dx_rows (V6 m ρ) c _ _ (d_6 m ρ c d hD) (wd_6 m ρ c wd hWd) i)

include hX hG hWg hWu hWd hD in
theorem da_8 (i : S8192x2816.Idx) : V8 m ρ c main_v10_0 i = ((gradA x g wg wu wd d (i 0).val (i 1).val : ℝ) : EReal) :=
  (congrFun (W8_arr m ρ c 3) i).trans (act_da_rows (V7 m ρ) c _ _ _ (z_7 m ρ c x g wg hX hG hWg) (u_7 m ρ c x g wu hX hG hWu)
    (df_7 m ρ c wd d hWd hD) i)

include hX hG hWg hWd hD in
theorem db_9 (i : S8192x2816.Idx) : V9 m ρ c main_v10_1 i = ((gradB x g wg wd d (i 0).val (i 1).val : ℝ) : EReal) :=
  (congrFun ((W9_of m ρ c main_v10_1 (by decide)).trans (W8_arr m ρ c 4)) i).trans
    (act_db_rows (V7 m ρ) c _ _ (z_7 m ρ c x g wg hX hG hWg) (df_7 m ρ c wd d hWd hD) i)

include hX hG hWg hWu hWd hD in
theorem dh_9 (i : S8192x1024.Idx) : V9 m ρ c main_v11 i
    = ((mulT 2816 (gradA x g wg wu wd d) wg (i 0).val (i 1).val : ℝ) : EReal) :=
  (congrFun (W9_arr m ρ c 2) i).trans
    (gate_dx_rows (V8 m ρ) c _ _ (da_8 m ρ c x g wg wu wd d hX hG hWg hWu hWd hD) (wg_8 m ρ c wg hWg) i)

/-! ## The results -/

include hX hG hWg hWu hWd in
theorem result_x (i : S8192x1024.Idx) : W10 m ρ c (Proc.devRef .tc main_v8) i = ((mixed x g wg wu wd (i 0).val (i 1).val : ℝ) : EReal) :=
  (congrFun ((W10_of m ρ c main_v8 (by decide)).trans <| (W9_of m ρ c main_v8 (by decide)).trans <| (W8_of m ρ c main_v8 (by decide)).trans <|
    (W7_of m ρ c main_v8 (by decide)).trans (W6_arr m ρ c 3)) i).trans
    (down_rows (V5 m ρ) c _ _ _ (f_5 m ρ c x g wg wu hX hG hWg hWu) (wd_5 m ρ c wd hWd) (x_5 m ρ c x hX) i)

include hX hG in
theorem result_h (i : S1024x8192.Idx) : W10 m ρ c (Proc.devRef .tc main_v4_1) i = ((rowsN x g (i 1).val (i 0).val : ℝ) : EReal) :=
  (congrFun ((W10_of m ρ c main_v4_1 (by decide)).trans <| (W9_of m ρ c main_v4_1 (by decide)).trans <| (W8_of m ρ c main_v4_1 (by decide)).trans <|
    (W7_of m ρ c main_v4_1 (by decide)).trans <| (W6_of m ρ c main_v4_1 (by decide)).trans <| (W5_of m ρ c main_v4_1 (by decide)).trans <|
    (W4_of m ρ c main_v4_1 (by decide)).trans <| (W3_of m ρ c main_v4_1 (by decide)).trans (W2_arr m ρ c 3)) i).trans
    (norm_cols (V1 m ρ) c x g (x_1 m ρ c x hX) (g_1 m ρ c g hG) i)

include hX hG hWg hWu hWd hD in
theorem result_dh (i : S8192x1024.Idx) : W10 m ρ c (Proc.devRef .tc main_v12) i
    = ((gradN x g wg wu wd d (i 0).val (i 1).val : ℝ) : EReal) :=
  (congrFun (W10_arr m ρ c 3) i).trans
    (up_dx_rows (V9 m ρ) c _ _ _ (db_9 m ρ c x g wg wd d hX hG hWg hWd hD) (wu_9 m ρ c wu hWu)
      (dh_9 m ρ c x g wg wu wd d hX hG hWg hWu hWd hD) i)

end Cert.Ffn.Mixer

end
-- ==== Proof.MixerLaunch.lean ====
/-
  The launch of the channel mixer's program, read for its results: every fair execution ends, and each result buffer then holds
  what the nine calls one after another leave in it.
-/
module

public import proofs.«01_k».proof.Proof.MixerChain

@[expose] public section

set_option maxRecDepth 8192

noncomputable section

namespace Cert.Ffn.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- What the three result buffers and the six arguments hold at the end of every fair execution. -/
theorem kernel_run : θ_run (defs (F := Ideal)) (onTc (τ := τ) (main (F := Ideal))) ⟨m, fun _ => 0, ρ⟩ (fun r => ∀ c : Dev nD,
      r.2.mem ((c.tc : Thread nD τ).loc main_v8) = W10 m ρ c (Proc.devRef .tc main_v8)
      ∧ r.2.mem ((c.tc : Thread nD τ).loc main_v4_1) = W10 m ρ c (Proc.devRef .tc main_v4_1)
      ∧ r.2.mem ((c.tc : Thread nD τ).loc main_v12) = W10 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v8 (by decide)), h c _ (mem_uc main_v4_1 (by decide)), h c _ (mem_uc main_v12 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.Ffn.Mixer

end
-- ==== Proof.MixerAlgebraic.lean ====
/-
  The channel mixer against its reference. With real numbers at every entry of the arguments, the reference's result, its normed
  rows laid across and its gradient of the normed rows are the functions of real numbers that the nine calls leave.
-/
module

public import proofs.«01_k».proof.Proof.MixerLaunch
public import proofs.«01_k».proof.Proof.Finite
public import proofs.«01_k».proof.Proof.Gen.Reference2Ideal.Run
public import proofs.«01_k».proof.Proof.Gen.Reference2Ideal.Read
public import proofs.«01_k».proof.Pre_finite2
public import Idealize.ShloMosaic.Lib.Pointwise
public import Idealize.ShloMosaic.Lib.ReduceAll
public import proofs.«01_k».proof.Defs

@[expose] public section

set_option maxRecDepth 8192

noncomputable section

namespace Cert.Ffn.Mixer

open scoped BigOperators

/-! ## The reference's arithmetic -/

section
open Idealize.ShloMosaic Cert.Reference2Ideal Cert.Reference2Ideal.Read Cert.Attn

variable (X : FVec Ideal S8192x1024 .f32) (G : FVec Ideal S1024 .f32) (A B : FVec Ideal S1024x2816 .f32)
  (C : FVec Ideal S2816x1024 .f32) (D : FVec Ideal S8192x1024 .f32) (x : ℕ → ℕ → ℝ) (g : ℕ → ℝ) (wg wu wd d : ℕ → ℕ → ℝ)
  (hX : ∀ (r : Fin 8192) (l : Fin 1024), X (ix2 r l) = ((x r.val l.val : ℝ) : EReal))
  (hG : ∀ l : Fin 1024, G (ix1 l) = ((g l.val : ℝ) : EReal))
  (hA : ∀ (r : Fin 1024) (l : Fin 2816), A (ix2 r l) = ((wg r.val l.val : ℝ) : EReal))
  (hB : ∀ (r : Fin 1024) (l : Fin 2816), B (ix2 r l) = ((wu r.val l.val : ℝ) : EReal))
  (hC : ∀ (r : Fin 2816) (l : Fin 1024), C (ix2 r l) = ((wd r.val l.val : ℝ) : EReal))
  (hD : ∀ (r : Fin 8192) (l : Fin 1024), D (ix2 r l) = ((d r.val l.val : ℝ) : EReal))

include hX hG in
theorem ref_rows (r : Fin 8192) (l : Fin 1024) : val_main_v12 (F := Ideal) X G (ix2 r l) = ((rowsN x g r.val l.val : ℝ) : EReal) := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  simp only [hX, hG, eps_f32, lanes_f32, ← EReal.coe_mul, ← coe_sum, scale_coe, div_lanes, ← EReal.coe_add]
  rfl

include hX hG in
theorem ref_rows_across (r : Fin 1024) (l : Fin 8192) :
    val_main_v20 (F := Ideal) X G (ix2 r l) = ((rowsN x g l.val r.val : ℝ) : EReal) := by
  refine Eq.trans ?_ (ref_rows X G x g hX hG l r)
  pointwise [val_main_v20, val_main_v19]

include hX hG hA in
theorem ref_gate (r : Fin 8192) (l : Fin 2816) : val_main_v13 (F := Ideal) X G A (ix2 r l) = ((gateP x g wg r.val l.val : ℝ) : EReal) := by
  pointwise [val_main_v13]
  simp only [ref_rows X G x g hX hG, hA, ← EReal.coe_mul, ← coe_sum]
  rfl

include hX hG hA in
theorem ref_logi (r : Fin 8192) (l : Fin 2816) :
    val_main_v14_2 (F := Ideal) X G A (ix2 r l) = ((logi (gateP x g wg r.val l.val) : ℝ) : EReal) := by
  pointwise [val_main_v14_2, val_main_call0_v4, val_main_call0_cst_0, val_main_call0_v3, val_main_call0_v2, val_main_call0_cst,
    val_main_call0_v1, val_main_call0_v0]
  rw [ref_gate X G A x g wg hX hG hA]
  exact logi_coe _

include hX hG hA in
theorem ref_swish (r : Fin 8192) (l : Fin 2816) : val_main_v14_0 (F := Ideal) X G A (ix2 r l)
    = ((gateP x g wg r.val l.val * logi (gateP x g wg r.val l.val) : ℝ) : EReal) := by
  pointwise [val_main_v14_0]
  rw [ref_gate X G A x g wg hX hG hA, ref_logi X G A x g wg hX hG hA, ← EReal.coe_mul]

include hX hG hB in
theorem ref_up (r : Fin 8192) (l : Fin 2816) :
    val_main_v15 (F := Ideal) X G B (ix2 r l) = ((mul 1024 (rowsN x g) wu r.val l.val : ℝ) : EReal) := by
  pointwise [val_main_v15]
  simp only [ref_rows X G x g hX hG, hB, ← EReal.coe_mul, ← coe_sum]
  rfl

include hX hG hA hB hC in
theorem ref_mixed (r : Fin 8192) (l : Fin 1024) :
    val_main_v18 (F := Ideal) X G A B C (ix2 r l) = ((mixed x g wg wu wd r.val l.val : ℝ) : EReal) := by
  pointwise [val_main_v18, val_main_v17, val_main_v16]
  simp only [hX, hC, ref_swish X G A x g wg hX hG hA, ref_up X G B x g wu hX hG hB, ← EReal.coe_mul, ← coe_sum, ← EReal.coe_add]
  rw [add_comm]
  rfl

include hC hD in
theorem ref_back (r : Fin 8192) (l : Fin 2816) : val_main_v21 (F := Ideal) C D (ix2 r l) = ((mulT 1024 d wd r.val l.val : ℝ) : EReal) := by
  pointwise [val_main_v21]
  simp only [hC, hD, ← EReal.coe_mul, ← coe_sum]
  rfl

include hX hG hA hC hD in
theorem ref_gradB (r : Fin 8192) (l : Fin 2816) :
    val_main_v22 (F := Ideal) X G A C D (ix2 r l) = ((gradB x g wg wd d r.val l.val : ℝ) : EReal) := by
  pointwise [val_main_v22]
  rw [ref_swish X G A x g wg hX hG hA, ref_back C D wd d hC hD, ← EReal.coe_mul, mul_comm]
  rfl

include hX hG hA hB hC hD in
theorem ref_gradA (r : Fin 8192) (l : Fin 2816) :
    val_main_v25 (F := Ideal) X G A B C D (ix2 r l) = ((gradA x g wg wu wd d r.val l.val : ℝ) : EReal) := by
  pointwise [val_main_v25, val_main_call1_v0, val_main_call1_v1, val_main_call1_v2, val_main_v14_1, val_main_call0_v7,
    val_main_call0_v6, val_main_call0_cst_1, val_main_v23]
  rw [ref_gate X G A x g wg hX hG hA, ref_logi X G A x g wg hX hG hA, ref_back C D wd d hC hD, ref_up X G B x g wu hX hG hB,
    ← EReal.coe_one]
  simp only [← EReal.coe_mul, ← EReal.coe_sub, ← EReal.coe_add]
  unfold gradA slope
  exact congrArg _ (by ring)

include hX hG hA hB hC hD in
theorem ref_gradN (r : Fin 8192) (l : Fin 1024) :
    val_main_v27 (F := Ideal) X G A B C D (ix2 r l) = ((gradN x g wg wu wd d r.val l.val : ℝ) : EReal) := by
  pointwise [val_main_v27, val_main_v24, val_main_v26]
  simp only [ref_gradA X G A B C D x g wg wu wd d hX hG hA hB hC hD, ref_gradB X G A C D x g wg wd d hX hG hA hC hD, hA, hB,
    ← EReal.coe_mul, ← coe_sum, ← EReal.coe_add]
  rfl

end

/-! ## The precondition -/

open Idealize.ShloMosaic hiding ix2 ix1 ix0 ix3 ix4
open Idealize.ShloMosaic.TcCoe Idealize.ShloMosaic.Tactic Idealize.ShloMosaic.ValueIdx
open Idealize.SL Idealize.SL.Sem
open Cert.Kernel2Ideal Cert.Kernel2Ideal.Gen
open Cert.Attn

/-- The shape relations the precondition's operations take. -/
theorem finite_facts : Cert.Pre_finite2.Facts where
  bcast_S_S8192x1024 := by decide
  reducesTo_S8192x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

attribute [local instance] finite_facts

/-- Every entry of the six arguments is a real number. -/
theorem entries_real (a0 : FVec Ideal S8192x1024 .f32) (a1 : FVec Ideal S1024 .f32) (a2 a3 : FVec Ideal S1024x2816 .f32)
    (a4 : FVec Ideal S2816x1024 .f32) (a5 : FVec Ideal S8192x1024 .f32)
    (h : Cert.Pre_finite2.fn (F := Ideal) a0 a1 a2 a3 a4 a5 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a3 i = (((a3 i : EReal).toReal : ℝ) : EReal))
      ∧ (∀ i, a4 i = (((a4 i : EReal).toReal : ℝ) : EReal)) ∧ ∀ i, a5 i = (((a5 i : EReal).toReal : ℝ) : EReal) := by
  have h0 := congrFun h (fun a => a.elim0)
  obtain ⟨h1, h6⟩ := IntOp.andi_eq_one.1 h0
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  refine ⟨fun i => real_of_lt _ ?_, fun i => real_of_lt _ ?_, fun i => real_of_lt _ ?_, fun i => real_of_lt _ ?_,
    fun i => real_of_lt _ ?_, fun i => real_of_lt _ ?_⟩ <;> rw [← posinf_f32]
  · exact Host.reduce_andi_all _ _ _ _ _ h1 i
  · exact Host.reduce_andi_all _ _ _ _ _ h2 i
  · exact Host.reduce_andi_all _ _ _ _ _ h3 i
  · exact Host.reduce_andi_all _ _ _ _ _ h4 i
  · exact Host.reduce_andi_all _ _ _ _ _ h5 i
  · exact Host.reduce_andi_all _ _ _ _ _ h6 i

/-! ## The equation -/

theorem algebraic : Cert.algebraic_Kernel2Ideal_Reference2Ideal_pre_finite2 (hKernel2Ideal := Cert.Kernel2Ideal.Gen.facts)
    (hReference2Ideal := Cert.Reference2Ideal.Gen.facts) (hPre_finite2 := finite_facts) := by
  intro m g m' g' hpre hargs
  refine ⟨fun c => W10 m g c (Proc.devRef .tc main_v8), fun c => W10 m g c (Proc.devRef .tc main_v4_1),
    fun c => W10 m g c (Proc.devRef .tc main_v12), kernel_run m g, ?_⟩
  refine (θ_run Cert.Reference2Ideal.defs _ _).mono (fun r h c => ?_) (Cert.Reference2Ideal.Value.run (F := Ideal) m' g')
  obtain ⟨hx, hh, hd, h0⟩ := h c
  obtain ⟨e0, e1, e2, e3, e4, e5⟩ := hargs c
  obtain ⟨fX, fG, fA, fB, fC, fD⟩ := entries_real _ _ _ _ _ _ (hpre c)
  have hX := real_eq (by decide : 0 < 8192) (by decide : 0 < 1024) (argX m c) fX
  have hG := real_eq1 (by decide : 0 < 1024) (argG m c) fG
  have hA := real_eq (by decide : 0 < 1024) (by decide : 0 < 2816) (argWg m c) fA
  have hB := real_eq (by decide : 0 < 1024) (by decide : 0 < 2816) (argWu m c) fB
  have hC := real_eq (by decide : 0 < 2816) (by decide : 0 < 1024) (argWd m c) fC
  have hD := real_eq (by decide : 0 < 8192) (by decide : 0 < 1024) (argD m c) fD
  refine ⟨hx.trans ?_, hh.trans ?_, hd.trans ?_, h0⟩
  · refine (Cert.Reference2Ideal.Read.val_main_v18_eq (F := Ideal) _ _ _ _ _).trans ?_
    rw [e0, e1, e2, e3, e4]
    funext i
    refine Eq.trans ?_ (result_x m g c _ _ _ _ _ hX hG hA hB hC i).symm
    rw [ValueIdx.eq_ix2 i]
    exact ref_mixed _ _ _ _ _ _ _ _ _ _ (fun r l => hX (ix2 r l)) (fun l => hG (ix1 l)) (fun r l => hA (ix2 r l))
      (fun r l => hB (ix2 r l)) (fun r l => hC (ix2 r l)) (i 0) (i 1)
  · refine (Cert.Reference2Ideal.Read.val_main_v20_eq (F := Ideal) _ _).trans ?_
    rw [e0, e1]
    funext i
    refine Eq.trans ?_ (result_h m g c _ _ hX hG i).symm
    rw [ValueIdx.eq_ix2 i]
    exact ref_rows_across _ _ _ _ (fun r l => hX (ix2 r l)) (fun l => hG (ix1 l)) (i 0) (i 1)
  · refine (Cert.Reference2Ideal.Read.val_main_v27_eq (F := Ideal) m' c).trans ?_
    rw [e0, e1, e2, e3, e4, e5]
    funext i
    refine Eq.trans ?_ (result_dh m g c _ _ _ _ _ _ hX hG hA hB hC hD i).symm
    rw [ValueIdx.eq_ix2 i]
    exact ref_gradN _ _ _ _ _ _ _ _ _ _ _ _ (fun r l => hX (ix2 r l)) (fun l => hG (ix1 l)) (fun r l => hA (ix2 r l))
      (fun r l => hB (ix2 r l)) (fun r l => hC (ix2 r l)) (fun r l => hD (ix2 r l)) (i 0) (i 1)

end Cert.Ffn.Mixer

end
-- ==== Proof.GateWeight.lean ====
/-
  The gradient of the gate's weights. The call's eight points each multiply 1024 rows of the transposed input with the same rows
  of the gate's gradient and add the product to a scratch they carry; the last point writes it out. Over the extended reals that
  is the product over all 8192 rows, which is the reference's gradient. No entry need be finite.
-/
module

public import proofs.«01_k».proof.Proof.Sums
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Tactic
public import proofs.«01_k».proof.Defs

@[expose] public section

set_option maxRecDepth 8192

noncomputable section

namespace Cert.Ffn.Gate

open Idealize.ShloMosaic hiding ix2 ix1 ix0 ix3 ix4
open Idealize.ShloMosaic.TcCoe Idealize.ShloMosaic.Tactic Idealize.ShloMosaic.ValueIdx
open Idealize.SL Idealize.SL.Sem
open Cert.Kernel3Ideal Cert.Kernel3Ideal.Gen
open scoped BigOperators

section
variable {F : FTy → Type} [FloatOps F]
variable (c : Dev nD) (i : grid0.Coords) (a3 : Memref sig .tc .vmem S1024x1024 .bf16) (h3 : a3.IsWhole)
  (a4 : Memref sig .tc .vmem S1024x2816 .bf16) (h4 : a4.IsWhole) (a5 : Memref sig .tc .vmem S1024x2816 .bf16) (h5 : a5.IsWhole)
  (a6 : Memref sig .tc .vmem S1024x2816 .f32) (h6 : a6.IsWhole) (x : Vec F S1024x1024 .bf16) (y : Vec F S1024x2816 .bf16)
  (s : Vec F S1024x2816 .f32)

/-- The first point leaves its product in the scratch. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S1024x1024) zeros2,
    View.ld_unit_zero (S := S1024x2816) zeros2]

/-- A later point adds its product to what the scratch held. -/
theorem middle (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero zeros2]
  simp only [View.readAt_eq_ld, h3.read_unread, h4.read_unread, h6.read_unread, View.ld_unit_zero (S := S1024x1024) zeros2,
    View.ld_unit_zero (S := S1024x2816) zeros2]

/-- The last point writes out the scratch with its own product added. -/
theorem final (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2]
  simp only [View.readAt_eq_ld, h3.read_unread, h4.read_unread, h6.read_unread, View.ld_unit_zero (S := S1024x1024) zeros2,
    View.ld_unit_zero (S := S1024x2816) zeros2, View.readCov_unit_zero (S := S1024x2816) _ zeros2]
end

/-- A point's product, entry by entry. -/
theorem product (x : Vec Ideal S1024x1024 .bf16) (y : Vec Ideal S1024x2816 .bf16) (r : Fin 1024) (l : Fin 2816) :
    k0_pay1 x y (ix2 r l) = ∑ k : Fin 1024, x (ix2 r k) * y (ix2 k l) := by
  unfold k0_pay1
  rw [shapeCast_self, shapeCast_self]
  refine (Ideal.matmul_plain_apply none x y _ r l).trans ?_
  rw [constant_apply, Attn.zero_f32, EReal.coe_zero, zero_add]

theorem ix_0 : ∀ t : Fin cfg0.N, win0_0.index t = ![0, t.val] := (by decide +kernel : ∀ t : Fin grid0.N, _)
theorem ix_1 : ∀ t : Fin cfg0.N, win0_1.index t = ![t.val, 0] := (by decide +kernel : ∀ t : Fin grid0.N, _)

variable (m : (ℓ : Loc nD τ sig) → Buf (Elt Ideal) ℓ) (ρ : Dev nD → PrngReg) (c : Dev nD)

/-- The layer's input. -/
abbrev argH : FVec Ideal S8192x1024 .f32 := m ((c : Thread nD τ).loc main_arg0)
/-- The gate's gradient. -/
abbrev argA : FVec Ideal S8192x2816 .f32 := m ((c : Thread nD τ).loc main_arg1)

theorem host_h : (V m c main_v1 : FVec Ideal S1024x8192 .bf16)
    = transpose S1024x8192 [1, 0] (truncf .bf16 (argH m c) bitsLt_bf16_f32) transposes_S8192x1024_S1024x8192_1_0 := by
  unfold_abbrev_sides
  after_results

theorem host_a : (V m c main_v2 : FVec Ideal S8192x2816 .bf16) = truncf .bf16 (argA m c) bitsLt_bf16_f32 := by
  unfold_abbrev_sides
  after_results

variable (h a : ℕ → ℕ → EReal) (hH : ∀ i, argH m c i = h (i 0).val (i 1).val) (hA : ∀ i, argA m c i = a (i 0).val (i 1).val)

include hH in
theorem blk_h (t : Fin cfg0.N) (r k : Fin 1024) : iblk m c 0 t (ix2 r k) = h (1024 * t.val + k.val) r.val := by
  blk_simp [iblk]
  rw [host_h]
  refine (transpose_apply [1, 0] _ transposes_S8192x1024_S1024x8192_1_0 _ (fun b => match b with
    | ⟨0, _⟩ => ⟨(1024 * t.val + k.val) % 8192, Nat.mod_lt _ (by decide)⟩ | ⟨1, _⟩ => r) (fun b => ?_)).trans ?_
  · blk_simp [ix_0]
    have := t.isLt
    have hN : cfg0.N = 8 := N_0
    have := k.isLt
    match b with
    | ⟨0, _⟩ => show r.val = 0 * 1024 + r.val; omega
    | ⟨1, _⟩ => show (1024 * t.val + k.val) % 8192 = t.val * 1024 + k.val; omega
  · refine (hH _).trans ?_
    show h ((1024 * t.val + k.val) % 8192) r.val = _
    have := t.isLt
    have hN : cfg0.N = 8 := N_0
    have := k.isLt
    rw [Nat.mod_eq_of_lt (by omega)]

include hA in
theorem blk_a (t : Fin cfg0.N) (k : Fin 1024) (l : Fin 2816) : iblk m c 1 t (ix2 k l) = a (1024 * t.val + k.val) l.val := by
  blk_simp [iblk]
  rw [host_a]
  refine (hA _).trans ?_
  blk_simp [ix_1]
  rw [Nat.mul_comm]

include hH hA in
theorem point (t : Fin cfg0.N) (r : Fin 1024) (l : Fin 2816) : k0_pay1 (iblk m c 0 t) (iblk m c 1 t) (ix2 r l)
    = ∑ k : Fin 1024, h (1024 * t.val + k.val) r.val * a (1024 * t.val + k.val) l.val :=
  (product _ _ r l).trans (Finset.sum_congr rfl fun k _ => by rw [blk_h m c h hH, blk_a m c a hA])

include hH hA in
/-- What the scratch holds after point `n`. -/
theorem carried (r : Fin 1024) (l : Fin 2816) : ∀ (n : ℕ) (hn : n < cfg0.N), n < 7 → (outsAt0 m c n hn).2 (ix2 r l)
    = ∑ u ∈ Finset.range (n + 1), ∑ k : Fin 1024, h (1024 * u + k.val) r.val * a (1024 * u + k.val) l.val
  | 0, hn, _ => by
    rw [outsAt0_A m c ⟨0, hn⟩ rfl (show ¬1 ≤ 0 by decide) (show ¬0 % 8 = 7 by decide)]
    dsimp only
    rw [first]
    unfold k0_pay2
    rw [shapeCast_self, point m c h a hH hA]
    simp
  | n + 1, hn, h7 => by
    rw [outsAt0_B m c ⟨n + 1, hn⟩ (by dsimp only; omega) (by dsimp only; omega) (by dsimp only; omega)]
    dsimp only
    rw [middle]
    unfold k0_pay3
    rw [shapeCast_self, ValueIdx.addf_apply, point m c h a hH hA, Finset.sum_range_succ]
    exact congrArg (· + _) (carried r l n _ (by omega))

include hH hA in
/-- What the last point writes out. -/
theorem last (r : Fin 1024) (l : Fin 2816) (t : Fin cfg0.N) (ht : t.val = 7) : (outsAt0 m c t.val t.isLt).1 (ix2 r l)
    = ∑ q : Fin 8192, h q.val r.val * a q.val l.val := by
  rw [outsAt0_C m c t (by omega) (by omega) (by omega)]
  dsimp only
  rw [final]
  unfold k0_pay4 k0_pay3
  rw [ValueIdx.truncf_apply, shapeCast_self, ValueIdx.addf_apply, point m c h a hH hA,
    carried m c h a hH hA r l (t.val - 1) _ (by omega), show t.val - 1 + 1 = t.val by omega,
    ← Finset.sum_range_succ (fun u => ∑ k : Fin 1024, h (1024 * u + k.val) r.val * a (1024 * u + k.val) l.val), ht]
  exact sum_rows fun q => h q r.val * a q l.val

include hH hA in
/-- The result. -/
theorem result (i : S1024x2816.Idx) : Cert.Kernel3Ideal.Value.G2 m c i
    = ∑ q : Fin 8192, h q.val (i 0).val * a q.val (i 1).val := by
  obtain ⟨r, l, rfl⟩ : ∃ (r : Fin 1024) (l : Fin 2816), i = ix2 r l := ⟨i 0, i 1, ValueIdx.eq_ix2 i⟩
  refine (congrFun (Cert.Kernel3Ideal.Value.G2_last m c) _).trans ?_
  rw [← Cert.Kernel3Ideal.Value.outsAt0_sweep m c 7 (lt_of_lt_of_eq (by decide) N_0.symm)]
  exact last m c h a hH hA r l ⟨7, lt_of_lt_of_eq (by decide) N_0.symm⟩ rfl

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G2 m c, Cert.Kernel3Ideal.Value.run m g, ?_⟩
  refine (θ_run Cert.Reference3Ideal.defs _ _).mono (fun r h c => ?_) (Cert.Reference3Ideal.Value.run (F := Ideal) m' g')
  obtain ⟨hv, h0, h1⟩ := h c
  obtain ⟨e0, e1⟩ := hargs c
  refine ⟨hv.trans ?_, h0, h1⟩
  refine (Cert.Reference3Ideal.Read.val_main_v4_eq (F := Ideal) _ _).trans ?_
  rw [e0, e1]
  have eh := entry_eq (by decide : 0 < 8192) (by decide : 0 < 1024) (argH m c)
  have ea := entry_eq (by decide : 0 < 8192) (by decide : 0 < 2816) (argA m c)
  funext i
  refine Eq.trans ?_ (result m c _ _ eh ea i).symm
  rw [Cert.Reference3Ideal.Read.val_main_v4_apply, Cert.Reference3Ideal.Read.val_main_v3_apply]
  refine (Cert.Reference3Ideal.Read.val_main_v2_apply _ _ _).trans (Finset.sum_congr rfl fun q _ => ?_)
  rw [mul_comm]
  exact congrArg₂ (· * ·) (eh _) (ea _)

end Cert.Ffn.Gate

end
-- ==== Proof.DownWeight.lean ====
/-
  The gradient of the down projection's weights. The result is written in two tiles of 1408 rows; for each, eight points multiply
  1024 rows of the transposed hidden layer with the same rows of the output's gradient and add the product to a scratch they
  carry, and the eighth writes the tile out. Over the extended reals that is the product over all 8192 rows, which is the
  reference's gradient. No entry need be finite.
-/
module

public import proofs.«01_k».proof.Proof.Sums
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Tactic
public import proofs.«01_k».proof.Defs

@[expose] public section

set_option maxRecDepth 8192

noncomputable section

namespace Cert.Ffn.Down

open Idealize.ShloMosaic hiding ix2 ix1 ix0 ix3 ix4
open Idealize.ShloMosaic.TcCoe Idealize.ShloMosaic.Tactic Idealize.ShloMosaic.ValueIdx
open Idealize.SL Idealize.SL.Sem
open Cert.Kernel4Ideal Cert.Kernel4Ideal.Gen
open scoped BigOperators

section
variable {F : FTy → Type} [FloatOps F]
variable (c : Dev nD) (i : grid0.Coords) (a3 : Memref sig .tc .vmem S1024x1408 .bf16) (h3 : a3.IsWhole)
  (a4 : Memref sig .tc .vmem S1024x1024 .f32) (h4 : a4.IsWhole) (a5 : Memref sig .tc .vmem S1408x1024 .bf16) (h5 : a5.IsWhole)
  (a6 : Memref sig .tc .vmem S1408x1024 .f32) (h6 : a6.IsWhole) (x : Vec F S1024x1408 .bf16) (y : Vec F S1024x1024 .f32)
  (s : Vec F S1408x1024 .f32)

/-- A tile's first point leaves its product in the scratch. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S1024x1408) zeros2,
    View.ld_unit_zero (S := S1024x1024) zeros2]

/-- A later point adds its product to what the scratch held. -/
theorem middle (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero zeros2]
  simp only [View.readAt_eq_ld, h3.read_unread, h4.read_unread, h6.read_unread, View.ld_unit_zero (S := S1024x1408) zeros2,
    View.ld_unit_zero (S := S1024x1024) zeros2, View.ld_unit_zero (S := S1408x1024) zeros2]

/-- A tile's last point writes out the scratch with its own product added. -/
theorem final (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2]
  simp only [View.readAt_eq_ld, h3.read_unread, h4.read_unread, h6.read_unread, View.ld_unit_zero (S := S1024x1408) zeros2,
    View.ld_unit_zero (S := S1024x1024) zeros2, View.ld_unit_zero (S := S1408x1024) zeros2,
    View.readCov_unit_zero (S := S1408x1024) _ zeros2]
end

/-- A point's product, entry by entry. -/
theorem product (x : Vec Ideal S1024x1408 .bf16) (y : Vec Ideal S1024x1024 .f32) (r : Fin 1408) (l : Fin 1024) :
    k0_pay1 x y (ix2 r l) = ∑ k : Fin 1024, x (ix2 k r) * y (ix2 k l) := by
  unfold k0_pay1
  rw [shapeCast_self]
  exact product_tn dot_S1024x1408_S1024x1024_S1408x1024_0_0_1_1_n_n rfl rfl (fun _ _ => rfl) (fun _ _ => rfl) (fun _ _ => rfl)
    (fun _ _ => rfl) x (truncf .bf16 y bitsLt_bf16_f32) r l

/-! ## Where the blocks lie: point `t` is row block `t % 8` of tile `t / 8` -/

theorem ix_0 : ∀ t : Fin cfg0.N, win0_0.index t = ![t.val % 8, t.val / 8] := (by decide +kernel : ∀ t : Fin grid0.N, _)
theorem ix_1 : ∀ t : Fin cfg0.N, win0_1.index t = ![t.val % 8, 0] := (by decide +kernel : ∀ t : Fin grid0.N, _)

variable (m : (ℓ : Loc nD τ sig) → Buf (Elt Ideal) ℓ) (ρ : Dev nD → PrngReg) (c : Dev nD)

/-- The hidden layer. -/
abbrev argF : FVec Ideal S8192x2816 .f32 := m ((c : Thread nD τ).loc main_arg0)
/-- The output's gradient. -/
abbrev argD : FVec Ideal S8192x1024 .f32 := m ((c : Thread nD τ).loc main_arg1)

theorem host_f : (V m c main_v0 : FVec Ideal S8192x2816 .bf16) = truncf .bf16 (argF m c) bitsLt_bf16_f32 := by
  unfold_abbrev_sides
  after_results

variable (f d : ℕ → ℕ → EReal) (hF : ∀ i, argF m c i = f (i 0).val (i 1).val) (hD : ∀ i, argD m c i = d (i 0).val (i 1).val)

include hF in
theorem blk_f (t : Fin cfg0.N) (k : Fin 1024) (r : Fin 1408) :
    iblk m c 0 t (ix2 k r) = f (1024 * (t.val % 8) + k.val) (1408 * (t.val / 8) + r.val) := by
  blk_simp [iblk]
  rw [host_f]
  refine (hF _).trans ?_
  blk_simp [ix_0]
  show f (t.val % 8 * 1024 + k.val) (t.val / 8 * 1408 + r.val) = _
  rw [Nat.mul_comm, Nat.mul_comm (t.val / 8)]

include hD in
theorem blk_d (t : Fin cfg0.N) (k : Fin 1024) (l : Fin 1024) : iblk m c 1 t (ix2 k l) = d (1024 * (t.val % 8) + k.val) l.val := by
  blk_simp [iblk]
  rw [V_main_arg1]
  refine (hD _).trans ?_
  blk_simp [ix_1]
  rw [Nat.mul_comm]

include hF hD in
theorem point (t : Fin cfg0.N) (r : Fin 1408) (l : Fin 1024) : k0_pay1 (iblk m c 0 t) (iblk m c 1 t) (ix2 r l)
    = ∑ k : Fin 1024, f (1024 * (t.val % 8) + k.val) (1408 * (t.val / 8) + r.val) * d (1024 * (t.val % 8) + k.val) l.val :=
  (product _ _ r l).trans (Finset.sum_congr rfl fun k _ => by rw [blk_f m c f hF, blk_d m c d hD])

include hF hD in
/-- What the scratch holds after row block `n` of tile `b`. -/
theorem carried (r : Fin 1408) (l : Fin 1024) (b : ℕ) : ∀ (n : ℕ) (hn : 8 * b + n < cfg0.N), n < 7 →
    (outsAt0 m c (8 * b + n) hn).2 (ix2 r l)
      = ∑ u ∈ Finset.range (n + 1), ∑ k : Fin 1024, f (1024 * u + k.val) (1408 * b + r.val) * d (1024 * u + k.val) l.val
  | 0, hn, _ => by
    rw [outsAt0_A m c ⟨8 * b + 0, hn⟩ (by dsimp only; omega) (by dsimp only; omega) (by dsimp only; omega)]
    dsimp only
    rw [first]
    unfold k0_pay2
    rw [shapeCast_self, point m c f d hF hD]
    dsimp only
    rw [show (8 * b + 0) % 8 = 0 by omega, show (8 * b + 0) / 8 = b by omega]
    simp
  | n + 1, hn, h7 => by
    rw [outsAt0_B m c ⟨8 * b + (n + 1), hn⟩ (by dsimp only; omega) (by dsimp only; omega) (by dsimp only; omega)]
    dsimp only
    rw [middle]
    unfold k0_pay3
    rw [shapeCast_self, ValueIdx.addf_apply, point m c f d hF hD, Finset.sum_range_succ]
    dsimp only
    rw [show (8 * b + (n + 1)) % 8 = n + 1 by omega, show (8 * b + (n + 1)) / 8 = b by omega]
    exact congrArg (· + _) (carried r l b n _ (by omega))

include hF hD in
/-- What a tile's last point writes out. -/
theorem last (r : Fin 1408) (l : Fin 1024) (b : ℕ) (t : Fin cfg0.N) (ht : t.val = 8 * b + 7) :
    (outsAt0 m c t.val t.isLt).1 (ix2 r l) = ∑ q : Fin 8192, f q.val (1408 * b + r.val) * d q.val l.val := by
  rw [outsAt0_C m c t (by omega) (by omega) (by omega)]
  dsimp only
  rw [final]
  unfold k0_pay4 k0_pay3
  rw [ValueIdx.truncf_apply, shapeCast_self, ValueIdx.addf_apply, point m c f d hF hD]
  have hn : 8 * b + 6 < cfg0.N := by have := t.isLt; omega
  have e : outsAt0 m c (t.val - 1) (Nat.lt_of_le_of_lt (Nat.sub_le _ _) t.isLt) = outsAt0 m c (8 * b + 6) hn := by
    congr 1; omega
  rw [e, carried m c f d hF hD r l b 6 hn (by omega), show t.val % 8 = 7 by omega, show t.val / 8 = b by omega,
    ← Finset.sum_range_succ (fun u => ∑ k : Fin 1024, f (1024 * u + k.val) (1408 * b + r.val) * d (1024 * u + k.val) l.val)]
  exact sum_rows fun q => f q (1408 * b + r.val) * d q l.val

include hF hD in
/-- The result. -/
theorem result (i : S2816x1024.Idx) : Cert.Kernel4Ideal.Value.G2 m c i
    = ∑ q : Fin 8192, f q.val (i 0).val * d q.val (i 1).val := by
  have hN : cfg0.N = 16 := N_0
  have h0 : (i 0).val < 2816 := (i 0).isLt
  have h1 : (i 1).val < 1024 := (i 1).isLt
  have hp : Cert.Kernel4Ideal.Value.pt2Of i = 8 * ((i 0).val / 1408) + 7 := by
    show 8 * (1 * ((i 0).val / 1408 - 0) + 1 * ((i 1).val / 1024 - 0)) + 7 = _
    omega
  have hlt : Cert.Kernel4Ideal.Value.pt2Of i < cfg0.N := by omega
  unfold Cert.Kernel4Ideal.Value.G2
  rw [dif_pos hlt, ← Cert.Kernel4Ideal.Value.outsAt0_sweep m c _ hlt, ValueIdx.eq_ix2 (Cert.Kernel4Ideal.Value.loc2Of i)]
  refine (last m c f d hF hD _ _ ((i 0).val / 1408) ⟨_, hlt⟩ hp).trans (Finset.sum_congr rfl fun q _ => ?_)
  show f q.val (1408 * ((i 0).val / 1408) + (i 0).val % 1408) * d q.val ((i 1).val % 1024) = _
  rw [Nat.div_add_mod, Nat.mod_eq_of_lt h1]

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.G2 m c, Cert.Kernel4Ideal.Value.run m g, ?_⟩
  refine (θ_run Cert.Reference4Ideal.defs _ _).mono (fun r h c => ?_) (Cert.Reference4Ideal.Value.run (F := Ideal) m' g')
  obtain ⟨hv, h0, h1⟩ := h c
  obtain ⟨e0, e1⟩ := hargs c
  refine ⟨hv.trans ?_, h0, h1⟩
  refine (Cert.Reference4Ideal.Read.val_main_v4_eq (F := Ideal) _ _).trans ?_
  rw [e0, e1]
  have ef := entry_eq (by decide : 0 < 8192) (by decide : 0 < 2816) (argF m c)
  have ed := entry_eq (by decide : 0 < 8192) (by decide : 0 < 1024) (argD m c)
  funext i
  refine Eq.trans ?_ (result m c _ _ ef ed i).symm
  rw [Cert.Reference4Ideal.Read.val_main_v4_apply, Cert.Reference4Ideal.Read.val_main_v3_apply]
  refine (Cert.Reference4Ideal.Read.val_main_v2_apply _ _ _).trans (Finset.sum_congr rfl fun q _ => ?_)
  rw [mul_comm]
  exact congrArg₂ (· * ·) (ef _) (ed _)

end Cert.Ffn.Down

end
-- ==== Proof.NormGrad.lean ====
/-
  The gradient of the channel mixer's norm. Each of sixteen points takes 512 rows: it writes their gradient, the residual's
  gradient added, and adds their share of the weights' gradient to a row the points carry. Both
  results are the reference's gradients. No entry need be finite: in a row with an infinite entry both sides multiply with zero.
-/
module

public import proofs.«01_k».proof.Proof.Rms
public import proofs.«01_k».proof.Proof.Sums
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Tactic
public import proofs.«01_k».proof.Defs

@[expose] public section

set_option maxRecDepth 8192

noncomputable section

namespace Cert.Ffn.Norm

open scoped BigOperators

/-! ## A point's arithmetic -/

section
open Idealize.ShloMosaic Cert.Kernel5Ideal Cert.Kernel5Ideal.Gen Cert.Attn

variable (X H D : Vec Ideal S512x1024 .f32) (G : Vec Ideal S1x1024 .f32) (x h d : ℕ → ℕ → EReal) (g : ℕ → EReal) (o : ℕ)
  (hX : ∀ (r : Fin 512) (l : Fin 1024), X (ix2 r l) = x (o + r.val) l.val)
  (hG : ∀ l : Fin 1024, G (ix2 0 l) = g l.val)
  (hH : ∀ (r : Fin 512) (l : Fin 1024), H (ix2 r l) = h (o + r.val) l.val)
  (hD : ∀ (r : Fin 512) (l : Fin 1024), D (ix2 r l) = d (o + r.val) l.val)

include hX hG hH hD in
theorem rows_value (r : Fin 512) (l : Fin 1024) : k0_pay4 X H G D (ix2 r l)
    = d (o + r.val) l.val + normGrad (x (o + r.val)) g (h (o + r.val)) l.val := by
  pointwise [k0_pay4, k0_pay3, k0_pay2]
  simp only [hX, hG, hH, hD, eps_f32, lanes_f32]
  rfl

include hX hH in
theorem weights_value (l : Fin 1024) : k0_pay5 X H (ix2 0 l)
    = ∑ r : Fin 512, h (o + r.val) l.val * (x (o + r.val) l.val * scaleOf (x (o + r.val))) := by
  pointwise [k0_pay5, k0_pay3, k0_pay2]
  simp only [hX, hH, eps_f32, lanes_f32]
  rfl

end

/-! ## The reference's arithmetic -/

section
open Idealize.ShloMosaic Cert.Reference5Ideal Cert.Reference5Ideal.Read Cert.Attn

variable (X H D : FVec Ideal S8192x1024 .f32) (G : FVec Ideal S1024 .f32) (x h d : ℕ → ℕ → EReal) (g : ℕ → EReal)
  (hX : ∀ (r : Fin 8192) (l : Fin 1024), X (ix2 r l) = x r.val l.val)
  (hG : ∀ l : Fin 1024, G (ix1 l) = g l.val)
  (hH : ∀ (r : Fin 8192) (l : Fin 1024), H (ix2 r l) = h r.val l.val)
  (hD : ∀ (r : Fin 8192) (l : Fin 1024), D (ix2 r l) = d r.val l.val)

include hX hG hH hD in
theorem ref_rows (r : Fin 8192) (l : Fin 1024) : val_main_v36 (F := Ideal) X G H D (ix2 r l)
    = d r.val l.val + normGrad (x r.val) g (h r.val) l.val := by
  pointwise [val_main_v36, val_main_v35, val_main_v34, val_main_v33, val_main_v32, val_main_v31, val_main_v30, val_main_cst_7,
    val_main_v29, val_main_v28, val_main_cst_6, val_main_v27, val_main_v26, val_main_v25, val_main_v24, val_main_v23,
    val_main_cst_5, val_main_v22, val_main_v20, val_main_v19, val_main_v13, val_main_v10, val_main_v9, val_main_cst_2,
    val_main_v8, val_main_v7, val_main_v6, val_main_v5, val_main_cst_1, val_main_v4, val_main_v3, val_main_cst_0, val_main_v2,
    val_main_v1, val_main_cst, val_main_v0]
  simp only [hX, hG, hH, hD, eps_f32, lanes_f32, neghalf_f32, Fin.sum_univ_one]
  exact congrArg (d r.val l.val + ·) (normGrad_halves (x r.val) g (h r.val) l)

include hX hH in
theorem ref_weights (l : Fin 1024) : val_main_v37 (F := Ideal) X H (ix2 0 l)
    = ∑ q : Fin 8192, h q.val l.val * (x q.val l.val * scaleOf (x q.val)) := by
  pointwise [val_main_v37, val_main_v21, val_main_cst_4, val_main_v18, val_main_v17, val_main_cst_3, val_main_v16, val_main_v12,
    val_main_v11, val_main_v7, val_main_v6, val_main_v5, val_main_cst_1, val_main_v4, val_main_v3, val_main_cst_0, val_main_v2,
    val_main_v1, val_main_cst, val_main_v0]
  simp only [hX, hH, eps_f32, lanes_f32, Fin.sum_univ_one]
  exact Finset.sum_congr rfl fun q _ => mul_comm _ _

end

/-! ## What a point leaves -/

open Idealize.ShloMosaic hiding ix2 ix1 ix0 ix3 ix4
open Idealize.ShloMosaic.TcCoe Idealize.ShloMosaic.Tactic Idealize.ShloMosaic.ValueIdx
open Idealize.SL Idealize.SL.Sem
open Cert.Kernel5Ideal Cert.Kernel5Ideal.Gen
open Cert.Attn

section
variable {F : FTy → Type} [FloatOps F]
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S1x1024 .f32) (h6 : a6.IsWhole)
  (x : Vec F S512x1024 .f32) (g : Vec F S1x1024 .f32) (h d : Vec F S512x1024 .f32) (s : Vec F S1x1024 .f32)

/-- The first point's gradient of its rows. -/
theorem rows_first (hc0 : cond0_0 i) (hc1 : ¬cond0_1 i) :
    out0_A_4 c i a1 h1 a2 h2 a3 h3 a4 h4 a5 h5 a6 h6 hc0 hc1 x g h d = k0_pay4 x h g d := by
  unfold out0_A_4
  rw [View.read_writes_eq_canon _ _ _ (cover0_A_4 c i a1 h1 a2 h2 a3 h3 a4 h4 a5 h5 a6 h6 hc0 hc1 x g h d)]
  unfold kernelRun0_A
  dsimp only
  sl_unfold_words
  rw [View.canon_unit_zero zeros2]
  simp only [View.readAt_eq_ld, h1.read_unread, h2.read_unread, h3.read_unread, h4.read_unread,
    View.ld_unit_zero (S := S512x1024) zeros2, View.ld_unit_zero (S := S1x1024) zeros2]

/-- The first point's share of the weights' gradient. -/
theorem weights_first (hc0 : cond0_0 i) (hc1 : ¬cond0_1 i) :
    out0_A_5 c i a1 h1 a2 h2 a3 h3 a4 h4 a5 h5 a6 h6 hc0 hc1 x g h d = k0_pay5 x h := by
  unfold out0_A_5
  rw [View.read_writes_eq_canon _ _ _ (cover0_A_5 c i a1 h1 a2 h2 a3 h3 a4 h4 a5 h5 a6 h6 hc0 hc1 x g h d)]
  unfold kernelRun0_A
  dsimp only
  sl_unfold_words
  rw [View.canon_unit_zero zeros2]
  simp only [View.readAt_eq_ld, h1.read_unread, h3.read_unread, View.ld_unit_zero (S := S512x1024) zeros2]

/-- A later point's gradient of its rows. -/
theorem rows_later (hc0 : ¬cond0_0 i) (hc1 : cond0_1 i) :
    out0_B_4 c i a1 h1 a2 h2 a3 h3 a4 h4 a5 h5 a6 h6 hc0 hc1 x g h d s = k0_pay4 x h g d := by
  unfold out0_B_4
  rw [View.read_writes_eq_canon _ _ _ (cover0_B_4 c i a1 h1 a2 h2 a3 h3 a4 h4 a5 h5 a6 h6 hc0 hc1 x g h d s)]
  unfold kernelRun0_B
  dsimp only
  sl_unfold_words
  rw [View.canon_unit_zero zeros2]
  simp only [View.readAt_eq_ld, h1.read_unread, h2.read_unread, h3.read_unread, h4.read_unread,
    View.ld_unit_zero (S := S512x1024) zeros2, View.ld_unit_zero (S := S1x1024) zeros2]

/-- A later point adds its share of the weights' gradient to what was there. -/
theorem weights_later (hc0 : ¬cond0_0 i) (hc1 : cond0_1 i) :
    out0_B_5 c i a1 h1 a2 h2 a3 h3 a4 h4 a5 h5 a6 h6 hc0 hc1 x g h d s = k0_pay1 (k0_pay5 x h) s := by
  unfold out0_B_5
  rw [View.read_writes_eq_canon _ _ _ (cover0_B_5 c i a1 h1 a2 h2 a3 h3 a4 h4 a5 h5 a6 h6 hc0 hc1 x g h d s)]
  unfold kernelRun0_B
  dsimp only
  sl_unfold_words
  rw [View.canon_unit_zero zeros2]
  simp only [View.readAt_eq_ld, h1.read_unread, h3.read_unread, h6.read_unread, View.ld_unit_zero (S := S512x1024) zeros2,
    View.ld_unit_zero (S := S1x1024) zeros2]
end

/-! ## Where the blocks lie: point `t` is row block `t` -/

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, 0] := (by decide +kernel : ∀ t : Fin grid0.N, _)

variable (m : (ℓ : Loc nD τ sig) → Buf (Elt Ideal) ℓ) (ρ : Dev nD → PrngReg) (c : Dev nD)

/-- The rows the norm was taken of. -/
abbrev argX : FVec Ideal S8192x1024 .f32 := m ((c : Thread nD τ).loc main_arg0)
/-- The norm's weights. -/
abbrev argG : FVec Ideal S1024 .f32 := m ((c : Thread nD τ).loc main_arg1)
/-- The gradient of the normed rows. -/
abbrev argH : FVec Ideal S8192x1024 .f32 := m ((c : Thread nD τ).loc main_arg2)
/-- The residual's gradient. -/
abbrev argD : FVec Ideal S8192x1024 .f32 := m ((c : Thread nD τ).loc main_arg3)

theorem host_g : (V m c main_v0 : FVec Ideal S1x1024 .f32) = broadcastInDim S1x1024 ![1] bcast_S1024_S1x1024_1 (argG m c) := by
  unfold_abbrev_sides
  after_results

variable (x h d : ℕ → ℕ → EReal) (g : ℕ → EReal)
  (hX : ∀ i, argX m c i = x (i 0).val (i 1).val) (hG : ∀ i, argG m c i = g (i 0).val)
  (hH : ∀ i, argH m c i = h (i 0).val (i 1).val) (hD : ∀ i, argD m c i = d (i 0).val (i 1).val)

include hX in
theorem blk_x (t : Fin cfg0.N) (r : Fin 512) (l : Fin 1024) : iblk m c 0 t (ix2 r l) = x (512 * t.val + r.val) l.val := by
  blk_simp [iblk]
  rw [V_main_arg0]
  refine (hX _).trans ?_
  blk_simp [ix_0]
  rw [Nat.mul_comm]

include hG in
theorem blk_g (t : Fin cfg0.N) (l : Fin 1024) : iblk m c 1 t (ix2 0 l) = g l.val := by
  blk_simp [iblk]
  rw [host_g]
  refine (hG _).trans ?_
  blk_simp [ix_1]
  rfl

include hH in
theorem blk_h (t : Fin cfg0.N) (r : Fin 512) (l : Fin 1024) : iblk m c 2 t (ix2 r l) = h (512 * t.val + r.val) l.val := by
  blk_simp [iblk]
  rw [V_main_arg2]
  refine (hH _).trans ?_
  blk_simp [ix_2]
  rw [Nat.mul_comm]

include hD in
theorem blk_d (t : Fin cfg0.N) (r : Fin 512) (l : Fin 1024) : iblk m c 3 t (ix2 r l) = d (512 * t.val + r.val) l.val := by
  blk_simp [iblk]
  rw [V_main_arg3]
  refine (hD _).trans ?_
  blk_simp [ix_3]
  rw [Nat.mul_comm]

include hX hG hH hD in
/-- The rows a point writes. -/
theorem rows_at (t : Fin cfg0.N) (r : Fin 512) (l : Fin 1024) : (outsAt0 m c t.val t.isLt).1 (ix2 r l)
    = d (512 * t.val + r.val) l.val + normGrad (x (512 * t.val + r.val)) g (h (512 * t.val + r.val)) l.val := by
  have hN : cfg0.N = 16 := N_0
  have ht := t.isLt
  have e := rows_value (iblk m c 0 t) (iblk m c 2 t) (iblk m c 3 t) (iblk m c 1 t) _ _ _ _ _ (blk_x m c x hX t) (blk_g m c g hG t)
    (blk_h m c h hH t) (blk_d m c d hD t) r l
  by_cases h0 : t.val % 16 = 0
  · rw [outsAt0_A m c t h0 (by omega)]
    dsimp only
    rw [rows_first]
    exact e
  · rw [outsAt0_B m c t h0 (by omega)]
    dsimp only
    rw [rows_later]
    exact e

include hX hH in
/-- The weights' gradient after row block `n`. -/
theorem weights_at (l : Fin 1024) : ∀ (n : ℕ) (hn : n < cfg0.N), (outsAt0 m c n hn).2 (ix2 0 l)
    = ∑ u ∈ Finset.range (n + 1), ∑ r : Fin 512,
        h (512 * u + r.val) l.val * (x (512 * u + r.val) l.val * scaleOf (x (512 * u + r.val)))
  | 0, hn => by
    rw [outsAt0_A m c ⟨0, hn⟩ (by dsimp only) (by dsimp only; omega)]
    dsimp only
    rw [weights_first]
    refine (weights_value _ _ _ _ _ (blk_x m c x hX ⟨0, hn⟩) (blk_h m c h hH ⟨0, hn⟩) l).trans ?_
    simp
  | n + 1, hn => by
    have hN : cfg0.N = 16 := N_0
    rw [outsAt0_B m c ⟨n + 1, hn⟩ (by dsimp only; omega) (by dsimp only; omega)]
    dsimp only
    rw [weights_later]
    unfold k0_pay1
    rw [shapeCast_self, ValueIdx.addf_apply, Finset.sum_range_succ _ (n + 1)]
    exact congrArg₂ (· + ·) (weights_at l n _)
      (weights_value _ _ _ _ _ (blk_x m c x hX ⟨n + 1, hn⟩) (blk_h m c h hH ⟨n + 1, hn⟩) l)

include hX hG hH hD in
/-- The array of rows. -/
theorem rows (i : S8192x1024.Idx) : (dats m 0 c).arrAt 4 cfg0.N i
    = d (i 0).val (i 1).val + normGrad (x (i 0).val) g (h (i 0).val) (i 1).val := by
  refine (dats m 0 c).arrAt_forall_of_covers 4
    (fun i v => v = d (i 0).val (i 1).val + normGrad (x (i 0).val) g (h (i 0).val) (i 1).val)
    (by decide +kernel) (fun t hf y => ?_) i
  blk_simp [ix_4]
  rw [after0_4]
  obtain ⟨r, l, rfl⟩ : ∃ (r : Fin 512) (l : Fin 1024), y = ix2 r l := ⟨y 0, y 1, ValueIdx.eq_ix2 y⟩
  refine (rows_at m c x h d g hX hG hH hD t r l).trans ?_
  rw [Nat.mul_comm 512]
  rfl

include hX hH in
/-- The row of weights' gradients. -/
theorem weights (i : S1x1024.Idx) : (dats m 0 c).arrAt 5 cfg0.N i
    = ∑ q : Fin 8192, h q.val (i 1).val * (x q.val (i 1).val * scaleOf (x q.val)) := by
  refine (dats m 0 c).arrAt_forall_of_covers 5
    (fun i v => v = ∑ q : Fin 8192, h q.val (i 1).val * (x q.val (i 1).val * scaleOf (x q.val)))
    (by decide +kernel) (fun t hf y => ?_) i
  have ht : t.val = 15 := (by decide +kernel : ∀ t : Fin cfg0.N, (cfg0.win 5).flush t = true → t.val = 15) t hf
  blk_simp [ix_5]
  rw [after0_5]
  obtain ⟨l, rfl⟩ : ∃ l : Fin 1024, y = ix2 (0 : Fin 1) l := ⟨y 1, one_row y⟩
  refine (weights_at m c x h hX hH l t.val t.isLt).trans ?_
  rw [ht]
  refine (sum_by_blocks 512 (fun q => h q l.val * (x q l.val * scaleOf (x q))) 16).trans ?_
  refine (Finset.sum_range fun q => h q l.val * (x q l.val * scaleOf (x q))).trans ?_
  rfl

/-! ## The equation -/

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (dats m 0 c).arrAt 4 cfg0.N, fun c => (dats m 0 c).arrAt 5 cfg0.N, Cert.Kernel5Ideal.Value.run_blocks m g, ?_⟩
  refine (θ_run Cert.Reference5Ideal.defs _ _).mono (fun r h c => ?_) (Cert.Reference5Ideal.Value.run (F := Ideal) m' g')
  obtain ⟨hv, hw, h0, h1, h2, h3⟩ := h c
  obtain ⟨e0, e1, e2, e3⟩ := hargs c
  have hX := entry_eq (by decide : 0 < 8192) (by decide : 0 < 1024) (argX m c)
  have hG := entry1_eq (by decide : 0 < 1024) (argG m c)
  have hH := entry_eq (by decide : 0 < 8192) (by decide : 0 < 1024) (argH m c)
  have hD := entry_eq (by decide : 0 < 8192) (by decide : 0 < 1024) (argD m c)
  refine ⟨hv.trans ?_, hw.trans ?_, h0, h1, h2, h3⟩
  · refine (Cert.Reference5Ideal.Read.val_main_v36_eq (F := Ideal) _ _ _ _).trans ?_
    rw [e0, e1, e2, e3]
    funext i
    refine Eq.trans ?_ (rows m c _ _ _ _ hX hG hH hD i).symm
    rw [ValueIdx.eq_ix2 i]
    exact ref_rows _ _ _ _ _ _ _ _ (fun r l => hX (ix2 r l)) (fun l => hG (ix1 l)) (fun r l => hH (ix2 r l))
      (fun r l => hD (ix2 r l)) (i 0) (i 1)
  · refine (Cert.Reference5Ideal.Read.val_main_v37_eq (F := Ideal) _ _).trans ?_
    rw [e0, e2]
    funext i
    refine Eq.trans ?_ (weights m c _ _ hX hH i).symm
    rw [one_row i]
    exact ref_weights _ _ _ _ (fun r l => hX (ix2 r l)) (fun r l => hH (ix2 r l)) (i 1)

end Cert.Ffn.Norm

end
-- ==== Proof.InWeight.lean ====
/-
  The gradient of the first projection's weights. The result is written in two tiles of 3328 columns; for each, eight points multiply
  1024 rows of the transposed normed input with the same rows of the projection's gradient and add the product to a scratch
  they carry, and the eighth writes the tile out. Over the extended reals that is the product over all 8192 rows, which is the
  reference's gradient. No entry need be finite.
-/
module

public import proofs.«01_k».proof.Proof.Sums
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Tactic
public import proofs.«01_k».proof.Defs

@[expose] public section

set_option maxRecDepth 8192

noncomputable section

namespace Cert.InProj.Weight

open Idealize.ShloMosaic hiding ix2 ix1 ix0 ix3 ix4
open Idealize.ShloMosaic.TcCoe Idealize.ShloMosaic.Tactic Idealize.ShloMosaic.ValueIdx
open Idealize.SL Idealize.SL.Sem
open Cert.Ffn Cert.Kernel6Ideal Cert.Kernel6Ideal.Gen
open scoped BigOperators

section
variable {F : FTy → Type} [FloatOps F]
variable (c : Dev nD) (i : grid0.Coords) (a3 : Memref sig .tc .vmem S1024x1024 .bf16) (h3 : a3.IsWhole)
  (a4 : Memref sig .tc .vmem S1024x3328 .bf16) (h4 : a4.IsWhole) (a5 : Memref sig .tc .vmem S1024x3328 .bf16) (h5 : a5.IsWhole)
  (a6 : Memref sig .tc .vmem S1024x3328 .f32) (h6 : a6.IsWhole) (x : Vec F S1024x1024 .bf16) (y : Vec F S1024x3328 .bf16)
  (s : Vec F S1024x3328 .f32)

/-- A tile's first point leaves its product in the scratch. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S1024x1024) zeros2,
    View.ld_unit_zero (S := S1024x3328) zeros2]

/-- A later point adds its product to what the scratch held. -/
theorem middle (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero zeros2]
  simp only [View.readAt_eq_ld, h3.read_unread, h4.read_unread, h6.read_unread, View.ld_unit_zero (S := S1024x1024) zeros2,
    View.ld_unit_zero (S := S1024x3328) zeros2]

/-- A tile's last point writes out the scratch with its own product added. -/
theorem final (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2]
  simp only [View.readAt_eq_ld, h3.read_unread, h4.read_unread, h6.read_unread, View.ld_unit_zero (S := S1024x1024) zeros2,
    View.ld_unit_zero (S := S1024x3328) zeros2, View.readCov_unit_zero (S := S1024x3328) _ zeros2]
end

/-- A point's product, entry by entry. -/
theorem product (x : Vec Ideal S1024x1024 .bf16) (y : Vec Ideal S1024x3328 .bf16) (r : Fin 1024) (l : Fin 3328) :
    k0_pay1 x y (ix2 r l) = ∑ k : Fin 1024, x (ix2 r k) * y (ix2 k l) := by
  unfold k0_pay1
  rw [shapeCast_self, shapeCast_self]
  refine (Ideal.matmul_plain_apply none x y _ r l).trans ?_
  rw [constant_apply, Attn.zero_f32, EReal.coe_zero, zero_add]

/-! ## Where the blocks lie: point `t` is row block `t % 8` of tile `t / 8` -/

theorem ix_0 : ∀ t : Fin cfg0.N, win0_0.index t = ![0, t.val % 8] := (by decide +kernel : ∀ t : Fin grid0.N, _)
theorem ix_1 : ∀ t : Fin cfg0.N, win0_1.index t = ![t.val % 8, t.val / 8] := (by decide +kernel : ∀ t : Fin grid0.N, _)
theorem ix_2 : ∀ t : Fin cfg0.N, win0_2.index t = ![0, t.val / 8] := (by decide +kernel : ∀ t : Fin grid0.N, _)

variable (m : (ℓ : Loc nD τ sig) → Buf (Elt Ideal) ℓ) (ρ : Dev nD → PrngReg) (c : Dev nD)

/-- The normed input. -/
abbrev argH : FVec Ideal S8192x1024 .f32 := m ((c : Thread nD τ).loc main_arg0)
/-- The projection's gradient. -/
abbrev argZ : FVec Ideal S8192x6656 .f32 := m ((c : Thread nD τ).loc main_arg1)

theorem host_h : (V m c main_v1 : FVec Ideal S1024x8192 .bf16)
    = transpose S1024x8192 [1, 0] (truncf .bf16 (argH m c) bitsLt_bf16_f32) transposes_S8192x1024_S1024x8192_1_0 := by
  unfold_abbrev_sides
  after_results

theorem host_z : (V m c main_v2 : FVec Ideal S8192x6656 .bf16) = truncf .bf16 (argZ m c) bitsLt_bf16_f32 := by
  unfold_abbrev_sides
  after_results

variable (h z : ℕ → ℕ → EReal) (hH : ∀ i, argH m c i = h (i 0).val (i 1).val) (hZ : ∀ i, argZ m c i = z (i 0).val (i 1).val)

include hH in
theorem blk_h (t : Fin cfg0.N) (r k : Fin 1024) : iblk m c 0 t (ix2 r k) = h (1024 * (t.val % 8) + k.val) r.val := by
  have hk := k.isLt
  blk_simp [iblk]
  rw [host_h]
  refine (transpose_apply [1, 0] _ transposes_S8192x1024_S1024x8192_1_0 _ (fun b => match b with
    | ⟨0, _⟩ => ⟨(1024 * (t.val % 8) + k.val) % 8192, Nat.mod_lt _ (by decide)⟩ | ⟨1, _⟩ => r) (fun b => ?_)).trans ?_
  · blk_simp [ix_0]
    match b with
    | ⟨0, _⟩ => show r.val = 0 * 1024 + r.val; omega
    | ⟨1, _⟩ => show (1024 * (t.val % 8) + k.val) % 8192 = t.val % 8 * 1024 + k.val; omega
  · refine (hH _).trans ?_
    show h ((1024 * (t.val % 8) + k.val) % 8192) r.val = _
    rw [Nat.mod_eq_of_lt (by omega)]

include hZ in
theorem blk_z (t : Fin cfg0.N) (k : Fin 1024) (l : Fin 3328) :
    iblk m c 1 t (ix2 k l) = z (1024 * (t.val % 8) + k.val) (3328 * (t.val / 8) + l.val) := by
  blk_simp [iblk]
  rw [host_z]
  refine (hZ _).trans ?_
  blk_simp [ix_1]
  show z (t.val % 8 * 1024 + k.val) (t.val / 8 * 3328 + l.val) = _
  rw [Nat.mul_comm, Nat.mul_comm (t.val / 8)]

include hH hZ in
theorem point (t : Fin cfg0.N) (r : Fin 1024) (l : Fin 3328) : k0_pay1 (iblk m c 0 t) (iblk m c 1 t) (ix2 r l)
    = ∑ k : Fin 1024, h (1024 * (t.val % 8) + k.val) r.val * z (1024 * (t.val % 8) + k.val) (3328 * (t.val / 8) + l.val) :=
  (product _ _ r l).trans (Finset.sum_congr rfl fun k _ => by rw [blk_h m c h hH, blk_z m c z hZ])

include hH hZ in
/-- What the scratch holds after row block `n` of tile `b`. -/
theorem carried (r : Fin 1024) (l : Fin 3328) (b : ℕ) : ∀ (n : ℕ) (hn : 8 * b + n < cfg0.N), n < 7 →
    (outsAt0 m c (8 * b + n) hn).2 (ix2 r l)
      = ∑ u ∈ Finset.range (n + 1), ∑ k : Fin 1024, h (1024 * u + k.val) r.val * z (1024 * u + k.val) (3328 * b + l.val)
  | 0, hn, _ => by
    rw [outsAt0_A m c ⟨8 * b + 0, hn⟩ (by dsimp only; omega) (by dsimp only; omega) (by dsimp only; omega)]
    dsimp only
    rw [first]
    unfold k0_pay2
    rw [shapeCast_self, point m c h z hH hZ]
    dsimp only
    rw [show (8 * b + 0) % 8 = 0 by omega, show (8 * b + 0) / 8 = b by omega]
    simp
  | n + 1, hn, h7 => by
    rw [outsAt0_B m c ⟨8 * b + (n + 1), hn⟩ (by dsimp only; omega) (by dsimp only; omega) (by dsimp only; omega)]
    dsimp only
    rw [middle]
    unfold k0_pay3
    rw [shapeCast_self, ValueIdx.addf_apply, point m c h z hH hZ, Finset.sum_range_succ]
    dsimp only
    rw [show (8 * b + (n + 1)) % 8 = n + 1 by omega, show (8 * b + (n + 1)) / 8 = b by omega]
    exact congrArg (· + _) (carried r l b n _ (by omega))

include hH hZ in
/-- What a tile's last point writes out. -/
theorem last (r : Fin 1024) (l : Fin 3328) (b : ℕ) (t : Fin cfg0.N) (ht : t.val = 8 * b + 7) :
    (outsAt0 m c t.val t.isLt).1 (ix2 r l) = ∑ q : Fin 8192, h q.val r.val * z q.val (3328 * b + l.val) := by
  rw [outsAt0_C m c t (by omega) (by omega) (by omega)]
  dsimp only
  rw [final]
  unfold k0_pay4 k0_pay3
  rw [ValueIdx.truncf_apply, shapeCast_self, ValueIdx.addf_apply, point m c h z hH hZ]
  have hn : 8 * b + 6 < cfg0.N := by have := t.isLt; omega
  have e : outsAt0 m c (t.val - 1) (Nat.lt_of_le_of_lt (Nat.sub_le _ _) t.isLt) = outsAt0 m c (8 * b + 6) hn := by
    congr 1; omega
  rw [e, carried m c h z hH hZ r l b 6 hn (by omega), show t.val % 8 = 7 by omega, show t.val / 8 = b by omega,
    ← Finset.sum_range_succ (fun u => ∑ k : Fin 1024, h (1024 * u + k.val) r.val * z (1024 * u + k.val) (3328 * b + l.val))]
  exact sum_rows fun q => h q r.val * z q (3328 * b + l.val)

include hH hZ in
/-- The result. -/
theorem result (i : S1024x6656.Idx) : (dats m 0 c).arrAt 2 cfg0.N i = ∑ q : Fin 8192, h q.val (i 0).val * z q.val (i 1).val := by
  refine (dats m 0 c).arrAt_forall_of_covers 2 (fun i v => v = ∑ q : Fin 8192, h q.val (i 0).val * z q.val (i 1).val)
    (by decide +kernel) (fun t hf y => ?_) i
  have ht : t.val % 8 = 7 := (by decide +kernel : ∀ t : Fin cfg0.N, (cfg0.win 2).flush t = true → t.val % 8 = 7) t hf
  blk_simp [ix_2]
  rw [after0_2]
  obtain ⟨r, l, rfl⟩ : ∃ (r : Fin 1024) (l : Fin 3328), y = ix2 r l := ⟨y 0, y 1, ValueIdx.eq_ix2 y⟩
  refine (last m c h z hH hZ r l (t.val / 8) t (by omega)).trans (Finset.sum_congr rfl fun q _ => ?_)
  rw [Nat.mul_comm 3328]
  rfl

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => (dats m 0 c).arrAt 2 cfg0.N, Cert.Kernel6Ideal.Value.run_blocks m g, ?_⟩
  refine (θ_run Cert.Reference6Ideal.defs _ _).mono (fun r h c => ?_) (Cert.Reference6Ideal.Value.run (F := Ideal) m' g')
  obtain ⟨hv, h0, h1⟩ := h c
  obtain ⟨e0, e1⟩ := hargs c
  refine ⟨hv.trans ?_, h0, h1⟩
  refine (Cert.Reference6Ideal.Read.val_main_v4_eq (F := Ideal) _ _).trans ?_
  rw [e0, e1]
  have ea := entry_eq (by decide : 0 < 8192) (by decide : 0 < 1024) (argH m c)
  have eb := entry_eq (by decide : 0 < 8192) (by decide : 0 < 6656) (argZ m c)
  funext i
  refine Eq.trans ?_ (result m c _ _ ea eb i).symm
  rw [Cert.Reference6Ideal.Read.val_main_v4_apply, Cert.Reference6Ideal.Read.val_main_v3_apply]
  refine (Cert.Reference6Ideal.Read.val_main_v2_apply _ _ _).trans (Finset.sum_congr rfl fun q _ => ?_)
  rw [mul_comm]
  exact congrArg₂ (· * ·) (ea _) (eb _)

end Cert.InProj.Weight

end
-- ==== Proof.InGrad.lean ====
/-
  The gradient of the first projection's rows. For each of eight blocks of 1024 rows, four points multiply 1664 columns of the
  projection's gradient with the same columns of the weights and add the product to a scratch they carry, and the fourth
  writes the block out. Over the extended reals that is the product over all 6656 columns, which is the reference's
  gradient. No entry need be finite.
-/
module

public import proofs.«01_k».proof.Proof.Sums
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Tactic
public import proofs.«01_k».proof.Defs

@[expose] public section

set_option maxRecDepth 8192

noncomputable section

namespace Cert.InProj.Grad

open Idealize.ShloMosaic hiding ix2 ix1 ix0 ix3 ix4
open Idealize.ShloMosaic.TcCoe Idealize.ShloMosaic.Tactic Idealize.ShloMosaic.ValueIdx
open Idealize.SL Idealize.SL.Sem
open Cert.Ffn Cert.Kernel7Ideal Cert.Kernel7Ideal.Gen
open scoped BigOperators

section
variable {F : FTy → Type} [FloatOps F]
variable (c : Dev nD) (i : grid0.Coords) (a3 : Memref sig .tc .vmem S1024x1664 .bf16) (h3 : a3.IsWhole)
  (a4 : Memref sig .tc .vmem S1024x1664 .bf16) (h4 : a4.IsWhole) (a5 : Memref sig .tc .vmem S1024x1024 .f32) (h5 : a5.IsWhole)
  (a6 : Memref sig .tc .vmem S1024x1024 .f32) (h6 : a6.IsWhole) (x : Vec F S1024x1664 .bf16) (y : Vec F S1024x1664 .bf16)
  (s : Vec F S1024x1024 .f32)

/-- A row block's first point leaves its product in the scratch. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S1024x1664) zeros2,
    View.ld_unit_zero (S := S1024x1024) zeros2]

/-- A later point adds its product to what the scratch held. -/
theorem middle (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero zeros2]
  simp only [View.readAt_eq_ld, h3.read_unread, h4.read_unread, h6.read_unread, View.ld_unit_zero (S := S1024x1664) zeros2,
    View.ld_unit_zero (S := S1024x1024) zeros2]

/-- A row block's last point writes out the scratch with its own product added. -/
theorem final (hc0 : ¬cond0_0 i) (hc1 : cond0_1 i) (hc2 : cond0_2 i) :
    out0_C_2 c i a3 h3 a4 h4 a5 h5 a6 h6 hc0 hc1 hc2 x y s = k0_pay3 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2]
  simp only [View.readAt_eq_ld, h3.read_unread, h4.read_unread, h6.read_unread, View.ld_unit_zero (S := S1024x1664) zeros2,
    View.ld_unit_zero (S := S1024x1024) zeros2, View.readCov_unit_zero (S := S1024x1024) _ zeros2]
end

/-- A point's product, entry by entry. -/
theorem product (x y : Vec Ideal S1024x1664 .bf16) (r l : Fin 1024) :
    k0_pay1 x y (ix2 r l) = ∑ k : Fin 1664, x (ix2 r k) * y (ix2 l k) := by
  unfold k0_pay1
  rw [shapeCast_self, shapeCast_self]
  refine (Ideal.matmul_transposedRhs_apply none x y _ r l).trans ?_
  rw [constant_apply, Attn.zero_f32, EReal.coe_zero, zero_add]

/-! ## Where the blocks lie: point `t` is column block `t % 4` of row block `t / 4` -/

theorem ix_0 : ∀ t : Fin cfg0.N, win0_0.index t = ![t.val / 4, t.val % 4] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![t.val / 4, 0] := (by decide +kernel : ∀ t : Fin grid0.N, _)

variable (m : (ℓ : Loc nD τ sig) → Buf (Elt Ideal) ℓ) (ρ : Dev nD → PrngReg) (c : Dev nD)

/-- The projection's gradient. -/
abbrev argZ : FVec Ideal S8192x6656 .f32 := m ((c : Thread nD τ).loc main_arg0)
/-- The weights. -/
abbrev argW : FVec Ideal S1024x6656 .f32 := m ((c : Thread nD τ).loc main_arg1)

theorem host_z : (V m c main_v0 : FVec Ideal S8192x6656 .bf16) = truncf .bf16 (argZ m c) bitsLt_bf16_f32 := by
  unfold_abbrev_sides
  after_results

theorem host_w : (V m c main_v1 : FVec Ideal S1024x6656 .bf16) = truncf .bf16 (argW m c) bitsLt_bf16_f32 := by
  unfold_abbrev_sides
  after_results

variable (z w : ℕ → ℕ → EReal) (hZ : ∀ i, argZ m c i = z (i 0).val (i 1).val) (hW : ∀ i, argW m c i = w (i 0).val (i 1).val)

include hZ in
theorem blk_z (t : Fin cfg0.N) (r : Fin 1024) (k : Fin 1664) :
    iblk m c 0 t (ix2 r k) = z (1024 * (t.val / 4) + r.val) (1664 * (t.val % 4) + k.val) := by
  blk_simp [iblk]
  rw [host_z]
  refine (hZ _).trans ?_
  blk_simp [ix_0]
  show z (t.val / 4 * 1024 + r.val) (t.val % 4 * 1664 + k.val) = _
  rw [Nat.mul_comm, Nat.mul_comm (t.val % 4)]

include hW in
theorem blk_w (t : Fin cfg0.N) (l : Fin 1024) (k : Fin 1664) : iblk m c 1 t (ix2 l k) = w l.val (1664 * (t.val % 4) + k.val) := by
  blk_simp [iblk]
  rw [host_w]
  refine (hW _).trans ?_
  blk_simp [ix_1]
  rw [Nat.mul_comm 1664]

include hZ hW in
theorem point (t : Fin cfg0.N) (r l : Fin 1024) : k0_pay1 (iblk m c 0 t) (iblk m c 1 t) (ix2 r l)
    = ∑ k : Fin 1664, z (1024 * (t.val / 4) + r.val) (1664 * (t.val % 4) + k.val) * w l.val (1664 * (t.val % 4) + k.val) :=
  (product _ _ r l).trans (Finset.sum_congr rfl fun k _ => by rw [blk_z m c z hZ, blk_w m c w hW])

include hZ hW in
/-- What the scratch holds after column block `n` of row block `b`. -/
theorem carried (r l : Fin 1024) (b : ℕ) : ∀ (n : ℕ) (hn : 4 * b + n < cfg0.N), n < 3 →
    (outsAt0 m c (4 * b + n) hn).2 (ix2 r l)
      = ∑ u ∈ Finset.range (n + 1), ∑ k : Fin 1664, z (1024 * b + r.val) (1664 * u + k.val) * w l.val (1664 * u + k.val)
  | 0, hn, _ => by
    rw [outsAt0_A m c ⟨4 * b + 0, hn⟩ (by dsimp only; omega) (by dsimp only; omega) (by dsimp only; omega)]
    dsimp only
    rw [first]
    unfold k0_pay2
    rw [shapeCast_self, point m c z w hZ hW]
    dsimp only
    rw [show (4 * b + 0) % 4 = 0 by omega, show (4 * b + 0) / 4 = b by omega]
    simp
  | n + 1, hn, h3 => by
    rw [outsAt0_B m c ⟨4 * b + (n + 1), hn⟩ (by dsimp only; omega) (by dsimp only; omega) (by dsimp only; omega)]
    dsimp only
    rw [middle]
    unfold k0_pay3
    rw [shapeCast_self, ValueIdx.addf_apply, point m c z w hZ hW, Finset.sum_range_succ]
    dsimp only
    rw [show (4 * b + (n + 1)) % 4 = n + 1 by omega, show (4 * b + (n + 1)) / 4 = b by omega]
    exact congrArg (· + _) (carried r l b n _ (by omega))

include hZ hW in
/-- What a row block's last point writes out. -/
theorem last (r l : Fin 1024) (b : ℕ) (t : Fin cfg0.N) (ht : t.val = 4 * b + 3) :
    (outsAt0 m c t.val t.isLt).1 (ix2 r l) = ∑ q : Fin 6656, z (1024 * b + r.val) q.val * w l.val q.val := by
  rw [outsAt0_C m c t (by omega) (by omega) (by omega)]
  dsimp only
  rw [final]
  unfold k0_pay3
  rw [shapeCast_self, ValueIdx.addf_apply, point m c z w hZ hW]
  have hn : 4 * b + 2 < cfg0.N := by have := t.isLt; omega
  have e : outsAt0 m c (t.val - 1) (Nat.lt_of_le_of_lt (Nat.sub_le _ _) t.isLt) = outsAt0 m c (4 * b + 2) hn := by
    congr 1; omega
  rw [e, carried m c z w hZ hW r l b 2 hn (by omega), show t.val % 4 = 3 by omega, show t.val / 4 = b by omega,
    ← Finset.sum_range_succ (fun u => ∑ k : Fin 1664, z (1024 * b + r.val) (1664 * u + k.val) * w l.val (1664 * u + k.val))]
  exact (sum_by_blocks 1664 (fun q => z (1024 * b + r.val) q * w l.val q) 4).trans (Finset.sum_range _)

include hZ hW in
/-- The result. -/
theorem result (i : S8192x1024.Idx) : (dats m 0 c).arrAt 2 cfg0.N i = ∑ q : Fin 6656, z (i 0).val q.val * w (i 1).val q.val := by
  refine (dats m 0 c).arrAt_forall_of_covers 2 (fun i v => v = ∑ q : Fin 6656, z (i 0).val q.val * w (i 1).val q.val)
    (by decide +kernel) (fun t hf y => ?_) i
  have ht : t.val % 4 = 3 := (by decide +kernel : ∀ t : Fin cfg0.N, (cfg0.win 2).flush t = true → t.val % 4 = 3) t hf
  blk_simp [ix_2]
  rw [after0_2]
  obtain ⟨r, l, rfl⟩ : ∃ r l : Fin 1024, y = ix2 r l := ⟨y 0, y 1, ValueIdx.eq_ix2 y⟩
  refine (last m c z w hZ hW r l (t.val / 4) t (by omega)).trans (Finset.sum_congr rfl fun q _ => ?_)
  rw [Nat.mul_comm 1024]
  rfl

theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => (dats m 0 c).arrAt 2 cfg0.N, Cert.Kernel7Ideal.Value.run_blocks m g, ?_⟩
  refine (θ_run Cert.Reference7Ideal.defs _ _).mono (fun r h c => ?_) (Cert.Reference7Ideal.Value.run (F := Ideal) m' g')
  obtain ⟨hv, h0, h1⟩ := h c
  obtain ⟨e0, e1⟩ := hargs c
  refine ⟨hv.trans ?_, h0, h1⟩
  refine (Cert.Reference7Ideal.Read.val_main_v2_eq (F := Ideal) _ _).trans ?_
  rw [e0, e1]
  have ea := entry_eq (by decide : 0 < 8192) (by decide : 0 < 6656) (argZ m c)
  have eb := entry_eq (by decide : 0 < 1024) (by decide : 0 < 6656) (argW m c)
  funext i
  refine Eq.trans ?_ (result m c _ _ ea eb i).symm
  refine (Cert.Reference7Ideal.Read.val_main_v2_apply _ _ _).trans (Finset.sum_congr rfl fun q _ => ?_)
  exact congrArg₂ (· * ·) (ea _) (eb _)

end Cert.InProj.Grad

end
-- ==== Proof.InProduct.lean ====
/-
  The first projection: each point multiplies 1024 rows of the normed input with 1664 columns of the weights. No entry need be
  finite.
-/
module

public import proofs.«01_k».proof.Proof.Sums
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Tactic
public import proofs.«01_k».proof.Defs

@[expose] public section

set_option maxRecDepth 8192

noncomputable section

namespace Cert.InProj.Product

open Idealize.ShloMosaic hiding ix2 ix1 ix0 ix3 ix4
open Idealize.ShloMosaic.TcCoe Idealize.ShloMosaic.Tactic Idealize.ShloMosaic.ValueIdx
open Idealize.SL Idealize.SL.Sem
open Cert.Ffn Cert.Kernel8Ideal Cert.Kernel8Ideal.Gen
open scoped BigOperators

/-- What a point writes out. -/
theorem written {F : FTy → Type} [FloatOps F] (c : Dev nD) (i : grid0.Coords) (a3 : Memref sig .tc .vmem S1024x1024 .bf16)
    (h3 : a3.IsWhole) (a4 : Memref sig .tc .vmem S1024x1664 .bf16) (h4 : a4.IsWhole) (a5 : Memref sig .tc .vmem S1024x1664 .bf16)
    (h5 : a5.IsWhole) (a6 : Memref sig .tc .vmem S8x128 .f32) (h6 : a6.IsWhole) (x : Vec F S1024x1024 .bf16)
    (y : Vec F S1024x1664 .bf16) : out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero zeros2]
  simp only [View.readAt_eq_ld, h3.read_unread, h4.read_unread, View.ld_unit_zero (S := S1024x1024) zeros2,
    View.ld_unit_zero (S := S1024x1664) zeros2]

/-- A point's product, entry by entry. -/
theorem product (x : Vec Ideal S1024x1024 .bf16) (y : Vec Ideal S1024x1664 .bf16) (r : Fin 1024) (l : Fin 1664) :
    k0_pay1 x y (ix2 r l) = ∑ k : Fin 1024, x (ix2 r k) * y (ix2 k l) := by
  unfold k0_pay1
  rw [ValueIdx.truncf_apply, shapeCast_self, shapeCast_self]
  refine (Ideal.matmul_plain_apply none x y _ r l).trans ?_
  rw [constant_apply, Attn.zero_f32, EReal.coe_zero, zero_add]

/-! ## Where the blocks lie: point `t` is column block `t % 4` of row block `t / 4` -/

theorem ix_0 : ∀ t : Fin cfg0.N, win0_0.index t = ![t.val / 4, 0] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![t.val / 4, t.val % 4] := (by decide +kernel : ∀ t : Fin grid0.N, _)

variable (m : (ℓ : Loc nD τ sig) → Buf (Elt Ideal) ℓ) (ρ : Dev nD → PrngReg) (c : Dev nD)

/-- The normed input. -/
abbrev argH : FVec Ideal S8192x1024 .f32 := m ((c : Thread nD τ).loc main_arg0)
/-- The weights. -/
abbrev argW : FVec Ideal S1024x6656 .f32 := m ((c : Thread nD τ).loc main_arg1)

theorem host_h : (V m c main_v0 : FVec Ideal S8192x1024 .bf16) = truncf .bf16 (argH m c) bitsLt_bf16_f32 := by
  unfold_abbrev_sides
  after_results

theorem host_w : (V m c main_v1 : FVec Ideal S1024x6656 .bf16) = truncf .bf16 (argW m c) bitsLt_bf16_f32 := by
  unfold_abbrev_sides
  after_results

variable (h w : ℕ → ℕ → EReal) (hH : ∀ i, argH m c i = h (i 0).val (i 1).val) (hW : ∀ i, argW m c i = w (i 0).val (i 1).val)

include hH in
theorem blk_h (t : Fin cfg0.N) (r k : Fin 1024) : iblk m c 0 t (ix2 r k) = h (t.val / 4 * 1024 + r.val) k.val := by
  blk_simp [iblk]
  rw [host_h]
  refine (hH _).trans ?_
  blk_simp [ix_0]

include hW in
theorem blk_w (t : Fin cfg0.N) (k : Fin 1024) (l : Fin 1664) : iblk m c 1 t (ix2 k l) = w k.val (t.val % 4 * 1664 + l.val) := by
  blk_simp [iblk]
  rw [host_w]
  refine (hW _).trans ?_
  blk_simp [ix_1]

include hH hW in
/-- The result. -/
theorem result (i : S8192x6656.Idx) : (dats m 0 c).arrAt 2 cfg0.N i = ∑ q : Fin 1024, h (i 0).val q.val * w q.val (i 1).val := by
  refine (dats m 0 c).arrAt_forall_of_covers 2 (fun i v => v = ∑ q : Fin 1024, h (i 0).val q.val * w q.val (i 1).val)
    (by decide +kernel) (fun t hf y => ?_) i
  blk_simp [ix_2]
  rw [after0_2]
  obtain ⟨r, l, rfl⟩ : ∃ (r : Fin 1024) (l : Fin 1664), y = ix2 r l := ⟨y 0, y 1, ValueIdx.eq_ix2 y⟩
  unfold outsAt0
  rw [written]
  exact (product _ _ r l).trans (Finset.sum_congr rfl fun q _ => congrArg₂ (· * ·) (blk_h m c h hH t r q) (blk_w m c w hW t q l))

theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => (dats m 0 c).arrAt 2 cfg0.N, Cert.Kernel8Ideal.Value.run_blocks m g, ?_⟩
  refine (θ_run Cert.Reference8Ideal.defs _ _).mono (fun r h c => ?_) (Cert.Reference8Ideal.Value.run (F := Ideal) m' g')
  obtain ⟨hv, h0, h1⟩ := h c
  obtain ⟨e0, e1⟩ := hargs c
  refine ⟨hv.trans ?_, h0, h1⟩
  refine (Cert.Reference8Ideal.Read.val_main_v1_eq (F := Ideal) _ _).trans ?_
  rw [e0, e1]
  have ea := entry_eq (by decide : 0 < 8192) (by decide : 0 < 1024) (argH m c)
  have eb := entry_eq (by decide : 0 < 1024) (by decide : 0 < 6656) (argW m c)
  funext i
  refine Eq.trans ?_ (result m c _ _ ea eb i).symm
  rw [Cert.Reference8Ideal.Read.val_main_v1_apply]
  refine (Cert.Reference8Ideal.Read.val_main_v0_apply _ _ _).trans (Finset.sum_congr rfl fun q _ => ?_)
  exact congrArg₂ (· * ·) (ea _) (eb _)

end Cert.InProj.Product

end
-- ==== Proof.GatePoints.lean ====
/-
  One grid point of the gates' gradient: 512 rows and 512 columns of each of the three branches. The branch's gradient is the
  gate times the merged rows' gradient, the gate's is that gradient times the branch times the logistic function's derivative,
  and the bias's is summed in place over the sixteen points of a column block.
-/
module

public import proofs.«01_k».proof.Proof.Sums
public import proofs.«01_k».proof.Proof.Gen.Kernel9Ideal.Frame
public import Idealize.ShloMosaic.Lib.Pointwise
public import Idealize.ShloMosaic.Lib.Pipeline.ValueKit
public import Idealize.ShloMosaic.Lib.Tactic

@[expose] public section

set_option maxRecDepth 8192

noncomputable section

namespace Cert.Merge

/-- The gate of `z`: the logistic function. -/
def gate (z : EReal) : EReal := Idealize.ShloMosaic.Ideal.div 1 (1 + Idealize.ShloMosaic.Ideal.exp (-z))
/-- The gradient of what goes into the gate of a branch's entry `y`, from the merged entry's gradient `d`. -/
def slope (z y d : EReal) : EReal := d * y * gate z * (1 - gate z)

/-- What goes into a branch's gate: `z`'s gate columns and the bias, both from the branch's offset `o` on. -/
def pre (z : ℕ → ℕ → EReal) (b : ℕ → EReal) (o r l : ℕ) : EReal := z r (3584 + (o + l)) + b (o + l)

/-! ## A point's arithmetic -/

section
open Idealize.ShloMosaic Cert.Kernel9Ideal Cert.Kernel9Ideal.Gen Cert.Attn
open scoped BigOperators

variable (Z Y : Vec Ideal S512x512 .bf16) (D : Vec Ideal S512x512 .f32) (B : Vec Ideal S1x512 .f32)

theorem gate_value (r l : Fin 512) : k0_pay2 (F := Ideal) Z B (ix2 r l) = gate (Z (ix2 r l) + B (ix2 0 l)) := by
  pointwise [k0_pay2]
  simp only [zero_f32, one_f32, EReal.coe_zero, EReal.coe_one, zero_sub]
  all_goals rfl

theorem branch_value (r l : Fin 512) : k0_pay3 (F := Ideal) D Z B (ix2 r l) = gate (Z (ix2 r l) + B (ix2 0 l)) * D (ix2 r l) := by
  unfold k0_pay3
  exact congrArg (· * D (ix2 r l)) (gate_value Z B r l)

theorem slope_value (r l : Fin 512) : k0_pay4 (F := Ideal) D Z B Y (ix2 r l)
    = slope (Z (ix2 r l) + B (ix2 0 l)) (Y (ix2 r l)) (D (ix2 r l)) := by
  unfold slope
  rw [← gate_value Z B r l]
  pointwise [k0_pay4]

theorem bias_value (l : Fin 512) : k0_pay6 (F := Ideal) D Z B Y (ix2 0 l)
    = ∑ r : Fin 512, slope (Z (ix2 r l) + B (ix2 0 l)) (Y (ix2 r l)) (D (ix2 r l)) := by
  pointwise [k0_pay6]
  exact Finset.sum_congr rfl fun r _ => slope_value Z Y D B r l

/-! The same where the blocks are row block `i` and column block `j` of arrays given by their entries, the gate's columns from the
offset `o` on. -/

variable (z y d : ℕ → ℕ → EReal) (b : ℕ → EReal) (o i j : ℕ)
  (hZ : ∀ r l : Fin 512, Z (ix2 r l) = z (i * 512 + r.val) (3584 + (o + (j * 512 + l.val))))
  (hB : ∀ l : Fin 512, B (ix2 0 l) = b (o + (j * 512 + l.val)))
  (hY : ∀ r l : Fin 512, Y (ix2 r l) = y (i * 512 + r.val) (j * 512 + l.val))
  (hD : ∀ r l : Fin 512, D (ix2 r l) = d (i * 512 + r.val) (j * 512 + l.val))

include hZ hB hD in
theorem branch_at (r l : Fin 512) : k0_pay3 (F := Ideal) D Z B (ix2 r l)
    = gate (pre z b o (i * 512 + r.val) (j * 512 + l.val)) * d (i * 512 + r.val) (j * 512 + l.val) := by
  rw [branch_value, hZ, hB, hD]
  rfl

include hZ hB hY hD in
theorem slope_at (r l : Fin 512) : k0_pay4 (F := Ideal) D Z B Y (ix2 r l)
    = slope (pre z b o (i * 512 + r.val) (j * 512 + l.val)) (y (i * 512 + r.val) (j * 512 + l.val))
        (d (i * 512 + r.val) (j * 512 + l.val)) := by
  rw [slope_value, hZ, hB, hY, hD]
  rfl

include hZ hB hY hD in
theorem bias_at (l : Fin 512) : k0_pay6 (F := Ideal) D Z B Y (ix2 0 l)
    = ∑ r : Fin 512, slope (pre z b o (i * 512 + r.val) (j * 512 + l.val)) (y (i * 512 + r.val) (j * 512 + l.val))
        (d (i * 512 + r.val) (j * 512 + l.val)) := by
  rw [bias_value]
  exact Finset.sum_congr rfl fun r _ => by rw [hZ, hB, hY, hD]; rfl

end

/-! ## What a point leaves -/

open Idealize.ShloMosaic hiding ix2 ix1 ix0 ix3 ix4
open Idealize.ShloMosaic.TcCoe Idealize.ShloMosaic.Tactic Idealize.ShloMosaic.ValueIdx
open Idealize.SL Idealize.SL.Sem
open Cert.Ffn Cert.Kernel9Ideal Cert.Kernel9Ideal.Gen
open scoped BigOperators

variable (m : (ℓ : Loc nD τ sig) → Buf (Elt Ideal) ℓ) (c : Dev nD)

/-- The first point of a column block. -/
theorem point_first (t : Fin cfg0.N) (h : t.val % 16 = 0) : outsAt0 m c t.val t.isLt
    = (k0_pay3 (iblk m c 9 t) (iblk m c 0 t) (iblk m c 3 t), k0_pay9 (iblk m c 9 t) (iblk m c 1 t) (iblk m c 4 t),
      k0_pay15 (iblk m c 9 t) (iblk m c 2 t) (iblk m c 5 t), k0_pay5 (iblk m c 9 t) (iblk m c 0 t) (iblk m c 3 t) (iblk m c 6 t),
      k0_pay11 (iblk m c 9 t) (iblk m c 1 t) (iblk m c 4 t) (iblk m c 7 t),
      k0_pay17 (iblk m c 9 t) (iblk m c 2 t) (iblk m c 5 t) (iblk m c 8 t),
      k0_pay6 (iblk m c 9 t) (iblk m c 0 t) (iblk m c 3 t) (iblk m c 6 t),
      k0_pay12 (iblk m c 9 t) (iblk m c 1 t) (iblk m c 4 t) (iblk m c 7 t),
      k0_pay18 (iblk m c 9 t) (iblk m c 2 t) (iblk m c 5 t) (iblk m c 8 t)) := by
  rw [outsAt0_A m c t h (by omega) h (by omega) h (by omega)]
  simp only [Prod.mk.injEq]
  refine ⟨(View.read_writes_eq_canon _ _ _ (fun y => cover0_A_10 ..)).trans ?_,
    (View.read_writes_eq_canon _ _ _ (fun y => cover0_A_11 ..)).trans ?_,
    (View.read_writes_eq_canon _ _ _ (fun y => cover0_A_12 ..)).trans ?_,
    (View.read_writes_eq_canon _ _ _ (fun y => cover0_A_13 ..)).trans ?_,
    (View.read_writes_eq_canon _ _ _ (fun y => cover0_A_14 ..)).trans ?_,
    (View.read_writes_eq_canon _ _ _ (fun y => cover0_A_15 ..)).trans ?_,
    (View.read_writes_eq_canon _ _ _ (fun y => cover0_A_16 ..)).trans ?_,
    (View.read_writes_eq_canon _ _ _ (fun y => cover0_A_17 ..)).trans ?_,
    (View.read_writes_eq_canon _ _ _ (fun y => cover0_A_18 ..)).trans ?_⟩
  all_goals
    unfold kernelRun0_A
    dsimp only
    sl_unfold_words
    rw [View.canon_unit_zero zeros2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x512) zeros2, View.ld_unit_zero (S := S1x512) zeros2]

/-- Every later point: the sums go on from the point before. -/
theorem point_next (t : Fin cfg0.N) (h : t.val % 16 ≠ 0) : outsAt0 m c t.val t.isLt
    = (k0_pay3 (iblk m c 9 t) (iblk m c 0 t) (iblk m c 3 t), k0_pay9 (iblk m c 9 t) (iblk m c 1 t) (iblk m c 4 t),
      k0_pay15 (iblk m c 9 t) (iblk m c 2 t) (iblk m c 5 t), k0_pay5 (iblk m c 9 t) (iblk m c 0 t) (iblk m c 3 t) (iblk m c 6 t),
      k0_pay11 (iblk m c 9 t) (iblk m c 1 t) (iblk m c 4 t) (iblk m c 7 t),
      k0_pay17 (iblk m c 9 t) (iblk m c 2 t) (iblk m c 5 t) (iblk m c 8 t),
      k0_pay7 (k0_pay6 (iblk m c 9 t) (iblk m c 0 t) (iblk m c 3 t) (iblk m c 6 t))
        (outsAt0 m c (t.val - 1) (by omega)).2.2.2.2.2.2.1,
      k0_pay13 (k0_pay12 (iblk m c 9 t) (iblk m c 1 t) (iblk m c 4 t) (iblk m c 7 t))
        (outsAt0 m c (t.val - 1) (by omega)).2.2.2.2.2.2.2.1,
      k0_pay1 (k0_pay18 (iblk m c 9 t) (iblk m c 2 t) (iblk m c 5 t) (iblk m c 8 t))
        (outsAt0 m c (t.val - 1) (by omega)).2.2.2.2.2.2.2.2) := by
  rw [outsAt0_B m c t h (by omega) h (by omega) h (by omega)]
  simp only [Prod.mk.injEq]
  refine ⟨(View.read_writes_eq_canon _ _ _ (fun y => cover0_B_10 ..)).trans ?_,
    (View.read_writes_eq_canon _ _ _ (fun y => cover0_B_11 ..)).trans ?_,
    (View.read_writes_eq_canon _ _ _ (fun y => cover0_B_12 ..)).trans ?_,
    (View.read_writes_eq_canon _ _ _ (fun y => cover0_B_13 ..)).trans ?_,
    (View.read_writes_eq_canon _ _ _ (fun y => cover0_B_14 ..)).trans ?_,
    (View.read_writes_eq_canon _ _ _ (fun y => cover0_B_15 ..)).trans ?_,
    (View.read_writes_eq_canon _ _ _ (fun y => cover0_B_16 ..)).trans ?_,
    (View.read_writes_eq_canon _ _ _ (fun y => cover0_B_17 ..)).trans ?_,
    (View.read_writes_eq_canon _ _ _ (fun y => cover0_B_18 ..)).trans ?_⟩
  all_goals
    unfold kernelRun0_B
    dsimp only
    sl_unfold_words
    rw [View.canon_unit_zero zeros2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_16 t).read_unread, (hs0_17 t).read_unread, (hs0_18 t).read_unread,
      View.ld_unit_zero (S := S512x512) zeros2, View.ld_unit_zero (S := S1x512) zeros2]

end Cert.Merge

end
-- ==== Proof.GateReference.lean ====
/-
  The gates' gradient as plain jax takes it: the merged rows' gradient with each branch, put side by side and multiplied with the
  logistic function's derivative, its column sums, and each branch's gradient. No entry need be finite.
-/
module

public import proofs.«01_k».proof.Proof.GatePoints
public import proofs.«01_k».proof.Proof.Gen.Reference9Ideal.Read

@[expose] public section

set_option maxRecDepth 8192

noncomputable section

namespace Cert.Merge

open Idealize.ShloMosaic hiding ix2 ix1 ix0 ix3 ix4
open Idealize.ShloMosaic.ValueIdx
open Cert.Attn Cert.Ffn Cert.Reference9Ideal Cert.Reference9Ideal.Read
open scoped BigOperators

/-- A branch's columns among the three branches' columns, zero elsewhere. -/
theorem padded {L H : ℕ} (X : S8192x1024.Idx → EReal) (x : ℕ → ℕ → EReal) (hX : ∀ i, X i = x (i 0).val (i 1).val) (v : S_.Idx → EReal)
    (h : S8192x1024.Pads ![0, L] ![0, H] ![0, 0] S8192x3072) (hu : 0 < S_.numel) (i : S8192x3072.Idx) :
    pad S8192x3072 ![0, L] ![0, H] ![0, 0] X v h hu i
      = if L ≤ (i 1).val ∧ (i 1).val - L < 1024 then x (i 0).val ((i 1).val - L) else v (Shape.Idx.first hu) := by
  by_cases hc : L ≤ (i 1).val ∧ (i 1).val - L < 1024
  · rw [if_pos hc, pad_apply_of_inside ![0, L] ![0, H] ![0, 0] X v h hu i (ix2 (i 0) ⟨(i 1).val - L, hc.2⟩) (fun a => ?_), hX]
    match a with
    | ⟨0, _⟩ => show (i 0).val = 0 + (i 0).val * 1; omega
    | ⟨1, _⟩ => show (i 1).val = L + ((i 1).val - L) * 1; omega
  · rw [if_neg hc]
    refine pad_apply_of_not_inside ![0, L] ![0, H] ![0, 0] X v h hu i 1 fun hh => hc ⟨hh.1, ?_⟩
    have h3 : ((i 1).val - L) / 1 < 1024 := hh.2.2
    omega

variable (Z : (⟨S8192x6656, .f32⟩ : BufTy).Contents (Elt Ideal)) (B : (⟨S3072, .f32⟩ : BufTy).Contents (Elt Ideal))
  (Y0 Y1 Y2 D : (⟨S8192x1024, .f32⟩ : BufTy).Contents (Elt Ideal))
  (z : ℕ → ℕ → EReal) (b : ℕ → EReal) (y0 y1 y2 d : ℕ → ℕ → EReal)
  (hZ : ∀ i, Z i = z (i 0).val (i 1).val) (hB : ∀ i, B i = b (i 0).val) (hY0 : ∀ i, Y0 i = y0 (i 0).val (i 1).val)
  (hY1 : ∀ i, Y1 i = y1 (i 0).val (i 1).val) (hY2 : ∀ i, Y2 i = y2 (i 0).val (i 1).val) (hD : ∀ i, D i = d (i 0).val (i 1).val)

include hZ hB in
theorem ref_gate (i : S8192x3072.Idx) : val_main_v9 Z B i = gate (pre z b 0 (i 0).val (i 1).val) := by
  rw [val_main_v9_apply, val_main_v8_apply, val_main_cst_0_apply, val_main_v7_apply, val_main_v6_apply, val_main_cst_apply,
    val_main_v5_apply, val_main_v4_apply, val_main_v3_apply, val_main_v2_apply, val_main_v1_apply, val_main_v0_apply, hZ, hB]
  have e : FloatOps.ofBits (F := Ideal) .f32 0x3F800000#32 = (1 : EReal) := one_f32.trans EReal.coe_one
  rw [e]
  unfold gate pre
  rw [Nat.zero_add]
  rfl

include hD in
theorem ref_d (i : S8192x1024.Idx) : val_main_v21 D i = d (i 0).val (i 1).val := by
  have h1 : (i 1).val < 1024 := (i 1).isLt
  rw [val_main_v21_apply, hD]
  exact congrArg₂ d (show ((i 0).val * 1024 + (i 1).val) / 1024 = _ by omega) (show ((i 0).val * 1024 + (i 1).val) % 1024 = _ by omega)

/-! ## The branches' gradients -/

include hZ hB hD in
theorem ref_dy0 (i : S8192x1024.Idx) : val_main_v38 Z B D i = gate (pre z b 0 (i 0).val (i 1).val) * d (i 0).val (i 1).val := by
  rw [val_main_v38_apply, val_main_v30_apply, val_main_v13_apply, ref_gate Z B z b hZ hB, ref_d D d hD]
  rfl

include hZ hB hD in
theorem ref_dy1 (i : S8192x1024.Idx) : val_main_v39 Z B D i = gate (pre z b 1024 (i 0).val (i 1).val) * d (i 0).val (i 1).val := by
  rw [val_main_v39_apply, val_main_v26_apply, val_main_v15_apply, ref_gate Z B z b hZ hB, ref_d D d hD]
  unfold pre
  rw [Nat.zero_add]
  rfl

include hZ hB hD in
theorem ref_dy2 (i : S8192x1024.Idx) : val_main_v40 Z B D i = gate (pre z b 2048 (i 0).val (i 1).val) * d (i 0).val (i 1).val := by
  rw [val_main_v40_apply, val_main_v23_apply, val_main_v18_apply, ref_gate Z B z b hZ hB]
  rw [show val_main_v22 D i = _ from ref_d D d hD i]
  unfold pre
  rw [Nat.zero_add]
  rfl

/-! ## The gradient of what goes into the gates -/

include hY0 hY1 hY2 hD in
theorem ref_sum (i : S8192x3072.Idx) : val_main_v33 Y0 Y1 Y2 D i
    = (if 2048 ≤ (i 1).val ∧ (i 1).val - 2048 < 1024 then d (i 0).val ((i 1).val - 2048) * y2 (i 0).val ((i 1).val - 2048) else 0)
      + (if 1024 ≤ (i 1).val ∧ (i 1).val - 1024 < 1024 then d (i 0).val ((i 1).val - 1024) * y1 (i 0).val ((i 1).val - 1024) else 0)
      + (if 0 ≤ (i 1).val ∧ (i 1).val - 0 < 1024 then d (i 0).val ((i 1).val - 0) * y0 (i 0).val ((i 1).val - 0) else 0) := by
  rw [val_main_v33_apply, val_main_v29_apply]
  unfold val_main_v25 val_main_v28 val_main_v32
  rw [padded (val_main_v24 Y2 D) (fun r l => d r l * y2 r l) (fun j => congrArg₂ (· * ·) (ref_d D d hD j) (hY2 j)),
    padded (val_main_v27 Y1 D) (fun r l => d r l * y1 r l) (fun j => congrArg₂ (· * ·) (ref_d D d hD j) (hY1 j)),
    padded (val_main_v31 Y0 D) (fun r l => d r l * y0 r l) (fun j => congrArg₂ (· * ·) (ref_d D d hD j) (hY0 j)),
    val_main_cst_2_apply, val_main_cst_3_apply, val_main_cst_4_apply]
  have e : FloatOps.ofBits (F := Ideal) .f32 0x00000000#32 = (0 : EReal) := zero_f32.trans EReal.coe_zero
  rw [e]
  rfl

include hZ hB in
theorem ref_slope (i : S8192x3072.Idx) (e y : EReal) (hs : val_main_v33 Y0 Y1 Y2 D i = e * y) :
    val_main_v34 Z B Y0 Y1 Y2 D i = slope (pre z b 0 (i 0).val (i 1).val) y e := by
  rw [val_main_v34_apply, hs, val_main_v12_apply, val_main_v11_apply, val_main_v10_apply, val_main_cst_1_apply, ref_gate Z B z b hZ hB]
  have e1 : FloatOps.ofBits (F := Ideal) .f32 0x3F800000#32 = (1 : EReal) := one_f32.trans EReal.coe_one
  rw [e1]
  unfold slope
  rw [mul_assoc]
  rfl

include hZ hB hY0 hY1 hY2 hD

theorem ref_col0 (i : S8192x3072.Idx) (l : ℕ) (hl : l < 1024) (h : (i 1).val = l) : val_main_v34 Z B Y0 Y1 Y2 D i
    = slope (pre z b 0 (i 0).val l) (y0 (i 0).val l) (d (i 0).val l) := by
  rw [ref_slope Z B Y0 Y1 Y2 D z b hZ hB i (d (i 0).val l) (y0 (i 0).val l), h]
  rw [ref_sum Y0 Y1 Y2 D y0 y1 y2 d hY0 hY1 hY2 hD, if_neg (by omega), if_neg (by omega), if_pos (by omega), zero_add, zero_add, h]
  rfl

theorem ref_col1 (i : S8192x3072.Idx) (l : ℕ) (hl : l < 1024) (h : (i 1).val = 1024 + l) : val_main_v34 Z B Y0 Y1 Y2 D i
    = slope (pre z b 1024 (i 0).val l) (y1 (i 0).val l) (d (i 0).val l) := by
  rw [ref_slope Z B Y0 Y1 Y2 D z b hZ hB i (d (i 0).val l) (y1 (i 0).val l), h]
  · unfold pre
    rw [Nat.zero_add]
  · rw [ref_sum Y0 Y1 Y2 D y0 y1 y2 d hY0 hY1 hY2 hD, if_neg (by omega), if_pos (by omega), if_neg (by omega), zero_add, add_zero, h,
      Nat.add_sub_cancel_left]

theorem ref_col2 (i : S8192x3072.Idx) (l : ℕ) (hl : l < 1024) (h : (i 1).val = 2048 + l) : val_main_v34 Z B Y0 Y1 Y2 D i
    = slope (pre z b 2048 (i 0).val l) (y2 (i 0).val l) (d (i 0).val l) := by
  rw [ref_slope Z B Y0 Y1 Y2 D z b hZ hB i (d (i 0).val l) (y2 (i 0).val l), h]
  · unfold pre
    rw [Nat.zero_add]
  · rw [ref_sum Y0 Y1 Y2 D y0 y1 y2 d hY0 hY1 hY2 hD, if_pos (by omega), if_neg (by omega), if_neg (by omega), add_zero, add_zero, h,
      Nat.add_sub_cancel_left]

omit hZ hB hY0 hY1 hY2 hD in
/-- The bias's gradient: a column's sum, taken once over the rows and once over the single row that leaves. -/
theorem ref_db (i : S1x3072.Idx) (f : ℕ → EReal) (hf : ∀ j : S8192x3072.Idx, (j 1).val = (i 1).val →
    val_main_v34 Z B Y0 Y1 Y2 D j = f (j 0).val) : val_main_v47 Z B Y0 Y1 Y2 D i = ∑ q : Fin 8192, f q.val := by
  have e : FloatOps.ofBits (F := Ideal) .f32 0x00000000#32 = (0 : EReal) := zero_f32.trans EReal.coe_zero
  rw [val_main_v47_apply, val_main_v37_apply, Fintype.sum_unique, val_main_v36_apply, val_main_v35_apply, val_main_cst_5_apply,
    val_main_cst_6_apply, e, zero_add, zero_add]
  refine Finset.sum_congr rfl fun q _ => hf _ ?_
  show (0 : ℕ) * 3072 + (i 1).val = _
  omega

/-! ## Branch by branch -/

theorem ref_dg0 (i : S8192x1024.Idx) : val_main_v44 Z B Y0 Y1 Y2 D i
    = slope (pre z b 0 (i 0).val (i 1).val) (y0 (i 0).val (i 1).val) (d (i 0).val (i 1).val) := by
  rw [val_main_v44_apply, val_main_v41_apply]
  exact ref_col0 Z B Y0 Y1 Y2 D z b y0 y1 y2 d hZ hB hY0 hY1 hY2 hD (idx_main_v41 i) (i 1).val (i 1).isLt rfl

theorem ref_db0 (i : S1x1024.Idx) : val_main_v48 Z B Y0 Y1 Y2 D i
    = ∑ q : Fin 8192, slope (pre z b 0 q.val (i 1).val) (y0 q.val (i 1).val) (d q.val (i 1).val) := by
  rw [val_main_v48_apply]
  exact ref_db Z B Y0 Y1 Y2 D _ (fun q => slope (pre z b 0 q (i 1).val) (y0 q (i 1).val) (d q (i 1).val))
    fun j hj => ref_col0 Z B Y0 Y1 Y2 D z b y0 y1 y2 d hZ hB hY0 hY1 hY2 hD j (i 1).val (i 1).isLt hj

theorem ref_dg1 (i : S8192x1024.Idx) : val_main_v45 Z B Y0 Y1 Y2 D i
    = slope (pre z b 1024 (i 0).val (i 1).val) (y1 (i 0).val (i 1).val) (d (i 0).val (i 1).val) := by
  rw [val_main_v45_apply, val_main_v42_apply]
  exact ref_col1 Z B Y0 Y1 Y2 D z b y0 y1 y2 d hZ hB hY0 hY1 hY2 hD (idx_main_v42 i) (i 1).val (i 1).isLt rfl

theorem ref_db1 (i : S1x1024.Idx) : val_main_v49 Z B Y0 Y1 Y2 D i
    = ∑ q : Fin 8192, slope (pre z b 1024 q.val (i 1).val) (y1 q.val (i 1).val) (d q.val (i 1).val) := by
  rw [val_main_v49_apply]
  exact ref_db Z B Y0 Y1 Y2 D _ (fun q => slope (pre z b 1024 q (i 1).val) (y1 q (i 1).val) (d q (i 1).val))
    fun j hj => ref_col1 Z B Y0 Y1 Y2 D z b y0 y1 y2 d hZ hB hY0 hY1 hY2 hD j (i 1).val (i 1).isLt hj

theorem ref_dg2 (i : S8192x1024.Idx) : val_main_v46 Z B Y0 Y1 Y2 D i
    = slope (pre z b 2048 (i 0).val (i 1).val) (y2 (i 0).val (i 1).val) (d (i 0).val (i 1).val) := by
  rw [val_main_v46_apply, val_main_v43_apply]
  exact ref_col2 Z B Y0 Y1 Y2 D z b y0 y1 y2 d hZ hB hY0 hY1 hY2 hD (idx_main_v43 i) (i 1).val (i 1).isLt rfl

theorem ref_db2 (i : S1x1024.Idx) : val_main_v50 Z B Y0 Y1 Y2 D i
    = ∑ q : Fin 8192, slope (pre z b 2048 q.val (i 1).val) (y2 q.val (i 1).val) (d q.val (i 1).val) := by
  rw [val_main_v50_apply]
  exact ref_db Z B Y0 Y1 Y2 D _ (fun q => slope (pre z b 2048 q (i 1).val) (y2 q (i 1).val) (d q (i 1).val))
    fun j hj => ref_col2 Z B Y0 Y1 Y2 D z b y0 y1 y2 d hZ hB hY0 hY1 hY2 hD j (i 1).val (i 1).isLt hj

end Cert.Merge

end
-- ==== Proof.GateGrad.lean ====
/-
  The gates' gradient over the whole arrays. Point `t` is row block `t % 16` of column block `t / 16`; each branch's bias gradient is
  summed over a column block's sixteen points and written out by the last of them. No entry need be finite.
-/
module

public import proofs.«01_k».proof.Proof.GatePoints
public import proofs.«01_k».proof.Proof.GateReference
public import proofs.«01_k».proof.Proof.Gen.Kernel9Ideal.Value
public import proofs.«01_k».proof.Proof.Gen.Reference9Ideal.Run
public import proofs.«01_k».proof.Defs

@[expose] public section

set_option maxRecDepth 8192

noncomputable section

namespace Cert.Merge.Gate

open Idealize.ShloMosaic hiding ix2 ix1 ix0 ix3 ix4
open Idealize.ShloMosaic.TcCoe Idealize.ShloMosaic.Tactic Idealize.ShloMosaic.ValueIdx
open Idealize.SL Idealize.SL.Sem
open Cert.Ffn Cert.Kernel9Ideal Cert.Kernel9Ideal.Gen
open scoped BigOperators

/-- A sum begun anew at every sixteenth point and carried from point to point. -/
theorem carry {N : ℕ} (s : ∀ n, n < N → EReal) (p : ℕ → ℕ → EReal) (h0 : ∀ n hn, n % 16 = 0 → s n hn = p (n / 16) (n % 16))
    (h1 : ∀ n hn, n % 16 ≠ 0 → s n hn = s (n - 1) (by omega) + p (n / 16) (n % 16)) :
    ∀ n hn, s n hn = ∑ u ∈ Finset.range (n % 16 + 1), p (n / 16) u
  | 0, hn => by rw [h0 0 hn rfl]; simp
  | n + 1, hn => by
    by_cases h : (n + 1) % 16 = 0
    · rw [h0 _ hn h, h]; simp
    · rw [h1 _ hn h, Finset.sum_range_succ]
      refine congrArg (· + _) ((carry s p h0 h1 n (by omega)).trans ?_)
      rw [show (n + 1) % 16 = n % 16 + 1 by omega, show (n + 1) / 16 = n / 16 by omega]

/-- Sixteen blocks of 512 rows are the rows. -/
theorem sum_blocks (f : ℕ → EReal) : ∑ u ∈ Finset.range (15 + 1), ∑ r : Fin 512, f (u * 512 + r.val) = ∑ q : Fin 8192, f q.val := by
  rw [← Finset.sum_range f, ← sum_by_blocks 512 f 16]
  exact Finset.sum_congr rfl fun u _ => Finset.sum_congr rfl fun r _ => by rw [Nat.mul_comm]

/-! ## Where the blocks lie -/

theorem ix_0 : ∀ t : Fin cfg0.N, win0_0.index t = ![t.val % 16, 7 + t.val / 16] := (by decide +kernel : ∀ t : Fin grid0.N, _)
theorem ix_1 : ∀ t : Fin cfg0.N, win0_1.index t = ![t.val % 16, 9 + t.val / 16] := (by decide +kernel : ∀ t : Fin grid0.N, _)
theorem ix_2 : ∀ t : Fin cfg0.N, win0_2.index t = ![t.val % 16, 11 + t.val / 16] := (by decide +kernel : ∀ t : Fin grid0.N, _)
theorem ix_3 : ∀ t : Fin cfg0.N, win0_3.index t = ![0, 0 + t.val / 16] := (by decide +kernel : ∀ t : Fin grid0.N, _)
theorem ix_4 : ∀ t : Fin cfg0.N, win0_4.index t = ![0, 2 + t.val / 16] := (by decide +kernel : ∀ t : Fin grid0.N, _)
theorem ix_5 : ∀ t : Fin cfg0.N, win0_5.index t = ![0, 4 + t.val / 16] := (by decide +kernel : ∀ t : Fin grid0.N, _)
theorem ix_6 : ∀ t : Fin cfg0.N, win0_6.index t = ![t.val % 16, t.val / 16] := (by decide +kernel : ∀ t : Fin grid0.N, _)
theorem ix_7 : ∀ t : Fin cfg0.N, win0_7.index t = ![t.val % 16, t.val / 16] := (by decide +kernel : ∀ t : Fin grid0.N, _)
theorem ix_8 : ∀ t : Fin cfg0.N, win0_8.index t = ![t.val % 16, t.val / 16] := (by decide +kernel : ∀ t : Fin grid0.N, _)
theorem ix_9 : ∀ t : Fin cfg0.N, win0_9.index t = ![t.val % 16, t.val / 16] := (by decide +kernel : ∀ t : Fin grid0.N, _)
theorem ix_10 : ∀ t : Fin cfg0.N, win0_10.index t = ![t.val % 16, t.val / 16] := (by decide +kernel : ∀ t : Fin grid0.N, _)
theorem ix_11 : ∀ t : Fin cfg0.N, win0_11.index t = ![t.val % 16, t.val / 16] := (by decide +kernel : ∀ t : Fin grid0.N, _)
theorem ix_12 : ∀ t : Fin cfg0.N, win0_12.index t = ![t.val % 16, t.val / 16] := (by decide +kernel : ∀ t : Fin grid0.N, _)
theorem ix_13 : ∀ t : Fin cfg0.N, win0_13.index t = ![t.val % 16, t.val / 16] := (by decide +kernel : ∀ t : Fin grid0.N, _)
theorem ix_14 : ∀ t : Fin cfg0.N, win0_14.index t = ![t.val % 16, t.val / 16] := (by decide +kernel : ∀ t : Fin grid0.N, _)
theorem ix_15 : ∀ t : Fin cfg0.N, win0_15.index t = ![t.val % 16, t.val / 16] := (by decide +kernel : ∀ t : Fin grid0.N, _)
theorem ix_16 : ∀ t : Fin cfg0.N, win0_16.index t = ![0, t.val / 16] := (by decide +kernel : ∀ t : Fin grid0.N, _)
theorem ix_17 : ∀ t : Fin cfg0.N, win0_17.index t = ![0, t.val / 16] := (by decide +kernel : ∀ t : Fin grid0.N, _)
theorem ix_18 : ∀ t : Fin cfg0.N, win0_18.index t = ![0, t.val / 16] := (by decide +kernel : ∀ t : Fin grid0.N, _)

variable (m : (ℓ : Loc nD τ sig) → Buf (Elt Ideal) ℓ) (c : Dev nD)

/-- The layer's first projection, whose last columns go into the gates. -/
abbrev argZ : FVec Ideal S8192x6656 .f32 := m ((c : Thread nD τ).loc main_arg0)
/-- The gates' bias. -/
abbrev argB : FVec Ideal S3072 .f32 := m ((c : Thread nD τ).loc main_arg1)
/-- The three branches. -/
abbrev argY0 : FVec Ideal S8192x1024 .f32 := m ((c : Thread nD τ).loc main_arg2)
@[inherit_doc argY0] abbrev argY1 : FVec Ideal S8192x1024 .f32 := m ((c : Thread nD τ).loc main_arg3)
@[inherit_doc argY0] abbrev argY2 : FVec Ideal S8192x1024 .f32 := m ((c : Thread nD τ).loc main_arg4)
/-- The merged rows' gradient. -/
abbrev argD : FVec Ideal S8192x1024 .f32 := m ((c : Thread nD τ).loc main_arg5)

theorem host_z : (V m c main_v0 : FVec Ideal S8192x6656 .bf16) = truncf .bf16 (argZ m c) bitsLt_bf16_f32 := by
  unfold_abbrev_sides
  after_results

theorem host_b : (V m c main_v1 : FVec Ideal S1x3072 .f32) = broadcastInDim S1x3072 ![1] bcast_S3072_S1x3072_1 (argB m c) := by
  unfold_abbrev_sides
  after_results

theorem host_y0 : (V m c main_v2 : FVec Ideal S8192x1024 .bf16) = truncf .bf16 (argY0 m c) bitsLt_bf16_f32 := by
  unfold_abbrev_sides
  after_results

theorem host_y1 : (V m c main_v3 : FVec Ideal S8192x1024 .bf16) = truncf .bf16 (argY1 m c) bitsLt_bf16_f32 := by
  unfold_abbrev_sides
  after_results

theorem host_y2 : (V m c main_v4 : FVec Ideal S8192x1024 .bf16) = truncf .bf16 (argY2 m c) bitsLt_bf16_f32 := by
  unfold_abbrev_sides
  after_results

variable (z : ℕ → ℕ → EReal) (b : ℕ → EReal) (y0 y1 y2 d : ℕ → ℕ → EReal)
  (hZ : ∀ i, argZ m c i = z (i 0).val (i 1).val) (hB : ∀ i, argB m c i = b (i 0).val) (hY0 : ∀ i, argY0 m c i = y0 (i 0).val (i 1).val)
  (hY1 : ∀ i, argY1 m c i = y1 (i 0).val (i 1).val) (hY2 : ∀ i, argY2 m c i = y2 (i 0).val (i 1).val)
  (hD : ∀ i, argD m c i = d (i 0).val (i 1).val)

/-! ## The blocks, entry by entry -/

include hZ in
theorem blk_z0 (t : Fin cfg0.N) (r l : Fin 512) :
    iblk m c 0 t (ix2 r l) = z (t.val % 16 * 512 + r.val) (3584 + (0 + (t.val / 16 * 512 + l.val))) := by
  blk_simp [iblk]
  rw [host_z]
  refine (hZ _).trans ?_
  blk_simp [ix_0]
  exact congrArg _ (show (7 + t.val / 16) * 512 + l.val = _ by omega)

include hB in
theorem blk_b0 (t : Fin cfg0.N) (l : Fin 512) : iblk m c 3 t (ix2 0 l) = b (0 + (t.val / 16 * 512 + l.val)) := by
  blk_simp [iblk]
  rw [host_b]
  refine (hB _).trans ?_
  blk_simp [ix_3]
  exact congrArg b (show t.val / 16 * 512 + l.val = _ by omega)

include hY0 in
theorem blk_y0 (t : Fin cfg0.N) (r l : Fin 512) :
    iblk m c 6 t (ix2 r l) = y0 (t.val % 16 * 512 + r.val) (t.val / 16 * 512 + l.val) := by
  blk_simp [iblk]
  rw [host_y0]
  refine (hY0 _).trans ?_
  blk_simp [ix_6]

include hZ in
theorem blk_z1 (t : Fin cfg0.N) (r l : Fin 512) :
    iblk m c 1 t (ix2 r l) = z (t.val % 16 * 512 + r.val) (3584 + (1024 + (t.val / 16 * 512 + l.val))) := by
  blk_simp [iblk]
  rw [host_z]
  refine (hZ _).trans ?_
  blk_simp [ix_1]
  exact congrArg _ (show (9 + t.val / 16) * 512 + l.val = _ by omega)

include hB in
theorem blk_b1 (t : Fin cfg0.N) (l : Fin 512) : iblk m c 4 t (ix2 0 l) = b (1024 + (t.val / 16 * 512 + l.val)) := by
  blk_simp [iblk]
  rw [host_b]
  refine (hB _).trans ?_
  blk_simp [ix_4]
  exact congrArg b (show (2 + t.val / 16) * 512 + l.val = _ by omega)

include hY1 in
theorem blk_y1 (t : Fin cfg0.N) (r l : Fin 512) :
    iblk m c 7 t (ix2 r l) = y1 (t.val % 16 * 512 + r.val) (t.val / 16 * 512 + l.val) := by
  blk_simp [iblk]
  rw [host_y1]
  refine (hY1 _).trans ?_
  blk_simp [ix_7]

include hZ in
theorem blk_z2 (t : Fin cfg0.N) (r l : Fin 512) :
    iblk m c 2 t (ix2 r l) = z (t.val % 16 * 512 + r.val) (3584 + (2048 + (t.val / 16 * 512 + l.val))) := by
  blk_simp [iblk]
  rw [host_z]
  refine (hZ _).trans ?_
  blk_simp [ix_2]
  exact congrArg _ (show (11 + t.val / 16) * 512 + l.val = _ by omega)

include hB in
theorem blk_b2 (t : Fin cfg0.N) (l : Fin 512) : iblk m c 5 t (ix2 0 l) = b (2048 + (t.val / 16 * 512 + l.val)) := by
  blk_simp [iblk]
  rw [host_b]
  refine (hB _).trans ?_
  blk_simp [ix_5]
  exact congrArg b (show (4 + t.val / 16) * 512 + l.val = _ by omega)

include hY2 in
theorem blk_y2 (t : Fin cfg0.N) (r l : Fin 512) :
    iblk m c 8 t (ix2 r l) = y2 (t.val % 16 * 512 + r.val) (t.val / 16 * 512 + l.val) := by
  blk_simp [iblk]
  rw [host_y2]
  refine (hY2 _).trans ?_
  blk_simp [ix_8]

include hD in
theorem blk_d (t : Fin cfg0.N) (r l : Fin 512) : iblk m c 9 t (ix2 r l) = d (t.val % 16 * 512 + r.val) (t.val / 16 * 512 + l.val) := by
  blk_simp [iblk]
  rw [V_main_arg5]
  refine (hD _).trans ?_
  blk_simp [ix_9]

/-! ## The branches' gradients -/

include hZ hB hD in
theorem result_dy0 (i : S8192x1024.Idx) : (dats m 0 c).arrAt 10 cfg0.N i
    = gate (pre z b 0 (i 0).val (i 1).val) * d (i 0).val (i 1).val := by
  refine (dats m 0 c).arrAt_forall_of_covers 10 (fun i v => v = gate (pre z b 0 (i 0).val (i 1).val) * d (i 0).val (i 1).val)
    (by decide +kernel) (fun t hf y => ?_) i
  obtain ⟨r, l, rfl⟩ : ∃ (r l : Fin 512), y = ix2 r l := ⟨y 0, y 1, ValueIdx.eq_ix2 y⟩
  blk_simp [ix_10]
  rw [after0_10, show (outsAt0 m c t.val t.isLt).1 = k0_pay3 (iblk m c 9 t) (iblk m c 0 t) (iblk m c 3 t) from
    (by_cases (fun h => by rw [point_first m c t h]) fun h => by rw [point_next m c t h] : _)]
  exact branch_at _ _ _ z d b 0 (t.val % 16) (t.val / 16) (blk_z0 m c z hZ t) (blk_b0 m c b hB t) (blk_d m c d hD t) r l

include hZ hB hD in
theorem result_dy1 (i : S8192x1024.Idx) : (dats m 0 c).arrAt 11 cfg0.N i
    = gate (pre z b 1024 (i 0).val (i 1).val) * d (i 0).val (i 1).val := by
  refine (dats m 0 c).arrAt_forall_of_covers 11 (fun i v => v = gate (pre z b 1024 (i 0).val (i 1).val) * d (i 0).val (i 1).val)
    (by decide +kernel) (fun t hf y => ?_) i
  obtain ⟨r, l, rfl⟩ : ∃ (r l : Fin 512), y = ix2 r l := ⟨y 0, y 1, ValueIdx.eq_ix2 y⟩
  blk_simp [ix_11]
  rw [after0_11, show (outsAt0 m c t.val t.isLt).2.1 = k0_pay9 (iblk m c 9 t) (iblk m c 1 t) (iblk m c 4 t) from
    (by_cases (fun h => by rw [point_first m c t h]) fun h => by rw [point_next m c t h] : _)]
  exact branch_at _ _ _ z d b 1024 (t.val % 16) (t.val / 16) (blk_z1 m c z hZ t) (blk_b1 m c b hB t) (blk_d m c d hD t) r l

include hZ hB hD in
theorem result_dy2 (i : S8192x1024.Idx) : (dats m 0 c).arrAt 12 cfg0.N i
    = gate (pre z b 2048 (i 0).val (i 1).val) * d (i 0).val (i 1).val := by
  refine (dats m 0 c).arrAt_forall_of_covers 12 (fun i v => v = gate (pre z b 2048 (i 0).val (i 1).val) * d (i 0).val (i 1).val)
    (by decide +kernel) (fun t hf y => ?_) i
  obtain ⟨r, l, rfl⟩ : ∃ (r l : Fin 512), y = ix2 r l := ⟨y 0, y 1, ValueIdx.eq_ix2 y⟩
  blk_simp [ix_12]
  rw [after0_12, show (outsAt0 m c t.val t.isLt).2.2.1 = k0_pay15 (iblk m c 9 t) (iblk m c 2 t) (iblk m c 5 t) from
    (by_cases (fun h => by rw [point_first m c t h]) fun h => by rw [point_next m c t h] : _)]
  exact branch_at _ _ _ z d b 2048 (t.val % 16) (t.val / 16) (blk_z2 m c z hZ t) (blk_b2 m c b hB t) (blk_d m c d hD t) r l

/-! ## The gradient of what goes into the gates -/

include hZ hB hY0 hD in
theorem result_dg0 (i : S8192x1024.Idx) : (dats m 0 c).arrAt 13 cfg0.N i
    = slope (pre z b 0 (i 0).val (i 1).val) (y0 (i 0).val (i 1).val) (d (i 0).val (i 1).val) := by
  refine (dats m 0 c).arrAt_forall_of_covers 13
    (fun i v => v = slope (pre z b 0 (i 0).val (i 1).val) (y0 (i 0).val (i 1).val) (d (i 0).val (i 1).val))
    (by decide +kernel) (fun t hf y => ?_) i
  obtain ⟨r, l, rfl⟩ : ∃ (r l : Fin 512), y = ix2 r l := ⟨y 0, y 1, ValueIdx.eq_ix2 y⟩
  blk_simp [ix_13]
  rw [after0_13, show (outsAt0 m c t.val t.isLt).2.2.2.1
      = k0_pay5 (iblk m c 9 t) (iblk m c 0 t) (iblk m c 3 t) (iblk m c 6 t) from
    (by_cases (fun h => by rw [point_first m c t h]) fun h => by rw [point_next m c t h] : _)]
  exact slope_at _ _ _ _ z y0 d b 0 (t.val % 16) (t.val / 16) (blk_z0 m c z hZ t) (blk_b0 m c b hB t) (blk_y0 m c y0 hY0 t)
    (blk_d m c d hD t) r l

include hZ hB hY1 hD in
theorem result_dg1 (i : S8192x1024.Idx) : (dats m 0 c).arrAt 14 cfg0.N i
    = slope (pre z b 1024 (i 0).val (i 1).val) (y1 (i 0).val (i 1).val) (d (i 0).val (i 1).val) := by
  refine (dats m 0 c).arrAt_forall_of_covers 14
    (fun i v => v = slope (pre z b 1024 (i 0).val (i 1).val) (y1 (i 0).val (i 1).val) (d (i 0).val (i 1).val))
    (by decide +kernel) (fun t hf y => ?_) i
  obtain ⟨r, l, rfl⟩ : ∃ (r l : Fin 512), y = ix2 r l := ⟨y 0, y 1, ValueIdx.eq_ix2 y⟩
  blk_simp [ix_14]
  rw [after0_14, show (outsAt0 m c t.val t.isLt).2.2.2.2.1
      = k0_pay11 (iblk m c 9 t) (iblk m c 1 t) (iblk m c 4 t) (iblk m c 7 t) from
    (by_cases (fun h => by rw [point_first m c t h]) fun h => by rw [point_next m c t h] : _)]
  exact slope_at _ _ _ _ z y1 d b 1024 (t.val % 16) (t.val / 16) (blk_z1 m c z hZ t) (blk_b1 m c b hB t) (blk_y1 m c y1 hY1 t)
    (blk_d m c d hD t) r l

include hZ hB hY2 hD in
theorem result_dg2 (i : S8192x1024.Idx) : (dats m 0 c).arrAt 15 cfg0.N i
    = slope (pre z b 2048 (i 0).val (i 1).val) (y2 (i 0).val (i 1).val) (d (i 0).val (i 1).val) := by
  refine (dats m 0 c).arrAt_forall_of_covers 15
    (fun i v => v = slope (pre z b 2048 (i 0).val (i 1).val) (y2 (i 0).val (i 1).val) (d (i 0).val (i 1).val))
    (by decide +kernel) (fun t hf y => ?_) i
  obtain ⟨r, l, rfl⟩ : ∃ (r l : Fin 512), y = ix2 r l := ⟨y 0, y 1, ValueIdx.eq_ix2 y⟩
  blk_simp [ix_15]
  rw [after0_15, show (outsAt0 m c t.val t.isLt).2.2.2.2.2.1
      = k0_pay17 (iblk m c 9 t) (iblk m c 2 t) (iblk m c 5 t) (iblk m c 8 t) from
    (by_cases (fun h => by rw [point_first m c t h]) fun h => by rw [point_next m c t h] : _)]
  exact slope_at _ _ _ _ z y2 d b 2048 (t.val % 16) (t.val / 16) (blk_z2 m c z hZ t) (blk_b2 m c b hB t) (blk_y2 m c y2 hY2 t)
    (blk_d m c d hD t) r l

/-! ## The bias's gradient -/

include hZ hB hY0 hD in
theorem carried0 (l : Fin 512) (n : ℕ) (hn : n < cfg0.N) : (outsAt0 m c n hn).2.2.2.2.2.2.1 (ix2 0 l)
    = ∑ u ∈ Finset.range (n % 16 + 1), ∑ r : Fin 512, slope (pre z b 0 (u * 512 + r.val) (n / 16 * 512 + l.val))
        (y0 (u * 512 + r.val) (n / 16 * 512 + l.val)) (d (u * 512 + r.val) (n / 16 * 512 + l.val)) := by
  have hp := fun t : Fin cfg0.N => bias_at (iblk m c 0 t) (iblk m c 6 t) (iblk m c 9 t) (iblk m c 3 t) z y0 d b 0 (t.val % 16)
    (t.val / 16) (blk_z0 m c z hZ t) (blk_b0 m c b hB t) (blk_y0 m c y0 hY0 t) (blk_d m c d hD t) l
  refine carry (fun n hn => (outsAt0 m c n hn).2.2.2.2.2.2.1 (ix2 0 l)) (fun v u => ∑ r : Fin 512,
    slope (pre z b 0 (u * 512 + r.val) (v * 512 + l.val)) (y0 (u * 512 + r.val) (v * 512 + l.val))
      (d (u * 512 + r.val) (v * 512 + l.val))) (fun n hn h => ?_) (fun n hn h => ?_) n hn
  · rw [point_first m c ⟨n, hn⟩ h]
    exact hp ⟨n, hn⟩
  · rw [point_next m c ⟨n, hn⟩ h]
    dsimp only
    unfold k0_pay7
    rw [shapeCast_self, ValueIdx.addf_apply]
    exact congrArg (_ + ·) (hp ⟨n, hn⟩)

include hZ hB hY0 hD in
theorem result_db0 (i : S1x1024.Idx) : (dats m 0 c).arrAt 16 cfg0.N i
    = ∑ q : Fin 8192, slope (pre z b 0 q.val (i 1).val) (y0 q.val (i 1).val) (d q.val (i 1).val) := by
  refine (dats m 0 c).arrAt_forall_of_covers 16
    (fun i v => v = ∑ q : Fin 8192, slope (pre z b 0 q.val (i 1).val) (y0 q.val (i 1).val) (d q.val (i 1).val))
    (by decide +kernel) (fun t hf y => ?_) i
  have ht : t.val % 16 = 15 := (by decide +kernel : ∀ t : Fin grid0.N, win0_16.flush t = true → t.val % 16 = 15) t hf
  obtain ⟨l, rfl⟩ : ∃ l : Fin 512, y = ix2 0 l := ⟨y 1, one_row y⟩
  blk_simp [ix_16]
  rw [after0_16, carried0 m c z b y0 d hZ hB hY0 hD l t.val t.isLt, ht]
  exact sum_blocks fun q => slope (pre z b 0 q (t.val / 16 * 512 + l.val)) (y0 q (t.val / 16 * 512 + l.val))
    (d q (t.val / 16 * 512 + l.val))

include hZ hB hY1 hD in
theorem carried1 (l : Fin 512) (n : ℕ) (hn : n < cfg0.N) : (outsAt0 m c n hn).2.2.2.2.2.2.2.1 (ix2 0 l)
    = ∑ u ∈ Finset.range (n % 16 + 1), ∑ r : Fin 512, slope (pre z b 1024 (u * 512 + r.val) (n / 16 * 512 + l.val))
        (y1 (u * 512 + r.val) (n / 16 * 512 + l.val)) (d (u * 512 + r.val) (n / 16 * 512 + l.val)) := by
  have hp := fun t : Fin cfg0.N => bias_at (iblk m c 1 t) (iblk m c 7 t) (iblk m c 9 t) (iblk m c 4 t) z y1 d b 1024 (t.val % 16)
    (t.val / 16) (blk_z1 m c z hZ t) (blk_b1 m c b hB t) (blk_y1 m c y1 hY1 t) (blk_d m c d hD t) l
  refine carry (fun n hn => (outsAt0 m c n hn).2.2.2.2.2.2.2.1 (ix2 0 l)) (fun v u => ∑ r : Fin 512,
    slope (pre z b 1024 (u * 512 + r.val) (v * 512 + l.val)) (y1 (u * 512 + r.val) (v * 512 + l.val))
      (d (u * 512 + r.val) (v * 512 + l.val))) (fun n hn h => ?_) (fun n hn h => ?_) n hn
  · rw [point_first m c ⟨n, hn⟩ h]
    exact hp ⟨n, hn⟩
  · rw [point_next m c ⟨n, hn⟩ h]
    dsimp only
    unfold k0_pay13
    rw [shapeCast_self, ValueIdx.addf_apply]
    exact congrArg (_ + ·) (hp ⟨n, hn⟩)

include hZ hB hY1 hD in
theorem result_db1 (i : S1x1024.Idx) : (dats m 0 c).arrAt 17 cfg0.N i
    = ∑ q : Fin 8192, slope (pre z b 1024 q.val (i 1).val) (y1 q.val (i 1).val) (d q.val (i 1).val) := by
  refine (dats m 0 c).arrAt_forall_of_covers 17
    (fun i v => v = ∑ q : Fin 8192, slope (pre z b 1024 q.val (i 1).val) (y1 q.val (i 1).val) (d q.val (i 1).val))
    (by decide +kernel) (fun t hf y => ?_) i
  have ht : t.val % 16 = 15 := (by decide +kernel : ∀ t : Fin grid0.N, win0_17.flush t = true → t.val % 16 = 15) t hf
  obtain ⟨l, rfl⟩ : ∃ l : Fin 512, y = ix2 0 l := ⟨y 1, one_row y⟩
  blk_simp [ix_17]
  rw [after0_17, carried1 m c z b y1 d hZ hB hY1 hD l t.val t.isLt, ht]
  exact sum_blocks fun q => slope (pre z b 1024 q (t.val / 16 * 512 + l.val)) (y1 q (t.val / 16 * 512 + l.val))
    (d q (t.val / 16 * 512 + l.val))

include hZ hB hY2 hD in
theorem carried2 (l : Fin 512) (n : ℕ) (hn : n < cfg0.N) : (outsAt0 m c n hn).2.2.2.2.2.2.2.2 (ix2 0 l)
    = ∑ u ∈ Finset.range (n % 16 + 1), ∑ r : Fin 512, slope (pre z b 2048 (u * 512 + r.val) (n / 16 * 512 + l.val))
        (y2 (u * 512 + r.val) (n / 16 * 512 + l.val)) (d (u * 512 + r.val) (n / 16 * 512 + l.val)) := by
  have hp := fun t : Fin cfg0.N => bias_at (iblk m c 2 t) (iblk m c 8 t) (iblk m c 9 t) (iblk m c 5 t) z y2 d b 2048 (t.val % 16)
    (t.val / 16) (blk_z2 m c z hZ t) (blk_b2 m c b hB t) (blk_y2 m c y2 hY2 t) (blk_d m c d hD t) l
  refine carry (fun n hn => (outsAt0 m c n hn).2.2.2.2.2.2.2.2 (ix2 0 l)) (fun v u => ∑ r : Fin 512,
    slope (pre z b 2048 (u * 512 + r.val) (v * 512 + l.val)) (y2 (u * 512 + r.val) (v * 512 + l.val))
      (d (u * 512 + r.val) (v * 512 + l.val))) (fun n hn h => ?_) (fun n hn h => ?_) n hn
  · rw [point_first m c ⟨n, hn⟩ h]
    exact hp ⟨n, hn⟩
  · rw [point_next m c ⟨n, hn⟩ h]
    dsimp only
    unfold k0_pay1
    rw [shapeCast_self, ValueIdx.addf_apply]
    exact congrArg (_ + ·) (hp ⟨n, hn⟩)

include hZ hB hY2 hD in
theorem result_db2 (i : S1x1024.Idx) : (dats m 0 c).arrAt 18 cfg0.N i
    = ∑ q : Fin 8192, slope (pre z b 2048 q.val (i 1).val) (y2 q.val (i 1).val) (d q.val (i 1).val) := by
  refine (dats m 0 c).arrAt_forall_of_covers 18
    (fun i v => v = ∑ q : Fin 8192, slope (pre z b 2048 q.val (i 1).val) (y2 q.val (i 1).val) (d q.val (i 1).val))
    (by decide +kernel) (fun t hf y => ?_) i
  have ht : t.val % 16 = 15 := (by decide +kernel : ∀ t : Fin grid0.N, win0_18.flush t = true → t.val % 16 = 15) t hf
  obtain ⟨l, rfl⟩ : ∃ l : Fin 512, y = ix2 0 l := ⟨y 1, one_row y⟩
  blk_simp [ix_18]
  rw [after0_18, carried2 m c z b y2 d hZ hB hY2 hD l t.val t.isLt, ht]
  exact sum_blocks fun q => slope (pre z b 2048 q (t.val / 16 * 512 + l.val)) (y2 q (t.val / 16 * 512 + l.val))
    (d q (t.val / 16 * 512 + l.val))

/-! ## The same as the reference -/

set_option maxHeartbeats 1000000 in
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => (dats m 0 c).arrAt 10 cfg0.N, fun c => (dats m 0 c).arrAt 11 cfg0.N, fun c => (dats m 0 c).arrAt 12 cfg0.N, fun c => (dats m 0 c).arrAt 13 cfg0.N,
    fun c => (dats m 0 c).arrAt 14 cfg0.N, fun c => (dats m 0 c).arrAt 15 cfg0.N, fun c => (dats m 0 c).arrAt 16 cfg0.N, fun c => (dats m 0 c).arrAt 17 cfg0.N,
    fun c => (dats m 0 c).arrAt 18 cfg0.N, Cert.Kernel9Ideal.Value.run_blocks m g, ?_⟩
  refine (θ_run Cert.Reference9Ideal.defs _ _).mono (fun r h c => ?_) (Cert.Reference9Ideal.Value.run (F := Ideal) m' g')
  obtain ⟨v0, v1, v2, v3, v4, v5, v6, v7, v8, h0, h1, h2, h3, h4, h5⟩ := h c
  obtain ⟨e0, e1, e2, e3, e4, e5⟩ := hargs c
  have eZ := entry_eq (by decide : 0 < 8192) (by decide : 0 < 6656) (argZ m c)
  have eB := entry1_eq (by decide : 0 < 3072) (argB m c)
  have eY0 := entry_eq (by decide : 0 < 8192) (by decide : 0 < 1024) (argY0 m c)
  have eY1 := entry_eq (by decide : 0 < 8192) (by decide : 0 < 1024) (argY1 m c)
  have eY2 := entry_eq (by decide : 0 < 8192) (by decide : 0 < 1024) (argY2 m c)
  have eD := entry_eq (by decide : 0 < 8192) (by decide : 0 < 1024) (argD m c)
  refine ⟨v0.trans ((Cert.Reference9Ideal.Read.val_main_v38_eq _ _ _).trans ?_), v1.trans ((Cert.Reference9Ideal.Read.val_main_v39_eq _ _ _).trans ?_),
    v2.trans ((Cert.Reference9Ideal.Read.val_main_v40_eq _ _ _).trans ?_), v3.trans ((Cert.Reference9Ideal.Read.val_main_v44_eq _ _ _ _ _ _).trans ?_),
    v4.trans ((Cert.Reference9Ideal.Read.val_main_v45_eq _ _ _ _ _ _).trans ?_), v5.trans ((Cert.Reference9Ideal.Read.val_main_v46_eq _ _ _ _ _ _).trans ?_),
    v6.trans ((Cert.Reference9Ideal.Read.val_main_v48_eq _ _ _ _ _ _).trans ?_), v7.trans ((Cert.Reference9Ideal.Read.val_main_v49_eq _ _ _ _ _ _).trans ?_),
    v8.trans ((Cert.Reference9Ideal.Read.val_main_v50_eq _ _ _ _ _ _).trans ?_), h0, h1, h2, h3, h4, h5⟩
  · rw [e0, e1, e5]
    exact funext fun i => (ref_dy0 (argZ m c) (argB m c) (argD m c) _ _ _ eZ eB eD i).trans (result_dy0 m c _ _ _ eZ eB eD i).symm
  · rw [e0, e1, e5]
    exact funext fun i => (ref_dy1 (argZ m c) (argB m c) (argD m c) _ _ _ eZ eB eD i).trans (result_dy1 m c _ _ _ eZ eB eD i).symm
  · rw [e0, e1, e5]
    exact funext fun i => (ref_dy2 (argZ m c) (argB m c) (argD m c) _ _ _ eZ eB eD i).trans (result_dy2 m c _ _ _ eZ eB eD i).symm
  · rw [e0, e1, e2, e3, e4, e5]
    exact funext fun i => (ref_dg0 (argZ m c) (argB m c) (argY0 m c) (argY1 m c) (argY2 m c) (argD m c) _ _ _ _ _ _ eZ eB eY0 eY1 eY2 eD i).trans (result_dg0 m c _ _ _ _ eZ eB eY0 eD i).symm
  · rw [e0, e1, e2, e3, e4, e5]
    exact funext fun i => (ref_dg1 (argZ m c) (argB m c) (argY0 m c) (argY1 m c) (argY2 m c) (argD m c) _ _ _ _ _ _ eZ eB eY0 eY1 eY2 eD i).trans (result_dg1 m c _ _ _ _ eZ eB eY1 eD i).symm
  · rw [e0, e1, e2, e3, e4, e5]
    exact funext fun i => (ref_dg2 (argZ m c) (argB m c) (argY0 m c) (argY1 m c) (argY2 m c) (argD m c) _ _ _ _ _ _ eZ eB eY0 eY1 eY2 eD i).trans (result_dg2 m c _ _ _ _ eZ eB eY2 eD i).symm
  · rw [e0, e1, e2, e3, e4, e5]
    exact funext fun i => (ref_db0 (argZ m c) (argB m c) (argY0 m c) (argY1 m c) (argY2 m c) (argD m c) _ _ _ _ _ _ eZ eB eY0 eY1 eY2 eD i).trans (result_db0 m c _ _ _ _ eZ eB eY0 eD i).symm
  · rw [e0, e1, e2, e3, e4, e5]
    exact funext fun i => (ref_db1 (argZ m c) (argB m c) (argY0 m c) (argY1 m c) (argY2 m c) (argD m c) _ _ _ _ _ _ eZ eB eY0 eY1 eY2 eD i).trans (result_db1 m c _ _ _ _ eZ eB eY1 eD i).symm
  · rw [e0, e1, e2, e3, e4, e5]
    exact funext fun i => (ref_db2 (argZ m c) (argB m c) (argY0 m c) (argY1 m c) (argY2 m c) (argD m c) _ _ _ _ _ _ eZ eB eY0 eY1 eY2 eD i).trans (result_db2 m c _ _ _ _ eZ eB eY2 eD i).symm

end Cert.Merge.Gate

end
-- ==== Proof.MergeForward.lean ====
/-
  The forward merge stage: the three branches' products, their sum under the three gates, and the output projection with the
  residual. Each call's array is given entry by entry, then the calls are put one after another. No entry need be finite.
-/
module

public import proofs.«01_k».proof.Proof.GatePoints
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Tactic
public import proofs.«01_k».proof.Defs

@[expose] public section

set_option maxRecDepth 8192

noncomputable section

namespace Cert.Merge.Forward

/-! ## A point's arithmetic -/

section
open Idealize.ShloMosaic Cert.Kernel10Ideal Cert.Kernel10Ideal.Gen Cert.Attn
open scoped BigOperators

theorem product0 (A : Vec Ideal S1024x512 .bf16) (B : Vec Ideal S512x1024 .bf16) (r l : Fin 1024) :
    k0_pay1 A B (ix2 r l) = ∑ k : Fin 512, A (ix2 r k) * B (ix2 k l) := by
  pointwise [k0_pay1]

theorem product1 (A : Vec Ideal S1024x256 .f32) (B : Vec Ideal S256x1024 .bf16) (r l : Fin 1024) :
    k1_pay1 A B (ix2 r l) = ∑ k : Fin 256, A (ix2 r k) * B (ix2 k l) := by
  pointwise [k1_pay1]

theorem product2 (A : Vec Ideal S1024x512 .bf16) (B : Vec Ideal S512x1024 .bf16) (r l : Fin 1024) :
    k2_pay1 A B (ix2 r l) = ∑ k : Fin 512, A (ix2 r k) * B (ix2 k l) := by
  pointwise [k2_pay1]

theorem residual (A : Vec Ideal S1024x1024 .bf16) (B : Vec Ideal S1024x1024 .bf16) (X : Vec Ideal S1024x1024 .f32) (r l : Fin 1024) :
    k4_pay1 A B X (ix2 r l) = ∑ k : Fin 1024, A (ix2 r k) * B (ix2 k l) + X (ix2 r l) := by
  pointwise [k4_pay1]

/-- The three branches' entries under their gates, summed. -/
theorem merge_value (Z0 Z1 Z2 Y0 Y1 Y2 : Vec Ideal S512x512 .bf16) (B0 B1 B2 : Vec Ideal S1x512 .f32) (r l : Fin 512) :
    k3_pay1 (F := Ideal) (k3_pay2 Z0 B0 Y0 Z1 B1 Y1) Z2 B2 Y2 (ix2 r l)
      = gate (Z0 (ix2 r l) + B0 (ix2 0 l)) * Y0 (ix2 r l) + gate (Z1 (ix2 r l) + B1 (ix2 0 l)) * Y1 (ix2 r l)
        + gate (Z2 (ix2 r l) + B2 (ix2 0 l)) * Y2 (ix2 r l) := by
  pointwise [k3_pay1, k3_pay2]
  simp only [zero_f32, one_f32, EReal.coe_zero, EReal.coe_one, zero_sub]
  all_goals rfl

end

open Idealize.ShloMosaic hiding ix2 ix1 ix0 ix3 ix4
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ffn Cert.Kernel10Ideal Cert.Kernel10Ideal.Gen
open scoped BigOperators

/-- A merged entry: the three branches under their gates, summed. -/
def merged (z : ℕ → ℕ → EReal) (b : ℕ → EReal) (y0 y1 y2 : ℕ → ℕ → EReal) (r l : ℕ) : EReal :=
  gate (pre z b 0 r l) * y0 r l + gate (pre z b 1024 r l) * y1 r l + gate (pre z b 2048 r l) * y2 r l

/-- An entry of a product of arrays given by their entries. -/
def prod (K : ℕ) (a w : ℕ → ℕ → EReal) (r l : ℕ) : EReal := ∑ q : Fin K, a r q.val * w q.val l

/-! ## Each call's array, entry by entry -/

section
variable (V : (c : Dev nD) → (b : Ref sig .tc) → Buf (Elt Ideal) ((c : Thread nD τ).loc b)) (c : Dev nD) (a w : ℕ → ℕ → EReal)

theorem ix0_0 : ∀ t : Fin cfg0.N, win0_0.index t = ![t.val, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![t.val, 0] := (by decide +kernel : ∀ t : Fin grid0.N, _)

theorem left0 (t : Fin cfg0.N) : outsAt0 V c t = k0_pay1 (iblk0 V c 0 t) (iblk0 V c 1 t) := by
  unfold outsAt0 out0_A_2
  refine (View.read_writes_eq_canon _ _ _ (fun y => cover0_A_2 ..)).trans ?_
  unfold kernelRun0_A
  dsimp only
  sl_unfold_words
  rw [View.canon_unit_zero zeros2]
  simp only [View.readAt_eq_ld, (hs0_0 t).read_unread, (hs0_1 t).read_unread, View.ld_unit_zero (S := S1024x512) zeros2, View.ld_unit_zero (S := S512x1024) zeros2]

theorem rows0 (hA : ∀ i : S8192x512.Idx, V c main_v6 i = a (i 0).val (i 1).val)
    (hB : ∀ i : S512x1024.Idx, V c main_v1 i = w (i 0).val (i 1).val) (i : S8192x1024.Idx) :
    (dat0 V c).arrAt 2 cfg0.N i = prod 512 a w (i 0).val (i 1).val := by
  refine (dat0 V c).arrAt_forall_of_covers 2 (fun i v => v = prod 512 a w (i 0).val (i 1).val)
    (by decide +kernel) (fun t hf y => ?_) i
  have ha (r : Fin 1024) (k : Fin 512) : iblk0 V c 0 t (ix2 r k) = a (t.val * 1024 + r.val) k.val := by
    blk_simp [iblk0]
    rw [hA]
    blk_simp [ix0_0]
  have hb (k : Fin 512) (l : Fin 1024) : iblk0 V c 1 t (ix2 k l) = w k.val l.val := by
    blk_simp [iblk0]
    rw [hB]
    blk_simp [ix0_1]
  blk_simp [ix0_2]
  rw [after0_2, left0]
  obtain ⟨r, l, rfl⟩ : ∃ (r : Fin 1024) (l : Fin 1024), y = ix2 r l := ⟨y 0, y 1, ValueIdx.eq_ix2 y⟩
  exact (product0 _ _ r l).trans (Finset.sum_congr rfl fun k _ => congrArg₂ (· * ·) (ha r k) (hb k l))

theorem ix1_0 : ∀ t : Fin cfg1.N, win1_0.index t = ![t.val, 0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![t.val, 0] := (by decide +kernel : ∀ t : Fin grid1.N, _)

theorem left1 (t : Fin cfg1.N) : outsAt1 V c t = k1_pay1 (iblk1 V c 0 t) (iblk1 V c 1 t) := by
  unfold outsAt1 out1_A_2
  refine (View.read_writes_eq_canon _ _ _ (fun y => cover1_A_2 ..)).trans ?_
  unfold kernelRun1_A
  dsimp only
  sl_unfold_words
  rw [View.canon_unit_zero zeros2]
  simp only [View.readAt_eq_ld, (hs1_0 t).read_unread, (hs1_1 t).read_unread, View.ld_unit_zero (S := S1024x256) zeros2, View.ld_unit_zero (S := S256x1024) zeros2]

theorem rows1 (hA : ∀ i : S8192x256.Idx, V c main_arg4 i = a (i 0).val (i 1).val)
    (hB : ∀ i : S256x1024.Idx, V c main_v2 i = w (i 0).val (i 1).val) (i : S8192x1024.Idx) :
    (dat1 V c).arrAt 2 cfg1.N i = prod 256 a w (i 0).val (i 1).val := by
  refine (dat1 V c).arrAt_forall_of_covers 2 (fun i v => v = prod 256 a w (i 0).val (i 1).val)
    (by decide +kernel) (fun t hf y => ?_) i
  have ha (r : Fin 1024) (k : Fin 256) : iblk1 V c 0 t (ix2 r k) = a (t.val * 1024 + r.val) k.val := by
    blk_simp [iblk1]
    rw [hA]
    blk_simp [ix1_0]
  have hb (k : Fin 256) (l : Fin 1024) : iblk1 V c 1 t (ix2 k l) = w k.val l.val := by
    blk_simp [iblk1]
    rw [hB]
    blk_simp [ix1_1]
  blk_simp [ix1_2]
  rw [after1_2, left1]
  obtain ⟨r, l, rfl⟩ : ∃ (r : Fin 1024) (l : Fin 1024), y = ix2 r l := ⟨y 0, y 1, ValueIdx.eq_ix2 y⟩
  exact (product1 _ _ r l).trans (Finset.sum_congr rfl fun k _ => congrArg₂ (· * ·) (ha r k) (hb k l))

theorem ix2_0 : ∀ t : Fin cfg2.N, win2_0.index t = ![t.val, 0] := (by decide +kernel : ∀ t : Fin grid2.N, _)
theorem ix2_1 : ∀ t : Fin cfg2.N, win2_1.index t = ![0, 0] := (by decide +kernel : ∀ t : Fin grid2.N, _)
theorem ix2_2 : ∀ t : Fin cfg2.N, win2_2.index t = ![t.val, 0] := (by decide +kernel : ∀ t : Fin grid2.N, _)

theorem left2 (t : Fin cfg2.N) : outsAt2 V c t = k2_pay1 (iblk2 V c 0 t) (iblk2 V c 1 t) := by
  unfold outsAt2 out2_A_2
  refine (View.read_writes_eq_canon _ _ _ (fun y => cover2_A_2 ..)).trans ?_
  unfold kernelRun2_A
  dsimp only
  sl_unfold_words
  rw [View.canon_unit_zero zeros2]
  simp only [View.readAt_eq_ld, (hs2_0 t).read_unread, (hs2_1 t).read_unread, View.ld_unit_zero (S := S1024x512) zeros2, View.ld_unit_zero (S := S512x1024) zeros2]

theorem rows2 (hA : ∀ i : S8192x512.Idx, V c main_v7 i = a (i 0).val (i 1).val)
    (hB : ∀ i : S512x1024.Idx, V c main_v3 i = w (i 0).val (i 1).val) (i : S8192x1024.Idx) :
    (dat2 V c).arrAt 2 cfg2.N i = prod 512 a w (i 0).val (i 1).val := by
  refine (dat2 V c).arrAt_forall_of_covers 2 (fun i v => v = prod 512 a w (i 0).val (i 1).val)
    (by decide +kernel) (fun t hf y => ?_) i
  have ha (r : Fin 1024) (k : Fin 512) : iblk2 V c 0 t (ix2 r k) = a (t.val * 1024 + r.val) k.val := by
    blk_simp [iblk2]
    rw [hA]
    blk_simp [ix2_0]
  have hb (k : Fin 512) (l : Fin 1024) : iblk2 V c 1 t (ix2 k l) = w k.val l.val := by
    blk_simp [iblk2]
    rw [hB]
    blk_simp [ix2_1]
  blk_simp [ix2_2]
  rw [after2_2, left2]
  obtain ⟨r, l, rfl⟩ : ∃ (r : Fin 1024) (l : Fin 1024), y = ix2 r l := ⟨y 0, y 1, ValueIdx.eq_ix2 y⟩
  exact (product2 _ _ r l).trans (Finset.sum_congr rfl fun k _ => congrArg₂ (· * ·) (ha r k) (hb k l))

theorem ix3_0 : ∀ t : Fin cfg3.N, win3_0.index t = ![t.val % 16, 7 + t.val / 16] := (by decide +kernel : ∀ t : Fin grid3.N, _)
theorem ix3_1 : ∀ t : Fin cfg3.N, win3_1.index t = ![t.val % 16, 9 + t.val / 16] := (by decide +kernel : ∀ t : Fin grid3.N, _)
theorem ix3_2 : ∀ t : Fin cfg3.N, win3_2.index t = ![t.val % 16, 11 + t.val / 16] := (by decide +kernel : ∀ t : Fin grid3.N, _)
theorem ix3_3 : ∀ t : Fin cfg3.N, win3_3.index t = ![0, 0 + t.val / 16] := (by decide +kernel : ∀ t : Fin grid3.N, _)
theorem ix3_4 : ∀ t : Fin cfg3.N, win3_4.index t = ![0, 2 + t.val / 16] := (by decide +kernel : ∀ t : Fin grid3.N, _)
theorem ix3_5 : ∀ t : Fin cfg3.N, win3_5.index t = ![0, 4 + t.val / 16] := (by decide +kernel : ∀ t : Fin grid3.N, _)
theorem ix3_6 : ∀ t : Fin cfg3.N, win3_6.index t = ![t.val % 16, t.val / 16] := (by decide +kernel : ∀ t : Fin grid3.N, _)
theorem ix3_7 : ∀ t : Fin cfg3.N, win3_7.index t = ![t.val % 16, t.val / 16] := (by decide +kernel : ∀ t : Fin grid3.N, _)
theorem ix3_8 : ∀ t : Fin cfg3.N, win3_8.index t = ![t.val % 16, t.val / 16] := (by decide +kernel : ∀ t : Fin grid3.N, _)
theorem ix3_9 : ∀ t : Fin cfg3.N, win3_9.index t = ![t.val % 16, t.val / 16] := (by decide +kernel : ∀ t : Fin grid3.N, _)

theorem left3 (x0 x1 x2 x6 x7 x8 : Vec Ideal S512x512 .bf16) (x3 x4 x5 : Vec Ideal S1x512 .f32) :
    out3_9 x0 x1 x2 x3 x4 x5 x6 x7 x8 = k3_pay1 (k3_pay2 x0 x3 x6 x1 x4 x7) x2 x5 x8 := by
  unfold out3_9
  rw [View.canon_unit_zero zeros2]
  simp only [View.ld_unit_zero (S := S512x512) zeros2, View.ld_unit_zero (S := S1x512) zeros2]

theorem rows3 (z : ℕ → ℕ → EReal) (b : ℕ → EReal) (y0 y1 y2 : ℕ → ℕ → EReal)
    (hZ : ∀ i : S8192x6656.Idx, V c main_v5 i = z (i 0).val (i 1).val) (hB : ∀ i : S1x3072.Idx, V c main_v0 i = b (i 1).val)
    (h0 : ∀ i : S8192x1024.Idx, V c main_v8 i = y0 (i 0).val (i 1).val)
    (h1 : ∀ i : S8192x1024.Idx, V c main_v9 i = y1 (i 0).val (i 1).val)
    (h2 : ∀ i : S8192x1024.Idx, V c main_v10 i = y2 (i 0).val (i 1).val) (i : S8192x1024.Idx) :
    (dat3 V c).arrAt 9 cfg3.N i = merged z b y0 y1 y2 (i 0).val (i 1).val := by
  refine (dat3 V c).arrAt_forall_of_covers 9 (fun i v => v = merged z b y0 y1 y2 (i 0).val (i 1).val)
    (by decide +kernel) (fun t hf y => ?_) i
  have z0 (r l : Fin 512) : iblk3 V c 0 t (ix2 r l) = z (t.val % 16 * 512 + r.val) (3584 + (0 + (t.val / 16 * 512 + l.val))) := by
    blk_simp [iblk3]
    rw [hZ]
    blk_simp [ix3_0]
    exact congrArg _ (show (7 + t.val / 16) * 512 + l.val = _ by omega)
  have b0 (l : Fin 512) : iblk3 V c 3 t (ix2 0 l) = b (0 + (t.val / 16 * 512 + l.val)) := by
    blk_simp [iblk3]
    rw [hB]
    blk_simp [ix3_3]
  have e0 (r l : Fin 512) : iblk3 V c 6 t (ix2 r l) = y0 (t.val % 16 * 512 + r.val) (t.val / 16 * 512 + l.val) := by
    blk_simp [iblk3]
    rw [h0]
    blk_simp [ix3_6]
  have z1 (r l : Fin 512) : iblk3 V c 1 t (ix2 r l) = z (t.val % 16 * 512 + r.val) (3584 + (1024 + (t.val / 16 * 512 + l.val))) := by
    blk_simp [iblk3]
    rw [hZ]
    blk_simp [ix3_1]
    exact congrArg _ (show (9 + t.val / 16) * 512 + l.val = _ by omega)
  have b1 (l : Fin 512) : iblk3 V c 4 t (ix2 0 l) = b (1024 + (t.val / 16 * 512 + l.val)) := by
    blk_simp [iblk3]
    rw [hB]
    blk_simp [ix3_4]
    exact congrArg _ (show (2 + t.val / 16) * 512 + l.val = _ by omega)
  have e1 (r l : Fin 512) : iblk3 V c 7 t (ix2 r l) = y1 (t.val % 16 * 512 + r.val) (t.val / 16 * 512 + l.val) := by
    blk_simp [iblk3]
    rw [h1]
    blk_simp [ix3_7]
  have z2 (r l : Fin 512) : iblk3 V c 2 t (ix2 r l) = z (t.val % 16 * 512 + r.val) (3584 + (2048 + (t.val / 16 * 512 + l.val))) := by
    blk_simp [iblk3]
    rw [hZ]
    blk_simp [ix3_2]
    exact congrArg _ (show (11 + t.val / 16) * 512 + l.val = _ by omega)
  have b2 (l : Fin 512) : iblk3 V c 5 t (ix2 0 l) = b (2048 + (t.val / 16 * 512 + l.val)) := by
    blk_simp [iblk3]
    rw [hB]
    blk_simp [ix3_5]
    exact congrArg _ (show (4 + t.val / 16) * 512 + l.val = _ by omega)
  have e2 (r l : Fin 512) : iblk3 V c 8 t (ix2 r l) = y2 (t.val % 16 * 512 + r.val) (t.val / 16 * 512 + l.val) := by
    blk_simp [iblk3]
    rw [h2]
    blk_simp [ix3_8]
  blk_simp [ix3_9]
  rw [after3_9, left3]
  obtain ⟨r, l, rfl⟩ : ∃ (r : Fin 512) (l : Fin 512), y = ix2 r l := ⟨y 0, y 1, ValueIdx.eq_ix2 y⟩
  refine (merge_value _ _ _ _ _ _ _ _ _ r l).trans (congrArg₂ (· + ·) (congrArg₂ (· + ·) ?_ ?_) ?_)
  · exact congrArg₂ (· * ·) (congrArg gate (congrArg₂ (· + ·) (z0 r l) (b0 l))) (e0 r l)
  · exact congrArg₂ (· * ·) (congrArg gate (congrArg₂ (· + ·) (z1 r l) (b1 l))) (e1 r l)
  · exact congrArg₂ (· * ·) (congrArg gate (congrArg₂ (· + ·) (z2 r l) (b2 l))) (e2 r l)

theorem ix4_0 : ∀ t : Fin cfg4.N, win4_0.index t = ![t.val, 0] := (by decide +kernel : ∀ t : Fin grid4.N, _)
theorem ix4_1 : ∀ t : Fin cfg4.N, win4_1.index t = ![0, 0] := (by decide +kernel : ∀ t : Fin grid4.N, _)
theorem ix4_2 : ∀ t : Fin cfg4.N, win4_2.index t = ![t.val, 0] := (by decide +kernel : ∀ t : Fin grid4.N, _)
theorem ix4_3 : ∀ t : Fin cfg4.N, win4_3.index t = ![t.val, 0] := (by decide +kernel : ∀ t : Fin grid4.N, _)

theorem left4 (t : Fin cfg4.N) : outsAt4 V c t = k4_pay1 (iblk4 V c 0 t) (iblk4 V c 1 t) (iblk4 V c 2 t) := by
  unfold outsAt4 out4_A_3
  refine (View.read_writes_eq_canon _ _ _ (fun y => cover4_A_3 ..)).trans ?_
  unfold kernelRun4_A
  dsimp only
  sl_unfold_words
  rw [View.canon_unit_zero zeros2]
  simp only [View.readAt_eq_ld, (hs4_0 t).read_unread, (hs4_1 t).read_unread, (hs4_2 t).read_unread, View.ld_unit_zero (S := S1024x1024) zeros2]

theorem rows4 (x : ℕ → ℕ → EReal) (hA : ∀ i : S8192x1024.Idx, V c main_v11 i = a (i 0).val (i 1).val)
    (hB : ∀ i : S1024x1024.Idx, V c main_v4 i = w (i 0).val (i 1).val)
    (hX : ∀ i : S8192x1024.Idx, V c main_arg0 i = x (i 0).val (i 1).val) (i : S8192x1024.Idx) :
    (dat4 V c).arrAt 3 cfg4.N i = prod 1024 a w (i 0).val (i 1).val + x (i 0).val (i 1).val := by
  refine (dat4 V c).arrAt_forall_of_covers 3 (fun i v => v = prod 1024 a w (i 0).val (i 1).val + x (i 0).val (i 1).val)
    (by decide +kernel) (fun t hf y => ?_) i
  have ha (r : Fin 1024) (k : Fin 1024) : iblk4 V c 0 t (ix2 r k) = a (t.val * 1024 + r.val) k.val := by
    blk_simp [iblk4]
    rw [hA]
    blk_simp [ix4_0]
  have hb (k : Fin 1024) (l : Fin 1024) : iblk4 V c 1 t (ix2 k l) = w k.val l.val := by
    blk_simp [iblk4]
    rw [hB]
    blk_simp [ix4_1]
  have hx (r l : Fin 1024) : iblk4 V c 2 t (ix2 r l) = x (t.val * 1024 + r.val) l.val := by
    blk_simp [iblk4]
    rw [hX]
    blk_simp [ix4_2]
  blk_simp [ix4_3]
  rw [after4_3, left4]
  obtain ⟨r, l, rfl⟩ : ∃ (r : Fin 1024) (l : Fin 1024), y = ix2 r l := ⟨y 0, y 1, ValueIdx.eq_ix2 y⟩
  exact (residual _ _ _ r l).trans (congrArg₂ (· + ·) (Finset.sum_congr rfl fun k _ => congrArg₂ (· * ·) (ha r k) (hb k l)) (hx r l))

end

/-! ## The reference, entry by entry -/

/-- The merged rows' entries in terms of the arguments'. -/
abbrev mergedArgs (z : ℕ → ℕ → EReal) (b : ℕ → EReal) (a0 a1 a2 w0 w1 w2 : ℕ → ℕ → EReal) : ℕ → ℕ → EReal := merged z b (prod 512 a0 w0) (prod 256 a1 w1) (prod 512 a2 w2)

section
open Cert.Attn Cert.Reference10Ideal.Read

variable (z : ℕ → ℕ → EReal) (b : ℕ → EReal) (a0 a1 a2 w0 w1 w2 w3 x : ℕ → ℕ → EReal)
  (X : (⟨Cert.Reference10Ideal.S8192x1024, .f32⟩ : BufTy).Contents (Elt Ideal)) (Z : (⟨Cert.Reference10Ideal.S8192x6656, .f32⟩ : BufTy).Contents (Elt Ideal))
  (B : (⟨Cert.Reference10Ideal.S3072, .f32⟩ : BufTy).Contents (Elt Ideal))
  (A0 A2 : (⟨Cert.Reference10Ideal.S8192x512, .f32⟩ : BufTy).Contents (Elt Ideal)) (A1 : (⟨Cert.Reference10Ideal.S8192x256, .f32⟩ : BufTy).Contents (Elt Ideal))
  (W0 W2 : (⟨Cert.Reference10Ideal.S512x1024, .f32⟩ : BufTy).Contents (Elt Ideal)) (W1 : (⟨Cert.Reference10Ideal.S256x1024, .f32⟩ : BufTy).Contents (Elt Ideal))
  (W3 : (⟨Cert.Reference10Ideal.S1024x1024, .f32⟩ : BufTy).Contents (Elt Ideal))
  (hX : ∀ i, X i = x (i 0).val (i 1).val) (hZ : ∀ i, Z i = z (i 0).val (i 1).val) (hB : ∀ i, B i = b (i 0).val)
  (hA0 : ∀ i, A0 i = a0 (i 0).val (i 1).val) (hA1 : ∀ i, A1 i = a1 (i 0).val (i 1).val) (hA2 : ∀ i, A2 i = a2 (i 0).val (i 1).val)
  (hW0 : ∀ i, W0 i = w0 (i 0).val (i 1).val) (hW1 : ∀ i, W1 i = w1 (i 0).val (i 1).val) (hW2 : ∀ i, W2 i = w2 (i 0).val (i 1).val)
  (hW3 : ∀ i, W3 i = w3 (i 0).val (i 1).val)

include hZ hB in
theorem ref_gate (i : Cert.Reference10Ideal.S8192x3072.Idx) : val_main_v12 Z B i = gate (pre z b 0 (i 0).val (i 1).val) := by
  rw [val_main_v12_apply, val_main_v11_apply, val_main_cst_0_apply, val_main_v10_apply, val_main_v9_apply, val_main_cst_apply,
    val_main_v8_apply, val_main_v7_apply, val_main_v6_apply, val_main_v5_apply, val_main_v4_apply, val_main_v0_apply, hZ, hB]
  have e : FloatOps.ofBits (F := Ideal) .f32 0x3F800000#32 = (1 : EReal) := one_f32.trans EReal.coe_one
  rw [e]
  unfold gate pre
  rw [Nat.zero_add]
  rfl

include hZ hB in
/-- The gate's columns from a branch's offset on. -/
theorem ref_gate_at (o r l : ℕ) (i : Cert.Reference10Ideal.S8192x3072.Idx) (h0 : (i 0).val = r) (h1 : (i 1).val = o + l) :
    val_main_v12 Z B i = gate (pre z b o r l) := by
  rw [ref_gate z b Z B hZ hB, h0, h1]
  unfold pre
  rw [Nat.zero_add]

include hA0 hW0 in
theorem ref_branch0 (i : S8192x1024.Idx) : val_main_v1 A0 W0 i = prod 512 a0 w0 (i 0).val (i 1).val :=
  (val_main_v1_apply _ _ _).trans (Finset.sum_congr rfl fun q _ => congrArg₂ (· * ·) (hA0 _) (hW0 _))

include hA1 hW1 in
theorem ref_branch1 (i : S8192x1024.Idx) : val_main_v2 A1 W1 i = prod 256 a1 w1 (i 0).val (i 1).val :=
  (val_main_v2_apply _ _ _).trans (Finset.sum_congr rfl fun q _ => congrArg₂ (· * ·) (hA1 _) (hW1 _))

include hA2 hW2 in
theorem ref_branch2 (i : S8192x1024.Idx) : val_main_v3 A2 W2 i = prod 512 a2 w2 (i 0).val (i 1).val :=
  (val_main_v3_apply _ _ _).trans (Finset.sum_congr rfl fun q _ => congrArg₂ (· * ·) (hA2 _) (hW2 _))

include hZ hB hA0 hA1 hA2 hW0 hW1 hW2 in
theorem ref_merged (i : S8192x1024.Idx) : val_main_v20 Z B A0 A1 A2 W0 W1 W2 i = mergedArgs z b a0 a1 a2 w0 w1 w2 (i 0).val (i 1).val := by
  rw [val_main_v20_apply, val_main_v17_apply, val_main_v14_apply, val_main_v16_apply, val_main_v19_apply, val_main_v13_apply,
    val_main_v15_apply, val_main_v18_apply, ref_branch0 a0 w0 A0 W0 hA0 hW0, ref_branch1 a1 w1 A1 W1 hA1 hW1, ref_branch2 a2 w2 A2 W2 hA2 hW2,
    ref_gate_at z b Z B hZ hB 0 (i 0).val (i 1).val _ rfl (Nat.zero_add _).symm, ref_gate_at z b Z B hZ hB 1024 (i 0).val (i 1).val _ rfl rfl,
    ref_gate_at z b Z B hZ hB 2048 (i 0).val (i 1).val _ rfl rfl]
  rfl

include hX hZ hB hA0 hA1 hA2 hW0 hW1 hW2 hW3 in
theorem ref_out (i : S8192x1024.Idx) : val_main_v23 X Z B A0 A1 A2 W0 W1 W2 W3 i
    = prod 1024 (mergedArgs z b a0 a1 a2 w0 w1 w2) w3 (i 0).val (i 1).val + x (i 0).val (i 1).val := by
  rw [val_main_v23_apply, val_main_v22_apply]
  refine (add_comm (X i) _).trans (congrArg₂ (· + ·) (Finset.sum_congr rfl fun q _ => congrArg₂ (· * ·) ?_ (hW3 _)) (hX i))
  exact ref_merged z b a0 a1 a2 w0 w1 w2 Z B A0 A2 A1 W0 W2 W1 hZ hB hA0 hA1 hA2 hW0 hW1 hW2 _

end

/-! ## The five calls one after another -/

variable (m : (ℓ : Loc nD τ sig) → Buf (Elt Ideal) ℓ) (ρ : Dev nD → PrngReg) (c : Dev nD)

/-- The layer's input, added to the projection. -/
abbrev argX : FVec Ideal S8192x1024 .f32 := m ((c : Thread nD τ).loc main_arg0)
/-- The layer's first projection, whose last columns go into the gates. -/
abbrev argZ : FVec Ideal S8192x6656 .f32 := m ((c : Thread nD τ).loc main_arg1)
/-- The gates' bias. -/
abbrev argB : FVec Ideal S3072 .f32 := m ((c : Thread nD τ).loc main_arg2)
/-- The attention branch. -/
abbrev argOa : FVec Ideal S8192x512 .f32 := m ((c : Thread nD τ).loc main_arg3)
/-- The band branch. -/
abbrev argOb : FVec Ideal S8192x256 .f32 := m ((c : Thread nD τ).loc main_arg4)
/-- The mixed branch. -/
abbrev argOc : FVec Ideal S8192x512 .f32 := m ((c : Thread nD τ).loc main_arg5)
/-- The weights of the attention branch's product. -/
abbrev argWa : FVec Ideal S512x1024 .f32 := m ((c : Thread nD τ).loc main_arg6)
/-- The weights of the band branch's product. -/
abbrev argWb : FVec Ideal S256x1024 .f32 := m ((c : Thread nD τ).loc main_arg7)
/-- The weights of the mixed branch's product. -/
abbrev argWc : FVec Ideal S512x1024 .f32 := m ((c : Thread nD τ).loc main_arg8)
/-- The output projection's weights. -/
abbrev argWo : FVec Ideal S1024x1024 .f32 := m ((c : Thread nD τ).loc main_arg9)

theorem hostB : (W1 m ρ c (Proc.devRef .tc main_v0) : FVec Ideal S1x3072 .f32) = broadcastInDim S1x3072 ![1] bcast_S3072_S1x3072_1 (argB m c) := by
  unfold_abbrev_sides
  after_results

theorem hostWa : (W1 m ρ c (Proc.devRef .tc main_v1) : FVec Ideal S512x1024 .bf16) = truncf .bf16 (argWa m c) bitsLt_bf16_f32 := by
  unfold_abbrev_sides
  after_results

theorem hostWb : (W1 m ρ c (Proc.devRef .tc main_v2) : FVec Ideal S256x1024 .bf16) = truncf .bf16 (argWb m c) bitsLt_bf16_f32 := by
  unfold_abbrev_sides
  after_results

theorem hostWc : (W1 m ρ c (Proc.devRef .tc main_v3) : FVec Ideal S512x1024 .bf16) = truncf .bf16 (argWc m c) bitsLt_bf16_f32 := by
  unfold_abbrev_sides
  after_results

theorem hostWo : (W1 m ρ c (Proc.devRef .tc main_v4) : FVec Ideal S1024x1024 .bf16) = truncf .bf16 (argWo m c) bitsLt_bf16_f32 := by
  unfold_abbrev_sides
  after_results

theorem hostZ : (W1 m ρ c (Proc.devRef .tc main_v5) : FVec Ideal S8192x6656 .bf16) = truncf .bf16 (argZ m c) bitsLt_bf16_f32 := by
  unfold_abbrev_sides
  after_results

theorem hostOa : (W1 m ρ c (Proc.devRef .tc main_v6) : FVec Ideal S8192x512 .bf16) = truncf .bf16 (argOa m c) bitsLt_bf16_f32 := by
  unfold_abbrev_sides
  after_results

theorem hostOc : (W1 m ρ c (Proc.devRef .tc main_v7) : FVec Ideal S8192x512 .bf16) = truncf .bf16 (argOc m c) bitsLt_bf16_f32 := by
  unfold_abbrev_sides
  after_results

variable (z : ℕ → ℕ → EReal) (b : ℕ → EReal) (a0 a1 a2 w0 w1 w2 w3 x : ℕ → ℕ → EReal)
  (hX : ∀ i, argX m c i = x (i 0).val (i 1).val) (hZ : ∀ i, argZ m c i = z (i 0).val (i 1).val) (hB : ∀ i, argB m c i = b (i 0).val)
  (hA0 : ∀ i, argOa m c i = a0 (i 0).val (i 1).val) (hA1 : ∀ i, argOb m c i = a1 (i 0).val (i 1).val)
  (hA2 : ∀ i, argOc m c i = a2 (i 0).val (i 1).val) (hW0 : ∀ i, argWa m c i = w0 (i 0).val (i 1).val)
  (hW1 : ∀ i, argWb m c i = w1 (i 0).val (i 1).val) (hW2 : ∀ i, argWc m c i = w2 (i 0).val (i 1).val)
  (hW3 : ∀ i, argWo m c i = w3 (i 0).val (i 1).val)

include hA0 hW0 in
theorem branch0 (i : S8192x1024.Idx) : W4 m ρ c (Proc.devRef .tc main_v8) i = prod 512 a0 w0 (i 0).val (i 1).val :=
  (congrFun ((W4_of m ρ c main_v8 (by decide)).trans ((W3_of m ρ c main_v8 (by decide)).trans (W2_arr m ρ c 2))) i).trans (rows0 (V1 m ρ) c a0 w0
    (fun i => (congrFun (hostOa m ρ c) i).trans (hA0 i)) (fun i => (congrFun (hostWa m ρ c) i).trans (hW0 i)) i)

include hA1 hW1 in
theorem branch1 (i : S8192x1024.Idx) : W4 m ρ c (Proc.devRef .tc main_v9) i = prod 256 a1 w1 (i 0).val (i 1).val :=
  (congrFun ((W4_of m ρ c main_v9 (by decide)).trans (W3_arr m ρ c 2)) i).trans (rows1 (V2 m ρ) c a1 w1
    (fun i => (congrFun ((W2_of m ρ c main_arg4 (by decide)).trans (W1_args m ρ c main_arg4 (by decide))) i).trans (hA1 i))
    (fun i => (congrFun ((W2_of m ρ c main_v2 (by decide)).trans (hostWb m ρ c)) i).trans (hW1 i)) i)

include hA2 hW2 in
theorem branch2 (i : S8192x1024.Idx) : W4 m ρ c (Proc.devRef .tc main_v10) i = prod 512 a2 w2 (i 0).val (i 1).val :=
  (congrFun (W4_arr m ρ c 2) i).trans (rows2 (V3 m ρ) c a2 w2
    (fun i => (congrFun ((W3_of m ρ c main_v7 (by decide)).trans ((W2_of m ρ c main_v7 (by decide)).trans (hostOc m ρ c))) i).trans (hA2 i))
    (fun i => (congrFun ((W3_of m ρ c main_v3 (by decide)).trans ((W2_of m ρ c main_v3 (by decide)).trans (hostWc m ρ c))) i).trans (hW2 i)) i)

include hB in
theorem bias_row (i : S1x3072.Idx) : W1 m ρ c (Proc.devRef .tc main_v0) i = b (i 1).val := by
  refine (congrFun (hostB m ρ c) i).trans ((hB _).trans ?_)
  exact congrArg b (show _ = (i 1).val from rfl)

include hZ hB hA0 hA1 hA2 hW0 hW1 hW2 in
theorem merged_rows (i : S8192x1024.Idx) : W5 m ρ c (Proc.devRef .tc main_v11) i = mergedArgs z b a0 a1 a2 w0 w1 w2 (i 0).val (i 1).val :=
  (congrFun (W5_arr m ρ c 9) i).trans (rows3 (V4 m ρ) c z b _ _ _
    (fun i => (congrFun ((W4_of m ρ c main_v5 (by decide)).trans ((W3_of m ρ c main_v5 (by decide)).trans ((W2_of m ρ c main_v5 (by decide)).trans (hostZ m ρ c)))) i).trans (hZ i))
    (fun i => (congrFun ((W4_of m ρ c main_v0 (by decide)).trans ((W3_of m ρ c main_v0 (by decide)).trans ((W2_of m ρ c main_v0 (by decide)).trans rfl))) i).trans (bias_row m ρ c b hB i))
    (branch0 m ρ c a0 w0 hA0 hW0) (branch1 m ρ c a1 w1 hA1 hW1) (branch2 m ρ c a2 w2 hA2 hW2) i)

include hZ hB hA0 hA1 hA2 hW0 hW1 hW2 in
theorem result_merged (i : S8192x1024.Idx) :
    W6 m ρ c (Proc.devRef .tc main_v11) i = mergedArgs z b a0 a1 a2 w0 w1 w2 (i 0).val (i 1).val :=
  (congrFun (W6_of m ρ c main_v11 (by decide)) i).trans (merged_rows m ρ c z b a0 a1 a2 w0 w1 w2 hZ hB hA0 hA1 hA2 hW0 hW1 hW2 i)

include hX hZ hB hA0 hA1 hA2 hW0 hW1 hW2 hW3 in
theorem result_out (i : S8192x1024.Idx) : W6 m ρ c (Proc.devRef .tc main_v12) i
    = prod 1024 (mergedArgs z b a0 a1 a2 w0 w1 w2) w3 (i 0).val (i 1).val + x (i 0).val (i 1).val :=
  (congrFun (W6_arr m ρ c 3) i).trans (rows4 (V5 m ρ) c _ w3 x
    (merged_rows m ρ c z b a0 a1 a2 w0 w1 w2 hZ hB hA0 hA1 hA2 hW0 hW1 hW2)
    (fun i => (congrFun ((W5_of m ρ c main_v4 (by decide)).trans ((W4_of m ρ c main_v4 (by decide)).trans ((W3_of m ρ c main_v4 (by decide)).trans ((W2_of m ρ c main_v4 (by decide)).trans (hostWo m ρ c))))) i).trans (hW3 i))
    (fun i => (congrFun ((W5_of m ρ c main_arg0 (by decide)).trans ((W4_of m ρ c main_arg0 (by decide)).trans ((W3_of m ρ c main_arg0 (by decide)).trans ((W2_of m ρ c main_arg0 (by decide)).trans (W1_args m ρ c main_arg0 (by decide)))))) i).trans (hX i)) i)

local notation "𝕄" => MT nD τ sig Unit (Elt Ideal) ℕ (UR sig nD τ) ℕ

set_option backward.isDefEq.respectTransparency.types false in
/-- What the two result buffers and the ten arguments hold at the end of every fair execution. -/
theorem kernel_run : θ_run (defs (F := Ideal)) (onTc (τ := τ) (main (F := Ideal))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_v12) = W6 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v11 (by decide)),
       h c _ (mem_uc main_v12 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

/-! ## The same as the reference -/

set_option maxHeartbeats 1000000 in
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => W6 m g c (Proc.devRef .tc main_v11), fun c => W6 m g c (Proc.devRef .tc main_v12), kernel_run m g, ?_⟩
  refine (θ_run Cert.Reference10Ideal.defs _ _).mono (fun r h c => ?_) (Cert.Reference10Ideal.Value.run (F := Ideal) m' g')
  obtain ⟨v0, v1, h0⟩ := h c
  obtain ⟨e0, e1, e2, e3, e4, e5, e6, e7, e8, e9⟩ := hargs c
  have hX := entry_eq (by decide : 0 < 8192) (by decide : 0 < 1024) (argX m c)
  have hZ := entry_eq (by decide : 0 < 8192) (by decide : 0 < 6656) (argZ m c)
  have hB := entry1_eq (by decide : 0 < 3072) (argB m c)
  have hA0 := entry_eq (by decide : 0 < 8192) (by decide : 0 < 512) (argOa m c)
  have hA1 := entry_eq (by decide : 0 < 8192) (by decide : 0 < 256) (argOb m c)
  have hA2 := entry_eq (by decide : 0 < 8192) (by decide : 0 < 512) (argOc m c)
  have hW0 := entry_eq (by decide : 0 < 512) (by decide : 0 < 1024) (argWa m c)
  have hW1 := entry_eq (by decide : 0 < 256) (by decide : 0 < 1024) (argWb m c)
  have hW2 := entry_eq (by decide : 0 < 512) (by decide : 0 < 1024) (argWc m c)
  have hW3 := entry_eq (by decide : 0 < 1024) (by decide : 0 < 1024) (argWo m c)
  refine ⟨v0.trans ((Cert.Reference10Ideal.Read.val_main_v21_eq _ _ _ _ _ _ _ _).trans ?_),
    v1.trans ((Cert.Reference10Ideal.Read.val_main_v23_eq _ _ _ _ _ _ _ _ _ _).trans ?_), h0⟩
  · rw [e1, e2, e3, e4, e5, e6, e7, e8]
    exact funext fun i => (ref_merged _ _ _ _ _ _ _ _ (argZ m c) (argB m c) (argOa m c) (argOc m c) (argOb m c) (argWa m c) (argWc m c) (argWb m c)
      hZ hB hA0 hA1 hA2 hW0 hW1 hW2 i).trans (result_merged m g c _ _ _ _ _ _ _ _ hZ hB hA0 hA1 hA2 hW0 hW1 hW2 i).symm
  · rw [e0, e1, e2, e3, e4, e5, e6, e7, e8, e9]
    exact funext fun i => (ref_out _ _ _ _ _ _ _ _ _ _ (argX m c) (argZ m c) (argB m c) (argOa m c) (argOc m c) (argOb m c) (argWa m c) (argWc m c)
      (argWb m c) (argWo m c) hX hZ hB hA0 hA1 hA2 hW0 hW1 hW2 hW3 i).trans
        (result_out m g c _ _ _ _ _ _ _ _ _ _ hX hZ hB hA0 hA1 hA2 hW0 hW1 hW2 hW3 i).symm

end Cert.Merge.Forward

end
-- ==== Proof.RowsGrad.lean ====
/-
  The gradients of what goes into the output projection and into the three branches' products: four products with transposed
  weights, eight points of 1024 rows each. No entry need be finite.
-/
module

public import proofs.«01_k».proof.Proof.Sums
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Lib.Tactic
public import proofs.«01_k».proof.Defs

@[expose] public section

set_option maxRecDepth 8192

noncomputable section

namespace Cert.Merge.Rows

/-! ## A point's product -/

section
open Idealize.ShloMosaic Cert.Kernel11Ideal Cert.Kernel11Ideal.Gen
open scoped BigOperators

theorem product0 (A : Vec Ideal S1024x1024 .f32) (B : Vec Ideal S1024x1024 .bf16) (r : Fin 1024) (l : Fin 1024) :
    k0_pay1 A B (ix2 r l) = ∑ k : Fin 1024, A (ix2 r k) * B (ix2 l k) := by
  pointwise [k0_pay1]

theorem product1 (A : Vec Ideal S1024x1024 .bf16) (B : Vec Ideal S512x1024 .bf16) (r : Fin 1024) (l : Fin 512) :
    k1_pay1 A B (ix2 r l) = ∑ k : Fin 1024, A (ix2 r k) * B (ix2 l k) := by
  pointwise [k1_pay1]

theorem product2 (A : Vec Ideal S1024x1024 .bf16) (B : Vec Ideal S256x1024 .bf16) (r : Fin 1024) (l : Fin 256) :
    k2_pay1 A B (ix2 r l) = ∑ k : Fin 1024, A (ix2 r k) * B (ix2 l k) := by
  pointwise [k2_pay1]

theorem product3 (A : Vec Ideal S1024x1024 .bf16) (B : Vec Ideal S512x1024 .bf16) (r : Fin 1024) (l : Fin 512) :
    k3_pay1 A B (ix2 r l) = ∑ k : Fin 1024, A (ix2 r k) * B (ix2 l k) := by
  pointwise [k3_pay1]

end

open Idealize.ShloMosaic hiding ix2 ix1 ix0 ix3 ix4
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ffn Cert.Kernel11Ideal Cert.Kernel11Ideal.Gen
open scoped BigOperators

/-! ## Each call's array, entry by entry -/

section
variable (V : (c : Dev nD) → (b : Ref sig .tc) → Buf (Elt Ideal) ((c : Thread nD τ).loc b)) (c : Dev nD) (a b : ℕ → ℕ → EReal)

theorem ix0_0 : ∀ t : Fin cfg0.N, win0_0.index t = ![t.val, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![t.val, 0] := (by decide +kernel : ∀ t : Fin grid0.N, _)

theorem left0 (t : Fin cfg0.N) : outsAt0 V c t = k0_pay1 (iblk0 V c 0 t) (iblk0 V c 1 t) := by
  unfold outsAt0 out0_A_2
  refine (View.read_writes_eq_canon _ _ _ (fun y => cover0_A_2 ..)).trans ?_
  unfold kernelRun0_A
  dsimp only
  sl_unfold_words
  rw [View.canon_unit_zero zeros2]
  simp only [View.readAt_eq_ld, (hs0_0 t).read_unread, (hs0_1 t).read_unread, View.ld_unit_zero (S := S1024x1024) zeros2]

theorem rows0 (hA : ∀ i : S8192x1024.Idx, V c main_arg0 i = a (i 0).val (i 1).val)
    (hB : ∀ i : S1024x1024.Idx, V c main_v3 i = b (i 0).val (i 1).val) (i : S8192x1024.Idx) :
    (dat0 V c).arrAt 2 cfg0.N i = ∑ q : Fin 1024, a (i 0).val q.val * b (i 1).val q.val := by
  refine (dat0 V c).arrAt_forall_of_covers 2 (fun i v => v = ∑ q : Fin 1024, a (i 0).val q.val * b (i 1).val q.val)
    (by decide +kernel) (fun t hf y => ?_) i
  have ha (r k : Fin 1024) : iblk0 V c 0 t (ix2 r k) = a (t.val * 1024 + r.val) k.val := by
    blk_simp [iblk0]
    rw [hA]
    blk_simp [ix0_0]
  have hb (l : Fin 1024) (k : Fin 1024) : iblk0 V c 1 t (ix2 l k) = b l.val k.val := by
    blk_simp [iblk0]
    rw [hB]
    blk_simp [ix0_1]
  blk_simp [ix0_2]
  rw [after0_2, left0]
  obtain ⟨r, l, rfl⟩ : ∃ (r : Fin 1024) (l : Fin 1024), y = ix2 r l := ⟨y 0, y 1, ValueIdx.eq_ix2 y⟩
  exact (product0 _ _ r l).trans (Finset.sum_congr rfl fun k _ => congrArg₂ (· * ·) (ha r k) (hb l k))

theorem ix1_0 : ∀ t : Fin cfg1.N, win1_0.index t = ![t.val, 0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![t.val, 0] := (by decide +kernel : ∀ t : Fin grid1.N, _)

theorem left1 (t : Fin cfg1.N) : outsAt1 V c t = k1_pay1 (iblk1 V c 0 t) (iblk1 V c 1 t) := by
  unfold outsAt1 out1_A_2
  refine (View.read_writes_eq_canon _ _ _ (fun y => cover1_A_2 ..)).trans ?_
  unfold kernelRun1_A
  dsimp only
  sl_unfold_words
  rw [View.canon_unit_zero zeros2]
  simp only [View.readAt_eq_ld, (hs1_0 t).read_unread, (hs1_1 t).read_unread, View.ld_unit_zero (S := S1024x1024) zeros2, View.ld_unit_zero (S := S512x1024) zeros2]

theorem rows1 (hA : ∀ i : S8192x1024.Idx, V c main_v4 i = a (i 0).val (i 1).val)
    (hB : ∀ i : S512x1024.Idx, V c main_v0 i = b (i 0).val (i 1).val) (i : S8192x512.Idx) :
    (dat1 V c).arrAt 2 cfg1.N i = ∑ q : Fin 1024, a (i 0).val q.val * b (i 1).val q.val := by
  refine (dat1 V c).arrAt_forall_of_covers 2 (fun i v => v = ∑ q : Fin 1024, a (i 0).val q.val * b (i 1).val q.val)
    (by decide +kernel) (fun t hf y => ?_) i
  have ha (r k : Fin 1024) : iblk1 V c 0 t (ix2 r k) = a (t.val * 1024 + r.val) k.val := by
    blk_simp [iblk1]
    rw [hA]
    blk_simp [ix1_0]
  have hb (l : Fin 512) (k : Fin 1024) : iblk1 V c 1 t (ix2 l k) = b l.val k.val := by
    blk_simp [iblk1]
    rw [hB]
    blk_simp [ix1_1]
  blk_simp [ix1_2]
  rw [after1_2, left1]
  obtain ⟨r, l, rfl⟩ : ∃ (r : Fin 1024) (l : Fin 512), y = ix2 r l := ⟨y 0, y 1, ValueIdx.eq_ix2 y⟩
  exact (product1 _ _ r l).trans (Finset.sum_congr rfl fun k _ => congrArg₂ (· * ·) (ha r k) (hb l k))

theorem ix2_0 : ∀ t : Fin cfg2.N, win2_0.index t = ![t.val, 0] := (by decide +kernel : ∀ t : Fin grid2.N, _)
theorem ix2_1 : ∀ t : Fin cfg2.N, win2_1.index t = ![0, 0] := (by decide +kernel : ∀ t : Fin grid2.N, _)
theorem ix2_2 : ∀ t : Fin cfg2.N, win2_2.index t = ![t.val, 0] := (by decide +kernel : ∀ t : Fin grid2.N, _)

theorem left2 (t : Fin cfg2.N) : outsAt2 V c t = k2_pay1 (iblk2 V c 0 t) (iblk2 V c 1 t) := by
  unfold outsAt2 out2_A_2
  refine (View.read_writes_eq_canon _ _ _ (fun y => cover2_A_2 ..)).trans ?_
  unfold kernelRun2_A
  dsimp only
  sl_unfold_words
  rw [View.canon_unit_zero zeros2]
  simp only [View.readAt_eq_ld, (hs2_0 t).read_unread, (hs2_1 t).read_unread, View.ld_unit_zero (S := S1024x1024) zeros2, View.ld_unit_zero (S := S256x1024) zeros2]

theorem rows2 (hA : ∀ i : S8192x1024.Idx, V c main_v5 i = a (i 0).val (i 1).val)
    (hB : ∀ i : S256x1024.Idx, V c main_v1 i = b (i 0).val (i 1).val) (i : S8192x256.Idx) :
    (dat2 V c).arrAt 2 cfg2.N i = ∑ q : Fin 1024, a (i 0).val q.val * b (i 1).val q.val := by
  refine (dat2 V c).arrAt_forall_of_covers 2 (fun i v => v = ∑ q : Fin 1024, a (i 0).val q.val * b (i 1).val q.val)
    (by decide +kernel) (fun t hf y => ?_) i
  have ha (r k : Fin 1024) : iblk2 V c 0 t (ix2 r k) = a (t.val * 1024 + r.val) k.val := by
    blk_simp [iblk2]
    rw [hA]
    blk_simp [ix2_0]
  have hb (l : Fin 256) (k : Fin 1024) : iblk2 V c 1 t (ix2 l k) = b l.val k.val := by
    blk_simp [iblk2]
    rw [hB]
    blk_simp [ix2_1]
  blk_simp [ix2_2]
  rw [after2_2, left2]
  obtain ⟨r, l, rfl⟩ : ∃ (r : Fin 1024) (l : Fin 256), y = ix2 r l := ⟨y 0, y 1, ValueIdx.eq_ix2 y⟩
  exact (product2 _ _ r l).trans (Finset.sum_congr rfl fun k _ => congrArg₂ (· * ·) (ha r k) (hb l k))

theorem ix3_0 : ∀ t : Fin cfg3.N, win3_0.index t = ![t.val, 0] := (by decide +kernel : ∀ t : Fin grid3.N, _)
theorem ix3_1 : ∀ t : Fin cfg3.N, win3_1.index t = ![0, 0] := (by decide +kernel : ∀ t : Fin grid3.N, _)
theorem ix3_2 : ∀ t : Fin cfg3.N, win3_2.index t = ![t.val, 0] := (by decide +kernel : ∀ t : Fin grid3.N, _)

theorem left3 (t : Fin cfg3.N) : outsAt3 V c t = k3_pay1 (iblk3 V c 0 t) (iblk3 V c 1 t) := by
  unfold outsAt3 out3_A_2
  refine (View.read_writes_eq_canon _ _ _ (fun y => cover3_A_2 ..)).trans ?_
  unfold kernelRun3_A
  dsimp only
  sl_unfold_words
  rw [View.canon_unit_zero zeros2]
  simp only [View.readAt_eq_ld, (hs3_0 t).read_unread, (hs3_1 t).read_unread, View.ld_unit_zero (S := S1024x1024) zeros2, View.ld_unit_zero (S := S512x1024) zeros2]

theorem rows3 (hA : ∀ i : S8192x1024.Idx, V c main_v6 i = a (i 0).val (i 1).val)
    (hB : ∀ i : S512x1024.Idx, V c main_v2 i = b (i 0).val (i 1).val) (i : S8192x512.Idx) :
    (dat3 V c).arrAt 2 cfg3.N i = ∑ q : Fin 1024, a (i 0).val q.val * b (i 1).val q.val := by
  refine (dat3 V c).arrAt_forall_of_covers 2 (fun i v => v = ∑ q : Fin 1024, a (i 0).val q.val * b (i 1).val q.val)
    (by decide +kernel) (fun t hf y => ?_) i
  have ha (r k : Fin 1024) : iblk3 V c 0 t (ix2 r k) = a (t.val * 1024 + r.val) k.val := by
    blk_simp [iblk3]
    rw [hA]
    blk_simp [ix3_0]
  have hb (l : Fin 512) (k : Fin 1024) : iblk3 V c 1 t (ix2 l k) = b l.val k.val := by
    blk_simp [iblk3]
    rw [hB]
    blk_simp [ix3_1]
  blk_simp [ix3_2]
  rw [after3_2, left3]
  obtain ⟨r, l, rfl⟩ : ∃ (r : Fin 1024) (l : Fin 512), y = ix2 r l := ⟨y 0, y 1, ValueIdx.eq_ix2 y⟩
  exact (product3 _ _ r l).trans (Finset.sum_congr rfl fun k _ => congrArg₂ (· * ·) (ha r k) (hb l k))

end

/-! ## The four calls one after another -/

variable (m : (ℓ : Loc nD τ sig) → Buf (Elt Ideal) ℓ) (ρ : Dev nD → PrngReg) (c : Dev nD)

/-- The output's gradient. -/
abbrev argD : FVec Ideal S8192x1024 .f32 := m ((c : Thread nD τ).loc main_arg0)
/-- The gradient of the attention branch. -/
abbrev argA : FVec Ideal S8192x1024 .f32 := m ((c : Thread nD τ).loc main_arg1)
/-- The gradient of the band branch. -/
abbrev argB : FVec Ideal S8192x1024 .f32 := m ((c : Thread nD τ).loc main_arg2)
/-- The gradient of the mixed branch. -/
abbrev argC : FVec Ideal S8192x1024 .f32 := m ((c : Thread nD τ).loc main_arg3)
/-- The output projection's weights. -/
abbrev argWo : FVec Ideal S1024x1024 .f32 := m ((c : Thread nD τ).loc main_arg4)
/-- The weights of the attention branch's product. -/
abbrev argWa : FVec Ideal S512x1024 .f32 := m ((c : Thread nD τ).loc main_arg5)
/-- The weights of the band branch's product. -/
abbrev argWb : FVec Ideal S256x1024 .f32 := m ((c : Thread nD τ).loc main_arg6)
/-- The weights of the mixed branch's product. -/
abbrev argWc : FVec Ideal S512x1024 .f32 := m ((c : Thread nD τ).loc main_arg7)

theorem hostWa : (W1 m ρ c (Proc.devRef .tc main_v0) : FVec Ideal S512x1024 .bf16) = truncf .bf16 (argWa m c) bitsLt_bf16_f32 := by
  unfold_abbrev_sides
  after_results

theorem hostWb : (W1 m ρ c (Proc.devRef .tc main_v1) : FVec Ideal S256x1024 .bf16) = truncf .bf16 (argWb m c) bitsLt_bf16_f32 := by
  unfold_abbrev_sides
  after_results

theorem hostWc : (W1 m ρ c (Proc.devRef .tc main_v2) : FVec Ideal S512x1024 .bf16) = truncf .bf16 (argWc m c) bitsLt_bf16_f32 := by
  unfold_abbrev_sides
  after_results

theorem hostWo : (W1 m ρ c (Proc.devRef .tc main_v3) : FVec Ideal S1024x1024 .bf16) = truncf .bf16 (argWo m c) bitsLt_bf16_f32 := by
  unfold_abbrev_sides
  after_results

theorem hostA : (W1 m ρ c (Proc.devRef .tc main_v4) : FVec Ideal S8192x1024 .bf16) = truncf .bf16 (argA m c) bitsLt_bf16_f32 := by
  unfold_abbrev_sides
  after_results

theorem hostB : (W1 m ρ c (Proc.devRef .tc main_v5) : FVec Ideal S8192x1024 .bf16) = truncf .bf16 (argB m c) bitsLt_bf16_f32 := by
  unfold_abbrev_sides
  after_results

theorem hostC : (W1 m ρ c (Proc.devRef .tc main_v6) : FVec Ideal S8192x1024 .bf16) = truncf .bf16 (argC m c) bitsLt_bf16_f32 := by
  unfold_abbrev_sides
  after_results

variable (a b : ℕ → ℕ → EReal)

theorem result_merged (hA : ∀ i, argD m c i = a (i 0).val (i 1).val) (hB : ∀ i, argWo m c i = b (i 0).val (i 1).val)
    (i : S8192x1024.Idx) : W5 m ρ c (Proc.devRef .tc main_v7) i = ∑ q : Fin 1024, a (i 0).val q.val * b (i 1).val q.val :=
  (congrFun ((W5_of m ρ c main_v7 (by decide)).trans ((W4_of m ρ c main_v7 (by decide)).trans ((W3_of m ρ c main_v7 (by decide)).trans (W2_arr m ρ c 2)))) i).trans (rows0 (V1 m ρ) c a b
    (fun i => (congrFun (W1_args m ρ c main_arg0 (by decide)) i).trans (hA i))
    (fun i => (congrFun (hostWo m ρ c) i).trans (hB i)) i)

theorem result_a (hA : ∀ i, argA m c i = a (i 0).val (i 1).val) (hB : ∀ i, argWa m c i = b (i 0).val (i 1).val)
    (i : S8192x512.Idx) : W5 m ρ c (Proc.devRef .tc main_v8) i = ∑ q : Fin 1024, a (i 0).val q.val * b (i 1).val q.val :=
  (congrFun ((W5_of m ρ c main_v8 (by decide)).trans ((W4_of m ρ c main_v8 (by decide)).trans (W3_arr m ρ c 2))) i).trans (rows1 (V2 m ρ) c a b
    (fun i => (congrFun ((W2_of m ρ c main_v4 (by decide)).trans (hostA m ρ c)) i).trans (hA i))
    (fun i => (congrFun ((W2_of m ρ c main_v0 (by decide)).trans (hostWa m ρ c)) i).trans (hB i)) i)

theorem result_b (hA : ∀ i, argB m c i = a (i 0).val (i 1).val) (hB : ∀ i, argWb m c i = b (i 0).val (i 1).val)
    (i : S8192x256.Idx) : W5 m ρ c (Proc.devRef .tc main_v9) i = ∑ q : Fin 1024, a (i 0).val q.val * b (i 1).val q.val :=
  (congrFun ((W5_of m ρ c main_v9 (by decide)).trans (W4_arr m ρ c 2)) i).trans (rows2 (V3 m ρ) c a b
    (fun i => (congrFun ((W3_of m ρ c main_v5 (by decide)).trans ((W2_of m ρ c main_v5 (by decide)).trans (hostB m ρ c))) i).trans (hA i))
    (fun i => (congrFun ((W3_of m ρ c main_v1 (by decide)).trans ((W2_of m ρ c main_v1 (by decide)).trans (hostWb m ρ c))) i).trans (hB i)) i)

theorem result_c (hA : ∀ i, argC m c i = a (i 0).val (i 1).val) (hB : ∀ i, argWc m c i = b (i 0).val (i 1).val)
    (i : S8192x512.Idx) : W5 m ρ c (Proc.devRef .tc main_v10) i = ∑ q : Fin 1024, a (i 0).val q.val * b (i 1).val q.val :=
  (congrFun (W5_arr m ρ c 2) i).trans (rows3 (V4 m ρ) c a b
    (fun i => (congrFun ((W4_of m ρ c main_v6 (by decide)).trans ((W3_of m ρ c main_v6 (by decide)).trans ((W2_of m ρ c main_v6 (by decide)).trans (hostC m ρ c)))) i).trans (hA i))
    (fun i => (congrFun ((W4_of m ρ c main_v2 (by decide)).trans ((W3_of m ρ c main_v2 (by decide)).trans ((W2_of m ρ c main_v2 (by decide)).trans (hostWc m ρ c)))) i).trans (hB i)) i)

local notation "𝕄" => MT nD τ sig Unit (Elt Ideal) ℕ (UR sig nD τ) ℕ

set_option backward.isDefEq.respectTransparency.types false in
/-- What the four result buffers and the eight arguments hold at the end of every fair execution. -/
theorem kernel_run : θ_run (defs (F := Ideal)) (onTc (τ := τ) (main (F := Ideal))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_v9) = W5 m ρ c (Proc.devRef .tc main_v9)
      ∧ r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v7 (by decide)),
       h c _ (mem_uc main_v8 (by decide)),
       h c _ (mem_uc main_v9 (by decide)),
       h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

/-! ## The same as the reference -/

theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => W5 m g c (Proc.devRef .tc main_v7), fun c => W5 m g c (Proc.devRef .tc main_v8),
    fun c => W5 m g c (Proc.devRef .tc main_v9), fun c => W5 m g c (Proc.devRef .tc main_v10), kernel_run m g, ?_⟩
  refine (θ_run Cert.Reference11Ideal.defs _ _).mono (fun r h c => ?_) (Cert.Reference11Ideal.Value.run (F := Ideal) m' g')
  obtain ⟨v0, v1, v2, v3, h0⟩ := h c
  obtain ⟨e0, e1, e2, e3, e4, e5, e6, e7⟩ := hargs c
  have rows := fun A => entry_eq (by decide : 0 < 8192) (by decide : 0 < 1024) A
  refine ⟨v0.trans ((Cert.Reference11Ideal.Read.val_main_v2_eq _ _).trans ?_), v1.trans ((Cert.Reference11Ideal.Read.val_main_v6_eq _ _).trans ?_),
    v2.trans ((Cert.Reference11Ideal.Read.val_main_v9_eq _ _).trans ?_), v3.trans ((Cert.Reference11Ideal.Read.val_main_v12_eq _ _).trans ?_), h0⟩
  · rw [e0, e4]
    have ex := rows (argD m c)
    have ew := entry_eq (by decide : 0 < 1024) (by decide : 0 < 1024) (argWo m c)
    refine funext fun i => Eq.trans ?_ (result_merged m g c _ _ ex ew i).symm
    refine (Cert.Reference11Ideal.Read.val_main_v2_apply _ _ _).trans (Finset.sum_congr rfl fun q _ => congrArg₂ (· * ·) (ex _) (ew _))
  · rw [e1, e5]
    have ex := rows (argA m c)
    have ew := entry_eq (by decide : 0 < 512) (by decide : 0 < 1024) (argWa m c)
    refine funext fun i => Eq.trans ?_ (result_a m g c _ _ ex ew i).symm
    refine (Cert.Reference11Ideal.Read.val_main_v5_apply _ _ _).trans (Finset.sum_congr rfl fun q _ => congrArg₂ (· * ·) (ex _) (ew _))
  · rw [e2, e6]
    have ex := rows (argB m c)
    have ew := entry_eq (by decide : 0 < 256) (by decide : 0 < 1024) (argWb m c)
    refine funext fun i => Eq.trans ?_ (result_b m g c _ _ ex ew i).symm
    refine (Cert.Reference11Ideal.Read.val_main_v9_apply _ _ _).trans (Finset.sum_congr rfl fun q _ => congrArg₂ (· * ·) (ex _) (ew _))
  · rw [e3, e7]
    have ex := rows (argC m c)
    have ew := entry_eq (by decide : 0 < 512) (by decide : 0 < 1024) (argWc m c)
    refine funext fun i => Eq.trans ?_ (result_c m g c _ _ ex ew i).symm
    refine (Cert.Reference11Ideal.Read.val_main_v12_apply _ _ _).trans (Finset.sum_congr rfl fun q _ => congrArg₂ (· * ·) (ex _) (ew _))

end Cert.Merge.Rows

end
-- ==== Proof.OutWeight.lean ====
/-
  The gradient of the output projection's weights. Eight points multiply 1024 transposed rows of the merged branches with the
  same rows of the output's gradient and add the product to a scratch they carry, and the eighth writes it out. No entry need be
  finite.
-/
module

public import proofs.«01_k».proof.Proof.Sums
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Tactic
public import proofs.«01_k».proof.Defs

@[expose] public section

set_option maxRecDepth 8192

noncomputable section

namespace Cert.Merge.OutWeight

open Idealize.ShloMosaic hiding ix2 ix1 ix0 ix3 ix4
open Idealize.ShloMosaic.TcCoe Idealize.ShloMosaic.Tactic Idealize.ShloMosaic.ValueIdx
open Idealize.SL Idealize.SL.Sem
open Cert.Ffn Cert.Kernel12Ideal Cert.Kernel12Ideal.Gen
open scoped BigOperators

section
variable {F : FTy → Type} [FloatOps F]
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .bf16) (h5 : a5.IsWhole)
  (a6 : Memref sig .tc .vmem S1024x1024 .f32) (h6 : a6.IsWhole) (x : Vec F S1024x1024 .bf16) (y s : Vec F S1024x1024 .f32)

/-- The first point leaves its product in the scratch. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S1024x1024) zeros2]

/-- A later point adds its product to what the scratch held. -/
theorem middle (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero zeros2]
  simp only [View.readAt_eq_ld, h3.read_unread, h4.read_unread, h6.read_unread, View.ld_unit_zero (S := S1024x1024) zeros2]

/-- The last point writes out the scratch with its own product added. -/
theorem final (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2]
  simp only [View.readAt_eq_ld, h3.read_unread, h4.read_unread, h6.read_unread, View.ld_unit_zero (S := S1024x1024) zeros2,
    View.readCov_unit_zero (S := S1024x1024) _ zeros2]
end

/-- A point's product, entry by entry. -/
theorem product (x : Vec Ideal S1024x1024 .bf16) (y : Vec Ideal S1024x1024 .f32) (r l : Fin 1024) :
    k0_pay1 x y (ix2 r l) = ∑ k : Fin 1024, x (ix2 k r) * y (ix2 k l) := by
  unfold k0_pay1
  rw [shapeCast_self]
  exact product_tn dot_S1024x1024_S1024x1024_S1024x1024_0_0_1_1_n_n rfl rfl (fun _ _ => rfl) (fun _ _ => rfl) (fun _ _ => rfl)
    (fun _ _ => rfl) x (truncf .bf16 y bitsLt_bf16_f32) r l

/-! ## Where the blocks lie: point `t` is row block `t` -/

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)

variable (m : (ℓ : Loc nD τ sig) → Buf (Elt Ideal) ℓ) (c : Dev nD)

/-- The merged branches. -/
abbrev argM : FVec Ideal S8192x1024 .f32 := m ((c : Thread nD τ).loc main_arg0)
/-- The output's gradient. -/
abbrev argD : FVec Ideal S8192x1024 .f32 := m ((c : Thread nD τ).loc main_arg1)

theorem host_m : (V m c main_v0 : FVec Ideal S8192x1024 .bf16) = truncf .bf16 (argM m c) bitsLt_bf16_f32 := by
  unfold_abbrev_sides
  after_results

variable (f d : ℕ → ℕ → EReal) (hF : ∀ i, argM m c i = f (i 0).val (i 1).val) (hD : ∀ i, argD m c i = d (i 0).val (i 1).val)

include hF in
theorem blk_f (t : Fin cfg0.N) (k r : Fin 1024) : iblk m c 0 t (ix2 k r) = f (1024 * t.val + k.val) r.val := by
  blk_simp [iblk]
  rw [host_m]
  refine (hF _).trans ?_
  blk_simp [ix_0]
  rw [Nat.mul_comm]

include hD in
theorem blk_d (t : Fin cfg0.N) (k l : Fin 1024) : iblk m c 1 t (ix2 k l) = d (1024 * t.val + k.val) l.val := by
  blk_simp [iblk]
  rw [V_main_arg1]
  refine (hD _).trans ?_
  blk_simp [ix_1]
  rw [Nat.mul_comm]

include hF hD in
theorem point (t : Fin cfg0.N) (r l : Fin 1024) : k0_pay1 (iblk m c 0 t) (iblk m c 1 t) (ix2 r l)
    = ∑ k : Fin 1024, f (1024 * t.val + k.val) r.val * d (1024 * t.val + k.val) l.val :=
  (product _ _ r l).trans (Finset.sum_congr rfl fun k _ => by rw [blk_f m c f hF, blk_d m c d hD])

include hF hD in
/-- What the scratch holds after point `n`. -/
theorem carried (r l : Fin 1024) : ∀ (n : ℕ) (hn : n < cfg0.N), n < 7 → (outsAt0 m c n hn).2 (ix2 r l)
    = ∑ u ∈ Finset.range (n + 1), ∑ k : Fin 1024, f (1024 * u + k.val) r.val * d (1024 * u + k.val) l.val
  | 0, hn, _ => by
    rw [outsAt0_A m c ⟨0, hn⟩ (by dsimp only) (by dsimp only; omega) (by dsimp only; omega)]
    dsimp only
    rw [first]
    unfold k0_pay2
    rw [shapeCast_self, point m c f d hF hD]
    simp
  | n + 1, hn, h7 => by
    rw [outsAt0_B m c ⟨n + 1, hn⟩ (by dsimp only; omega) (by dsimp only; omega) (by dsimp only; omega)]
    dsimp only
    rw [middle]
    unfold k0_pay3
    rw [shapeCast_self, ValueIdx.addf_apply, point m c f d hF hD, Finset.sum_range_succ]
    exact congrArg (· + _) (carried r l n _ (by omega))

include hF hD in
/-- The result. -/
theorem result (i : S1024x1024.Idx) : (dats m 0 c).arrAt 2 cfg0.N i = ∑ q : Fin 8192, f q.val (i 0).val * d q.val (i 1).val := by
  refine (dats m 0 c).arrAt_forall_of_covers 2 (fun i v => v = ∑ q : Fin 8192, f q.val (i 0).val * d q.val (i 1).val)
    (by decide +kernel) (fun t hf y => ?_) i
  have ht : t.val = 7 := (by decide +kernel : ∀ t : Fin grid0.N, win0_2.flush t = true → t.val = 7) t hf
  blk_simp [ix_2]
  rw [after0_2]
  obtain ⟨r, l, rfl⟩ : ∃ (r l : Fin 1024), y = ix2 r l := ⟨y 0, y 1, ValueIdx.eq_ix2 y⟩
  rw [outsAt0_C m c t (by omega) (by omega) (by omega)]
  dsimp only
  rw [final]
  unfold k0_pay4 k0_pay3
  rw [ValueIdx.truncf_apply, shapeCast_self, ValueIdx.addf_apply, point m c f d hF hD]
  have hn : 6 < cfg0.N := by rw [show cfg0.N = 8 from N_0]; omega
  have e : outsAt0 m c (t.val - 1) (Nat.lt_of_le_of_lt (Nat.sub_le _ _) t.isLt) = outsAt0 m c 6 hn := by congr 1; omega
  rw [e, carried m c f d hF hD r l 6 hn (by omega), ht,
    ← Finset.sum_range_succ (fun u => ∑ k : Fin 1024, f (1024 * u + k.val) r.val * d (1024 * u + k.val) l.val)]
  exact sum_rows fun q => f q r.val * d q l.val

theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => (dats m 0 c).arrAt 2 cfg0.N, Cert.Kernel12Ideal.Value.run_blocks m g, ?_⟩
  refine (θ_run Cert.Reference12Ideal.defs _ _).mono (fun r h c => ?_) (Cert.Reference12Ideal.Value.run (F := Ideal) m' g')
  obtain ⟨hv, h0, h1⟩ := h c
  obtain ⟨e0, e1⟩ := hargs c
  refine ⟨hv.trans ?_, h0, h1⟩
  refine (Cert.Reference12Ideal.Read.val_main_v4_eq (F := Ideal) _ _).trans ?_
  rw [e0, e1]
  have ef := entry_eq (by decide : 0 < 8192) (by decide : 0 < 1024) (argM m c)
  have ed := entry_eq (by decide : 0 < 8192) (by decide : 0 < 1024) (argD m c)
  funext i
  refine Eq.trans ?_ (result m c _ _ ef ed i).symm
  rw [Cert.Reference12Ideal.Read.val_main_v4_apply, Cert.Reference12Ideal.Read.val_main_v3_apply]
  refine (Cert.Reference12Ideal.Read.val_main_v2_apply _ _ _).trans (Finset.sum_congr rfl fun q _ => ?_)
  rw [mul_comm]
  exact congrArg₂ (· * ·) (ef _) (ed _)

end Cert.Merge.OutWeight

end
-- ==== Proof.BranchWeight.lean ====
/-
  The gradient of the weights of the attention branch's product; the mixed branch's has the same shapes. Sixteen points multiply
  512 transposed rows of what goes into the product with the same rows of the branch's gradient and add the product to a scratch
  they carry, and the last writes it out. No entry need be finite.
-/
module

public import proofs.«01_k».proof.Proof.Sums
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Tactic
public import proofs.«01_k».proof.Defs

@[expose] public section

set_option maxRecDepth 8192

noncomputable section

namespace Cert.Merge.BranchWeight

open Idealize.ShloMosaic hiding ix2 ix1 ix0 ix3 ix4
open Idealize.ShloMosaic.TcCoe Idealize.ShloMosaic.Tactic Idealize.ShloMosaic.ValueIdx
open Idealize.SL Idealize.SL.Sem
open Cert.Ffn Cert.Kernel13Ideal Cert.Kernel13Ideal.Gen
open scoped BigOperators

section
variable {F : FTy → Type} [FloatOps F]
variable (c : Dev nD) (i : grid0.Coords) (a3 : Memref sig .tc .vmem S512x512 .bf16) (h3 : a3.IsWhole)
  (a4 : Memref sig .tc .vmem S512x1024 .bf16) (h4 : a4.IsWhole) (a5 : Memref sig .tc .vmem S512x1024 .bf16) (h5 : a5.IsWhole)
  (a6 : Memref sig .tc .vmem S512x1024 .f32) (h6 : a6.IsWhole) (x : Vec F S512x512 .bf16) (y : Vec F S512x1024 .bf16)
  (s : Vec F S512x1024 .f32)

/-- The first point leaves its product in the scratch. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S512x512) zeros2, View.ld_unit_zero (S := S512x1024) zeros2]

/-- A later point adds its product to what the scratch held. -/
theorem middle (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero zeros2]
  simp only [View.readAt_eq_ld, h3.read_unread, h4.read_unread, h6.read_unread,
    View.ld_unit_zero (S := S512x512) zeros2, View.ld_unit_zero (S := S512x1024) zeros2]

/-- The last point writes out the scratch with its own product added. -/
theorem final (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2]
  simp only [View.readAt_eq_ld, h3.read_unread, h4.read_unread, h6.read_unread,
    View.ld_unit_zero (S := S512x512) zeros2, View.ld_unit_zero (S := S512x1024) zeros2,
    View.readCov_unit_zero (S := S512x1024) _ zeros2]
end

/-- A point's product, entry by entry. -/
theorem product (x : Vec Ideal S512x512 .bf16) (y : Vec Ideal S512x1024 .bf16) (r : Fin 512) (l : Fin 1024) :
    k0_pay1 x y (ix2 r l) = ∑ k : Fin 512, x (ix2 k r) * y (ix2 k l) := by
  unfold k0_pay1
  rw [shapeCast_self, shapeCast_self]
  exact product_tn dot_S512x512_S512x1024_S512x1024_0_0_1_1_n_n rfl rfl (fun _ _ => rfl) (fun _ _ => rfl) (fun _ _ => rfl)
    (fun _ _ => rfl) x y r l

/-! ## Where the blocks lie: point `t` is row block `t` -/

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)

variable (m : (ℓ : Loc nD τ sig) → Buf (Elt Ideal) ℓ) (c : Dev nD)

/-- What goes into the branch's product. -/
abbrev argO : FVec Ideal S8192x512 .f32 := m ((c : Thread nD τ).loc main_arg0)
/-- The branch's gradient. -/
abbrev argD : FVec Ideal S8192x1024 .f32 := m ((c : Thread nD τ).loc main_arg1)

theorem host_o : (V m c main_v0 : FVec Ideal S8192x512 .bf16) = truncf .bf16 (argO m c) bitsLt_bf16_f32 := by
  unfold_abbrev_sides
  after_results

theorem host_d : (V m c main_v1 : FVec Ideal S8192x1024 .bf16) = truncf .bf16 (argD m c) bitsLt_bf16_f32 := by
  unfold_abbrev_sides
  after_results

variable (f d : ℕ → ℕ → EReal) (hF : ∀ i, argO m c i = f (i 0).val (i 1).val) (hD : ∀ i, argD m c i = d (i 0).val (i 1).val)

include hF in
theorem blk_f (t : Fin cfg0.N) (k : Fin 512) (r : Fin 512) : iblk m c 0 t (ix2 k r) = f (512 * t.val + k.val) r.val := by
  blk_simp [iblk]
  rw [host_o]
  refine (hF _).trans ?_
  blk_simp [ix_0]
  rw [Nat.mul_comm]

include hD in
theorem blk_d (t : Fin cfg0.N) (k : Fin 512) (l : Fin 1024) : iblk m c 1 t (ix2 k l) = d (512 * t.val + k.val) l.val := by
  blk_simp [iblk]
  rw [host_d]
  refine (hD _).trans ?_
  blk_simp [ix_1]
  rw [Nat.mul_comm]

include hF hD in
theorem point (t : Fin cfg0.N) (r : Fin 512) (l : Fin 1024) : k0_pay1 (iblk m c 0 t) (iblk m c 1 t) (ix2 r l)
    = ∑ k : Fin 512, f (512 * t.val + k.val) r.val * d (512 * t.val + k.val) l.val :=
  (product _ _ r l).trans (Finset.sum_congr rfl fun k _ => by rw [blk_f m c f hF, blk_d m c d hD])

include hF hD in
/-- What the scratch holds after point `n`. -/
theorem carried (r : Fin 512) (l : Fin 1024) : ∀ (n : ℕ) (hn : n < cfg0.N), n < 15 → (outsAt0 m c n hn).2 (ix2 r l)
    = ∑ u ∈ Finset.range (n + 1), ∑ k : Fin 512, f (512 * u + k.val) r.val * d (512 * u + k.val) l.val
  | 0, hn, _ => by
    rw [outsAt0_A m c ⟨0, hn⟩ (by dsimp only) (by dsimp only; omega) (by dsimp only; omega)]
    dsimp only
    rw [first]
    unfold k0_pay2
    rw [shapeCast_self, point m c f d hF hD]
    simp
  | n + 1, hn, h15 => by
    rw [outsAt0_B m c ⟨n + 1, hn⟩ (by dsimp only; omega) (by dsimp only; omega) (by dsimp only; omega)]
    dsimp only
    rw [middle]
    unfold k0_pay3
    rw [shapeCast_self, ValueIdx.addf_apply, point m c f d hF hD, Finset.sum_range_succ]
    exact congrArg (· + _) (carried r l n _ (by omega))

include hF hD in
/-- The result. -/
theorem result (i : S512x1024.Idx) : (dats m 0 c).arrAt 2 cfg0.N i = ∑ q : Fin 8192, f q.val (i 0).val * d q.val (i 1).val := by
  refine (dats m 0 c).arrAt_forall_of_covers 2 (fun i v => v = ∑ q : Fin 8192, f q.val (i 0).val * d q.val (i 1).val)
    (by decide +kernel) (fun t hf y => ?_) i
  have ht : t.val = 15 := (by decide +kernel : ∀ t : Fin grid0.N, win0_2.flush t = true → t.val = 15) t hf
  blk_simp [ix_2]
  rw [after0_2]
  obtain ⟨r, l, rfl⟩ : ∃ (r : Fin 512) (l : Fin 1024), y = ix2 r l := ⟨y 0, y 1, ValueIdx.eq_ix2 y⟩
  rw [outsAt0_C m c t (by omega) (by omega) (by omega)]
  dsimp only
  rw [final]
  unfold k0_pay4 k0_pay3
  rw [ValueIdx.truncf_apply, shapeCast_self, ValueIdx.addf_apply, point m c f d hF hD]
  have hn : 14 < cfg0.N := by rw [show cfg0.N = 16 from N_0]; omega
  have e : outsAt0 m c (t.val - 1) (Nat.lt_of_le_of_lt (Nat.sub_le _ _) t.isLt) = outsAt0 m c 14 hn := by congr 1; omega
  rw [e, carried m c f d hF hD r l 14 hn (by omega), ht,
    ← Finset.sum_range_succ (fun u => ∑ k : Fin 512, f (512 * u + k.val) r.val * d (512 * u + k.val) l.val)]
  exact (sum_by_blocks 512 (fun q => f q r.val * d q l.val) 16).trans (Finset.sum_range _)

theorem algebraic : Cert.algebraic_Kernel13Ideal_Reference13Ideal (hKernel13Ideal := Cert.Kernel13Ideal.Gen.facts)
    (hReference13Ideal := Cert.Reference13Ideal.Gen.facts) := by
  intro m g m' g' _ hargs
  refine ⟨fun c => (dats m 0 c).arrAt 2 cfg0.N, Cert.Kernel13Ideal.Value.run_blocks m g, ?_⟩
  refine (θ_run Cert.Reference13Ideal.defs _ _).mono (fun r h c => ?_) (Cert.Reference13Ideal.Value.run (F := Ideal) m' g')
  obtain ⟨hv, h0, h1⟩ := h c
  obtain ⟨e0, e1⟩ := hargs c
  refine ⟨hv.trans ?_, h0, h1⟩
  refine (Cert.Reference13Ideal.Read.val_main_v4_eq (F := Ideal) _ _).trans ?_
  rw [e0, e1]
  have ef := entry_eq (by decide : 0 < 8192) (by decide : 0 < 512) (argO m c)
  have ed := entry_eq (by decide : 0 < 8192) (by decide : 0 < 1024) (argD m c)
  funext i
  refine Eq.trans ?_ (result m c _ _ ef ed i).symm
  rw [Cert.Reference13Ideal.Read.val_main_v4_apply, Cert.Reference13Ideal.Read.val_main_v3_apply]
  refine (Cert.Reference13Ideal.Read.val_main_v2_apply _ _ _).trans (Finset.sum_congr rfl fun q _ => ?_)
  rw [mul_comm]
  exact congrArg₂ (· * ·) (ef _) (ed _)

end Cert.Merge.BranchWeight

end
-- ==== Proof.BandWeight.lean ====
/-
  The gradient of the weights of the band branch's product, taken in sixteen points of 512 rows each like the other branches'. What
  goes into the product is narrower and is rounded by the kernel itself. No entry need be finite.
-/
module

public import proofs.«01_k».proof.Proof.Sums
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Tactic
public import proofs.«01_k».proof.Defs

@[expose] public section

set_option maxRecDepth 8192

noncomputable section

namespace Cert.Merge.BandWeight

open Idealize.ShloMosaic hiding ix2 ix1 ix0 ix3 ix4
open Idealize.ShloMosaic.TcCoe Idealize.ShloMosaic.Tactic Idealize.ShloMosaic.ValueIdx
open Idealize.SL Idealize.SL.Sem
open Cert.Ffn Cert.Kernel14Ideal Cert.Kernel14Ideal.Gen
open scoped BigOperators

section
variable {F : FTy → Type} [FloatOps F]
variable (c : Dev nD) (i : grid0.Coords) (a3 : Memref sig .tc .vmem S512x256 .f32) (h3 : a3.IsWhole)
  (a4 : Memref sig .tc .vmem S512x1024 .bf16) (h4 : a4.IsWhole) (a5 : Memref sig .tc .vmem S256x1024 .bf16) (h5 : a5.IsWhole)
  (a6 : Memref sig .tc .vmem S256x1024 .f32) (h6 : a6.IsWhole) (x : Vec F S512x256 .f32) (y : Vec F S512x1024 .bf16)
  (s : Vec F S256x1024 .f32)

/-- The first point leaves its product in the scratch. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S512x256) zeros2, View.ld_unit_zero (S := S512x1024) zeros2]

/-- A later point adds its product to what the scratch held. -/
theorem middle (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero zeros2]
  simp only [View.readAt_eq_ld, h3.read_unread, h4.read_unread, h6.read_unread,
    View.ld_unit_zero (S := S512x256) zeros2, View.ld_unit_zero (S := S512x1024) zeros2, View.ld_unit_zero (S := S256x1024) zeros2]

/-- The last point writes out the scratch with its own product added. -/
theorem final (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2]
  simp only [View.readAt_eq_ld, h3.read_unread, h4.read_unread, h6.read_unread,
    View.ld_unit_zero (S := S512x256) zeros2, View.ld_unit_zero (S := S512x1024) zeros2, View.ld_unit_zero (S := S256x1024) zeros2,
    View.readCov_unit_zero (S := S256x1024) _ zeros2]
end

/-- A point's product, entry by entry. -/
theorem product (x : Vec Ideal S512x256 .f32) (y : Vec Ideal S512x1024 .bf16) (r : Fin 256) (l : Fin 1024) :
    k0_pay1 x y (ix2 r l) = ∑ k : Fin 512, x (ix2 k r) * y (ix2 k l) := by
  unfold k0_pay1
  rw [shapeCast_self]
  exact product_tn dot_S512x256_S512x1024_S256x1024_0_0_1_1_n_n rfl rfl (fun _ _ => rfl) (fun _ _ => rfl) (fun _ _ => rfl)
    (fun _ _ => rfl) (truncf .bf16 x bitsLt_bf16_f32) y r l

/-! ## Where the blocks lie: point `t` is row block `t` -/

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)

variable (m : (ℓ : Loc nD τ sig) → Buf (Elt Ideal) ℓ) (c : Dev nD)

/-- What goes into the branch's product. -/
abbrev argO : FVec Ideal S8192x256 .f32 := m ((c : Thread nD τ).loc main_arg0)
/-- The branch's gradient. -/
abbrev argD : FVec Ideal S8192x1024 .f32 := m ((c : Thread nD τ).loc main_arg1)

theorem host_d : (V m c main_v0 : FVec Ideal S8192x1024 .bf16) = truncf .bf16 (argD m c) bitsLt_bf16_f32 := by
  unfold_abbrev_sides
  after_results

variable (f d : ℕ → ℕ → EReal) (hF : ∀ i, argO m c i = f (i 0).val (i 1).val) (hD : ∀ i, argD m c i = d (i 0).val (i 1).val)

include hF in
theorem blk_f (t : Fin cfg0.N) (k : Fin 512) (r : Fin 256) : iblk m c 0 t (ix2 k r) = f (512 * t.val + k.val) r.val := by
  blk_simp [iblk]
  rw [V_main_arg0]
  refine (hF _).trans ?_
  blk_simp [ix_0]
  rw [Nat.mul_comm]

include hD in
theorem blk_d (t : Fin cfg0.N) (k : Fin 512) (l : Fin 1024) : iblk m c 1 t (ix2 k l) = d (512 * t.val + k.val) l.val := by
  blk_simp [iblk]
  rw [host_d]
  refine (hD _).trans ?_
  blk_simp [ix_1]
  rw [Nat.mul_comm]

include hF hD in
theorem point (t : Fin cfg0.N) (r : Fin 256) (l : Fin 1024) : k0_pay1 (iblk m c 0 t) (iblk m c 1 t) (ix2 r l)
    = ∑ k : Fin 512, f (512 * t.val + k.val) r.val * d (512 * t.val + k.val) l.val :=
  (product _ _ r l).trans (Finset.sum_congr rfl fun k _ => by rw [blk_f m c f hF, blk_d m c d hD])

include hF hD in
/-- What the scratch holds after point `n`. -/
theorem carried (r : Fin 256) (l : Fin 1024) : ∀ (n : ℕ) (hn : n < cfg0.N), n < 15 → (outsAt0 m c n hn).2 (ix2 r l)
    = ∑ u ∈ Finset.range (n + 1), ∑ k : Fin 512, f (512 * u + k.val) r.val * d (512 * u + k.val) l.val
  | 0, hn, _ => by
    rw [outsAt0_A m c ⟨0, hn⟩ (by dsimp only) (by dsimp only; omega) (by dsimp only; omega)]
    dsimp only
    rw [first]
    unfold k0_pay2
    rw [shapeCast_self, point m c f d hF hD]
    simp
  | n + 1, hn, h15 => by
    rw [outsAt0_B m c ⟨n + 1, hn⟩ (by dsimp only; omega) (by dsimp only; omega) (by dsimp only; omega)]
    dsimp only
    rw [middle]
    unfold k0_pay3
    rw [shapeCast_self, ValueIdx.addf_apply, point m c f d hF hD, Finset.sum_range_succ]
    exact congrArg (· + _) (carried r l n _ (by omega))

include hF hD in
/-- The result. -/
theorem result (i : S256x1024.Idx) : (dats m 0 c).arrAt 2 cfg0.N i = ∑ q : Fin 8192, f q.val (i 0).val * d q.val (i 1).val := by
  refine (dats m 0 c).arrAt_forall_of_covers 2 (fun i v => v = ∑ q : Fin 8192, f q.val (i 0).val * d q.val (i 1).val)
    (by decide +kernel) (fun t hf y => ?_) i
  have ht : t.val = 15 := (by decide +kernel : ∀ t : Fin grid0.N, win0_2.flush t = true → t.val = 15) t hf
  blk_simp [ix_2]
  rw [after0_2]
  obtain ⟨r, l, rfl⟩ : ∃ (r : Fin 256) (l : Fin 1024), y = ix2 r l := ⟨y 0, y 1, ValueIdx.eq_ix2 y⟩
  rw [outsAt0_C m c t (by omega) (by omega) (by omega)]
  dsimp only
  rw [final]
  unfold k0_pay4 k0_pay3
  rw [ValueIdx.truncf_apply, shapeCast_self, ValueIdx.addf_apply, point m c f d hF hD]
  have hn : 14 < cfg0.N := by rw [show cfg0.N = 16 from N_0]; omega
  have e : outsAt0 m c (t.val - 1) (Nat.lt_of_le_of_lt (Nat.sub_le _ _) t.isLt) = outsAt0 m c 14 hn := by congr 1; omega
  rw [e, carried m c f d hF hD r l 14 hn (by omega), ht,
    ← Finset.sum_range_succ (fun u => ∑ k : Fin 512, f (512 * u + k.val) r.val * d (512 * u + k.val) l.val)]
  exact (sum_by_blocks 512 (fun q => f q r.val * d q l.val) 16).trans (Finset.sum_range _)

theorem algebraic : Cert.algebraic_Kernel14Ideal_Reference14Ideal (hKernel14Ideal := Cert.Kernel14Ideal.Gen.facts)
    (hReference14Ideal := Cert.Reference14Ideal.Gen.facts) := by
  intro m g m' g' _ hargs
  refine ⟨fun c => (dats m 0 c).arrAt 2 cfg0.N, Cert.Kernel14Ideal.Value.run_blocks m g, ?_⟩
  refine (θ_run Cert.Reference14Ideal.defs _ _).mono (fun r h c => ?_) (Cert.Reference14Ideal.Value.run (F := Ideal) m' g')
  obtain ⟨hv, h0, h1⟩ := h c
  obtain ⟨e0, e1⟩ := hargs c
  refine ⟨hv.trans ?_, h0, h1⟩
  refine (Cert.Reference14Ideal.Read.val_main_v4_eq (F := Ideal) _ _).trans ?_
  rw [e0, e1]
  have ef := entry_eq (by decide : 0 < 8192) (by decide : 0 < 256) (argO m c)
  have ed := entry_eq (by decide : 0 < 8192) (by decide : 0 < 1024) (argD m c)
  funext i
  refine Eq.trans ?_ (result m c _ _ ef ed i).symm
  rw [Cert.Reference14Ideal.Read.val_main_v4_apply, Cert.Reference14Ideal.Read.val_main_v3_apply]
  refine (Cert.Reference14Ideal.Read.val_main_v2_apply _ _ _).trans (Finset.sum_congr rfl fun q _ => ?_)
  rw [mul_comm]
  exact congrArg₂ (· * ·) (ef _) (ed _)

end Cert.Merge.BandWeight

end
-- ==== Proof.AdamW.lean ====
/-
  AdamW of the first projection's weights. The grid is the four layers times eight tiles of 128 rows: point `t` is row block `t`,
  of layer `t / 8`. It sums the eight devices' parts of its tile's gradient and steps the tile's weights. Sum, step and both moments
  are the reference's. No entry need be finite: apart from the order of a sum the two formulas are the same.
-/
module

public import proofs.«01_k».proof.Proof.Sums
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit
public import Idealize.ShloMosaic.Lib.Tactic
public import proofs.«01_k».proof.Defs

@[expose] public section

set_option maxRecDepth 8192

noncomputable section

namespace Cert.AdamW

open scoped BigOperators

/-! ## The step of one weight -/

section
open Idealize.ShloMosaic

/-- The constant of these bits. -/
abbrev bits (b : BitVec 32) : Ideal .f32 := FloatOps.ofBits .f32 b

/-- The first moment, from the gradient and the moment before. -/
def first (g μ : Ideal .f32) : Ideal .f32 :=
  FloatOps.addf (FloatOps.mulf (bits 0x3F666666#32) μ) (FloatOps.mulf (bits 0x3DCCCCCD#32) g)

/-- The second moment, from the gradient and the moment before. -/
def second (g ν : Ideal .f32) : Ideal .f32 :=
  FloatOps.addf (FloatOps.mulf (bits 0x3F7FBE77#32) ν) (FloatOps.mulf (bits 0x3A83126F#32) (FloatOps.mulf g g))

/-- The weight's step. -/
def delta (g μ ν w : Ideal .f32) : Ideal .f32 :=
  FloatOps.mulf (bits 0xBA83126F#32) (FloatOps.addf
    (FloatOps.divf (FloatOps.divf (first g μ) (bits 0x3F26BD02#32))
      (FloatOps.addf (FloatOps.sqrt (FloatOps.divf (second g ν) (bits 0x3C231ACC#32))) (bits 0x322BCC77#32)))
    (FloatOps.mulf (bits 0x3C23D70A#32) w))

/-- The four layers' gradients, one under the other. -/
def layers (p : Fin 4 → ℕ → ℕ → ℕ → EReal) (q l : ℕ) : EReal := ∑ k : Fin 8, p (Fin.ofNat 4 (q / 1024)) k.val (q % 1024) l
end

/-! ## A point's arithmetic -/

section
open Idealize.ShloMosaic Cert.Kernel15Ideal Cert.Kernel15Ideal.Gen

theorem first_value (G M : FVec Ideal S128x832 .f32) (y : S128x832.Idx) : k0_pay1 G M (k0_pay14 (F := Ideal)) y = first (G y) (M y) := rfl

theorem second_value (G V : FVec Ideal S128x832 .f32) (y : S128x832.Idx) : k0_pay2 G V y = second (G y) (V y) := rfl

theorem delta_value (G M V W : FVec Ideal S128x832 .f32) (y : S128x832.Idx) :
    k0_pay3 G M (k0_pay14 (F := Ideal)) V W y = delta (G y) (M y) (V y) (W y) := rfl

/-- One device's part of a tile. -/
theorem ld_part {F : FTy → Type} (X : Vec F S8x128x832 .bf16) (k : Fin 8)
    (inb : ∀ a, ![k.val, 0, 0] a + S1x128x832.size a ≤ S8x128x832.size a) (r : Fin 128) (l : Fin 832) :
    View.ld X (Rect.unit (s := S8x128x832) ![k.val, 0, 0] S1x128x832.size inb) (ix3 (0 : Fin 1) r l) = X (ix3 k r l) :=
  View.ld_unit_apply_of X _ _ inb _ _ fun d => by fin_cases d <;> simp

/-- The tile's gradient. -/
def tile {F : FTy → Type} [FloatOps F] (X : Vec F S8x128x832 .bf16) : FVec F S128x832 .f32 :=
  k0_pay13 (View.ld X (Rect.unit (s := S8x128x832) ![0, 0, 0] S1x128x832.size inb_S8x128x832_S1x128x832_0_0_0))
    (View.ld X (Rect.unit (s := S8x128x832) ![1, 0, 0] S1x128x832.size inb_S8x128x832_S1x128x832_1_0_0))
    (View.ld X (Rect.unit (s := S8x128x832) ![2, 0, 0] S1x128x832.size inb_S8x128x832_S1x128x832_2_0_0))
    (View.ld X (Rect.unit (s := S8x128x832) ![3, 0, 0] S1x128x832.size inb_S8x128x832_S1x128x832_3_0_0))
    (View.ld X (Rect.unit (s := S8x128x832) ![4, 0, 0] S1x128x832.size inb_S8x128x832_S1x128x832_4_0_0))
    (View.ld X (Rect.unit (s := S8x128x832) ![5, 0, 0] S1x128x832.size inb_S8x128x832_S1x128x832_5_0_0))
    (View.ld X (Rect.unit (s := S8x128x832) ![6, 0, 0] S1x128x832.size inb_S8x128x832_S1x128x832_6_0_0))
    (View.ld X (Rect.unit (s := S8x128x832) ![7, 0, 0] S1x128x832.size inb_S8x128x832_S1x128x832_7_0_0))

theorem tile_value (X : Vec Ideal S8x128x832 .bf16) (r : Fin 128) (l : Fin 832) : tile X (ix2 r l) = ∑ k : Fin 8, X (ix3 k r l) := by
  unfold tile
  pointwise [k0_pay13]
  rw [Fin.sum_univ_eight, ← ld_part X 0 inb_S8x128x832_S1x128x832_0_0_0, ← ld_part X 1 inb_S8x128x832_S1x128x832_1_0_0,
    ← ld_part X 2 inb_S8x128x832_S1x128x832_2_0_0, ← ld_part X 3 inb_S8x128x832_S1x128x832_3_0_0,
    ← ld_part X 4 inb_S8x128x832_S1x128x832_4_0_0, ← ld_part X 5 inb_S8x128x832_S1x128x832_5_0_0,
    ← ld_part X 6 inb_S8x128x832_S1x128x832_6_0_0, ← ld_part X 7 inb_S8x128x832_S1x128x832_7_0_0]
end

/-! ## The reference's arithmetic -/

section
open Idealize.ShloMosaic Cert.Reference15Ideal Cert.Reference15Ideal.Read

variable (X0 X1 X2 X3 : FVec Ideal S8x1024x832 .f32) (W M V : FVec Ideal S4096x832 .f32) (p : Fin 4 → ℕ → ℕ → ℕ → EReal)

theorem ref_first (i : S4096x832.Idx) : val_main_v9 (F := Ideal) X0 X1 X2 X3 M i = first (val_main_v4 (F := Ideal) X0 X1 X2 X3 i) (M i) := by
  simp only [val_main_v9_apply, val_main_v6_apply, val_main_v5_apply, val_main_v8_apply, val_main_v7_apply]
  rfl

theorem ref_second (i : S4096x832.Idx) : val_main_v15 (F := Ideal) X0 X1 X2 X3 V i = second (val_main_v4 (F := Ideal) X0 X1 X2 X3 i) (V i) := by
  simp only [val_main_v15_apply, val_main_v14_apply, val_main_v13_apply, val_main_v12_apply, val_main_v11_apply, val_main_v10_apply]
  rfl

theorem ref_delta (i : S4096x832.Idx) : val_main_v28 (F := Ideal) X0 X1 X2 X3 W M V i
    = delta (val_main_v4 (F := Ideal) X0 X1 X2 X3 i) (M i) (V i) (W i) := by
  simp only [val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, ref_first, ref_second]
  rfl

variable (h0 : ∀ i, X0 i = p 0 (i 0).val (i 1).val (i 2).val) (h1 : ∀ i, X1 i = p 1 (i 0).val (i 1).val (i 2).val)
  (h2 : ∀ i, X2 i = p 2 (i 0).val (i 1).val (i 2).val) (h3 : ∀ i, X3 i = p 3 (i 0).val (i 1).val (i 2).val)

include h0 h1 h2 h3 in
theorem ref_grad (q : Fin 4096) (l : Fin 832) : val_main_v4 (F := Ideal) X0 X1 X2 X3 (ix2 q l) = layers p q.val l.val := by
  pointwise [val_main_v4, val_main_v3, val_main_v2, val_main_v1, val_main_v0, val_main_cst, val_main_cst_0, val_main_cst_1, val_main_cst_2]
  simp only [h0, h1, h2, h3]
  have hq := q.isLt
  unfold layers
  have e (n : ℕ) (k : Fin 4) (hk : n % 4 = k.val) : Fin.ofNat 4 n = k := Fin.ext hk
  by_cases a0 : q.val < 1024
  · rw [dif_pos a0, e _ 0 (by show _ = 0; omega), show q.val % 1024 = q.val by omega]
    rfl
  rw [dif_neg a0]
  by_cases a1 : q.val - 1024 < 1024
  · rw [dif_pos a1, e _ 1 (by show _ = 1; omega), show q.val % 1024 = q.val - 1024 by omega]
    rfl
  rw [dif_neg a1]
  by_cases a2 : q.val - 1024 - 1024 < 1024
  · rw [dif_pos a2, e _ 2 (by show _ = 2; omega), show q.val % 1024 = q.val - 1024 - 1024 by omega]
    rfl
  rw [dif_neg a2, e _ 3 (by show _ = 3; omega), show q.val % 1024 = q.val - 1024 - 1024 - 1024 by omega]
  rfl
end

/-! ## What a point leaves -/

open Idealize.ShloMosaic hiding ix2 ix1 ix0 ix3 ix4
open Idealize.ShloMosaic.TcCoe Idealize.ShloMosaic.Tactic Idealize.ShloMosaic.ValueIdx
open Idealize.SL Idealize.SL.Sem
open Cert.Kernel15Ideal Cert.Kernel15Ideal.Gen
open Cert.Attn Cert.Ffn

/-- Gradient, step and moments of a tile. -/
def stepOf {F : FTy → Type} [FloatOps F] (X : Vec F S8x128x832 .bf16) (W M V : Vec F S128x832 .f32) :
    Vec F S128x832 .f32 × Vec F S128x832 .f32 × Vec F S128x832 .f32 × Vec F S128x832 .f32 :=
  (tile X, k0_pay3 (tile X) M k0_pay14 V W, k0_pay1 (tile X) M k0_pay14, k0_pay2 (tile X) V)

section
variable {F : FTy → Type} [FloatOps F] (m : (ℓ : Loc nD τ sig) → Buf (Elt F) ℓ) (c : Dev nD) (t : Fin cfg0.N)

/-- A point of the first layer. -/
theorem outs_A (h : t.val / 8 = 0) :
    outsAt0 m c t.val t.isLt = stepOf (iblk m c 0 t) (iblk m c 4 t) (iblk m c 5 t) (iblk m c 6 t) := by
  refine (outsAt0_A m c t (by omega) (by omega) (by omega) (by omega)).trans
    (congrArg₂ Prod.mk ?_ (congrArg₂ Prod.mk ?_ (congrArg₂ Prod.mk ?_ ?_)))
  · exact (View.read_writes_eq_canon _ _ _ (fun y => cover0_A_7 ..)).trans (by
      unfold kernelRun0_A; dsimp only; sl_unfold_words
      rw [View.canon_unit_zero zeros2]
      simp only [View.readAt_eq_ld, (hs0_0 t).read_unread]
      rfl)
  · exact (View.read_writes_eq_canon _ _ _ (fun y => cover0_A_8 ..)).trans (by
      unfold kernelRun0_A; dsimp only; sl_unfold_words
      rw [View.canon_unit_zero zeros2]
      simp only [View.readAt_eq_ld, (hs0_0 t).read_unread, (hs0_4 t).read_unread, (hs0_5 t).read_unread, (hs0_6 t).read_unread,
        View.ld_unit_zero (S := S128x832) zeros2]
      rfl)
  · exact (View.read_writes_eq_canon _ _ _ (fun y => cover0_A_9 ..)).trans (by
      unfold kernelRun0_A; dsimp only; sl_unfold_words
      rw [View.canon_unit_zero zeros2]
      simp only [View.readAt_eq_ld, (hs0_0 t).read_unread, (hs0_5 t).read_unread, View.ld_unit_zero (S := S128x832) zeros2]
      rfl)
  · exact (View.read_writes_eq_canon _ _ _ (fun y => cover0_A_10 ..)).trans (by
      unfold kernelRun0_A; dsimp only; sl_unfold_words
      rw [View.canon_unit_zero zeros2]
      simp only [View.readAt_eq_ld, (hs0_0 t).read_unread, (hs0_6 t).read_unread, View.ld_unit_zero (S := S128x832) zeros2]
      rfl)

/-- A point of the second layer. -/
theorem outs_B (h : t.val / 8 = 1) :
    outsAt0 m c t.val t.isLt = stepOf (iblk m c 1 t) (iblk m c 4 t) (iblk m c 5 t) (iblk m c 6 t) := by
  refine (outsAt0_B m c t (by omega) (by omega) (by omega) (by omega)).trans
    (congrArg₂ Prod.mk ?_ (congrArg₂ Prod.mk ?_ (congrArg₂ Prod.mk ?_ ?_)))
  · exact (View.read_writes_eq_canon _ _ _ (fun y => cover0_B_7 ..)).trans (by
      unfold kernelRun0_B; dsimp only; sl_unfold_words
      rw [View.canon_unit_zero zeros2]
      simp only [View.readAt_eq_ld, (hs0_1 t).read_unread]
      rfl)
  · exact (View.read_writes_eq_canon _ _ _ (fun y => cover0_B_8 ..)).trans (by
      unfold kernelRun0_B; dsimp only; sl_unfold_words
      rw [View.canon_unit_zero zeros2]
      simp only [View.readAt_eq_ld, (hs0_1 t).read_unread, (hs0_4 t).read_unread, (hs0_5 t).read_unread, (hs0_6 t).read_unread,
        View.ld_unit_zero (S := S128x832) zeros2]
      rfl)
  · exact (View.read_writes_eq_canon _ _ _ (fun y => cover0_B_9 ..)).trans (by
      unfold kernelRun0_B; dsimp only; sl_unfold_words
      rw [View.canon_unit_zero zeros2]
      simp only [View.readAt_eq_ld, (hs0_1 t).read_unread, (hs0_5 t).read_unread, View.ld_unit_zero (S := S128x832) zeros2]
      rfl)
  · exact (View.read_writes_eq_canon _ _ _ (fun y => cover0_B_10 ..)).trans (by
      unfold kernelRun0_B; dsimp only; sl_unfold_words
      rw [View.canon_unit_zero zeros2]
      simp only [View.readAt_eq_ld, (hs0_1 t).read_unread, (hs0_6 t).read_unread, View.ld_unit_zero (S := S128x832) zeros2]
      rfl)

/-- A point of the third layer. -/
theorem outs_C (h : t.val / 8 = 2) :
    outsAt0 m c t.val t.isLt = stepOf (iblk m c 2 t) (iblk m c 4 t) (iblk m c 5 t) (iblk m c 6 t) := by
  refine (outsAt0_C m c t (by omega) (by omega) (by omega) (by omega)).trans
    (congrArg₂ Prod.mk ?_ (congrArg₂ Prod.mk ?_ (congrArg₂ Prod.mk ?_ ?_)))
  · exact (View.read_writes_eq_canon _ _ _ (fun y => cover0_C_7 ..)).trans (by
      unfold kernelRun0_C; dsimp only; sl_unfold_words
      rw [View.canon_unit_zero zeros2]
      simp only [View.readAt_eq_ld, (hs0_2 t).read_unread]
      rfl)
  · exact (View.read_writes_eq_canon _ _ _ (fun y => cover0_C_8 ..)).trans (by
      unfold kernelRun0_C; dsimp only; sl_unfold_words
      rw [View.canon_unit_zero zeros2]
      simp only [View.readAt_eq_ld, (hs0_2 t).read_unread, (hs0_4 t).read_unread, (hs0_5 t).read_unread, (hs0_6 t).read_unread,
        View.ld_unit_zero (S := S128x832) zeros2]
      rfl)
  · exact (View.read_writes_eq_canon _ _ _ (fun y => cover0_C_9 ..)).trans (by
      unfold kernelRun0_C; dsimp only; sl_unfold_words
      rw [View.canon_unit_zero zeros2]
      simp only [View.readAt_eq_ld, (hs0_2 t).read_unread, (hs0_5 t).read_unread, View.ld_unit_zero (S := S128x832) zeros2]
      rfl)
  · exact (View.read_writes_eq_canon _ _ _ (fun y => cover0_C_10 ..)).trans (by
      unfold kernelRun0_C; dsimp only; sl_unfold_words
      rw [View.canon_unit_zero zeros2]
      simp only [View.readAt_eq_ld, (hs0_2 t).read_unread, (hs0_6 t).read_unread, View.ld_unit_zero (S := S128x832) zeros2]
      rfl)

/-- A point of the fourth layer. -/
theorem outs_D (h : t.val / 8 = 3) :
    outsAt0 m c t.val t.isLt = stepOf (iblk m c 3 t) (iblk m c 4 t) (iblk m c 5 t) (iblk m c 6 t) := by
  refine (outsAt0_D m c t (by omega) (by omega) (by omega) (by omega)).trans
    (congrArg₂ Prod.mk ?_ (congrArg₂ Prod.mk ?_ (congrArg₂ Prod.mk ?_ ?_)))
  · exact (View.read_writes_eq_canon _ _ _ (fun y => cover0_D_7 ..)).trans (by
      unfold kernelRun0_D; dsimp only; sl_unfold_words
      rw [View.canon_unit_zero zeros2]
      simp only [View.readAt_eq_ld, (hs0_3 t).read_unread]
      rfl)
  · exact (View.read_writes_eq_canon _ _ _ (fun y => cover0_D_8 ..)).trans (by
      unfold kernelRun0_D; dsimp only; sl_unfold_words
      rw [View.canon_unit_zero zeros2]
      simp only [View.readAt_eq_ld, (hs0_3 t).read_unread, (hs0_4 t).read_unread, (hs0_5 t).read_unread, (hs0_6 t).read_unread,
        View.ld_unit_zero (S := S128x832) zeros2]
      rfl)
  · exact (View.read_writes_eq_canon _ _ _ (fun y => cover0_D_9 ..)).trans (by
      unfold kernelRun0_D; dsimp only; sl_unfold_words
      rw [View.canon_unit_zero zeros2]
      simp only [View.readAt_eq_ld, (hs0_3 t).read_unread, (hs0_5 t).read_unread, View.ld_unit_zero (S := S128x832) zeros2]
      rfl)
  · exact (View.read_writes_eq_canon _ _ _ (fun y => cover0_D_10 ..)).trans (by
      unfold kernelRun0_D; dsimp only; sl_unfold_words
      rw [View.canon_unit_zero zeros2]
      simp only [View.readAt_eq_ld, (hs0_3 t).read_unread, (hs0_6 t).read_unread, View.ld_unit_zero (S := S128x832) zeros2]
      rfl)

end

/-! ## Where the blocks lie -/

theorem ix_0 : ∀ t : Fin cfg0.N, t.val / 8 = 0 → win0_0.index t = ![0, t.val % 8, 0] := (by decide +kernel : ∀ t : Fin grid0.N, _)
theorem ix_1 : ∀ t : Fin cfg0.N, t.val / 8 = 1 → win0_1.index t = ![0, t.val % 8, 0] := (by decide +kernel : ∀ t : Fin grid0.N, _)
theorem ix_2 : ∀ t : Fin cfg0.N, t.val / 8 = 2 → win0_2.index t = ![0, t.val % 8, 0] := (by decide +kernel : ∀ t : Fin grid0.N, _)
theorem ix_3 : ∀ t : Fin cfg0.N, t.val / 8 = 3 → win0_3.index t = ![0, t.val % 8, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)

variable (m : (ℓ : Loc nD τ sig) → Buf (Elt Ideal) ℓ) (ρ : Dev nD → PrngReg) (c : Dev nD)

/-- The devices' parts of the first layer's gradient. -/
abbrev arg0 : FVec Ideal S8x1024x832 .f32 := m ((c : Thread nD τ).loc main_arg0)
/-- The devices' parts of the second layer's gradient. -/
abbrev arg1 : FVec Ideal S8x1024x832 .f32 := m ((c : Thread nD τ).loc main_arg1)
/-- The devices' parts of the third layer's gradient. -/
abbrev arg2 : FVec Ideal S8x1024x832 .f32 := m ((c : Thread nD τ).loc main_arg2)
/-- The devices' parts of the fourth layer's gradient. -/
abbrev arg3 : FVec Ideal S8x1024x832 .f32 := m ((c : Thread nD τ).loc main_arg3)
/-- The weights. -/
abbrev argW : FVec Ideal S4096x832 .f32 := m ((c : Thread nD τ).loc main_arg4)
/-- The first moment. -/
abbrev argM : FVec Ideal S4096x832 .f32 := m ((c : Thread nD τ).loc main_arg5)
/-- The second moment. -/
abbrev argV : FVec Ideal S4096x832 .f32 := m ((c : Thread nD τ).loc main_arg6)

theorem host_0 : (V m c main_v0 : FVec Ideal S8x1024x832 .bf16) = truncf .bf16 (arg0 m c) bitsLt_bf16_f32 := by
  unfold_abbrev_sides
  after_results

theorem host_1 : (V m c main_v1 : FVec Ideal S8x1024x832 .bf16) = truncf .bf16 (arg1 m c) bitsLt_bf16_f32 := by
  unfold_abbrev_sides
  after_results

theorem host_2 : (V m c main_v2 : FVec Ideal S8x1024x832 .bf16) = truncf .bf16 (arg2 m c) bitsLt_bf16_f32 := by
  unfold_abbrev_sides
  after_results

theorem host_3 : (V m c main_v3 : FVec Ideal S8x1024x832 .bf16) = truncf .bf16 (arg3 m c) bitsLt_bf16_f32 := by
  unfold_abbrev_sides
  after_results

variable (p : Fin 4 → ℕ → ℕ → ℕ → EReal) (w μ ν : ℕ → ℕ → EReal)
  (h0 : ∀ i, arg0 m c i = p 0 (i 0).val (i 1).val (i 2).val) (h1 : ∀ i, arg1 m c i = p 1 (i 0).val (i 1).val (i 2).val)
  (h2 : ∀ i, arg2 m c i = p 2 (i 0).val (i 1).val (i 2).val) (h3 : ∀ i, arg3 m c i = p 3 (i 0).val (i 1).val (i 2).val)
  (hW : ∀ i, argW m c i = w (i 0).val (i 1).val) (hM : ∀ i, argM m c i = μ (i 0).val (i 1).val)
  (hV : ∀ i, argV m c i = ν (i 0).val (i 1).val)

include hW in
theorem blk_w (t : Fin cfg0.N) (r : Fin 128) (l : Fin 832) : iblk m c 4 t (ix2 r l) = w (t.val * 128 + r.val) l.val := by
  blk_simp [iblk]
  rw [V_main_arg4]
  refine (hW _).trans ?_
  blk_simp [ix_4]

include hM in
theorem blk_m (t : Fin cfg0.N) (r : Fin 128) (l : Fin 832) : iblk m c 5 t (ix2 r l) = μ (t.val * 128 + r.val) l.val := by
  blk_simp [iblk]
  rw [V_main_arg5]
  refine (hM _).trans ?_
  blk_simp [ix_5]

include hV in
theorem blk_v (t : Fin cfg0.N) (r : Fin 128) (l : Fin 832) : iblk m c 6 t (ix2 r l) = ν (t.val * 128 + r.val) l.val := by
  blk_simp [iblk]
  rw [V_main_arg6]
  refine (hV _).trans ?_
  blk_simp [ix_6]

include h0 in
theorem blk_0 (t : Fin cfg0.N) (ht : t.val / 8 = 0) (k : Fin 8) (r : Fin 128) (l : Fin 832) :
    iblk m c 0 t (ix3 k r l) = p 0 k.val (t.val % 8 * 128 + r.val) l.val := by
  blk_simp [iblk]
  rw [host_0]
  refine (h0 _).trans ?_
  blk_simp [ix_0 t ht]

include h1 in
theorem blk_1 (t : Fin cfg0.N) (ht : t.val / 8 = 1) (k : Fin 8) (r : Fin 128) (l : Fin 832) :
    iblk m c 1 t (ix3 k r l) = p 1 k.val (t.val % 8 * 128 + r.val) l.val := by
  blk_simp [iblk]
  rw [host_1]
  refine (h1 _).trans ?_
  blk_simp [ix_1 t ht]

include h2 in
theorem blk_2 (t : Fin cfg0.N) (ht : t.val / 8 = 2) (k : Fin 8) (r : Fin 128) (l : Fin 832) :
    iblk m c 2 t (ix3 k r l) = p 2 k.val (t.val % 8 * 128 + r.val) l.val := by
  blk_simp [iblk]
  rw [host_2]
  refine (h2 _).trans ?_
  blk_simp [ix_2 t ht]

include h3 in
theorem blk_3 (t : Fin cfg0.N) (ht : t.val / 8 = 3) (k : Fin 8) (r : Fin 128) (l : Fin 832) :
    iblk m c 3 t (ix3 k r l) = p 3 k.val (t.val % 8 * 128 + r.val) l.val := by
  blk_simp [iblk]
  rw [host_3]
  refine (h3 _).trans ?_
  blk_simp [ix_3 t ht]

/-- A tile of layer `t / 8` is its rows of the layers' gradients. -/
theorem tile_layers (t : Fin cfg0.N) (n : Fin 4) (hn : t.val / 8 = n.val) (X : Vec Ideal S8x128x832 .bf16)
    (hX : ∀ (k : Fin 8) (r : Fin 128) (l : Fin 832), X (ix3 k r l) = p n k.val (t.val % 8 * 128 + r.val) l.val) (r : Fin 128)
    (l : Fin 832) : tile X (ix2 r l) = layers p (t.val * 128 + r.val) l.val := by
  have hr := r.isLt
  have hn4 := n.isLt
  refine (tile_value X r l).trans ?_
  unfold layers
  rw [show Fin.ofNat 4 ((t.val * 128 + r.val) / 1024) = n from Fin.ext (by show (t.val * 128 + r.val) / 1024 % 4 = n.val; omega),
    show (t.val * 128 + r.val) % 1024 = t.val % 8 * 128 + r.val by omega]
  exact Finset.sum_congr rfl fun k _ => hX k r l

include h0 h1 h2 h3 in
/-- A point steps its tile with the tile's rows of the layers' gradients. -/
theorem outs_at (t : Fin cfg0.N) : ∃ X : Vec Ideal S8x128x832 .bf16,
    outsAt0 m c t.val t.isLt = stepOf X (iblk m c 4 t) (iblk m c 5 t) (iblk m c 6 t)
    ∧ ∀ (r : Fin 128) (l : Fin 832), tile X (ix2 r l) = layers p (t.val * 128 + r.val) l.val := by
  have hN : cfg0.N = 32 := N_0
  have ht := t.isLt
  obtain h | h | h | h : t.val / 8 = 0 ∨ t.val / 8 = 1 ∨ t.val / 8 = 2 ∨ t.val / 8 = 3 := by omega
  · exact ⟨_, outs_A m c t h, tile_layers p t 0 h _ (blk_0 m c p h0 t h)⟩
  · exact ⟨_, outs_B m c t h, tile_layers p t 1 h _ (blk_1 m c p h1 t h)⟩
  · exact ⟨_, outs_C m c t h, tile_layers p t 2 h _ (blk_2 m c p h2 t h)⟩
  · exact ⟨_, outs_D m c t h, tile_layers p t 3 h _ (blk_3 m c p h3 t h)⟩

include h0 h1 h2 h3 in
/-- The gradient. -/
theorem grads (i : S4096x832.Idx) : (dats m 0 c).arrAt 7 cfg0.N i = layers p (i 0).val (i 1).val := by
  refine (dats m 0 c).arrAt_forall_of_covers 7 (fun i v => v = layers p (i 0).val (i 1).val) (by decide +kernel) (fun t hf y => ?_) i
  blk_simp [ix_7]
  rw [after0_7]
  obtain ⟨r, l, rfl⟩ : ∃ (r : Fin 128) (l : Fin 832), y = ix2 r l := ⟨y 0, y 1, ValueIdx.eq_ix2 y⟩
  obtain ⟨X, hX, hl⟩ := outs_at m c p h0 h1 h2 h3 t
  rw [hX]
  exact hl r l

include h0 h1 h2 h3 hW hM hV in
/-- The weights' step. -/
theorem deltas (i : S4096x832.Idx) : (dats m 0 c).arrAt 8 cfg0.N i
    = delta (layers p (i 0).val (i 1).val) (μ (i 0).val (i 1).val) (ν (i 0).val (i 1).val) (w (i 0).val (i 1).val) := by
  refine (dats m 0 c).arrAt_forall_of_covers 8 (fun i v => v
    = delta (layers p (i 0).val (i 1).val) (μ (i 0).val (i 1).val) (ν (i 0).val (i 1).val) (w (i 0).val (i 1).val))
    (by decide +kernel) (fun t hf y => ?_) i
  blk_simp [ix_8]
  rw [after0_8]
  obtain ⟨r, l, rfl⟩ : ∃ (r : Fin 128) (l : Fin 832), y = ix2 r l := ⟨y 0, y 1, ValueIdx.eq_ix2 y⟩
  obtain ⟨X, hX, hl⟩ := outs_at m c p h0 h1 h2 h3 t
  rw [hX]
  refine (delta_value _ _ _ _ _).trans ?_
  rw [hl r l]
  exact congr (congrArg₂ (delta _) (blk_m m c μ hM t r l) (blk_v m c ν hV t r l)) (blk_w m c w hW t r l)

include h0 h1 h2 h3 hM in
/-- The first moments. -/
theorem firsts (i : S4096x832.Idx) : (dats m 0 c).arrAt 9 cfg0.N i = first (layers p (i 0).val (i 1).val) (μ (i 0).val (i 1).val) := by
  refine (dats m 0 c).arrAt_forall_of_covers 9 (fun i v => v = first (layers p (i 0).val (i 1).val) (μ (i 0).val (i 1).val))
    (by decide +kernel) (fun t hf y => ?_) i
  blk_simp [ix_9]
  rw [after0_9]
  obtain ⟨r, l, rfl⟩ : ∃ (r : Fin 128) (l : Fin 832), y = ix2 r l := ⟨y 0, y 1, ValueIdx.eq_ix2 y⟩
  obtain ⟨X, hX, hl⟩ := outs_at m c p h0 h1 h2 h3 t
  rw [hX]
  exact (first_value _ _ _).trans (congrArg₂ first (hl r l) (blk_m m c μ hM t r l))

include h0 h1 h2 h3 hV in
/-- The second moments. -/
theorem seconds (i : S4096x832.Idx) : (dats m 0 c).arrAt 10 cfg0.N i = second (layers p (i 0).val (i 1).val) (ν (i 0).val (i 1).val) := by
  refine (dats m 0 c).arrAt_forall_of_covers 10 (fun i v => v = second (layers p (i 0).val (i 1).val) (ν (i 0).val (i 1).val))
    (by decide +kernel) (fun t hf y => ?_) i
  blk_simp [ix_10]
  rw [after0_10]
  obtain ⟨r, l, rfl⟩ : ∃ (r : Fin 128) (l : Fin 832), y = ix2 r l := ⟨y 0, y 1, ValueIdx.eq_ix2 y⟩
  obtain ⟨X, hX, hl⟩ := outs_at m c p h0 h1 h2 h3 t
  rw [hX]
  exact (second_value _ _ _).trans (congrArg₂ second (hl r l) (blk_v m c ν hV t r l))

/-! ## The equation -/

/-- An array's entries as a function of three numbers. -/
theorem entry3_eq (A : FVec Ideal S8x1024x832 .f32) (i : S8x1024x832.Idx) :
    A i = A (ix3 (Fin.ofNat 8 (i 0).val) (Fin.ofNat 1024 (i 1).val) (Fin.ofNat 832 (i 2).val)) :=
  congrArg A (funext fun a => Fin.ext (by
    match a with
    | ⟨0, _⟩ => exact (Nat.mod_eq_of_lt (i 0).isLt).symm
    | ⟨1, _⟩ => exact (Nat.mod_eq_of_lt (i 1).isLt).symm
    | ⟨2, _⟩ => exact (Nat.mod_eq_of_lt (i 2).isLt).symm))

/-- The four parts' entries as a function of the layer and three numbers. -/
def parts (A0 A1 A2 A3 : FVec Ideal S8x1024x832 .f32) (n : Fin 4) (k q l : ℕ) : EReal :=
  (![A0, A1, A2, A3] n) (ix3 (Fin.ofNat 8 k) (Fin.ofNat 1024 q) (Fin.ofNat 832 l))

set_option maxHeartbeats 1000000 in
theorem algebraic : Cert.algebraic_Kernel15Ideal_Reference15Ideal (hKernel15Ideal := Cert.Kernel15Ideal.Gen.facts)
    (hReference15Ideal := Cert.Reference15Ideal.Gen.facts) := by
  intro m g m' g' _ hargs
  refine ⟨fun c => (dats m 0 c).arrAt 7 cfg0.N, fun c => (dats m 0 c).arrAt 8 cfg0.N, fun c => (dats m 0 c).arrAt 9 cfg0.N,
    fun c => (dats m 0 c).arrAt 10 cfg0.N, Cert.Kernel15Ideal.Value.run_blocks m g, ?_⟩
  refine (θ_run Cert.Reference15Ideal.defs _ _).mono (fun r h c => ?_) (Cert.Reference15Ideal.Value.run (F := Ideal) m' g')
  obtain ⟨hg, hd, hm, hv, hrest⟩ := h c
  obtain ⟨e0, e1, e2, e3, e4, e5, e6⟩ := hargs c
  have h0 : ∀ i, arg0 m c i = parts (arg0 m c) (arg1 m c) (arg2 m c) (arg3 m c) 0 (i 0).val (i 1).val (i 2).val := entry3_eq _
  have h1 : ∀ i, arg1 m c i = parts (arg0 m c) (arg1 m c) (arg2 m c) (arg3 m c) 1 (i 0).val (i 1).val (i 2).val := entry3_eq _
  have h2 : ∀ i, arg2 m c i = parts (arg0 m c) (arg1 m c) (arg2 m c) (arg3 m c) 2 (i 0).val (i 1).val (i 2).val := entry3_eq _
  have h3 : ∀ i, arg3 m c i = parts (arg0 m c) (arg1 m c) (arg2 m c) (arg3 m c) 3 (i 0).val (i 1).val (i 2).val := entry3_eq _
  have hW := entry_eq (by decide : 0 < 4096) (by decide : 0 < 832) (argW m c)
  have hM := entry_eq (by decide : 0 < 4096) (by decide : 0 < 832) (argM m c)
  have hV := entry_eq (by decide : 0 < 4096) (by decide : 0 < 832) (argV m c)
  have hG : ∀ i : S4096x832.Idx, Cert.Reference15Ideal.Read.val_main_v4 (F := Ideal) (arg0 m c) (arg1 m c) (arg2 m c) (arg3 m c) i
      = layers (parts (arg0 m c) (arg1 m c) (arg2 m c) (arg3 m c)) (i 0).val (i 1).val := fun i => by
    rw [ValueIdx.eq_ix2 i]
    exact ref_grad _ _ _ _ _ h0 h1 h2 h3 (i 0) (i 1)
  refine ⟨hg.trans ?_, hd.trans ?_, hm.trans ?_, hv.trans ?_, hrest⟩
  · refine (Cert.Reference15Ideal.Read.val_main_v4_eq (F := Ideal) _ _ _ _).trans ?_
    rw [e0, e1, e2, e3]
    funext i
    exact (hG i).trans (grads m c _ h0 h1 h2 h3 i).symm
  · refine (Cert.Reference15Ideal.Read.val_main_v28_eq (F := Ideal) _ _ _ _ _ _ _).trans ?_
    rw [e0, e1, e2, e3, e4, e5, e6]
    funext i
    refine Eq.trans ?_ (deltas m c _ _ _ _ h0 h1 h2 h3 hW hM hV i).symm
    refine (ref_delta _ _ _ _ _ _ _ i).trans ?_
    exact congr (congr (congrArg₂ delta (hG i) (hM i)) (hV i)) (hW i)
  · refine (Cert.Reference15Ideal.Read.val_main_v9_eq (F := Ideal) _ _ _ _ _).trans ?_
    rw [e0, e1, e2, e3, e5]
    funext i
    refine Eq.trans ?_ (firsts m c _ _ h0 h1 h2 h3 hM i).symm
    exact (ref_first _ _ _ _ _ i).trans (congrArg₂ first (hG i) (hM i))
  · refine (Cert.Reference15Ideal.Read.val_main_v15_eq (F := Ideal) _ _ _ _ _).trans ?_
    rw [e0, e1, e2, e3, e6]
    funext i
    refine Eq.trans ?_ (seconds m c _ _ h0 h1 h2 h3 hV i).symm
    exact (ref_second _ _ _ _ _ i).trans (congrArg₂ second (hG i) (hV i))

end Cert.AdamW

end
-- ==== Proof.LossHead.lean ====
/-
  The loss head: the sum of the squared errors and its gradient. Each of sixteen points takes 512 rows: it writes their
  gradient and adds the squares of their errors, lane by lane and scaled, to a row the points carry; after the last point
  the host sums the row. The reference takes each row's mean square, sums the rows and halves; its gradient is the chain rule's.
  The two scalings differ only in where real factors that are not negative stand, so no entry need be finite.
-/
module

public import proofs.«01_k».proof.Proof.Rms
public import proofs.«01_k».proof.Proof.Sums
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pointwise
public import Idealize.ShloMosaic.Lib.Pipeline.ValueKit
public import Idealize.ShloMosaic.Lib.Tactic
public import proofs.«01_k».proof.Defs

@[expose] public section

set_option maxRecDepth 8192

noncomputable section

namespace Cert.Loss

open scoped BigOperators

/-! ## The factors -/

/-- The square of an error, times the loss's share of one lane. -/
def share (x y : EReal) : EReal := (x - y) * (x - y) * ((1 / 2048 : ℝ) : EReal)

section
open Idealize.ShloMosaic

theorem lane_f32 : Ideal.ofBits .f32 0x3A800000#32 = ((1 / 1024 : ℝ) : EReal) := by
  simp [Ideal.ofBits, Ideal.ieee, -EReal.coe_mul]; norm_num
theorem halfLane_f32 : Ideal.ofBits .f32 0x3A000000#32 = ((1 / 2048 : ℝ) : EReal) := by
  simp [Ideal.ofBits, Ideal.ieee, -EReal.coe_mul]; norm_num
theorem half_f32 : Ideal.ofBits .f32 0x3F000000#32 = ((1 / 2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num

/-- A real factor that is not negative may be drawn into a sum of any length. -/
theorem sum_scale {ι : Type} [Fintype ι] {σ : ℝ} (h : 0 ≤ σ) (a : ι → EReal) :
    (∑ k, a k) * (σ : EReal) = ∑ k, a k * (σ : EReal) := by
  let F : EReal →+ EReal :=
    ⟨⟨fun a => a * (σ : EReal), zero_mul _⟩,
      fun a b => EReal.right_distrib_of_nonneg_of_ne_top (by exact_mod_cast h) (EReal.coe_ne_top _) a b⟩
  exact map_sum F a Finset.univ

theorem div_1024 (a : EReal) : Ideal.div a ((1024 : ℝ) : EReal) = a * ((1 / 1024 : ℝ) : EReal) := by
  have h : ((1024 : ℝ) : EReal) ≠ 0 := by exact_mod_cast (by norm_num : (1024 : ℝ) ≠ 0)
  unfold Ideal.div
  rw [if_neg h, ← EReal.coe_inv]
  norm_num

/-- Half the sum of the rows' means is the sum of the shares. -/
theorem half_of_means (x y : ℕ → ℕ → EReal) :
    ((1 / 2 : ℝ) : EReal) * ∑ q : Fin 8192, Ideal.div
      (∑ l : Fin 1024, (x q.val l.val - y q.val l.val) * (x q.val l.val - y q.val l.val)) ((1024 : ℝ) : EReal)
    = ∑ l : Fin 1024, ∑ q : Fin 8192, share (x q.val l.val) (y q.val l.val) := by
  rw [Finset.sum_comm, mul_comm, sum_scale (by norm_num)]
  refine Finset.sum_congr rfl fun q _ => ?_
  rw [div_1024, mul_assoc, ← EReal.coe_mul, sum_scale (by norm_num)]
  refine Finset.sum_congr rfl fun l _ => ?_
  unfold share
  norm_num

/-- The chain rule's factors multiply to the kernel's one. -/
theorem gradient_factors (e : EReal) :
    Ideal.div ((1 / 2 : ℝ) : EReal) ((1024 : ℝ) : EReal) * (((2 : ℝ) : EReal) * e)
      = e * ((1 / 1024 : ℝ) : EReal) := by
  rw [div_1024, ← EReal.coe_mul, ← mul_assoc, ← EReal.coe_mul, mul_comm]
  norm_num

end

/-! ## A point's arithmetic -/

section
open Idealize.ShloMosaic Cert.Kernel16Ideal Cert.Kernel16Ideal.Gen Cert.Attn

variable (X Y : Vec Ideal S512x1024 .f32) (x y : ℕ → ℕ → EReal) (o : ℕ)
  (hX : ∀ (r : Fin 512) (l : Fin 1024), X (ix2 r l) = x (o + r.val) l.val)
  (hY : ∀ (r : Fin 512) (l : Fin 1024), Y (ix2 r l) = y (o + r.val) l.val)

include hX hY in
theorem grad_value (r : Fin 512) (l : Fin 1024) : k0_pay2 X Y (ix2 r l)
    = (x (o + r.val) l.val - y (o + r.val) l.val) * ((1 / 1024 : ℝ) : EReal) := by
  pointwise [k0_pay2, k0_pay1]
  simp only [hX, hY, lane_f32]

include hX hY in
theorem part_value (l : Fin 1024) : k0_pay3 X Y (ix2 0 l)
    = ∑ r : Fin 512, share (x (o + r.val) l.val) (y (o + r.val) l.val) := by
  pointwise [k0_pay3, k0_pay1]
  simp only [hX, hY, halfLane_f32]
  exact sum_scale (by norm_num) _

end

/-! ## The reference's arithmetic -/

section
open Idealize.ShloMosaic Cert.Reference16Ideal Cert.Reference16Ideal.Read Cert.Attn Cert.Ffn

variable (X Y : FVec Ideal S8192x1024 .f32) (x y : ℕ → ℕ → EReal)
  (hX : ∀ (r : Fin 8192) (l : Fin 1024), X (ix2 r l) = x r.val l.val)
  (hY : ∀ (r : Fin 8192) (l : Fin 1024), Y (ix2 r l) = y r.val l.val)

include hX hY in
theorem ref_grad (r : Fin 8192) (l : Fin 1024) : val_main_v14 (F := Ideal) X Y (ix2 r l)
    = (x r.val l.val - y r.val l.val) * ((1 / 1024 : ℝ) : EReal) := by
  pointwise [val_main_v14, val_main_v13, val_main_v12, val_main_v11, val_main_cst_6, val_main_v10, val_main_v9, val_main_cst_5,
    val_main_cst_4, val_main_v3, val_main_v2, val_main_cst, val_main_v0]
  simp only [hX, hY, half_f32, lanes_f32, two_f32]
  exact gradient_factors _

include hX hY in
theorem ref_loss (i : S_.Idx) : val_main_v8 (F := Ideal) X Y i
    = ∑ l : Fin 1024, ∑ q : Fin 8192, share (x q.val l.val) (y q.val l.val) := by
  pointwise [val_main_v8, val_main_cst_3, val_main_v7, val_main_cst_2, val_main_v6, val_main_v5, val_main_cst_1, val_main_v4,
    val_main_cst_0, val_main_v1, val_main_v0]
  simp only [hX, hY, half_f32, lanes_f32]
  exact half_of_means x y

end

/-! ## What a point leaves -/

open Idealize.ShloMosaic hiding ix2 ix1 ix0 ix3 ix4
open Idealize.ShloMosaic.TcCoe Idealize.ShloMosaic.Tactic Idealize.ShloMosaic.ValueIdx
open Idealize.SL Idealize.SL.Sem
open Cert.Kernel16Ideal Cert.Kernel16Ideal.Gen
open Cert.Attn Cert.Ffn

section
variable {F : FTy → Type} [FloatOps F]
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S1x1024 .f32) (h3 : a3.IsWhole)
  (a4 : Memref sig .tc .vmem S512x1024 .f32) (h4 : a4.IsWhole)
  (x y : Vec F S512x1024 .f32) (s : Vec F S1x1024 .f32)

/-- The first point's shares of the loss. -/
theorem part_first (hc0 : cond0_0 i) (hc1 : ¬cond0_1 i) :
    out0_A_2 c i a1 h1 a2 h2 a3 h3 a4 h4 hc0 hc1 x y = k0_pay3 x y := by
  unfold out0_A_2
  rw [View.read_writes_eq_canon _ _ _ (cover0_A_2 c i a1 h1 a2 h2 a3 h3 a4 h4 hc0 hc1 x y)]
  unfold kernelRun0_A
  dsimp only
  sl_unfold_words
  rw [View.canon_unit_zero zeros2]
  simp only [View.readAt_eq_ld, h1.read_unread, h2.read_unread, View.ld_unit_zero (S := S512x1024) zeros2]

/-- The first point's gradient of its rows. -/
theorem grad_first (hc0 : cond0_0 i) (hc1 : ¬cond0_1 i) :
    out0_A_3 c i a1 h1 a2 h2 a3 h3 a4 h4 hc0 hc1 x y = k0_pay2 x y := by
  unfold out0_A_3
  rw [View.read_writes_eq_canon _ _ _ (cover0_A_3 c i a1 h1 a2 h2 a3 h3 a4 h4 hc0 hc1 x y)]
  unfold kernelRun0_A
  dsimp only
  sl_unfold_words
  rw [View.canon_unit_zero zeros2]
  simp only [View.readAt_eq_ld, h1.read_unread, h2.read_unread, View.ld_unit_zero (S := S512x1024) zeros2]

/-- A later point adds its shares of the loss to what was there. -/
theorem part_later (hc0 : ¬cond0_0 i) (hc1 : cond0_1 i) :
    out0_B_2 c i a1 h1 a2 h2 a3 h3 a4 h4 hc0 hc1 x y s = k0_pay4 x y s := by
  unfold out0_B_2
  rw [View.read_writes_eq_canon _ _ _ (cover0_B_2 c i a1 h1 a2 h2 a3 h3 a4 h4 hc0 hc1 x y s)]
  unfold kernelRun0_B
  dsimp only
  sl_unfold_words
  rw [View.canon_unit_zero zeros2]
  simp only [View.readAt_eq_ld, h1.read_unread, h2.read_unread, h3.read_unread, View.ld_unit_zero (S := S512x1024) zeros2,
    View.ld_unit_zero (S := S1x1024) zeros2]

/-- A later point's gradient of its rows. -/
theorem grad_later (hc0 : ¬cond0_0 i) (hc1 : cond0_1 i) :
    out0_B_3 c i a1 h1 a2 h2 a3 h3 a4 h4 hc0 hc1 x y s = k0_pay2 x y := by
  unfold out0_B_3
  rw [View.read_writes_eq_canon _ _ _ (cover0_B_3 c i a1 h1 a2 h2 a3 h3 a4 h4 hc0 hc1 x y s)]
  unfold kernelRun0_B
  dsimp only
  sl_unfold_words
  rw [View.canon_unit_zero zeros2]
  simp only [View.readAt_eq_ld, h1.read_unread, h2.read_unread, View.ld_unit_zero (S := S512x1024) zeros2]
end

/-! ## Where the blocks lie: point `t` is row block `t` -/

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)

variable (m : (ℓ : Loc nD τ sig) → Buf (Elt Ideal) ℓ) (ρ : Dev nD → PrngReg) (c : Dev nD)

/-- The rows the network gives. -/
abbrev argX : FVec Ideal S8192x1024 .f32 := m ((c : Thread nD τ).loc main_arg0)
/-- The rows it should give. -/
abbrev argY : FVec Ideal S8192x1024 .f32 := m ((c : Thread nD τ).loc main_arg1)

variable (x y : ℕ → ℕ → EReal) (hX : ∀ i, argX m c i = x (i 0).val (i 1).val) (hY : ∀ i, argY m c i = y (i 0).val (i 1).val)

include hX in
theorem blk_x (t : Fin cfg0.N) (r : Fin 512) (l : Fin 1024) : iblk m c 0 t (ix2 r l) = x (512 * t.val + r.val) l.val := by
  blk_simp [iblk]
  rw [V_main_arg0]
  refine (hX _).trans ?_
  blk_simp [ix_0]
  rw [Nat.mul_comm]

include hY in
theorem blk_y (t : Fin cfg0.N) (r : Fin 512) (l : Fin 1024) : iblk m c 1 t (ix2 r l) = y (512 * t.val + r.val) l.val := by
  blk_simp [iblk]
  rw [V_main_arg1]
  refine (hY _).trans ?_
  blk_simp [ix_1]
  rw [Nat.mul_comm]

include hX hY in
/-- The gradient a point writes. -/
theorem grad_at (t : Fin cfg0.N) (r : Fin 512) (l : Fin 1024) : (outsAt0 m c t.val t.isLt).2 (ix2 r l)
    = (x (512 * t.val + r.val) l.val - y (512 * t.val + r.val) l.val) * ((1 / 1024 : ℝ) : EReal) := by
  have hN : cfg0.N = 16 := N_0
  have ht := t.isLt
  have e := grad_value (iblk m c 0 t) (iblk m c 1 t) _ _ _ (blk_x m c x hX t) (blk_y m c y hY t) r l
  by_cases h0 : t.val % 16 = 0
  · rw [outsAt0_A m c t h0 (by omega)]
    dsimp only
    rw [grad_first]
    exact e
  · rw [outsAt0_B m c t h0 (by omega)]
    dsimp only
    rw [grad_later]
    exact e

include hX hY in
/-- The row of shares after row block `n`. -/
theorem part_at (l : Fin 1024) : ∀ (n : ℕ) (hn : n < cfg0.N), (outsAt0 m c n hn).1 (ix2 0 l)
    = ∑ u ∈ Finset.range (n + 1), ∑ r : Fin 512, share (x (512 * u + r.val) l.val) (y (512 * u + r.val) l.val)
  | 0, hn => by
    rw [outsAt0_A m c ⟨0, hn⟩ (by dsimp only) (by dsimp only; omega)]
    dsimp only
    rw [part_first]
    refine (part_value _ _ _ _ _ (blk_x m c x hX ⟨0, hn⟩) (blk_y m c y hY ⟨0, hn⟩) l).trans ?_
    simp
  | n + 1, hn => by
    have hN : cfg0.N = 16 := N_0
    rw [outsAt0_B m c ⟨n + 1, hn⟩ (by dsimp only; omega) (by dsimp only; omega)]
    dsimp only
    rw [part_later]
    unfold k0_pay4
    rw [shapeCast_self, ValueIdx.addf_apply, Finset.sum_range_succ _ (n + 1)]
    exact congrArg₂ (· + ·) (part_at l n _)
      (part_value _ _ _ _ _ (blk_x m c x hX ⟨n + 1, hn⟩) (blk_y m c y hY ⟨n + 1, hn⟩) l)

include hX hY in
/-- The array of gradients. -/
theorem grads (i : S8192x1024.Idx) : (dats m 0 c).arrAt 3 cfg0.N i
    = (x (i 0).val (i 1).val - y (i 0).val (i 1).val) * ((1 / 1024 : ℝ) : EReal) := by
  refine (dats m 0 c).arrAt_forall_of_covers 3
    (fun i v => v = (x (i 0).val (i 1).val - y (i 0).val (i 1).val) * ((1 / 1024 : ℝ) : EReal))
    (by decide +kernel) (fun t hf w => ?_) i
  blk_simp [ix_3]
  rw [after0_3]
  obtain ⟨r, l, rfl⟩ : ∃ (r : Fin 512) (l : Fin 1024), w = ix2 r l := ⟨w 0, w 1, ValueIdx.eq_ix2 w⟩
  refine (grad_at m c x y hX hY t r l).trans ?_
  rw [Nat.mul_comm 512]
  rfl

include hX hY in
/-- The row of shares of the loss. -/
theorem parts (i : S1x1024.Idx) : (dats m 0 c).arrAt 2 cfg0.N i
    = ∑ q : Fin 8192, share (x q.val (i 1).val) (y q.val (i 1).val) := by
  refine (dats m 0 c).arrAt_forall_of_covers 2
    (fun i v => v = ∑ q : Fin 8192, share (x q.val (i 1).val) (y q.val (i 1).val))
    (by decide +kernel) (fun t hf w => ?_) i
  have ht : t.val = 15 := (by decide +kernel : ∀ t : Fin cfg0.N, (cfg0.win 2).flush t = true → t.val = 15) t hf
  blk_simp [ix_2]
  rw [after0_2]
  obtain ⟨l, rfl⟩ : ∃ l : Fin 1024, w = ix2 (0 : Fin 1) l := ⟨w 1, one_row w⟩
  refine (part_at m c x y hX hY l t.val t.isLt).trans ?_
  rw [ht]
  refine (sum_by_blocks 512 (fun q => share (x q l.val) (y q l.val)) 16).trans ?_
  refine (Finset.sum_range fun q => share (x q l.val) (y q l.val)).trans ?_
  rfl

/-! ## The run -/

/-- The host's sum of the row. -/
def total (P : FVec Ideal S1x1024 .f32) : FVec Ideal S_ .f32 :=
  Host.reduceAdd P (constant S_ .f32 0x00000000#32) reducesTo_S1x1024_S_d0_1 h_S_

theorem total_apply (P : FVec Ideal S1x1024 .f32) (i : S_.Idx) : total P i = ∑ l : Fin 1024, P (ix2 0 l) := by
  unfold total
  simp only [Host.reduceAdd, Ideal.hostReduceAdd_def]
  refine (Ideal.hostReduceAdd_total reducesTo_S1x1024_S_d0_1 (fun b => b.elim0) P _ i).trans ?_
  refine (congrArg₂ (· + ·) (zero_f32.trans EReal.coe_zero) (ValueIdx.sum_idx2 P)).trans ?_
  rw [zero_add, Fin.sum_univ_one]

/-- What the lines after the kernel leave in the loss. -/
theorem host_loss (V : Valuation τ sig (Elt Ideal)) :
    (StableHlo.after hostOps1 V (Proc.devRef .tc main_v1) : FVec Ideal S_ .f32) = total (V (Proc.devRef .tc main_v0_0)) := by
  unfold total
  after_results

theorem after_loss : (Pipeline.afterTail₀ cfgs (dats m) 0 (V0 m) [hostOps1] c main_v1 : FVec Ideal S_ .f32)
    = total ((dats m 0 c).arrAt 2 cfg0.N) :=
  (host_loss _).trans (congrArg total
    (Pipeline.withArrays_arr spec0 launch0.win.arr_inj c (V0 m c) (fun w => (dats m 0 c).arrAt w cfg0.N) 2))

theorem kernel_run : θ_run defs (onTc (τ := τ) (main (F := Ideal))) ⟨m, fun _ => 0, ρ⟩ (fun r => ∀ c : Dev nD,
      r.2.mem ((c : Thread nD τ).loc main_v1) = total ((dats m 0 c).arrAt 2 cfg0.N)
      ∧ r.2.mem ((c : Thread nD τ).loc main_v0_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨((h c).2 main_v1 (Pipeline.mem_restRefs_of main_v1 (by decide) (by decide))).trans (after_loss m c), (h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

/-! ## The equation -/

theorem algebraic : Cert.algebraic_Kernel16Ideal_Reference16Ideal (hKernel16Ideal := Cert.Kernel16Ideal.Gen.facts)
    (hReference16Ideal := Cert.Reference16Ideal.Gen.facts) := by
  intro m g m' g' _ hargs
  refine ⟨fun c => total ((dats m 0 c).arrAt 2 cfg0.N), fun c => (dats m 0 c).arrAt 3 cfg0.N, kernel_run m g, ?_⟩
  refine (θ_run Cert.Reference16Ideal.defs _ _).mono (fun r h c => ?_) (Cert.Reference16Ideal.Value.run (F := Ideal) m' g')
  obtain ⟨hv, hw, h0, h1⟩ := h c
  obtain ⟨e0, e1⟩ := hargs c
  have hX := entry_eq (by decide : 0 < 8192) (by decide : 0 < 1024) (argX m c)
  have hY := entry_eq (by decide : 0 < 8192) (by decide : 0 < 1024) (argY m c)
  refine ⟨hv.trans ?_, hw.trans ?_, h0, h1⟩
  · refine (Cert.Reference16Ideal.Read.val_main_v8_eq (F := Ideal) _ _).trans ?_
    rw [e0, e1]
    funext i
    refine (ref_loss _ _ _ _ (fun r l => hX (ix2 r l)) (fun r l => hY (ix2 r l)) i).trans ?_
    refine Eq.trans ?_ (total_apply _ i).symm
    exact Finset.sum_congr rfl fun l _ => (parts m c _ _ hX hY (ix2 0 l)).symm
  · refine (Cert.Reference16Ideal.Read.val_main_v14_eq (F := Ideal) _ _).trans ?_
    rw [e0, e1]
    funext i
    refine Eq.trans ?_ (grads m c _ _ hX hY i).symm
    rw [ValueIdx.eq_ix2 i]
    exact ref_grad _ _ _ _ (fun r l => hX (ix2 r l)) (fun r l => hY (ix2 r l)) (i 0) (i 1)

end Cert.Loss

end
-- ==== Proof.WindowMerge.lean ====
/-
  The merging of mixer B's three windows. Each of sixteen points takes 512 rows: on each lane it weighs the three windows' outputs
  by the softmax of their three logarithmic denominators and adds them up. The result is the reference's. No entry need be finite:
  the two formulas are the same, each with the largest denominator taken off before the exponentials.
-/
module

public import proofs.«01_k».proof.Proof.Base
public import proofs.«01_k».proof.Proof.Sums
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit
public import Idealize.ShloMosaic.Lib.Tactic
public import proofs.«01_k».proof.Defs

@[expose] public section

set_option maxRecDepth 8192

noncomputable section

namespace Cert.Windows

open scoped BigOperators

/-! ## The formula on one lane -/

section
open Idealize.ShloMosaic

/-- The exponential of a denominator, the largest of the three taken off. -/
def expo (a b c x : Ideal .f32) : Ideal .f32 := FloatOps.exp (FloatOps.subf x (FloatOps.maximumf (FloatOps.maximumf a b) c))

/-- A window's weight. -/
def weight (a b c x : Ideal .f32) : Ideal .f32 :=
  FloatOps.divf (expo a b c x) (FloatOps.addf (FloatOps.addf (expo a b c a) (expo a b c b)) (expo a b c c))

/-- The merged output. -/
def merged (a b c p q r : Ideal .f32) : Ideal .f32 :=
  FloatOps.addf (FloatOps.addf (FloatOps.mulf (weight a b c a) p) (FloatOps.mulf (weight a b c b) q)) (FloatOps.mulf (weight a b c c) r)
end

/-! ## A point's arithmetic -/

section
open Idealize.ShloMosaic Cert.Kernel17Ideal Cert.Kernel17Ideal.Gen

theorem block_value (A B C : Vec Ideal S512x256 .f32) (P Q R : Vec Ideal S512x256 .bf16) (y : S512x256.Idx) :
    k0_pay1 A B C P Q R y = merged (A y) (B y) (C y) (P y) (Q y) (R y) := by
  unfold k0_pay1
  simp only [shapeCast_self]
  rfl
end

/-! ## The reference's arithmetic -/

section
open Idealize.ShloMosaic Cert.Reference17Ideal Cert.Reference17Ideal.Read

variable (P Q R A B C : FVec Ideal S8192x256 .f32)

/-- The stack of the denominators. -/
theorem stack_at (k : Fin 3) (r : Fin 8192) (l : Fin 256) : val_main_v3 (F := Ideal) A B C (ix3 k r l)
    = ![A (ix2 r l), B (ix2 r l), C (ix2 r l)] k := by
  pointwise [val_main_v3, val_main_v2, val_main_v1, val_main_v0]
  fin_cases k <;> rfl

/-- The stack of the outputs. -/
theorem outputs_at (k : Fin 3) (r : Fin 8192) (l : Fin 256) : val_main_v18 (F := Ideal) P Q R (ix3 k r l)
    = ![P (ix2 r l), Q (ix2 r l), R (ix2 r l)] k := by
  pointwise [val_main_v18, val_main_v17, val_main_v16, val_main_v15]
  fin_cases k <;> rfl

/-- The largest of three, from below all of them. -/
theorem fold_three (f : Fin 3 → EReal) : Finset.fold max ⊥ f Finset.univ = max (max (f 0) (f 1)) (f 2) := by
  rw [show (Finset.univ : Finset (Fin 3)) = {0, 1, 2} from rfl, Finset.fold_insert (by decide), Finset.fold_insert (by decide),
    Finset.fold_singleton, max_bot_right, max_assoc]

theorem largest_at (r : Fin 8192) (l : Fin 256) : val_main_v4 (F := Ideal) A B C (ix2 r l)
    = max (max (A (ix2 r l)) (B (ix2 r l))) (C (ix2 r l)) := by
  have e := stack_at A B C
  revert e
  unfold val_main_v4
  generalize val_main_v3 (F := Ideal) A B C = T
  intro e
  pointwise [val_main_cst]
  simp only [e, Cert.Attn.neginf_f32]
  exact fold_three _

theorem shift_at (r : Fin 8192) (l : Fin 256) : val_main_v6 (F := Ideal) A B C (ix2 r l)
    = max (max (A (ix2 r l)) (B (ix2 r l))) (C (ix2 r l)) := by
  rw [val_main_v6_apply, largest_at]
  pointwise [val_main_v5, val_main_cst_0]
  rw [Cert.Attn.neginf_f32]
  exact max_bot_left _

theorem spread_at (k : Fin 3) (r : Fin 8192) (l : Fin 256) : val_main_v8 (F := Ideal) A B C (ix3 k r l)
    = max (max (A (ix2 r l)) (B (ix2 r l))) (C (ix2 r l)) := by
  refine Eq.trans ?_ (shift_at A B C r l)
  unfold val_main_v8 val_main_v7
  generalize val_main_v6 (F := Ideal) A B C = T
  pointwise []

theorem expo_at (k : Fin 3) (r : Fin 8192) (l : Fin 256) : val_main_v10 (F := Ideal) A B C (ix3 k r l)
    = expo (A (ix2 r l)) (B (ix2 r l)) (C (ix2 r l)) (![A (ix2 r l), B (ix2 r l), C (ix2 r l)] k) := by
  rw [val_main_v10_apply, val_main_v9_apply, spread_at, stack_at]
  rfl

theorem total_at (k : Fin 3) (r : Fin 8192) (l : Fin 256) : val_main_v13 (F := Ideal) A B C (ix3 k r l)
    = ∑ x : Fin 3, val_main_v10 (F := Ideal) A B C (ix3 x r l) := by
  unfold val_main_v13 val_main_v12 val_main_v11
  generalize val_main_v10 (F := Ideal) A B C = T
  pointwise [val_main_cst_1]

theorem weight_at (k : Fin 3) (r : Fin 8192) (l : Fin 256) : val_main_v14 (F := Ideal) A B C (ix3 k r l)
    = weight (A (ix2 r l)) (B (ix2 r l)) (C (ix2 r l)) (![A (ix2 r l), B (ix2 r l), C (ix2 r l)] k) := by
  rw [val_main_v14_apply, total_at, Fin.sum_univ_three, expo_at, expo_at, expo_at, expo_at]
  rfl

theorem ref_value (r : Fin 8192) (l : Fin 256) : val_main_v20 (F := Ideal) P Q R A B C (ix2 r l)
    = merged (A (ix2 r l)) (B (ix2 r l)) (C (ix2 r l)) (P (ix2 r l)) (Q (ix2 r l)) (R (ix2 r l)) := by
  have ew := weight_at A B C
  have eo := outputs_at P Q R
  revert ew eo
  unfold val_main_v20 val_main_v19
  generalize val_main_v14 (F := Ideal) A B C = T
  generalize val_main_v18 (F := Ideal) P Q R = U
  intro ew eo
  pointwise []
  rw [Fin.sum_univ_three, ew, ew, ew, eo, eo, eo]
  rfl
end

/-! ## Where the blocks lie: point `t` is row block `t` -/

open Idealize.ShloMosaic hiding ix2 ix1 ix0 ix3 ix4
open Idealize.ShloMosaic.TcCoe Idealize.ShloMosaic.Tactic Idealize.ShloMosaic.ValueIdx
open Idealize.SL Idealize.SL.Sem
open Cert.Kernel17Ideal Cert.Kernel17Ideal.Gen
open Cert.Attn Cert.Ffn

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)

variable (m : (ℓ : Loc nD τ sig) → Buf (Elt Ideal) ℓ) (ρ : Dev nD → PrngReg) (c : Dev nD)

/-- The first window's output. -/
abbrev argP : FVec Ideal S8192x256 .f32 := m ((c : Thread nD τ).loc main_arg0)
/-- The second window's output. -/
abbrev argQ : FVec Ideal S8192x256 .f32 := m ((c : Thread nD τ).loc main_arg1)
/-- The third window's output. -/
abbrev argR : FVec Ideal S8192x256 .f32 := m ((c : Thread nD τ).loc main_arg2)
/-- The first window's logarithmic denominator. -/
abbrev argA : FVec Ideal S8192x256 .f32 := m ((c : Thread nD τ).loc main_arg3)
/-- The second window's. -/
abbrev argB : FVec Ideal S8192x256 .f32 := m ((c : Thread nD τ).loc main_arg4)
/-- The third window's. -/
abbrev argC : FVec Ideal S8192x256 .f32 := m ((c : Thread nD τ).loc main_arg5)

theorem host_0 : (V m c main_v0 : FVec Ideal S8192x256 .bf16) = truncf .bf16 (argP m c) bitsLt_bf16_f32 := by
  unfold_abbrev_sides
  after_results

theorem host_1 : (V m c main_v1 : FVec Ideal S8192x256 .bf16) = truncf .bf16 (argQ m c) bitsLt_bf16_f32 := by
  unfold_abbrev_sides
  after_results

theorem host_2 : (V m c main_v2 : FVec Ideal S8192x256 .bf16) = truncf .bf16 (argR m c) bitsLt_bf16_f32 := by
  unfold_abbrev_sides
  after_results

variable (a b d p q s : ℕ → ℕ → EReal)
  (hP : ∀ i, argP m c i = p (i 0).val (i 1).val) (hQ : ∀ i, argQ m c i = q (i 0).val (i 1).val)
  (hR : ∀ i, argR m c i = s (i 0).val (i 1).val) (hA : ∀ i, argA m c i = a (i 0).val (i 1).val)
  (hB : ∀ i, argB m c i = b (i 0).val (i 1).val) (hC : ∀ i, argC m c i = d (i 0).val (i 1).val)

include hP in
theorem blk_0 (t : Fin cfg0.N) (r : Fin 512) (l : Fin 256) : iblk m c 0 t (ix2 r l) = p (t.val * 512 + r.val) l.val := by
  blk_simp [iblk]
  rw [host_0]
  refine (hP _).trans ?_
  blk_simp [ix_0]

include hQ in
theorem blk_1 (t : Fin cfg0.N) (r : Fin 512) (l : Fin 256) : iblk m c 1 t (ix2 r l) = q (t.val * 512 + r.val) l.val := by
  blk_simp [iblk]
  rw [host_1]
  refine (hQ _).trans ?_
  blk_simp [ix_1]

include hR in
theorem blk_2 (t : Fin cfg0.N) (r : Fin 512) (l : Fin 256) : iblk m c 2 t (ix2 r l) = s (t.val * 512 + r.val) l.val := by
  blk_simp [iblk]
  rw [host_2]
  refine (hR _).trans ?_
  blk_simp [ix_2]

include hA in
theorem blk_3 (t : Fin cfg0.N) (r : Fin 512) (l : Fin 256) : iblk m c 3 t (ix2 r l) = a (t.val * 512 + r.val) l.val := by
  blk_simp [iblk]
  rw [V_main_arg3]
  refine (hA _).trans ?_
  blk_simp [ix_3]

include hB in
theorem blk_4 (t : Fin cfg0.N) (r : Fin 512) (l : Fin 256) : iblk m c 4 t (ix2 r l) = b (t.val * 512 + r.val) l.val := by
  blk_simp [iblk]
  rw [V_main_arg4]
  refine (hB _).trans ?_
  blk_simp [ix_4]

include hC in
theorem blk_5 (t : Fin cfg0.N) (r : Fin 512) (l : Fin 256) : iblk m c 5 t (ix2 r l) = d (t.val * 512 + r.val) l.val := by
  blk_simp [iblk]
  rw [V_main_arg5]
  refine (hC _).trans ?_
  blk_simp [ix_5]

include hP hQ hR hA hB hC in
/-- The array of merged rows. -/
theorem rows (i : S8192x256.Idx) : (dats m 0 c).arrAt 6 cfg0.N i = merged (a (i 0).val (i 1).val) (b (i 0).val (i 1).val)
    (d (i 0).val (i 1).val) (p (i 0).val (i 1).val) (q (i 0).val (i 1).val) (s (i 0).val (i 1).val) := by
  refine (dats m 0 c).arrAt_forall_of_covers 6 (fun i v => v = merged (a (i 0).val (i 1).val) (b (i 0).val (i 1).val)
    (d (i 0).val (i 1).val) (p (i 0).val (i 1).val) (q (i 0).val (i 1).val) (s (i 0).val (i 1).val))
    (by decide +kernel) (fun t hf y => ?_) i
  blk_simp [ix_6]
  rw [after0_6]
  obtain ⟨r, l, rfl⟩ : ∃ (r : Fin 512) (l : Fin 256), y = ix2 r l := ⟨y 0, y 1, ValueIdx.eq_ix2 y⟩
  unfold out0_6
  rw [View.canon_unit_zero zeros2]
  simp only [View.ld_unit_zero (S := S512x256) zeros2]
  refine (block_value _ _ _ _ _ _ _).trans ?_
  exact congr (congr (congr (congr (congrArg₂ merged (blk_3 m c a hA t r l) (blk_4 m c b hB t r l)) (blk_5 m c d hC t r l))
    (blk_0 m c p hP t r l)) (blk_1 m c q hQ t r l)) (blk_2 m c s hR t r l)

/-! ## The equation -/

theorem algebraic : Cert.algebraic_Kernel17Ideal_Reference17Ideal (hKernel17Ideal := Cert.Kernel17Ideal.Gen.facts)
    (hReference17Ideal := Cert.Reference17Ideal.Gen.facts) := by
  intro m g m' g' _ hargs
  refine ⟨fun c => (dats m 0 c).arrAt 6 cfg0.N, Cert.Kernel17Ideal.Value.run_blocks m g, ?_⟩
  refine (θ_run Cert.Reference17Ideal.defs _ _).mono (fun r h c => ?_) (Cert.Reference17Ideal.Value.run (F := Ideal) m' g')
  obtain ⟨hv, hrest⟩ := h c
  obtain ⟨e0, e1, e2, e3, e4, e5⟩ := hargs c
  have hP := entry_eq (by decide : 0 < 8192) (by decide : 0 < 256) (argP m c)
  have hQ := entry_eq (by decide : 0 < 8192) (by decide : 0 < 256) (argQ m c)
  have hR := entry_eq (by decide : 0 < 8192) (by decide : 0 < 256) (argR m c)
  have hA := entry_eq (by decide : 0 < 8192) (by decide : 0 < 256) (argA m c)
  have hB := entry_eq (by decide : 0 < 8192) (by decide : 0 < 256) (argB m c)
  have hC := entry_eq (by decide : 0 < 8192) (by decide : 0 < 256) (argC m c)
  refine ⟨hv.trans ?_, hrest⟩
  refine (Cert.Reference17Ideal.Read.val_main_v20_eq (F := Ideal) m' c).trans ?_
  rw [e0, e1, e2, e3, e4, e5]
  funext i
  refine Eq.trans ?_ (rows m c _ _ _ _ _ _ hP hQ hR hA hB hC i).symm
  rw [ValueIdx.eq_ix2 i]
  refine (ref_value _ _ _ _ _ _ (i 0) (i 1)).trans ?_
  exact congr (congr (congr (congr (congrArg₂ merged (hA (ix2 (i 0) (i 1))) (hB (ix2 (i 0) (i 1)))) (hC (ix2 (i 0) (i 1))))
    (hP (ix2 (i 0) (i 1)))) (hQ (ix2 (i 0) (i 1)))) (hR (ix2 (i 0) (i 1)))

end Cert.Windows

end
-- ==== Proof.AdamPacked.lean ====
/-
  AdamW of the weights that every device holds whole, packed into one array of 279 rows. The grid is one point: it sums the eight
  devices' parts of the gradient and steps the weights. Sum, step and both moments are the reference's, by the formulas of AdamW.lean,
  and no entry need be finite.
-/
module

public import proofs.«01_k».proof.Proof.AdamW
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Pipeline.ValueKit
public import Idealize.ShloMosaic.Lib.Tactic
public import proofs.«01_k».proof.Defs

@[expose] public section

set_option maxRecDepth 8192

noncomputable section

namespace Cert.AdamW.Packed

open scoped BigOperators

/-! ## The point's arithmetic -/

section
open Idealize.ShloMosaic Cert.Kernel18Ideal Cert.Kernel18Ideal.Gen

/-- One device's part. -/
theorem ld_part {F : FTy → Type} (X : Vec F S8x279x1024 .f32) (k : Fin 8)
    (inb : ∀ a, ![k.val, 0, 0] a + S1x279x1024.size a ≤ S8x279x1024.size a) (r : Fin 279) (l : Fin 1024) :
    View.ld X (Rect.unit (s := S8x279x1024) ![k.val, 0, 0] S1x279x1024.size inb) (ix3 (0 : Fin 1) r l) = X (ix3 k r l) :=
  View.ld_unit_apply_of X _ _ inb _ _ fun d => by fin_cases d <;> simp

/-- The gradient. -/
def total {F : FTy → Type} [FloatOps F] (X : Vec F S8x279x1024 .f32) : FVec F S279x1024 .f32 :=
  k0_pay3 (View.ld X (Rect.unit (s := S8x279x1024) ![0, 0, 0] S1x279x1024.size inb_S8x279x1024_S1x279x1024_0_0_0))
    (View.ld X (Rect.unit (s := S8x279x1024) ![1, 0, 0] S1x279x1024.size inb_S8x279x1024_S1x279x1024_1_0_0))
    (View.ld X (Rect.unit (s := S8x279x1024) ![2, 0, 0] S1x279x1024.size inb_S8x279x1024_S1x279x1024_2_0_0))
    (View.ld X (Rect.unit (s := S8x279x1024) ![3, 0, 0] S1x279x1024.size inb_S8x279x1024_S1x279x1024_3_0_0))
    (View.ld X (Rect.unit (s := S8x279x1024) ![4, 0, 0] S1x279x1024.size inb_S8x279x1024_S1x279x1024_4_0_0))
    (View.ld X (Rect.unit (s := S8x279x1024) ![5, 0, 0] S1x279x1024.size inb_S8x279x1024_S1x279x1024_5_0_0))
    (View.ld X (Rect.unit (s := S8x279x1024) ![6, 0, 0] S1x279x1024.size inb_S8x279x1024_S1x279x1024_6_0_0))
    (View.ld X (Rect.unit (s := S8x279x1024) ![7, 0, 0] S1x279x1024.size inb_S8x279x1024_S1x279x1024_7_0_0))

/-- The first moment, from the devices' parts and the moment before. -/
def moment {F : FTy → Type} [FloatOps F] (X : Vec F S8x279x1024 .f32) (M : Vec F S279x1024 .f32) : FVec F S279x1024 .f32 :=
  k0_pay4 (View.ld X (Rect.unit (s := S8x279x1024) ![0, 0, 0] S1x279x1024.size inb_S8x279x1024_S1x279x1024_0_0_0))
    (View.ld X (Rect.unit (s := S8x279x1024) ![1, 0, 0] S1x279x1024.size inb_S8x279x1024_S1x279x1024_1_0_0))
    (View.ld X (Rect.unit (s := S8x279x1024) ![2, 0, 0] S1x279x1024.size inb_S8x279x1024_S1x279x1024_2_0_0))
    (View.ld X (Rect.unit (s := S8x279x1024) ![3, 0, 0] S1x279x1024.size inb_S8x279x1024_S1x279x1024_3_0_0))
    (View.ld X (Rect.unit (s := S8x279x1024) ![4, 0, 0] S1x279x1024.size inb_S8x279x1024_S1x279x1024_4_0_0))
    (View.ld X (Rect.unit (s := S8x279x1024) ![5, 0, 0] S1x279x1024.size inb_S8x279x1024_S1x279x1024_5_0_0))
    (View.ld X (Rect.unit (s := S8x279x1024) ![6, 0, 0] S1x279x1024.size inb_S8x279x1024_S1x279x1024_6_0_0))
    (View.ld X (Rect.unit (s := S8x279x1024) ![7, 0, 0] S1x279x1024.size inb_S8x279x1024_S1x279x1024_7_0_0)) M

theorem total_value (X : Vec Ideal S8x279x1024 .f32) (r : Fin 279) (l : Fin 1024) :
    total X (ix2 r l) = ∑ k : Fin 8, X (ix3 k r l) := by
  unfold total
  pointwise [k0_pay3]
  rw [Fin.sum_univ_eight, ← ld_part X 0 inb_S8x279x1024_S1x279x1024_0_0_0, ← ld_part X 1 inb_S8x279x1024_S1x279x1024_1_0_0, ← ld_part X 2 inb_S8x279x1024_S1x279x1024_2_0_0, ← ld_part X 3 inb_S8x279x1024_S1x279x1024_3_0_0, ← ld_part X 4 inb_S8x279x1024_S1x279x1024_4_0_0, ← ld_part X 5 inb_S8x279x1024_S1x279x1024_5_0_0, ← ld_part X 6 inb_S8x279x1024_S1x279x1024_6_0_0, ← ld_part X 7 inb_S8x279x1024_S1x279x1024_7_0_0]

theorem moment_value (X : Vec Ideal S8x279x1024 .f32) (M : Vec Ideal S279x1024 .f32) (y : S279x1024.Idx) :
    moment X M y = first (total X y) (M y) := rfl

theorem second_value (G V : FVec Ideal S279x1024 .f32) (y : S279x1024.Idx) : k0_pay1 G V y = second (G y) (V y) := rfl

theorem delta_value (X : Vec Ideal S8x279x1024 .f32) (M V W : FVec Ideal S279x1024 .f32) (y : S279x1024.Idx) :
    k0_pay2 (total X) (moment X M) V W y = delta (total X y) (M y) (V y) (W y) := rfl
end

/-! ## The reference's arithmetic -/

section
open Idealize.ShloMosaic Cert.Reference18Ideal Cert.Reference18Ideal.Read

variable (X : FVec Ideal S8x279x1024 .f32) (W M V : FVec Ideal S279x1024 .f32)

theorem ref_first (i : S279x1024.Idx) : val_main_v5 (F := Ideal) X M i = first (val_main_v0 (F := Ideal) X i) (M i) := by
  simp only [val_main_v5_apply, val_main_v4_apply, val_main_v3_apply, val_main_v2_apply, val_main_v1_apply]
  rfl

theorem ref_second (i : S279x1024.Idx) : val_main_v11 (F := Ideal) X V i = second (val_main_v0 (F := Ideal) X i) (V i) := by
  simp only [val_main_v11_apply, val_main_v10_apply, val_main_v9_apply, val_main_v8_apply, val_main_v7_apply, val_main_v6_apply]
  rfl

theorem ref_delta (i : S279x1024.Idx) : val_main_v24 (F := Ideal) X W M V i
    = delta (val_main_v0 (F := Ideal) X i) (M i) (V i) (W i) := by
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, ref_first, ref_second]
  rfl

theorem ref_grad (r : Fin 279) (l : Fin 1024) : val_main_v0 (F := Ideal) X (ix2 r l) = ∑ k : Fin 8, X (ix3 k r l) := by
  pointwise [val_main_v0, val_main_cst]
end

/-! ## What the point leaves -/

open Idealize.ShloMosaic hiding ix2 ix1 ix0 ix3 ix4
open Idealize.ShloMosaic.TcCoe Idealize.ShloMosaic.Tactic Idealize.ShloMosaic.ValueIdx
open Idealize.SL Idealize.SL.Sem
open Cert.Kernel18Ideal Cert.Kernel18Ideal.Gen
open Cert.Attn Cert.Ffn

theorem outs_eq {F : FTy → Type} [FloatOps F] (m : (ℓ : Loc nD τ sig) → Buf (Elt F) ℓ) (c : Dev nD) (t : Fin cfg0.N) :
    outsAt0 m c t = (total (iblk m c 0 t), k0_pay2 (total (iblk m c 0 t)) (moment (iblk m c 0 t) (iblk m c 2 t)) (iblk m c 3 t) (iblk m c 1 t),
      moment (iblk m c 0 t) (iblk m c 2 t), k0_pay1 (total (iblk m c 0 t)) (iblk m c 3 t)) := by
  refine congrArg₂ Prod.mk ?_ (congrArg₂ Prod.mk ?_ (congrArg₂ Prod.mk ?_ ?_))
  · exact (View.read_writes_eq_canon _ _ _ (fun y => cover0_A_4 ..)).trans (by
      unfold kernelRun0_A; dsimp only; sl_unfold_words
      rw [View.canon_unit_zero zeros2]
      simp only [View.readAt_eq_ld, (hs0_0 t).read_unread]
      rfl)
  · exact (View.read_writes_eq_canon _ _ _ (fun y => cover0_A_5 ..)).trans (by
      unfold kernelRun0_A; dsimp only; sl_unfold_words
      rw [View.canon_unit_zero zeros2]
      simp only [View.readAt_eq_ld, (hs0_0 t).read_unread, (hs0_1 t).read_unread, (hs0_2 t).read_unread, (hs0_3 t).read_unread, View.ld_unit_zero (S := S279x1024) zeros2]
      rfl)
  · exact (View.read_writes_eq_canon _ _ _ (fun y => cover0_A_6 ..)).trans (by
      unfold kernelRun0_A; dsimp only; sl_unfold_words
      rw [View.canon_unit_zero zeros2]
      simp only [View.readAt_eq_ld, (hs0_0 t).read_unread, (hs0_2 t).read_unread, View.ld_unit_zero (S := S279x1024) zeros2]
      rfl)
  · exact (View.read_writes_eq_canon _ _ _ (fun y => cover0_A_7 ..)).trans (by
      unfold kernelRun0_A; dsimp only; sl_unfold_words
      rw [View.canon_unit_zero zeros2]
      simp only [View.readAt_eq_ld, (hs0_0 t).read_unread, (hs0_3 t).read_unread, View.ld_unit_zero (S := S279x1024) zeros2]
      rfl)

/-! ## Where the blocks lie: each is its whole array -/

theorem ix_0 : ∀ t : Fin cfg0.N, win0_0.index t = ![0, 0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)

variable (m : (ℓ : Loc nD τ sig) → Buf (Elt Ideal) ℓ) (ρ : Dev nD → PrngReg) (c : Dev nD)

/-- The devices' parts of the gradient. -/
abbrev argG : FVec Ideal S8x279x1024 .f32 := m ((c : Thread nD τ).loc main_arg0)
/-- The weights. -/
abbrev argW : FVec Ideal S279x1024 .f32 := m ((c : Thread nD τ).loc main_arg1)
/-- The first moment. -/
abbrev argM : FVec Ideal S279x1024 .f32 := m ((c : Thread nD τ).loc main_arg2)
/-- The second moment. -/
abbrev argV : FVec Ideal S279x1024 .f32 := m ((c : Thread nD τ).loc main_arg3)

variable (p : ℕ → ℕ → ℕ → EReal) (w μ ν : ℕ → ℕ → EReal)
  (hG : ∀ i, argG m c i = p (i 0).val (i 1).val (i 2).val) (hW : ∀ i, argW m c i = w (i 0).val (i 1).val)
  (hM : ∀ i, argM m c i = μ (i 0).val (i 1).val) (hV : ∀ i, argV m c i = ν (i 0).val (i 1).val)

include hG in
theorem blk_g (t : Fin cfg0.N) (k : Fin 8) (r : Fin 279) (l : Fin 1024) : iblk m c 0 t (ix3 k r l) = p k.val r.val l.val := by
  blk_simp [iblk]
  rw [V_main_arg0]
  refine (hG _).trans ?_
  blk_simp [ix_0]

include hG in
theorem grad_at (t : Fin cfg0.N) (r : Fin 279) (l : Fin 1024) :
    total (iblk m c 0 t) (ix2 r l) = ∑ k : Fin 8, p k.val r.val l.val :=
  (total_value _ r l).trans (Finset.sum_congr rfl fun k _ => blk_g m c p hG t k r l)

include hW in
theorem blk_w (t : Fin cfg0.N) (r : Fin 279) (l : Fin 1024) : iblk m c 1 t (ix2 r l) = w r.val l.val := by
  blk_simp [iblk]
  rw [V_main_arg1]
  refine (hW _).trans ?_
  blk_simp [ix_1]

include hM in
theorem blk_m (t : Fin cfg0.N) (r : Fin 279) (l : Fin 1024) : iblk m c 2 t (ix2 r l) = μ r.val l.val := by
  blk_simp [iblk]
  rw [V_main_arg2]
  refine (hM _).trans ?_
  blk_simp [ix_2]

include hV in
theorem blk_v (t : Fin cfg0.N) (r : Fin 279) (l : Fin 1024) : iblk m c 3 t (ix2 r l) = ν r.val l.val := by
  blk_simp [iblk]
  rw [V_main_arg3]
  refine (hV _).trans ?_
  blk_simp [ix_3]

include hG in
/-- The gradient. -/
theorem grads (i : S279x1024.Idx) : (dats m 0 c).arrAt 4 cfg0.N i
    = ∑ k : Fin 8, p k.val (i 0).val (i 1).val := by
  refine (dats m 0 c).arrAt_forall_of_covers 4
    (fun i v => v = ∑ k : Fin 8, p k.val (i 0).val (i 1).val)
    (by decide +kernel) (fun t hf y => ?_) i
  blk_simp [ix_4]
  rw [after0_4, outs_eq]
  obtain ⟨r, l, rfl⟩ : ∃ (r : Fin 279) (l : Fin 1024), y = ix2 r l := ⟨y 0, y 1, ValueIdx.eq_ix2 y⟩
  refine (grad_at m c p hG t r l).trans ?_
  simp
  rfl

include hG hW hM hV in
/-- The steps. -/
theorem deltas (i : S279x1024.Idx) : (dats m 0 c).arrAt 5 cfg0.N i
    = delta (∑ k : Fin 8, p k.val (i 0).val (i 1).val) (μ (i 0).val (i 1).val) (ν (i 0).val (i 1).val) (w (i 0).val (i 1).val) := by
  refine (dats m 0 c).arrAt_forall_of_covers 5
    (fun i v => v = delta (∑ k : Fin 8, p k.val (i 0).val (i 1).val) (μ (i 0).val (i 1).val) (ν (i 0).val (i 1).val) (w (i 0).val (i 1).val))
    (by decide +kernel) (fun t hf y => ?_) i
  blk_simp [ix_5]
  rw [after0_5, outs_eq]
  obtain ⟨r, l, rfl⟩ : ∃ (r : Fin 279) (l : Fin 1024), y = ix2 r l := ⟨y 0, y 1, ValueIdx.eq_ix2 y⟩
  refine ((delta_value _ _ _ _ _).trans (congr (congr (congrArg₂ delta (grad_at m c p hG t r l) (blk_m m c μ hM t r l))
    (blk_v m c ν hV t r l)) (blk_w m c w hW t r l))).trans ?_
  simp
  rfl

include hG hM in
/-- The first moments. -/
theorem firsts (i : S279x1024.Idx) : (dats m 0 c).arrAt 6 cfg0.N i
    = first (∑ k : Fin 8, p k.val (i 0).val (i 1).val) (μ (i 0).val (i 1).val) := by
  refine (dats m 0 c).arrAt_forall_of_covers 6
    (fun i v => v = first (∑ k : Fin 8, p k.val (i 0).val (i 1).val) (μ (i 0).val (i 1).val))
    (by decide +kernel) (fun t hf y => ?_) i
  blk_simp [ix_6]
  rw [after0_6, outs_eq]
  obtain ⟨r, l, rfl⟩ : ∃ (r : Fin 279) (l : Fin 1024), y = ix2 r l := ⟨y 0, y 1, ValueIdx.eq_ix2 y⟩
  refine ((moment_value _ _ _).trans (congrArg₂ first (grad_at m c p hG t r l) (blk_m m c μ hM t r l))).trans ?_
  simp
  rfl

include hG hV in
/-- The second moments. -/
theorem seconds (i : S279x1024.Idx) : (dats m 0 c).arrAt 7 cfg0.N i
    = second (∑ k : Fin 8, p k.val (i 0).val (i 1).val) (ν (i 0).val (i 1).val) := by
  refine (dats m 0 c).arrAt_forall_of_covers 7
    (fun i v => v = second (∑ k : Fin 8, p k.val (i 0).val (i 1).val) (ν (i 0).val (i 1).val))
    (by decide +kernel) (fun t hf y => ?_) i
  blk_simp [ix_7]
  rw [after0_7, outs_eq]
  obtain ⟨r, l, rfl⟩ : ∃ (r : Fin 279) (l : Fin 1024), y = ix2 r l := ⟨y 0, y 1, ValueIdx.eq_ix2 y⟩
  refine ((second_value _ _ _).trans (congrArg₂ second (grad_at m c p hG t r l) (blk_v m c ν hV t r l))).trans ?_
  simp
  rfl

/-! ## The equation -/

/-- An array's entries as a function of three numbers. -/
theorem entry3_eq (A : FVec Ideal S8x279x1024 .f32) (i : S8x279x1024.Idx) :
    A i = A (ix3 (Fin.ofNat 8 (i 0).val) (Fin.ofNat 279 (i 1).val) (Fin.ofNat 1024 (i 2).val)) :=
  congrArg A (funext fun a => Fin.ext (by
    match a with
    | ⟨0, _⟩ => exact (Nat.mod_eq_of_lt (i 0).isLt).symm
    | ⟨1, _⟩ => exact (Nat.mod_eq_of_lt (i 1).isLt).symm
    | ⟨2, _⟩ => exact (Nat.mod_eq_of_lt (i 2).isLt).symm))

theorem algebraic : Cert.algebraic_Kernel18Ideal_Reference18Ideal (hKernel18Ideal := Cert.Kernel18Ideal.Gen.facts)
    (hReference18Ideal := Cert.Reference18Ideal.Gen.facts) := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel18Ideal.Value.run_blocks m g, ?_⟩
  refine (θ_run Cert.Reference18Ideal.defs _ _).mono (fun r h c => ?_) (Cert.Reference18Ideal.Value.run (F := Ideal) m' g')
  obtain ⟨hg, hd, hm, hv, hrest⟩ := h c
  obtain ⟨e0, e1, e2, e3⟩ := hargs c
  obtain ⟨p, hG⟩ : ∃ p : ℕ → ℕ → ℕ → EReal, ∀ i, argG m c i = p (i 0).val (i 1).val (i 2).val :=
    ⟨fun k q l => argG m c (ix3 (Fin.ofNat 8 k) (Fin.ofNat 279 q) (Fin.ofNat 1024 l)), entry3_eq _⟩
  have hW := entry_eq (by decide : 0 < 279) (by decide : 0 < 1024) (argW m c)
  have hM := entry_eq (by decide : 0 < 279) (by decide : 0 < 1024) (argM m c)
  have hV := entry_eq (by decide : 0 < 279) (by decide : 0 < 1024) (argV m c)
  have hS : ∀ i : S279x1024.Idx, Cert.Reference18Ideal.Read.val_main_v0 (F := Ideal) (argG m c) i
      = ∑ k : Fin 8, p k.val (i 0).val (i 1).val := fun i => by
    rw [ValueIdx.eq_ix2 i]
    exact (ref_grad _ (i 0) (i 1)).trans (Finset.sum_congr rfl fun k _ => hG (ix3 k (i 0) (i 1)))
  refine ⟨hg.trans ?_, hd.trans ?_, hm.trans ?_, hv.trans ?_, hrest⟩
  · refine (Cert.Reference18Ideal.Read.val_main_v0_eq (F := Ideal) _).trans ?_
    rw [e0]
    funext i
    exact (hS i).trans (grads m c _ hG i).symm
  · refine (Cert.Reference18Ideal.Read.val_main_v24_eq (F := Ideal) _ _ _ _).trans ?_
    rw [e0, e1, e2, e3]
    funext i
    refine Eq.trans ?_ (deltas m c _ _ _ _ hG hW hM hV i).symm
    exact (ref_delta _ _ _ _ i).trans (congr (congr (congrArg₂ delta (hS i) (hM i)) (hV i)) (hW i))
  · refine (Cert.Reference18Ideal.Read.val_main_v5_eq (F := Ideal) _ _).trans ?_
    rw [e0, e2]
    funext i
    refine Eq.trans ?_ (firsts m c _ _ hG hM i).symm
    exact (ref_first _ _ i).trans (congrArg₂ first (hS i) (hM i))
  · refine (Cert.Reference18Ideal.Read.val_main_v11_eq (F := Ideal) _ _).trans ?_
    rw [e0, e3]
    funext i
    refine Eq.trans ?_ (seconds m c _ _ hG hV i).symm
    exact (ref_second _ _ i).trans (congrArg₂ second (hS i) (hV i))

end Cert.AdamW.Packed

end
-- ==== Proof.lean ====
/-
  The assembly of `Cert.Claim`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Algebraic
public import proofs.«01_k».proof.Proof.MixerAlgebraic
public import proofs.«01_k».proof.Proof.GateWeight
public import proofs.«01_k».proof.Proof.DownWeight
public import proofs.«01_k».proof.Proof.NormGrad
public import proofs.«01_k».proof.Proof.InWeight
public import proofs.«01_k».proof.Proof.InGrad
public import proofs.«01_k».proof.Proof.InProduct
public import proofs.«01_k».proof.Proof.GateGrad
public import proofs.«01_k».proof.Proof.MergeForward
public import proofs.«01_k».proof.Proof.RowsGrad
public import proofs.«01_k».proof.Proof.OutWeight
public import proofs.«01_k».proof.Proof.BranchWeight
public import proofs.«01_k».proof.Proof.BandWeight
public import proofs.«01_k».proof.Proof.AdamW
public import proofs.«01_k».proof.Proof.LossHead
public import proofs.«01_k».proof.Proof.WindowMerge
public import proofs.«01_k».proof.Proof.AdamPacked
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Attention's reference, straight host code without a semaphore, leaves its arguments as they were. -/
theorem attention_frame : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- So does the channel mixer's, -/
theorem mixer_frame : Cert.quiescent_Reference2Ideal (hReference2Ideal := Cert.Reference2Ideal.Gen.facts) :=
  fun m ρ _ => (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- that of the gradient of the gate's weights, -/
theorem gate_frame : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- that of the gradient of the last product's weights, -/
theorem down_frame : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- the norm's, -/
theorem norm_frame : Cert.quiescent_Reference5Ideal (hReference5Ideal := Cert.Reference5Ideal.Gen.facts) :=
  fun m ρ _ => (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- that of the gradient of the first projection's weights, -/
theorem in_weight_frame : Cert.quiescent_Reference6Ideal (hReference6Ideal := Cert.Reference6Ideal.Gen.facts) :=
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- that of the gradient of its rows, -/
theorem in_grad_frame : Cert.quiescent_Reference7Ideal (hReference7Ideal := Cert.Reference7Ideal.Gen.facts) :=
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- the projection's itself, -/
theorem in_product_frame : Cert.quiescent_Reference8Ideal (hReference8Ideal := Cert.Reference8Ideal.Gen.facts) :=
  fun m ρ _ => (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- that of the gates' gradient, -/
theorem gates_grad_frame : Cert.quiescent_Reference9Ideal (hReference9Ideal := Cert.Reference9Ideal.Gen.facts) :=
  fun m ρ _ => (θ_run Cert.Reference9Ideal.defs _ _).mono
    (fun r h => ⟨fun c => (h c).2.2.2.2.2.2.2.2.2, Idealize.ShloMosaic.sem_eq_zero_of_no_sems (by decide) r.2⟩)
    (Cert.Reference9Ideal.Value.run (F := Ideal) m ρ)

/-- the merge's, -/
theorem merge_frame : Cert.quiescent_Reference10Ideal (hReference10Ideal := Cert.Reference10Ideal.Gen.facts) :=
  fun m ρ _ => (θ_run Cert.Reference10Ideal.defs _ _).mono
    (fun r h => ⟨fun c => (h c).2.2, Idealize.ShloMosaic.sem_eq_zero_of_no_sems (by decide) r.2⟩)
    (Cert.Reference10Ideal.Value.run (F := Ideal) m ρ)

/-- that of the gradients of what goes into the four products around the merge, -/
theorem rows_grad_frame : Cert.quiescent_Reference11Ideal (hReference11Ideal := Cert.Reference11Ideal.Gen.facts) :=
  fun m ρ _ => (θ_run Cert.Reference11Ideal.defs _ _).mono
    (fun r h => ⟨fun c => (h c).2.2.2.2, Idealize.ShloMosaic.sem_eq_zero_of_no_sems (by decide) r.2⟩)
    (Cert.Reference11Ideal.Value.run (F := Ideal) m ρ)

/-- that of the gradient of the output projection's weights, -/
theorem out_weight_frame : Cert.quiescent_Reference12Ideal (hReference12Ideal := Cert.Reference12Ideal.Gen.facts) :=
  fun m ρ _ => (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- that of the gradient of the attention branch's weights, -/
theorem branch_weight_frame : Cert.quiescent_Reference13Ideal (hReference13Ideal := Cert.Reference13Ideal.Gen.facts) :=
  fun m ρ _ => (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- that of the gradient of the band branch's, -/
theorem band_weight_frame : Cert.quiescent_Reference14Ideal (hReference14Ideal := Cert.Reference14Ideal.Gen.facts) :=
  fun m ρ _ => (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- that of the optimiser's step, -/
theorem adamw_frame : Cert.quiescent_Reference15Ideal (hReference15Ideal := Cert.Reference15Ideal.Gen.facts) :=
  fun m ρ _ => (θ_run Cert.Reference15Ideal.defs _ _).mono
    (fun r h => ⟨fun c => (h c).2.2.2.2, Idealize.ShloMosaic.sem_eq_zero_of_no_sems (by decide) r.2⟩)
    (Cert.Reference15Ideal.Value.run (F := Ideal) m ρ)

/-- that of the loss, -/
theorem loss_frame : Cert.quiescent_Reference16Ideal (hReference16Ideal := Cert.Reference16Ideal.Gen.facts) :=
  fun m ρ _ => (θ_run Cert.Reference16Ideal.defs _ _).mono
    (fun r h => ⟨fun c => (h c).2.2, Idealize.ShloMosaic.sem_eq_zero_of_no_sems (by decide) r.2⟩)
    (Cert.Reference16Ideal.Value.run (F := Ideal) m ρ)

/-- that of the merged windows, -/
theorem windows_frame : Cert.quiescent_Reference17Ideal (hReference17Ideal := Cert.Reference17Ideal.Gen.facts) :=
  fun m ρ _ => (θ_run Cert.Reference17Ideal.defs _ _).mono
    (fun r h => ⟨fun c => (h c).2, Idealize.ShloMosaic.sem_eq_zero_of_no_sems (by decide) r.2⟩)
    (Cert.Reference17Ideal.Value.run (F := Ideal) m ρ)

/-- and that of the packed weights. -/
theorem packed_frame : Cert.quiescent_Reference18Ideal (hReference18Ideal := Cert.Reference18Ideal.Gen.facts) :=
  fun m ρ _ => (θ_run Cert.Reference18Ideal.defs _ _).mono
    (fun r h => ⟨fun c => (h c).2.2.2.2, Idealize.ShloMosaic.sem_eq_zero_of_no_sems (by decide) r.2⟩)
    (Cert.Reference18Ideal.Value.run (F := Ideal) m ρ)

/-- The frames of kernels and references, also from arguments of real entries; the two readings of each kernel agree; and
over the extended reals each kernel and its reference leave the same arrays. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Attn.finite_facts, Cert.Ffn.Mixer.finite_facts,
    fun m ρ _ => Cert.Kernel.Gen.frame m ρ, fun m ρ _ => Cert.KernelIdeal.Gen.frame m ρ,
    fun m ρ _ => Cert.KernelIdeal.Gen.frame m ρ, attention_frame, fun m ρ _ => attention_frame m ρ trivial,
    fun m ρ _ => Cert.Kernel2.Gen.frame m ρ, fun m ρ _ => Cert.Kernel2Ideal.Gen.frame m ρ,
    fun m ρ _ => Cert.Kernel2Ideal.Gen.frame m ρ, mixer_frame, fun m ρ _ => mixer_frame m ρ trivial,
    fun m ρ _ => Cert.Kernel3.Gen.frame m ρ, fun m ρ _ => Cert.Kernel3Ideal.Gen.frame m ρ, gate_frame,
    fun m ρ _ => Cert.Kernel4.Gen.frame m ρ, fun m ρ _ => Cert.Kernel4Ideal.Gen.frame m ρ, down_frame,
    fun m ρ _ => Cert.Kernel5.Gen.frame m ρ, fun m ρ _ => Cert.Kernel5Ideal.Gen.frame m ρ, norm_frame,
    fun m ρ _ => Cert.Kernel6.Gen.frame m ρ, fun m ρ _ => Cert.Kernel6Ideal.Gen.frame m ρ, in_weight_frame,
    fun m ρ _ => Cert.Kernel7.Gen.frame m ρ, fun m ρ _ => Cert.Kernel7Ideal.Gen.frame m ρ, in_grad_frame,
    fun m ρ _ => Cert.Kernel8.Gen.frame m ρ, fun m ρ _ => Cert.Kernel8Ideal.Gen.frame m ρ, in_product_frame,
    fun m ρ _ => Cert.Kernel9.Gen.frame m ρ, fun m ρ _ => Cert.Kernel9Ideal.Gen.frame m ρ, gates_grad_frame,
    fun m ρ _ => Cert.Kernel10.Gen.frame m ρ, fun m ρ _ => Cert.Kernel10Ideal.Gen.frame m ρ, merge_frame,
    fun m ρ _ => Cert.Kernel11.Gen.frame m ρ, fun m ρ _ => Cert.Kernel11Ideal.Gen.frame m ρ, rows_grad_frame,
    fun m ρ _ => Cert.Kernel12.Gen.frame m ρ, fun m ρ _ => Cert.Kernel12Ideal.Gen.frame m ρ, out_weight_frame,
    fun m ρ _ => Cert.Kernel13.Gen.frame m ρ, fun m ρ _ => Cert.Kernel13Ideal.Gen.frame m ρ, branch_weight_frame,
    fun m ρ _ => Cert.Kernel14.Gen.frame m ρ, fun m ρ _ => Cert.Kernel14Ideal.Gen.frame m ρ, band_weight_frame,
    fun m ρ _ => Cert.Kernel15.Gen.frame m ρ, fun m ρ _ => Cert.Kernel15Ideal.Gen.frame m ρ, adamw_frame,
    fun m ρ _ => Cert.Kernel16.Gen.frame m ρ, fun m ρ _ => Cert.Kernel16Ideal.Gen.frame m ρ, loss_frame,
    fun m ρ _ => Cert.Kernel17.Gen.frame m ρ, fun m ρ _ => Cert.Kernel17Ideal.Gen.frame m ρ, windows_frame,
    fun m ρ _ => Cert.Kernel18.Gen.frame m ρ, fun m ρ _ => Cert.Kernel18Ideal.Gen.frame m ρ, packed_frame,
    trivial, Cert.Attn.algebraic, trivial, Cert.Ffn.Mixer.algebraic, trivial, Cert.Ffn.Gate.algebraic,
    trivial, Cert.Ffn.Down.algebraic, trivial, Cert.Ffn.Norm.algebraic,
    trivial, Cert.InProj.Weight.algebraic, trivial, Cert.InProj.Grad.algebraic, trivial, Cert.InProj.Product.algebraic,
    trivial, Cert.Merge.Gate.algebraic, trivial, Cert.Merge.Forward.algebraic, trivial, Cert.Merge.Rows.algebraic,
    trivial, Cert.Merge.OutWeight.algebraic, trivial, Cert.Merge.BranchWeight.algebraic, trivial, Cert.Merge.BandWeight.algebraic,
    trivial, Cert.AdamW.algebraic, trivial, Cert.Loss.algebraic,
    trivial, Cert.Windows.algebraic, trivial, Cert.AdamW.Packed.algebraic⟩

end Cert.Proof

end
